-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spaced_finite [hPre_spaced_finite : Cert.Pre_spaced_finite.Facts] (m : (ℓ : Loc Cert.KernelIdeal.nD Cert.KernelIdeal.τ Cert.KernelIdeal.sig) → Buf (Elt Ideal) ℓ) : Prop :=
  ∀ c : Dev Cert.KernelIdeal.nD,
    (Cert.Pre_spaced_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spaced_finite [hPre_spaced_finite : Cert.Pre_spaced_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spaced_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_spaced_finite [hKernelIdeal : Cert.KernelIdeal.Facts] [hPre_spaced_finite : Cert.Pre_spaced_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spaced_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_spaced_finite [hReferenceIdeal : Cert.ReferenceIdeal.Facts] [hPre_spaced_finite : Cert.Pre_spaced_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spaced_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_spaced_finite [hKernelIdeal : Cert.KernelIdeal.Facts] [hReferenceIdeal : Cert.ReferenceIdeal.Facts] [hPre_spaced_finite : Cert.Pre_spaced_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spaced_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v555)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v555) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_spaced_finite : Cert.Pre_spaced_finite.Facts),
    quiescent_Kernel (hKernel := hKernel)
    ∧ quiescent_KernelIdeal (hKernelIdeal := hKernelIdeal)
    ∧ quiescent_KernelIdeal_pre_spaced_finite (hKernelIdeal := hKernelIdeal) (hPre_spaced_finite := hPre_spaced_finite)
    ∧ quiescent_ReferenceIdeal (hReferenceIdeal := hReferenceIdeal)
    ∧ quiescent_ReferenceIdeal_pre_spaced_finite (hReferenceIdeal := hReferenceIdeal) (hPre_spaced_finite := hPre_spaced_finite)
    ∧ preserves_Kernel_KernelIdeal
    ∧ algebraic_KernelIdeal_ReferenceIdeal_pre_spaced_finite (hKernelIdeal := hKernelIdeal) (hReferenceIdeal := hReferenceIdeal) (hPre_spaced_finite := hPre_spaced_finite)
-- ==== Pre_spaced_finite.lean ====
abbrev S8388608 : Shape := ⟨1, ![8388608]⟩
abbrev S1024 : Shape := ⟨1, ![1024]⟩
abbrev S1023 : Shape := ⟨1, ![1023]⟩
abbrev S_ : Shape := ⟨0, ![]⟩
abbrev S1 : Shape := ⟨1, ![1]⟩

class Facts : Prop where
  slices_S1024_S1023_1 : S1024.Slices ![1] S1023
  slices_S1024_S1023_0 : S1024.Slices ![0] S1023
  bcast_S_S1023 : S_.BroadcastsInDim S1023 (![] : Fin 0 → Fin S1023.rank)
  slices_S1024_S1_1023 : S1024.Slices ![1023] S1
  shapeCasts_S1_S_ : S1.ShapeCasts S_
  slices_S1024_S1_0 : S1024.Slices ![0] S1
  reducesTo_S1023_S_d0 : S1023.ReducesTo [0] S_
  h_S_ : 0 < S_.numel
  bcast_S_S8388608 : S_.BroadcastsInDim S8388608 (![] : Fin 0 → Fin S8388608.rank)
  reducesTo_S8388608_S_d0 : S8388608.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : FVec F S1024 .f32) (main_v15 : IVec S_ 1) (main_v18 : IVec S8388608 1) (main_c_2 : IVec S_ 1) : IVec S_ 1 :=
  let main_v19 : IVec S_ 1 := (fun x v => Host.reduce IntOp.andi x v reducesTo_S8388608_S_d0 h_S_) main_v18 main_c_2
  let main_v20 : IVec S_ 1 := andi main_v15 main_v19
  let main_v21 : FVec F S1024 .f32 := Host.absf main_arg2
  let main_cst_3 : FVec F S_ .f32 := constant S_ .f32 0x7F800000#32
  let main_v22 : FVec F S1024 .f32 := broadcastInDim S1024 ![] bcast_S_S1024 main_cst_3
  let main_v23 : IVec S1024 1 := cmpf .olt main_v21 main_v22
  let main_c_4 : IVec S_ 1 := constantI S_ 1 1#1
  let main_v24 : IVec S_ 1 := (fun x v => Host.reduce IntOp.andi x v reducesTo_S1024_S_d0 h_S_) main_v23 main_c_4
  let main_v25 : IVec S_ 1 := andi main_v20 main_v24
  main_v25

def fn {F : FTy → Type} [FloatOps F] (main_arg0 : FVec F S8388608 .f32) (main_arg1 : FVec F S1024 .f32) (main_arg2 : FVec F S1024 .f32) : IVec S_ 1 :=
  let main_v0 : FVec F S1023 .f32 := (extractStridedSlice S1023 ![1] · slices_S1024_S1023_1) main_arg1
  let main_v1 : FVec F S1023 .f32 := (extractStridedSlice S1023 ![0] · slices_S1024_S1023_0) main_arg1
  let main_v2 : FVec F S1023 .f32 := subf main_v0 main_v1
  let main_cst : FVec F S_ .f32 := constant S_ .f32 0x00000000#32
  let main_v3 : FVec F S1023 .f32 := broadcastInDim S1023 ![] bcast_S_S1023 main_cst
  let main_v4 : IVec S1023 1 := cmpf .ogt main_v2 main_v3
  let main_cst_0 : FVec F S_ .f32 := constant S_ .f32 0x45800000#32
  let main_v5 : FVec F S1023 .f32 := broadcastInDim S1023 ![] bcast_S_S1023 main_cst_0
  let main_v6 : FVec F S1023 .f32 := mulf main_v2 main_v5
  let main_v7 : FVec F S1 .f32 := (extractStridedSlice S1 ![1023] · slices_S1024_S1_1023) main_arg1
  let main_v8 : FVec F S_ .f32 := shapeCast S_ main_v7 shapeCasts_S1_S_
  let main_v9 : FVec F S1 .f32 := (extractStridedSlice S1 ![0] · slices_S1024_S1_0) main_arg1
  let main_v10 : FVec F S_ .f32 := shapeCast S_ main_v9 shapeCasts_S1_S_
  let main_v11 : FVec F S_ .f32 := subf main_v8 main_v10
  let main_v12 : FVec F S1023 .f32 := broadcastInDim S1023 ![] bcast_S_S1023 main_v11
  let main_v13 : IVec S1023 1 := cmpf .oge main_v6 main_v12
  let main_v14 : IVec S1023 1 := andi main_v4 main_v13
  let main_c : IVec S_ 1 := constantI S_ 1 1#1
  let main_v15 : IVec S_ 1 := (fun x v => Host.reduce IntOp.andi x v reducesTo_S1023_S_d0 h_S_) main_v14 main_c
  let main_v16 : FVec F S8388608 .f32 := Host.absf main_arg0
  let main_cst_1 : FVec F S_ .f32 := constant S_ .f32 0x7F800000#32
  let main_v17 : FVec F S8388608 .f32 := broadcastInDim S8388608 ![] bcast_S_S8388608 main_cst_1
  let main_v18 : IVec S8388608 1 := cmpf .olt main_v16 main_v17
  let main_c_2 : IVec S_ 1 := constantI S_ 1 1#1
  fn_part1 (F := F) main_arg2 main_v15 main_v18 main_c_2
-- ==== Kernel.lean ====
abbrev S8388608 : Shape := ⟨1, ![8388608]⟩
abbrev S1024 : Shape := ⟨1, ![1024]⟩
abbrev S1023 : Shape := ⟨1, ![1023]⟩
abbrev S_ : Shape := ⟨0, ![]⟩
abbrev S1 : Shape := ⟨1, ![1]⟩
abbrev S1022 : Shape := ⟨1, ![1022]⟩
abbrev S4096 : Shape := ⟨1, ![4096]⟩
abbrev S1x1023 : Shape := ⟨2, ![1, 1023]⟩
abbrev S4096x1 : Shape := ⟨2, ![4096, 1]⟩
abbrev S4096x1023 : Shape := ⟨2, ![4096, 1023]⟩
abbrev S4096x2 : Shape := ⟨2, ![4096, 2]⟩
abbrev S8192 : Shape := ⟨1, ![8192]⟩
abbrev S16 : Shape := ⟨1, ![16]⟩
abbrev S48 : Shape := ⟨1, ![48]⟩
abbrev S16384 : Shape := ⟨1, ![16384]⟩

abbrev nBuf : Table → Nat
  | .hbm => 656
  | .local .scVector .vmem => 10
  | _ => 0

abbrev hbmTy0_0 (i : Nat) : BufTy := match i % 128 with
  | 0 => ⟨S8388608, .f32⟩
  | 1 => ⟨S1024, .f32⟩
  | 2 => ⟨S1024, .f32⟩
  | 3 => ⟨S1023, .f32⟩
  | 4 => ⟨S1023, .f32⟩
  | 5 => ⟨S1023, .f32⟩
  | 6 => ⟨S1023, .f32⟩
  | 7 => ⟨S1023, .f32⟩
  | 8 => ⟨S1023, .f32⟩
  | 9 => ⟨S1023, .f32⟩
  | 10 => ⟨S_, .f32⟩
  | 11 => ⟨S1, .f32⟩
  | 12 => ⟨S_, .f32⟩
  | 13 => ⟨S1023, .f32⟩
  | 14 => ⟨S1023, .f32⟩
  | 15 => ⟨S1024, .f32⟩
  | 16 => ⟨S_, .f32⟩
  | 17 => ⟨S1023, .f32⟩
  | 18 => ⟨S1023, .f32⟩
  | 19 => ⟨S_, .f32⟩
  | 20 => ⟨S1, .f32⟩
  | 21 => ⟨S1024, .f32⟩
  | 22 => ⟨S1024, .i32⟩
  | 23 => ⟨S_, .i32⟩
  | 24 => ⟨S1024, .i32⟩
  | 25 => ⟨S1024, .i1⟩
  | 26 => ⟨S_, .i32⟩
  | 27 => ⟨S1024, .i32⟩
  | 28 => ⟨S1024, .i1⟩
  | 29 => ⟨S1024, .i1⟩
  | 30 => ⟨S_, .f32⟩
  | 31 => ⟨S_, .f32⟩
  | 32 => ⟨S1024, .f32⟩
  | 33 => ⟨S1024, .f32⟩
  | 34 => ⟨S_, .f32⟩
  | 35 => ⟨S_, .f32⟩
  | 36 => ⟨S1024, .f32⟩
  | 37 => ⟨S1024, .f32⟩
  | 38 => ⟨S1024, .f32⟩
  | 39 => ⟨S_, .f32⟩
  | 40 => ⟨S1024, .f32⟩
  | 41 => ⟨S1024, .f32⟩
  | 42 => ⟨S_, .f32⟩
  | 43 => ⟨S_, .f32⟩
  | 44 => ⟨S1024, .f32⟩
  | 45 => ⟨S1024, .f32⟩
  | 46 => ⟨S_, .f32⟩
  | 47 => ⟨S1024, .f32⟩
  | 48 => ⟨S1022, .f32⟩
  | 49 => ⟨S1022, .f32⟩
  | 50 => ⟨S1022, .f32⟩
  | 51 => ⟨S_, .i32⟩
  | 52 => ⟨S1, .i32⟩
  | 53 => ⟨S1024, .f32⟩
  | 54 => ⟨S1024, .f32⟩
  | 55 => ⟨S_, .f32⟩
  | 56 => ⟨S1, .f32⟩
  | 57 => ⟨S1023, .f32⟩
  | 58 => ⟨S1024, .f32⟩
  | 59 => ⟨S1023, .f32⟩
  | 60 => ⟨S1024, .f32⟩
  | 61 => ⟨S1024, .f32⟩
  | 62 => ⟨S1024, .f32⟩
  | 63 => ⟨S1024, .f32⟩
  | 64 => ⟨S1024, .f32⟩
  | 65 => ⟨S1024, .f32⟩
  | 66 => ⟨S1023, .f32⟩
  | 67 => ⟨S1024, .f32⟩
  | 68 => ⟨S1023, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1023, .f32⟩
  | 76 => ⟨S1024, .f32⟩
  | 77 => ⟨S1023, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1023, .f32⟩
  | 85 => ⟨S1024, .f32⟩
  | 86 => ⟨S1023, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1023, .f32⟩
  | 94 => ⟨S1024, .f32⟩
  | 95 => ⟨S1023, .f32⟩
  | 96 => ⟨S1024, .f32⟩
  | 97 => ⟨S1024, .f32⟩
  | 98 => ⟨S1024, .f32⟩
  | 99 => ⟨S1024, .f32⟩
  | 100 => ⟨S1024, .f32⟩
  | 101 => ⟨S1024, .f32⟩
  | 102 => ⟨S1023, .f32⟩
  | 103 => ⟨S1024, .f32⟩
  | 104 => ⟨S1023, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1023, .f32⟩
  | 112 => ⟨S1024, .f32⟩
  | 113 => ⟨S1023, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1023, .f32⟩
  | 121 => ⟨S1024, .f32⟩
  | 122 => ⟨S1023, .f32⟩
  | 123 => ⟨S1024, .f32⟩
  | 124 => ⟨S1024, .f32⟩
  | 125 => ⟨S1024, .f32⟩
  | 126 => ⟨S1024, .f32⟩
  | 127 => ⟨S1024, .f32⟩
  | _ => ⟨S8388608, .f32⟩

abbrev hbmTy0_1 (i : Nat) : BufTy := match i % 128 with
  | 0 => ⟨S1024, .f32⟩
  | 1 => ⟨S1023, .f32⟩
  | 2 => ⟨S1024, .f32⟩
  | 3 => ⟨S1023, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1023, .f32⟩
  | 11 => ⟨S1024, .f32⟩
  | 12 => ⟨S1023, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1023, .f32⟩
  | 20 => ⟨S1024, .f32⟩
  | 21 => ⟨S1023, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S1023, .f32⟩
  | 29 => ⟨S1024, .f32⟩
  | 30 => ⟨S1023, .f32⟩
  | 31 => ⟨S1024, .f32⟩
  | 32 => ⟨S1024, .f32⟩
  | 33 => ⟨S1024, .f32⟩
  | 34 => ⟨S1024, .f32⟩
  | 35 => ⟨S1024, .f32⟩
  | 36 => ⟨S1024, .f32⟩
  | 37 => ⟨S1023, .f32⟩
  | 38 => ⟨S1024, .f32⟩
  | 39 => ⟨S1023, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1023, .f32⟩
  | 47 => ⟨S1024, .f32⟩
  | 48 => ⟨S1023, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1023, .f32⟩
  | 56 => ⟨S1024, .f32⟩
  | 57 => ⟨S1023, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1023, .f32⟩
  | 65 => ⟨S1024, .f32⟩
  | 66 => ⟨S1023, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1024, .f32⟩
  | 73 => ⟨S1023, .f32⟩
  | 74 => ⟨S1024, .f32⟩
  | 75 => ⟨S1023, .f32⟩
  | 76 => ⟨S1024, .f32⟩
  | 77 => ⟨S1024, .f32⟩
  | 78 => ⟨S1024, .f32⟩
  | 79 => ⟨S1024, .f32⟩
  | 80 => ⟨S1024, .f32⟩
  | 81 => ⟨S1024, .f32⟩
  | 82 => ⟨S1023, .f32⟩
  | 83 => ⟨S1024, .f32⟩
  | 84 => ⟨S1023, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1023, .f32⟩
  | 92 => ⟨S1024, .f32⟩
  | 93 => ⟨S1023, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1023, .f32⟩
  | 101 => ⟨S1024, .f32⟩
  | 102 => ⟨S1023, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1023, .f32⟩
  | 110 => ⟨S1024, .f32⟩
  | 111 => ⟨S1023, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1023, .f32⟩
  | 119 => ⟨S1024, .f32⟩
  | 120 => ⟨S1023, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1023, .f32⟩
  | _ => ⟨S8388608, .f32⟩

abbrev hbmTy0_2 (i : Nat) : BufTy := match i % 128 with
  | 0 => ⟨S1024, .f32⟩
  | 1 => ⟨S1023, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1023, .f32⟩
  | 9 => ⟨S1024, .f32⟩
  | 10 => ⟨S1023, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1023, .f32⟩
  | 18 => ⟨S1024, .f32⟩
  | 19 => ⟨S1023, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1023, .f32⟩
  | 27 => ⟨S1024, .f32⟩
  | 28 => ⟨S1023, .f32⟩
  | 29 => ⟨S1024, .f32⟩
  | 30 => ⟨S1024, .f32⟩
  | 31 => ⟨S1024, .f32⟩
  | 32 => ⟨S1024, .f32⟩
  | 33 => ⟨S1024, .f32⟩
  | 34 => ⟨S1024, .f32⟩
  | 35 => ⟨S1023, .f32⟩
  | 36 => ⟨S1024, .f32⟩
  | 37 => ⟨S1023, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1023, .f32⟩
  | 45 => ⟨S1024, .f32⟩
  | 46 => ⟨S1023, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1023, .f32⟩
  | 54 => ⟨S1024, .f32⟩
  | 55 => ⟨S1023, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1023, .f32⟩
  | 63 => ⟨S1024, .f32⟩
  | 64 => ⟨S1023, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S1023, .f32⟩
  | 72 => ⟨S1024, .f32⟩
  | 73 => ⟨S1023, .f32⟩
  | 74 => ⟨S1024, .f32⟩
  | 75 => ⟨S1024, .f32⟩
  | 76 => ⟨S1024, .f32⟩
  | 77 => ⟨S1024, .f32⟩
  | 78 => ⟨S1024, .f32⟩
  | 79 => ⟨S1024, .f32⟩
  | 80 => ⟨S1023, .f32⟩
  | 81 => ⟨S1024, .f32⟩
  | 82 => ⟨S1023, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1023, .f32⟩
  | 90 => ⟨S1024, .f32⟩
  | 91 => ⟨S1023, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1023, .f32⟩
  | 99 => ⟨S1024, .f32⟩
  | 100 => ⟨S1023, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1023, .f32⟩
  | 108 => ⟨S1024, .f32⟩
  | 109 => ⟨S1023, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1023, .f32⟩
  | 117 => ⟨S1024, .f32⟩
  | 118 => ⟨S1023, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1023, .f32⟩
  | 126 => ⟨S1024, .f32⟩
  | 127 => ⟨S1023, .f32⟩
  | _ => ⟨S8388608, .f32⟩

abbrev hbmTy0_3 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1023, .f32⟩
  | 7 => ⟨S1024, .f32⟩
  | 8 => ⟨S1023, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1023, .f32⟩
  | 16 => ⟨S1024, .f32⟩
  | 17 => ⟨S1023, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1023, .f32⟩
  | 25 => ⟨S1024, .f32⟩
  | 26 => ⟨S1023, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1024, .f32⟩
  | 33 => ⟨S1023, .f32⟩
  | 34 => ⟨S1023, .f32⟩
  | 35 => ⟨S1023, .f32⟩
  | 36 => ⟨S_, .f32⟩
  | 37 => ⟨S1023, .f32⟩
  | 38 => ⟨S1023, .f32⟩
  | 39 => ⟨S1023, .f32⟩
  | 40 => ⟨S1023, .f32⟩
  | 41 => ⟨S_, .f32⟩
  | 42 => ⟨S1023, .f32⟩
  | 43 => ⟨S1023, .f32⟩
  | 44 => ⟨S1023, .f32⟩
  | 45 => ⟨S_, .f32⟩
  | 46 => ⟨S1023, .f32⟩
  | 47 => ⟨S1023, .f32⟩
  | 48 => ⟨S1023, .f32⟩
  | 49 => ⟨S_, .f32⟩
  | 50 => ⟨S1023, .f32⟩
  | 51 => ⟨S1023, .f32⟩
  | 52 => ⟨S1023, .f32⟩
  | 53 => ⟨S1, .f32⟩
  | 54 => ⟨S_, .f32⟩
  | 55 => ⟨S1, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S1023, .f32⟩
  | 64 => ⟨S1023, .f32⟩
  | 65 => ⟨S1023, .f32⟩
  | 66 => ⟨S1023, .f32⟩
  | 67 => ⟨S1023, .f32⟩
  | 68 => ⟨S1023, .i32⟩
  | 69 => ⟨S_, .i32⟩
  | 70 => ⟨S_, .i32⟩
  | 71 => ⟨S_, .i32⟩
  | 72 => ⟨S1023, .i32⟩
  | 73 => ⟨S1023, .i32⟩
  | 74 => ⟨S_, .i32⟩
  | 75 => ⟨S1023, .i32⟩
  | 76 => ⟨S1023, .i32⟩
  | 77 => ⟨S4096, .i32⟩
  | 78 => ⟨S1x1023, .i32⟩
  | 79 => ⟨S4096x1, .i32⟩
  | 80 => ⟨S4096x1023, .i32⟩
  | 81 => ⟨S4096x1023, .i32⟩
  | 82 => ⟨S4096x1023, .i1⟩
  | 83 => ⟨S1x1023, .i32⟩
  | 84 => ⟨S4096x1, .i32⟩
  | 85 => ⟨S4096x1023, .i32⟩
  | 86 => ⟨S4096x1023, .i32⟩
  | 87 => ⟨S4096x1023, .i1⟩
  | 88 => ⟨S4096x1023, .i32⟩
  | 89 => ⟨S_, .i32⟩
  | 90 => ⟨S4096, .i32⟩
  | 91 => ⟨S4096x1023, .i32⟩
  | 92 => ⟨S_, .i32⟩
  | 93 => ⟨S4096, .i32⟩
  | 94 => ⟨S_, .i32⟩
  | 95 => ⟨S4096, .i32⟩
  | 96 => ⟨S4096, .i32⟩
  | 97 => ⟨S4096, .i32⟩
  | 98 => ⟨S_, .i32⟩
  | 99 => ⟨S4096, .i32⟩
  | 100 => ⟨S4096, .i32⟩
  | 101 => ⟨S1x1023, .f32⟩
  | 102 => ⟨S_, .f32⟩
  | 103 => ⟨S_, .f32⟩
  | 104 => ⟨S4096x1023, .f32⟩
  | 105 => ⟨S4096x1023, .f32⟩
  | 106 => ⟨S4096x1023, .f32⟩
  | 107 => ⟨S_, .f32⟩
  | 108 => ⟨S4096, .f32⟩
  | 109 => ⟨S4096, .f32⟩
  | 110 => ⟨S4096, .f32⟩
  | 111 => ⟨S4096, .f32⟩
  | 112 => ⟨S4096, .f32⟩
  | 113 => ⟨S4096, .f32⟩
  | 114 => ⟨S1023, .i32⟩
  | 115 => ⟨S1x1023, .i32⟩
  | 116 => ⟨S4096x1, .i32⟩
  | 117 => ⟨S4096x1023, .i32⟩
  | 118 => ⟨S4096x1023, .i32⟩
  | 119 => ⟨S4096x1023, .i1⟩
  | 120 => ⟨S1023, .f32⟩
  | 121 => ⟨S1x1023, .f32⟩
  | 122 => ⟨S_, .f32⟩
  | 123 => ⟨S_, .f32⟩
  | 124 => ⟨S4096x1023, .f32⟩
  | 125 => ⟨S4096x1023, .f32⟩
  | 126 => ⟨S4096x1023, .f32⟩
  | 127 => ⟨S_, .f32⟩
  | _ => ⟨S8388608, .f32⟩

abbrev hbmTy0_4 (i : Nat) : BufTy := match i % 128 with
  | 0 => ⟨S4096, .f32⟩
  | 1 => ⟨S4096, .f32⟩
  | 2 => ⟨S1x1023, .f32⟩
  | 3 => ⟨S_, .f32⟩
  | 4 => ⟨S_, .f32⟩
  | 5 => ⟨S4096x1023, .f32⟩
  | 6 => ⟨S4096x1023, .f32⟩
  | 7 => ⟨S4096x1023, .f32⟩
  | 8 => ⟨S_, .f32⟩
  | 9 => ⟨S4096, .f32⟩
  | 10 => ⟨S1x1023, .f32⟩
  | 11 => ⟨S_, .f32⟩
  | 12 => ⟨S_, .f32⟩
  | 13 => ⟨S4096x1023, .f32⟩
  | 14 => ⟨S4096x1023, .f32⟩
  | 15 => ⟨S4096x1023, .f32⟩
  | 16 => ⟨S_, .f32⟩
  | 17 => ⟨S4096, .f32⟩
  | 18 => ⟨S1x1023, .f32⟩
  | 19 => ⟨S_, .f32⟩
  | 20 => ⟨S_, .f32⟩
  | 21 => ⟨S4096x1023, .f32⟩
  | 22 => ⟨S4096x1023, .f32⟩
  | 23 => ⟨S4096x1023, .f32⟩
  | 24 => ⟨S_, .f32⟩
  | 25 => ⟨S4096, .f32⟩
  | 26 => ⟨S1x1023, .f32⟩
  | 27 => ⟨S_, .f32⟩
  | 28 => ⟨S_, .f32⟩
  | 29 => ⟨S4096x1023, .f32⟩
  | 30 => ⟨S4096x1023, .f32⟩
  | 31 => ⟨S4096x1023, .f32⟩
  | 32 => ⟨S_, .f32⟩
  | 33 => ⟨S4096, .f32⟩
  | 34 => ⟨S4096, .f32⟩
  | 35 => ⟨S4096, .f32⟩
  | 36 => ⟨S4096, .f32⟩
  | 37 => ⟨S4096, .f32⟩
  | 38 => ⟨S4096, .f32⟩
  | 39 => ⟨S4096, .f32⟩
  | 40 => ⟨S_, .f32⟩
  | 41 => ⟨S4096, .f32⟩
  | 42 => ⟨S4096, .f32⟩
  | 43 => ⟨S_, .f32⟩
  | 44 => ⟨S4096, .f32⟩
  | 45 => ⟨S4096, .f32⟩
  | 46 => ⟨S4096, .f32⟩
  | 47 => ⟨S4096, .f32⟩
  | 48 => ⟨S4096, .f32⟩
  | 49 => ⟨S4096, .f32⟩
  | 50 => ⟨S_, .f32⟩
  | 51 => ⟨S4096, .f32⟩
  | 52 => ⟨S4096, .f32⟩
  | 53 => ⟨S4096, .f32⟩
  | 54 => ⟨S4096, .f32⟩
  | 55 => ⟨S1x1023, .i32⟩
  | 56 => ⟨S4096x1, .i32⟩
  | 57 => ⟨S4096x1023, .i32⟩
  | 58 => ⟨S4096x1023, .i32⟩
  | 59 => ⟨S4096x1023, .i1⟩
  | 60 => ⟨S1023, .f32⟩
  | 61 => ⟨S1x1023, .f32⟩
  | 62 => ⟨S_, .f32⟩
  | 63 => ⟨S_, .f32⟩
  | 64 => ⟨S4096x1023, .f32⟩
  | 65 => ⟨S4096x1023, .f32⟩
  | 66 => ⟨S4096x1023, .f32⟩
  | 67 => ⟨S_, .f32⟩
  | 68 => ⟨S4096, .f32⟩
  | 69 => ⟨S4096, .f32⟩
  | 70 => ⟨S1x1023, .f32⟩
  | 71 => ⟨S_, .f32⟩
  | 72 => ⟨S_, .f32⟩
  | 73 => ⟨S4096x1023, .f32⟩
  | 74 => ⟨S4096x1023, .f32⟩
  | 75 => ⟨S4096x1023, .f32⟩
  | 76 => ⟨S_, .f32⟩
  | 77 => ⟨S4096, .f32⟩
  | 78 => ⟨S1x1023, .f32⟩
  | 79 => ⟨S_, .f32⟩
  | 80 => ⟨S_, .f32⟩
  | 81 => ⟨S4096x1023, .f32⟩
  | 82 => ⟨S4096x1023, .f32⟩
  | 83 => ⟨S4096x1023, .f32⟩
  | 84 => ⟨S_, .f32⟩
  | 85 => ⟨S4096, .f32⟩
  | 86 => ⟨S1x1023, .f32⟩
  | 87 => ⟨S_, .f32⟩
  | 88 => ⟨S_, .f32⟩
  | 89 => ⟨S4096x1023, .f32⟩
  | 90 => ⟨S4096x1023, .f32⟩
  | 91 => ⟨S4096x1023, .f32⟩
  | 92 => ⟨S_, .f32⟩
  | 93 => ⟨S4096, .f32⟩
  | 94 => ⟨S1x1023, .f32⟩
  | 95 => ⟨S_, .f32⟩
  | 96 => ⟨S_, .f32⟩
  | 97 => ⟨S4096x1023, .f32⟩
  | 98 => ⟨S4096x1023, .f32⟩
  | 99 => ⟨S4096x1023, .f32⟩
  | 100 => ⟨S_, .f32⟩
  | 101 => ⟨S4096, .f32⟩
  | 102 => ⟨S4096, .f32⟩
  | 103 => ⟨S4096, .f32⟩
  | 104 => ⟨S4096, .f32⟩
  | 105 => ⟨S4096, .f32⟩
  | 106 => ⟨S4096, .f32⟩
  | 107 => ⟨S4096, .f32⟩
  | 108 => ⟨S_, .f32⟩
  | 109 => ⟨S4096, .f32⟩
  | 110 => ⟨S4096, .f32⟩
  | 111 => ⟨S_, .f32⟩
  | 112 => ⟨S4096, .f32⟩
  | 113 => ⟨S4096, .f32⟩
  | 114 => ⟨S4096, .f32⟩
  | 115 => ⟨S4096, .f32⟩
  | 116 => ⟨S4096, .f32⟩
  | 117 => ⟨S4096, .f32⟩
  | 118 => ⟨S_, .f32⟩
  | 119 => ⟨S4096, .f32⟩
  | 120 => ⟨S4096, .f32⟩
  | 121 => ⟨S4096, .f32⟩
  | 122 => ⟨S4096, .f32⟩
  | 123 => ⟨S4096x1, .f32⟩
  | 124 => ⟨S4096x1, .f32⟩
  | 125 => ⟨S4096x2, .f32⟩
  | 126 => ⟨S8192, .f32⟩
  | 127 => ⟨S4096x1, .f32⟩
  | _ => ⟨S8388608, .f32⟩

abbrev hbmTy0_5 (i : Nat) : BufTy := match i % 128 with
  | 0 => ⟨S4096x1, .f32⟩
  | 1 => ⟨S4096x2, .f32⟩
  | 2 => ⟨S8192, .f32⟩
  | 3 => ⟨S4096x1, .f32⟩
  | 4 => ⟨S4096x1, .f32⟩
  | 5 => ⟨S4096x2, .f32⟩
  | 6 => ⟨S8192, .f32⟩
  | 7 => ⟨S4096x1, .f32⟩
  | 8 => ⟨S4096x1, .f32⟩
  | 9 => ⟨S4096x2, .f32⟩
  | 10 => ⟨S8192, .f32⟩
  | 11 => ⟨S16, .f32⟩
  | 12 => ⟨S16, .f32⟩
  | 13 => ⟨S16, .f32⟩
  | 14 => ⟨S48, .f32⟩
  | 15 => ⟨S8388608, .f32⟩
  | _ => ⟨S8388608, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8388608, .f32⟩

abbrev bufTy : (tb : Table) → Fin (nBuf tb) → BufTy
  | .hbm, ⟨i, _⟩ => hbmTy i
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S8192, .f32⟩
  | .local .scVector .vmem, ⟨4, _⟩ => ⟨S4096, .f32⟩
  | .local .scVector .vmem, ⟨5, _⟩ => ⟨S48, .f32⟩
  | .local .scVector .vmem, ⟨6, _⟩ => ⟨S16384, .f32⟩
  | .local .scVector .vmem, ⟨7, _⟩ => ⟨S16384, .f32⟩
  | .local .scVector .vmem, ⟨8, _⟩ => ⟨S16384, .f32⟩
  | .local .scVector .vmem, ⟨9, _⟩ => ⟨S16384, .f32⟩
  | _, _ => ⟨S8388608, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_v288 : Ref sig .tc := ⟨.hbm, 310, rfl⟩
abbrev main_v289 : Ref sig .tc := ⟨.hbm, 311, rfl⟩
abbrev main_v290 : Ref sig .tc := ⟨.hbm, 312, rfl⟩
abbrev main_v291 : Ref sig .tc := ⟨.hbm, 313, rfl⟩
abbrev main_v292 : Ref sig .tc := ⟨.hbm, 314, rfl⟩
abbrev main_v293 : Ref sig .tc := ⟨.hbm, 315, rfl⟩
abbrev main_v294 : Ref sig .tc := ⟨.hbm, 316, rfl⟩
abbrev main_v295 : Ref sig .tc := ⟨.hbm, 317, rfl⟩
abbrev main_v296 : Ref sig .tc := ⟨.hbm, 318, rfl⟩
abbrev main_v297 : Ref sig .tc := ⟨.hbm, 319, rfl⟩
abbrev main_v298 : Ref sig .tc := ⟨.hbm, 320, rfl⟩
abbrev main_v299 : Ref sig .tc := ⟨.hbm, 321, rfl⟩
abbrev main_v300 : Ref sig .tc := ⟨.hbm, 322, rfl⟩
abbrev main_v301 : Ref sig .tc := ⟨.hbm, 323, rfl⟩
abbrev main_v302 : Ref sig .tc := ⟨.hbm, 324, rfl⟩
abbrev main_v303 : Ref sig .tc := ⟨.hbm, 325, rfl⟩
abbrev main_v304 : Ref sig .tc := ⟨.hbm, 326, rfl⟩
abbrev main_v305 : Ref sig .tc := ⟨.hbm, 327, rfl⟩
abbrev main_v306 : Ref sig .tc := ⟨.hbm, 328, rfl⟩
abbrev main_v307 : Ref sig .tc := ⟨.hbm, 329, rfl⟩
abbrev main_v308 : Ref sig .tc := ⟨.hbm, 330, rfl⟩
abbrev main_v309 : Ref sig .tc := ⟨.hbm, 331, rfl⟩
abbrev main_v310 : Ref sig .tc := ⟨.hbm, 332, rfl⟩
abbrev main_v311 : Ref sig .tc := ⟨.hbm, 333, rfl⟩
abbrev main_v312 : Ref sig .tc := ⟨.hbm, 334, rfl⟩
abbrev main_v313 : Ref sig .tc := ⟨.hbm, 335, rfl⟩
abbrev main_v314 : Ref sig .tc := ⟨.hbm, 336, rfl⟩
abbrev main_v315 : Ref sig .tc := ⟨.hbm, 337, rfl⟩
abbrev main_v316 : Ref sig .tc := ⟨.hbm, 338, rfl⟩
abbrev main_v317 : Ref sig .tc := ⟨.hbm, 339, rfl⟩
abbrev main_v318 : Ref sig .tc := ⟨.hbm, 340, rfl⟩
abbrev main_v319 : Ref sig .tc := ⟨.hbm, 341, rfl⟩
abbrev main_v320 : Ref sig .tc := ⟨.hbm, 342, rfl⟩
abbrev main_v321 : Ref sig .tc := ⟨.hbm, 343, rfl⟩
abbrev main_v322 : Ref sig .tc := ⟨.hbm, 344, rfl⟩
abbrev main_v323 : Ref sig .tc := ⟨.hbm, 345, rfl⟩
abbrev main_v324 : Ref sig .tc := ⟨.hbm, 346, rfl⟩
abbrev main_v325 : Ref sig .tc := ⟨.hbm, 347, rfl⟩
abbrev main_v326 : Ref sig .tc := ⟨.hbm, 348, rfl⟩
abbrev main_v327 : Ref sig .tc := ⟨.hbm, 349, rfl⟩
abbrev main_v328 : Ref sig .tc := ⟨.hbm, 350, rfl⟩
abbrev main_v329 : Ref sig .tc := ⟨.hbm, 351, rfl⟩
abbrev main_v330 : Ref sig .tc := ⟨.hbm, 352, rfl⟩
abbrev main_v331 : Ref sig .tc := ⟨.hbm, 353, rfl⟩
abbrev main_v332 : Ref sig .tc := ⟨.hbm, 354, rfl⟩
abbrev main_v333 : Ref sig .tc := ⟨.hbm, 355, rfl⟩
abbrev main_v334 : Ref sig .tc := ⟨.hbm, 356, rfl⟩
abbrev main_v335 : Ref sig .tc := ⟨.hbm, 357, rfl⟩
abbrev main_v336 : Ref sig .tc := ⟨.hbm, 358, rfl⟩
abbrev main_v337 : Ref sig .tc := ⟨.hbm, 359, rfl⟩
abbrev main_v338 : Ref sig .tc := ⟨.hbm, 360, rfl⟩
abbrev main_v339 : Ref sig .tc := ⟨.hbm, 361, rfl⟩
abbrev main_v340 : Ref sig .tc := ⟨.hbm, 362, rfl⟩
abbrev main_v341 : Ref sig .tc := ⟨.hbm, 363, rfl⟩
abbrev main_v342 : Ref sig .tc := ⟨.hbm, 364, rfl⟩
abbrev main_v343 : Ref sig .tc := ⟨.hbm, 365, rfl⟩
abbrev main_v344 : Ref sig .tc := ⟨.hbm, 366, rfl⟩
abbrev main_v345 : Ref sig .tc := ⟨.hbm, 367, rfl⟩
abbrev main_v346 : Ref sig .tc := ⟨.hbm, 368, rfl⟩
abbrev main_v347 : Ref sig .tc := ⟨.hbm, 369, rfl⟩
abbrev main_v348 : Ref sig .tc := ⟨.hbm, 370, rfl⟩
abbrev main_v349 : Ref sig .tc := ⟨.hbm, 371, rfl⟩
abbrev main_v350 : Ref sig .tc := ⟨.hbm, 372, rfl⟩
abbrev main_v351 : Ref sig .tc := ⟨.hbm, 373, rfl⟩
abbrev main_v352 : Ref sig .tc := ⟨.hbm, 374, rfl⟩
abbrev main_v353 : Ref sig .tc := ⟨.hbm, 375, rfl⟩
abbrev main_v354 : Ref sig .tc := ⟨.hbm, 376, rfl⟩
abbrev main_v355 : Ref sig .tc := ⟨.hbm, 377, rfl⟩
abbrev main_v356 : Ref sig .tc := ⟨.hbm, 378, rfl⟩
abbrev main_v357 : Ref sig .tc := ⟨.hbm, 379, rfl⟩
abbrev main_v358 : Ref sig .tc := ⟨.hbm, 380, rfl⟩
abbrev main_v359 : Ref sig .tc := ⟨.hbm, 381, rfl⟩
abbrev main_v360 : Ref sig .tc := ⟨.hbm, 382, rfl⟩
abbrev main_v361 : Ref sig .tc := ⟨.hbm, 383, rfl⟩
abbrev main_v362 : Ref sig .tc := ⟨.hbm, 384, rfl⟩
abbrev main_v363 : Ref sig .tc := ⟨.hbm, 385, rfl⟩
abbrev main_v364 : Ref sig .tc := ⟨.hbm, 386, rfl⟩
abbrev main_v365 : Ref sig .tc := ⟨.hbm, 387, rfl⟩
abbrev main_v366 : Ref sig .tc := ⟨.hbm, 388, rfl⟩
abbrev main_v367 : Ref sig .tc := ⟨.hbm, 389, rfl⟩
abbrev main_v368 : Ref sig .tc := ⟨.hbm, 390, rfl⟩
abbrev main_v369 : Ref sig .tc := ⟨.hbm, 391, rfl⟩
abbrev main_v370 : Ref sig .tc := ⟨.hbm, 392, rfl⟩
abbrev main_v371 : Ref sig .tc := ⟨.hbm, 393, rfl⟩
abbrev main_v372 : Ref sig .tc := ⟨.hbm, 394, rfl⟩
abbrev main_v373 : Ref sig .tc := ⟨.hbm, 395, rfl⟩
abbrev main_v374 : Ref sig .tc := ⟨.hbm, 396, rfl⟩
abbrev main_v375 : Ref sig .tc := ⟨.hbm, 397, rfl⟩
abbrev main_v376 : Ref sig .tc := ⟨.hbm, 398, rfl⟩
abbrev main_v377 : Ref sig .tc := ⟨.hbm, 399, rfl⟩
abbrev main_v378 : Ref sig .tc := ⟨.hbm, 400, rfl⟩
abbrev main_v379 : Ref sig .tc := ⟨.hbm, 401, rfl⟩
abbrev main_v380 : Ref sig .tc := ⟨.hbm, 402, rfl⟩
abbrev main_v381 : Ref sig .tc := ⟨.hbm, 403, rfl⟩
abbrev main_v382 : Ref sig .tc := ⟨.hbm, 404, rfl⟩
abbrev main_v383 : Ref sig .tc := ⟨.hbm, 405, rfl⟩
abbrev main_v384 : Ref sig .tc := ⟨.hbm, 406, rfl⟩
abbrev main_v385 : Ref sig .tc := ⟨.hbm, 407, rfl⟩
abbrev main_v386 : Ref sig .tc := ⟨.hbm, 408, rfl⟩
abbrev main_v387 : Ref sig .tc := ⟨.hbm, 409, rfl⟩
abbrev main_v388 : Ref sig .tc := ⟨.hbm, 410, rfl⟩
abbrev main_v389 : Ref sig .tc := ⟨.hbm, 411, rfl⟩
abbrev main_v390 : Ref sig .tc := ⟨.hbm, 412, rfl⟩
abbrev main_v391 : Ref sig .tc := ⟨.hbm, 413, rfl⟩
abbrev main_v392 : Ref sig .tc := ⟨.hbm, 414, rfl⟩
abbrev main_v393 : Ref sig .tc := ⟨.hbm, 415, rfl⟩
abbrev main_v394 : Ref sig .tc := ⟨.hbm, 416, rfl⟩
abbrev main_v395 : Ref sig .tc := ⟨.hbm, 417, rfl⟩
abbrev main_v396 : Ref sig .tc := ⟨.hbm, 418, rfl⟩
abbrev main_v397 : Ref sig .tc := ⟨.hbm, 419, rfl⟩
abbrev main_cst_11 : Ref sig .tc := ⟨.hbm, 420, rfl⟩
abbrev main_v398 : Ref sig .tc := ⟨.hbm, 421, rfl⟩
abbrev main_v399 : Ref sig .tc := ⟨.hbm, 422, rfl⟩
abbrev main_v400 : Ref sig .tc := ⟨.hbm, 423, rfl⟩
abbrev main_v401 : Ref sig .tc := ⟨.hbm, 424, rfl⟩
abbrev main_cst_12 : Ref sig .tc := ⟨.hbm, 425, rfl⟩
abbrev main_v402 : Ref sig .tc := ⟨.hbm, 426, rfl⟩
abbrev main_v403 : Ref sig .tc := ⟨.hbm, 427, rfl⟩
abbrev main_v404 : Ref sig .tc := ⟨.hbm, 428, rfl⟩
abbrev main_cst_13 : Ref sig .tc := ⟨.hbm, 429, rfl⟩
abbrev main_v405 : Ref sig .tc := ⟨.hbm, 430, rfl⟩
abbrev main_v406 : Ref sig .tc := ⟨.hbm, 431, rfl⟩
abbrev main_v407 : Ref sig .tc := ⟨.hbm, 432, rfl⟩
abbrev main_cst_14 : Ref sig .tc := ⟨.hbm, 433, rfl⟩
abbrev main_v408 : Ref sig .tc := ⟨.hbm, 434, rfl⟩
abbrev main_v409 : Ref sig .tc := ⟨.hbm, 435, rfl⟩
abbrev main_v410 : Ref sig .tc := ⟨.hbm, 436, rfl⟩
abbrev main_v411 : Ref sig .tc := ⟨.hbm, 437, rfl⟩
abbrev main_v412 : Ref sig .tc := ⟨.hbm, 438, rfl⟩
abbrev main_v413 : Ref sig .tc := ⟨.hbm, 439, rfl⟩
abbrev main_v414 : Ref sig .tc := ⟨.hbm, 440, rfl⟩
abbrev main_v415 : Ref sig .tc := ⟨.hbm, 441, rfl⟩
abbrev main_cst_15 : Ref sig .tc := ⟨.hbm, 442, rfl⟩
abbrev main_v416 : Ref sig .tc := ⟨.hbm, 443, rfl⟩
abbrev main_v417 : Ref sig .tc := ⟨.hbm, 444, rfl⟩
abbrev main_cst_16 : Ref sig .tc := ⟨.hbm, 445, rfl⟩
abbrev main_v418 : Ref sig .tc := ⟨.hbm, 446, rfl⟩
abbrev main_v419 : Ref sig .tc := ⟨.hbm, 447, rfl⟩
abbrev main_v420 : Ref sig .tc := ⟨.hbm, 448, rfl⟩
abbrev main_v421 : Ref sig .tc := ⟨.hbm, 449, rfl⟩
abbrev main_v422 : Ref sig .tc := ⟨.hbm, 450, rfl⟩
abbrev main_v423 : Ref sig .tc := ⟨.hbm, 451, rfl⟩
abbrev main_v424 : Ref sig .tc := ⟨.hbm, 452, rfl⟩
abbrev main_c_17 : Ref sig .tc := ⟨.hbm, 453, rfl⟩
abbrev main_c_18 : Ref sig .tc := ⟨.hbm, 454, rfl⟩
abbrev main_call3_v0 : Ref sig .tc := ⟨.hbm, 455, rfl⟩
abbrev main_call3_v1 : Ref sig .tc := ⟨.hbm, 456, rfl⟩
abbrev main_call3_v2 : Ref sig .tc := ⟨.hbm, 457, rfl⟩
abbrev main_call3_v3 : Ref sig .tc := ⟨.hbm, 458, rfl⟩
abbrev main_call3_v4 : Ref sig .tc := ⟨.hbm, 459, rfl⟩
abbrev main_v425 : Ref sig .tc := ⟨.hbm, 460, rfl⟩
abbrev main_v426 : Ref sig .tc := ⟨.hbm, 461, rfl⟩
abbrev main_v427 : Ref sig .tc := ⟨.hbm, 462, rfl⟩
abbrev main_v428 : Ref sig .tc := ⟨.hbm, 463, rfl⟩
abbrev main_v429 : Ref sig .tc := ⟨.hbm, 464, rfl⟩
abbrev main_v430 : Ref sig .tc := ⟨.hbm, 465, rfl⟩
abbrev main_v431 : Ref sig .tc := ⟨.hbm, 466, rfl⟩
abbrev main_v432 : Ref sig .tc := ⟨.hbm, 467, rfl⟩
abbrev main_v433 : Ref sig .tc := ⟨.hbm, 468, rfl⟩
abbrev main_v434 : Ref sig .tc := ⟨.hbm, 469, rfl⟩
abbrev main_v435 : Ref sig .tc := ⟨.hbm, 470, rfl⟩
abbrev main_v436 : Ref sig .tc := ⟨.hbm, 471, rfl⟩
abbrev main_v437 : Ref sig .tc := ⟨.hbm, 472, rfl⟩
abbrev main_c_19 : Ref sig .tc := ⟨.hbm, 473, rfl⟩
abbrev main_v438 : Ref sig .tc := ⟨.hbm, 474, rfl⟩
abbrev main_v439 : Ref sig .tc := ⟨.hbm, 475, rfl⟩
abbrev main_c_20 : Ref sig .tc := ⟨.hbm, 476, rfl⟩
abbrev main_v440 : Ref sig .tc := ⟨.hbm, 477, rfl⟩
abbrev main_c_21 : Ref sig .tc := ⟨.hbm, 478, rfl⟩
abbrev main_v441 : Ref sig .tc := ⟨.hbm, 479, rfl⟩
abbrev main_v442 : Ref sig .tc := ⟨.hbm, 480, rfl⟩
abbrev main_v443 : Ref sig .tc := ⟨.hbm, 481, rfl⟩
abbrev main_c_22 : Ref sig .tc := ⟨.hbm, 482, rfl⟩
abbrev main_v444 : Ref sig .tc := ⟨.hbm, 483, rfl⟩
abbrev main_v445 : Ref sig .tc := ⟨.hbm, 484, rfl⟩
abbrev main_v446 : Ref sig .tc := ⟨.hbm, 485, rfl⟩
abbrev main_cst_23 : Ref sig .tc := ⟨.hbm, 486, rfl⟩
abbrev main_call4_v0 : Ref sig .tc := ⟨.hbm, 487, rfl⟩
abbrev main_call4_v1 : Ref sig .tc := ⟨.hbm, 488, rfl⟩
abbrev main_call4_v2 : Ref sig .tc := ⟨.hbm, 489, rfl⟩
abbrev main_v447 : Ref sig .tc := ⟨.hbm, 490, rfl⟩
abbrev main_cst_24 : Ref sig .tc := ⟨.hbm, 491, rfl⟩
abbrev main_v448 : Ref sig .tc := ⟨.hbm, 492, rfl⟩
abbrev main_v449 : Ref sig .tc := ⟨.hbm, 493, rfl⟩
abbrev main_v450 : Ref sig .tc := ⟨.hbm, 494, rfl⟩
abbrev main_v451 : Ref sig .tc := ⟨.hbm, 495, rfl⟩
abbrev main_v452 : Ref sig .tc := ⟨.hbm, 496, rfl⟩
abbrev main_v453 : Ref sig .tc := ⟨.hbm, 497, rfl⟩
abbrev main_v454 : Ref sig .tc := ⟨.hbm, 498, rfl⟩
abbrev main_v455 : Ref sig .tc := ⟨.hbm, 499, rfl⟩
abbrev main_v456 : Ref sig .tc := ⟨.hbm, 500, rfl⟩
abbrev main_v457 : Ref sig .tc := ⟨.hbm, 501, rfl⟩
abbrev main_v458 : Ref sig .tc := ⟨.hbm, 502, rfl⟩
abbrev main_v459 : Ref sig .tc := ⟨.hbm, 503, rfl⟩
abbrev main_v460 : Ref sig .tc := ⟨.hbm, 504, rfl⟩
abbrev main_v461 : Ref sig .tc := ⟨.hbm, 505, rfl⟩
abbrev main_cst_25 : Ref sig .tc := ⟨.hbm, 506, rfl⟩
abbrev main_call5_v0 : Ref sig .tc := ⟨.hbm, 507, rfl⟩
abbrev main_call5_v1 : Ref sig .tc := ⟨.hbm, 508, rfl⟩
abbrev main_call5_v2 : Ref sig .tc := ⟨.hbm, 509, rfl⟩
abbrev main_v462 : Ref sig .tc := ⟨.hbm, 510, rfl⟩
abbrev main_cst_26 : Ref sig .tc := ⟨.hbm, 511, rfl⟩
abbrev main_v463 : Ref sig .tc := ⟨.hbm, 512, rfl⟩
abbrev main_v464 : Ref sig .tc := ⟨.hbm, 513, rfl⟩
abbrev main_v465 : Ref sig .tc := ⟨.hbm, 514, rfl⟩
abbrev main_cst_27 : Ref sig .tc := ⟨.hbm, 515, rfl⟩
abbrev main_call6_v0 : Ref sig .tc := ⟨.hbm, 516, rfl⟩
abbrev main_call6_v1 : Ref sig .tc := ⟨.hbm, 517, rfl⟩
abbrev main_call6_v2 : Ref sig .tc := ⟨.hbm, 518, rfl⟩
abbrev main_v466 : Ref sig .tc := ⟨.hbm, 519, rfl⟩
abbrev main_cst_28 : Ref sig .tc := ⟨.hbm, 520, rfl⟩
abbrev main_v467 : Ref sig .tc := ⟨.hbm, 521, rfl⟩
abbrev main_v468 : Ref sig .tc := ⟨.hbm, 522, rfl⟩
abbrev main_cst_29 : Ref sig .tc := ⟨.hbm, 523, rfl⟩
abbrev main_call7_v0 : Ref sig .tc := ⟨.hbm, 524, rfl⟩
abbrev main_call7_v1 : Ref sig .tc := ⟨.hbm, 525, rfl⟩
abbrev main_call7_v2 : Ref sig .tc := ⟨.hbm, 526, rfl⟩
abbrev main_v469 : Ref sig .tc := ⟨.hbm, 527, rfl⟩
abbrev main_cst_30 : Ref sig .tc := ⟨.hbm, 528, rfl⟩
abbrev main_v470 : Ref sig .tc := ⟨.hbm, 529, rfl⟩
abbrev main_v471 : Ref sig .tc := ⟨.hbm, 530, rfl⟩
abbrev main_cst_31 : Ref sig .tc := ⟨.hbm, 531, rfl⟩
abbrev main_call8_v0 : Ref sig .tc := ⟨.hbm, 532, rfl⟩
abbrev main_call8_v1 : Ref sig .tc := ⟨.hbm, 533, rfl⟩
abbrev main_call8_v2 : Ref sig .tc := ⟨.hbm, 534, rfl⟩
abbrev main_v472 : Ref sig .tc := ⟨.hbm, 535, rfl⟩
abbrev main_cst_32 : Ref sig .tc := ⟨.hbm, 536, rfl⟩
abbrev main_v473 : Ref sig .tc := ⟨.hbm, 537, rfl⟩
abbrev main_v474 : Ref sig .tc := ⟨.hbm, 538, rfl⟩
abbrev main_cst_33 : Ref sig .tc := ⟨.hbm, 539, rfl⟩
abbrev main_call9_v0 : Ref sig .tc := ⟨.hbm, 540, rfl⟩
abbrev main_call9_v1 : Ref sig .tc := ⟨.hbm, 541, rfl⟩
abbrev main_call9_v2 : Ref sig .tc := ⟨.hbm, 542, rfl⟩
abbrev main_v475 : Ref sig .tc := ⟨.hbm, 543, rfl⟩
abbrev main_cst_34 : Ref sig .tc := ⟨.hbm, 544, rfl⟩
abbrev main_v476 : Ref sig .tc := ⟨.hbm, 545, rfl⟩
abbrev main_v477 : Ref sig .tc := ⟨.hbm, 546, rfl⟩
abbrev main_v478 : Ref sig .tc := ⟨.hbm, 547, rfl⟩
abbrev main_v479 : Ref sig .tc := ⟨.hbm, 548, rfl⟩
abbrev main_v480 : Ref sig .tc := ⟨.hbm, 549, rfl⟩
abbrev main_v481 : Ref sig .tc := ⟨.hbm, 550, rfl⟩
abbrev main_v482 : Ref sig .tc := ⟨.hbm, 551, rfl⟩
abbrev main_cst_35 : Ref sig .tc := ⟨.hbm, 552, rfl⟩
abbrev main_v483 : Ref sig .tc := ⟨.hbm, 553, rfl⟩
abbrev main_v484 : Ref sig .tc := ⟨.hbm, 554, rfl⟩
abbrev main_cst_36 : Ref sig .tc := ⟨.hbm, 555, rfl⟩
abbrev main_v485 : Ref sig .tc := ⟨.hbm, 556, rfl⟩
abbrev main_v486 : Ref sig .tc := ⟨.hbm, 557, rfl⟩
abbrev main_v487 : Ref sig .tc := ⟨.hbm, 558, rfl⟩
abbrev main_v488 : Ref sig .tc := ⟨.hbm, 559, rfl⟩
abbrev main_v489 : Ref sig .tc := ⟨.hbm, 560, rfl⟩
abbrev main_v490 : Ref sig .tc := ⟨.hbm, 561, rfl⟩
abbrev main_cst_37 : Ref sig .tc := ⟨.hbm, 562, rfl⟩
abbrev main_v491 : Ref sig .tc := ⟨.hbm, 563, rfl⟩
abbrev main_v492 : Ref sig .tc := ⟨.hbm, 564, rfl⟩
abbrev main_v493 : Ref sig .tc := ⟨.hbm, 565, rfl⟩
abbrev main_v494 : Ref sig .tc := ⟨.hbm, 566, rfl⟩
abbrev main_v495 : Ref sig .tc := ⟨.hbm, 567, rfl⟩
abbrev main_v496 : Ref sig .tc := ⟨.hbm, 568, rfl⟩
abbrev main_v497 : Ref sig .tc := ⟨.hbm, 569, rfl⟩
abbrev main_v498 : Ref sig .tc := ⟨.hbm, 570, rfl⟩
abbrev main_v499 : Ref sig .tc := ⟨.hbm, 571, rfl⟩
abbrev main_v500 : Ref sig .tc := ⟨.hbm, 572, rfl⟩
abbrev main_v501 : Ref sig .tc := ⟨.hbm, 573, rfl⟩
abbrev main_cst_38 : Ref sig .tc := ⟨.hbm, 574, rfl⟩
abbrev main_call10_v0 : Ref sig .tc := ⟨.hbm, 575, rfl⟩
abbrev main_call10_v1 : Ref sig .tc := ⟨.hbm, 576, rfl⟩
abbrev main_call10_v2 : Ref sig .tc := ⟨.hbm, 577, rfl⟩
abbrev main_v502 : Ref sig .tc := ⟨.hbm, 578, rfl⟩
abbrev main_cst_39 : Ref sig .tc := ⟨.hbm, 579, rfl⟩
abbrev main_v503 : Ref sig .tc := ⟨.hbm, 580, rfl⟩
abbrev main_v504 : Ref sig .tc := ⟨.hbm, 581, rfl⟩
abbrev main_v505 : Ref sig .tc := ⟨.hbm, 582, rfl⟩
abbrev main_cst_40 : Ref sig .tc := ⟨.hbm, 583, rfl⟩
abbrev main_call11_v0 : Ref sig .tc := ⟨.hbm, 584, rfl⟩
abbrev main_call11_v1 : Ref sig .tc := ⟨.hbm, 585, rfl⟩
abbrev main_call11_v2 : Ref sig .tc := ⟨.hbm, 586, rfl⟩
abbrev main_v506 : Ref sig .tc := ⟨.hbm, 587, rfl⟩
abbrev main_cst_41 : Ref sig .tc := ⟨.hbm, 588, rfl⟩
abbrev main_v507 : Ref sig .tc := ⟨.hbm, 589, rfl⟩
abbrev main_v508 : Ref sig .tc := ⟨.hbm, 590, rfl⟩
abbrev main_cst_42 : Ref sig .tc := ⟨.hbm, 591, rfl⟩
abbrev main_call12_v0 : Ref sig .tc := ⟨.hbm, 592, rfl⟩
abbrev main_call12_v1 : Ref sig .tc := ⟨.hbm, 593, rfl⟩
abbrev main_call12_v2 : Ref sig .tc := ⟨.hbm, 594, rfl⟩
abbrev main_v509 : Ref sig .tc := ⟨.hbm, 595, rfl⟩
abbrev main_cst_43 : Ref sig .tc := ⟨.hbm, 596, rfl⟩
abbrev main_v510 : Ref sig .tc := ⟨.hbm, 597, rfl⟩
abbrev main_v511 : Ref sig .tc := ⟨.hbm, 598, rfl⟩
abbrev main_cst_44 : Ref sig .tc := ⟨.hbm, 599, rfl⟩
abbrev main_call13_v0 : Ref sig .tc := ⟨.hbm, 600, rfl⟩
abbrev main_call13_v1 : Ref sig .tc := ⟨.hbm, 601, rfl⟩
abbrev main_call13_v2 : Ref sig .tc := ⟨.hbm, 602, rfl⟩
abbrev main_v512 : Ref sig .tc := ⟨.hbm, 603, rfl⟩
abbrev main_cst_45 : Ref sig .tc := ⟨.hbm, 604, rfl⟩
abbrev main_v513 : Ref sig .tc := ⟨.hbm, 605, rfl⟩
abbrev main_v514 : Ref sig .tc := ⟨.hbm, 606, rfl⟩
abbrev main_cst_46 : Ref sig .tc := ⟨.hbm, 607, rfl⟩
abbrev main_call14_v0 : Ref sig .tc := ⟨.hbm, 608, rfl⟩
abbrev main_call14_v1 : Ref sig .tc := ⟨.hbm, 609, rfl⟩
abbrev main_call14_v2 : Ref sig .tc := ⟨.hbm, 610, rfl⟩
abbrev main_v515 : Ref sig .tc := ⟨.hbm, 611, rfl⟩
abbrev main_cst_47 : Ref sig .tc := ⟨.hbm, 612, rfl⟩
abbrev main_v516 : Ref sig .tc := ⟨.hbm, 613, rfl⟩
abbrev main_v517 : Ref sig .tc := ⟨.hbm, 614, rfl⟩
abbrev main_v518 : Ref sig .tc := ⟨.hbm, 615, rfl⟩
abbrev main_v519 : Ref sig .tc := ⟨.hbm, 616, rfl⟩
abbrev main_v520 : Ref sig .tc := ⟨.hbm, 617, rfl⟩
abbrev main_v521 : Ref sig .tc := ⟨.hbm, 618, rfl⟩
abbrev main_v522 : Ref sig .tc := ⟨.hbm, 619, rfl⟩
abbrev main_cst_48 : Ref sig .tc := ⟨.hbm, 620, rfl⟩
abbrev main_v523 : Ref sig .tc := ⟨.hbm, 621, rfl⟩
abbrev main_v524 : Ref sig .tc := ⟨.hbm, 622, rfl⟩
abbrev main_cst_49 : Ref sig .tc := ⟨.hbm, 623, rfl⟩
abbrev main_v525 : Ref sig .tc := ⟨.hbm, 624, rfl⟩
abbrev main_v526 : Ref sig .tc := ⟨.hbm, 625, rfl⟩
abbrev main_v527 : Ref sig .tc := ⟨.hbm, 626, rfl⟩
abbrev main_v528 : Ref sig .tc := ⟨.hbm, 627, rfl⟩
abbrev main_v529 : Ref sig .tc := ⟨.hbm, 628, rfl⟩
abbrev main_v530 : Ref sig .tc := ⟨.hbm, 629, rfl⟩
abbrev main_cst_50 : Ref sig .tc := ⟨.hbm, 630, rfl⟩
abbrev main_v531 : Ref sig .tc := ⟨.hbm, 631, rfl⟩
abbrev main_v532 : Ref sig .tc := ⟨.hbm, 632, rfl⟩
abbrev main_v533 : Ref sig .tc := ⟨.hbm, 633, rfl⟩
abbrev main_v534 : Ref sig .tc := ⟨.hbm, 634, rfl⟩
abbrev main_v535 : Ref sig .tc := ⟨.hbm, 635, rfl⟩
abbrev main_v536 : Ref sig .tc := ⟨.hbm, 636, rfl⟩
abbrev main_v537 : Ref sig .tc := ⟨.hbm, 637, rfl⟩
abbrev main_v538 : Ref sig .tc := ⟨.hbm, 638, rfl⟩
abbrev main_v539 : Ref sig .tc := ⟨.hbm, 639, rfl⟩
abbrev main_v540 : Ref sig .tc := ⟨.hbm, 640, rfl⟩
abbrev main_v541 : Ref sig .tc := ⟨.hbm, 641, rfl⟩
abbrev main_v542 : Ref sig .tc := ⟨.hbm, 642, rfl⟩
abbrev main_v543 : Ref sig .tc := ⟨.hbm, 643, rfl⟩
abbrev main_v544 : Ref sig .tc := ⟨.hbm, 644, rfl⟩
abbrev main_v545 : Ref sig .tc := ⟨.hbm, 645, rfl⟩
abbrev main_v546 : Ref sig .tc := ⟨.hbm, 646, rfl⟩
abbrev main_v547 : Ref sig .tc := ⟨.hbm, 647, rfl⟩
abbrev main_v548 : Ref sig .tc := ⟨.hbm, 648, rfl⟩
abbrev main_v549 : Ref sig .tc := ⟨.hbm, 649, rfl⟩
abbrev main_v550 : Ref sig .tc := ⟨.hbm, 650, rfl⟩
abbrev main_v551 : Ref sig .tc := ⟨.hbm, 651, rfl⟩
abbrev main_v552 : Ref sig .tc := ⟨.hbm, 652, rfl⟩
abbrev main_v553 : Ref sig .tc := ⟨.hbm, 653, rfl⟩
abbrev main_v554 : Ref sig .tc := ⟨.hbm, 654, rfl⟩
abbrev main_v555 : Ref sig .tc := ⟨.hbm, 655, rfl⟩
abbrev main_arg0_scv : Ref sig .scVector := ⟨.hbm, 0, rfl⟩
abbrev main_v538_scv : Ref sig .scVector := ⟨.hbm, 638, rfl⟩
abbrev main_v542_scv : Ref sig .scVector := ⟨.hbm, 642, rfl⟩
abbrev main_v546_scv : Ref sig .scVector := ⟨.hbm, 646, rfl⟩
abbrev main_v550_scv : Ref sig .scVector := ⟨.hbm, 650, rfl⟩
abbrev main_v448_scv : Ref sig .scVector := ⟨.hbm, 492, rfl⟩
abbrev main_v554_scv : Ref sig .scVector := ⟨.hbm, 654, rfl⟩
abbrev main_v555_scv : Ref sig .scVector := ⟨.hbm, 655, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let v9 : BitVec 32 := Scalar.addi v2 c0_i32_0
  ![v9.toNat]
def k0_off1_at (r : Fin 4) : BitVec 32 :=
  if r.val < 2 then
    if r.val < 1 then
      0#32
    else
      16384#32
  else
    if r.val < 3 then
      229376#32
    else
      245760#32
@[reducible] def k0_t1_loop : Scf.Loop 32 :=
  let c0_i32_2 : BitVec 32 := 0#32
  let c8_i32 : BitVec 32 := 8#32
  let v15 : BitVec 32 := Scalar.addi c0_i32_2 c8_i32
  let c1_i32_3 : BitVec 32 := 1#32
  ⟨c0_i32_2, v15, c1_i32_3⟩
def k0_cond1 (k0_t1 : Fin k0_t1_loop.trips) : BitVec 1 :=
  let c0_i32_2 : BitVec 32 := 0#32
  let c1_i32_3 : BitVec 32 := 1#32
  let arg24 : BitVec 32 := Scf.iv c0_i32_2 c1_i32_3 k0_t1
  let c0_i32_7 : BitVec 32 := 0#32
  let v25 : BitVec 1 := Scalar.cmpi .sgt arg24 c0_i32_7
  let v26 : BitVec 32 := Scalar.extui v25
  let c0_i32_8 : BitVec 32 := 0#32
  let v27 : BitVec 1 := Scalar.cmpi .ne v26 c0_i32_8
  v27

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_2 : BitVec 32 := 0#32
  let c1_i32_3 : BitVec 32 := 1#32
  let arg24 : BitVec 32 := Scf.iv c0_i32_2 c1_i32_3 k0_t1
  let c2_i32_5 : BitVec 32 := 2#32
  let v23 : BitVec 32 := Scalar.muli arg24 c2_i32_5
  let c0_i32_6 : BitVec 32 := 0#32
  let v24 : BitVec 32 := Scalar.addi v23 c0_i32_6
  let c2_i32_28 : BitVec 32 := 2#32
  let v57 : BitVec 32 := Scalar.subi v24 c2_i32_28
  let c16384_i32_29 : BitVec 32 := 16384#32
  let v58 : BitVec 32 := Scalar.muli v57 c16384_i32_29
  let v59 : BitVec 32 := Scalar.addi v2 v58
  ![v59.toNat]
def k0_off3 (i : grid0.Coords) (k0_t1 : Fin k0_t1_loop.trips) (c0_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_2 : BitVec 32 := 0#32
  let c1_i32_3 : BitVec 32 := 1#32
  let arg24 : BitVec 32 := Scf.iv c0_i32_2 c1_i32_3 k0_t1
  let c2_i32_5 : BitVec 32 := 2#32
  let v23 : BitVec 32 := Scalar.muli arg24 c2_i32_5
  let v24 : BitVec 32 := Scalar.addi v23 c0_i32_6
  let c16384_i32_9 : BitVec 32 := 16384#32
  let v28 : BitVec 32 := Scalar.muli v24 c16384_i32_9
  let v29 : BitVec 32 := Scalar.addi v2 v28
  ![v29.toNat]
@[reducible] def k0_t2_loop : Scf.Loop 32 :=
  let c0_i32_10 : BitVec 32 := 0#32
  let c1024_i32 : BitVec 32 := 1024#32
  let v32 : BitVec 32 := Scalar.addi c0_i32_10 c1024_i32
  let c1_i32_11 : BitVec 32 := 1#32
  ⟨c0_i32_10, v32, c1_i32_11⟩
def k0_off4 (k0_t2 : Fin k0_t2_loop.trips) : Fin 1 → Nat :=
  let c0_i32_28 : BitVec 32 := 0#32
  let c0_i32_10 : BitVec 32 := 0#32
  let c1_i32_11 : BitVec 32 := 1#32
  let arg26 : BitVec 32 := Scf.iv c0_i32_10 c1_i32_11 k0_t2
  let c16_i32 : BitVec 32 := 16#32
  let v57 : BitVec 32 := Scalar.muli arg26 c16_i32
  let v58 : BitVec 32 := Scalar.addi c0_i32_28 v57
  let v59 : Index := Scalar.indexCast v58
  ![v59.toNat]

def k0_chk1 (v65 : IVec S16 32) : Prop :=
  (∀ a x, ((![v65] : Fin 1 → IVec S16 32) a x).toNat < S4096.size a)
theorem k0_idx1_inb : ∀ (v65 : IVec S16 32) (k0_hw1 : k0_chk1 v65), ∀ a x, ((![v65] : Fin 1 → IVec S16 32) a x).toNat < S4096.size a := fun v65 k0_hw1 => k0_hw1

def k0_chk2 (v70 : IVec S16 32) : Prop :=
  (∀ a x, ((![v70] : Fin 1 → IVec S16 32) a x).toNat < S8192.size a) ∧
  (∀ a x, ((![v70] : Fin 1 → IVec S16 32) a x).toNat < S8192.size a) ∧
  (∀ a x, ((![v70] : Fin 1 → IVec S16 32) a x).toNat < S8192.size a) ∧
  (∀ a x, ((![v70] : Fin 1 → IVec S16 32) a x).toNat < S8192.size a)
theorem k0_idx2_inb : ∀ (v70 : IVec S16 32) (k0_hw2 : k0_chk2 v70), ∀ a x, ((![v70] : Fin 1 → IVec S16 32) a x).toNat < S8192.size a := fun v70 k0_hw2 => k0_hw2.1
theorem k0_idx3_inb : ∀ (v70 : IVec S16 32) (k0_hw2 : k0_chk2 v70), ∀ a x, ((![v70] : Fin 1 → IVec S16 32) a x).toNat < S8192.size a := fun v70 k0_hw2 => k0_hw2.2.1
theorem k0_idx4_inb : ∀ (v70 : IVec S16 32) (k0_hw2 : k0_chk2 v70), ∀ a x, ((![v70] : Fin 1 → IVec S16 32) a x).toNat < S8192.size a := fun v70 k0_hw2 => k0_hw2.2.2.1
theorem k0_idx5_inb : ∀ (v70 : IVec S16 32) (k0_hw2 : k0_chk2 v70), ∀ a x, ((![v70] : Fin 1 → IVec S16 32) a x).toNat < S8192.size a := fun v70 k0_hw2 => k0_hw2.2.2.2
def k0_off5 (k0_t2 : Fin k0_t2_loop.trips) : Fin 1 → Nat :=
  let c0_i32_28 : BitVec 32 := 0#32
  let c0_i32_10 : BitVec 32 := 0#32
  let c1_i32_11 : BitVec 32 := 1#32
  let arg26 : BitVec 32 := Scf.iv c0_i32_10 c1_i32_11 k0_t2
  let c16_i32 : BitVec 32 := 16#32
  let v57 : BitVec 32 := Scalar.muli arg26 c16_i32
  let v58 : BitVec 32 := Scalar.addi c0_i32_28 v57
  let v85 : Index := Scalar.indexCast v58
  ![v85.toNat]
def k0_cond2 (k0_t1 : Fin k0_t1_loop.trips) : BitVec 1 :=
  let c0_i32_2 : BitVec 32 := 0#32
  let c1_i32_3 : BitVec 32 := 1#32
  let arg24 : BitVec 32 := Scf.iv c0_i32_2 c1_i32_3 k0_t1
  let c7_i32 : BitVec 32 := 7#32
  let v37 : BitVec 1 := Scalar.cmpi .slt arg24 c7_i32
  let v38 : BitVec 32 := Scalar.extui v37
  let c0_i32_14 : BitVec 32 := 0#32
  let v39 : BitVec 1 := Scalar.cmpi .ne v38 c0_i32_14
  v39

def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_2 : BitVec 32 := 0#32
  let c1_i32_3 : BitVec 32 := 1#32
  let arg24 : BitVec 32 := Scf.iv c0_i32_2 c1_i32_3 k0_t1
  let c2_i32_5 : BitVec 32 := 2#32
  let v23 : BitVec 32 := Scalar.muli arg24 c2_i32_5
  let c0_i32_6 : BitVec 32 := 0#32
  let v24 : BitVec 32 := Scalar.addi v23 c0_i32_6
  let c2_i32_28 : BitVec 32 := 2#32
  let v57 : BitVec 32 := Scalar.addi v24 c2_i32_28
  let c16384_i32_29 : BitVec 32 := 16384#32
  let v58 : BitVec 32 := Scalar.muli v57 c16384_i32_29
  let v59 : BitVec 32 := Scalar.addi v2 v58
  ![v59.toNat]
def k0_cond3 (k0_t1 : Fin k0_t1_loop.trips) : BitVec 1 :=
  let c0_i32_2 : BitVec 32 := 0#32
  let c1_i32_3 : BitVec 32 := 1#32
  let arg24 : BitVec 32 := Scf.iv c0_i32_2 c1_i32_3 k0_t1
  let c0_i32_17 : BitVec 32 := 0#32
  let v42 : BitVec 1 := Scalar.cmpi .sgt arg24 c0_i32_17
  let v43 : BitVec 32 := Scalar.extui v42
  let c0_i32_18 : BitVec 32 := 0#32
  let v44 : BitVec 1 := Scalar.cmpi .ne v43 c0_i32_18
  v44

def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_2 : BitVec 32 := 0#32
  let c1_i32_3 : BitVec 32 := 1#32
  let arg24 : BitVec 32 := Scf.iv c0_i32_2 c1_i32_3 k0_t1
  let c2_i32_15 : BitVec 32 := 2#32
  let v40 : BitVec 32 := Scalar.muli arg24 c2_i32_15
  let c1_i32_16 : BitVec 32 := 1#32
  let v41 : BitVec 32 := Scalar.addi v40 c1_i32_16
  let c2_i32_28 : BitVec 32 := 2#32
  let v57 : BitVec 32 := Scalar.subi v41 c2_i32_28
  let c16384_i32_29 : BitVec 32 := 16384#32
  let v58 : BitVec 32 := Scalar.muli v57 c16384_i32_29
  let v59 : BitVec 32 := Scalar.addi v2 v58
  ![v59.toNat]
@[reducible] def k0_t3_loop : Scf.Loop 32 :=
  let c0_i32_20 : BitVec 32 := 0#32
  let c1024_i32_21 : BitVec 32 := 1024#32
  let v49 : BitVec 32 := Scalar.addi c0_i32_20 c1024_i32_21
  let c1_i32_22 : BitVec 32 := 1#32
  ⟨c0_i32_20, v49, c1_i32_22⟩
def k0_off8 (k0_t3 : Fin k0_t3_loop.trips) : Fin 1 → Nat :=
  let c0_i32_28 : BitVec 32 := 0#32
  let c0_i32_20 : BitVec 32 := 0#32
  let c1_i32_22 : BitVec 32 := 1#32
  let arg26 : BitVec 32 := Scf.iv c0_i32_20 c1_i32_22 k0_t3
  let c16_i32 : BitVec 32 := 16#32
  let v57 : BitVec 32 := Scalar.muli arg26 c16_i32
  let v58 : BitVec 32 := Scalar.addi c0_i32_28 v57
  let v59 : Index := Scalar.indexCast v58
  ![v59.toNat]

def k0_chk3 (v65 : IVec S16 32) : Prop :=
  (∀ a x, ((![v65] : Fin 1 → IVec S16 32) a x).toNat < S4096.size a)
theorem k0_idx6_inb : ∀ (v65 : IVec S16 32) (k0_hw3 : k0_chk3 v65), ∀ a x, ((![v65] : Fin 1 → IVec S16 32) a x).toNat < S4096.size a := fun v65 k0_hw3 => k0_hw3

def k0_chk4 (v70 : IVec S16 32) : Prop :=
  (∀ a x, ((![v70] : Fin 1 → IVec S16 32) a x).toNat < S8192.size a) ∧
  (∀ a x, ((![v70] : Fin 1 → IVec S16 32) a x).toNat < S8192.size a) ∧
  (∀ a x, ((![v70] : Fin 1 → IVec S16 32) a x).toNat < S8192.size a) ∧
  (∀ a x, ((![v70] : Fin 1 → IVec S16 32) a x).toNat < S8192.size a)
theorem k0_idx7_inb : ∀ (v70 : IVec S16 32) (k0_hw4 : k0_chk4 v70), ∀ a x, ((![v70] : Fin 1 → IVec S16 32) a x).toNat < S8192.size a := fun v70 k0_hw4 => k0_hw4.1
theorem k0_idx8_inb : ∀ (v70 : IVec S16 32) (k0_hw4 : k0_chk4 v70), ∀ a x, ((![v70] : Fin 1 → IVec S16 32) a x).toNat < S8192.size a := fun v70 k0_hw4 => k0_hw4.2.1
theorem k0_idx9_inb : ∀ (v70 : IVec S16 32) (k0_hw4 : k0_chk4 v70), ∀ a x, ((![v70] : Fin 1 → IVec S16 32) a x).toNat < S8192.size a := fun v70 k0_hw4 => k0_hw4.2.2.1
theorem k0_idx10_inb : ∀ (v70 : IVec S16 32) (k0_hw4 : k0_chk4 v70), ∀ a x, ((![v70] : Fin 1 → IVec S16 32) a x).toNat < S8192.size a := fun v70 k0_hw4 => k0_hw4.2.2.2
def k0_off9 (k0_t3 : Fin k0_t3_loop.trips) : Fin 1 → Nat :=
  let c0_i32_28 : BitVec 32 := 0#32
  let c0_i32_20 : BitVec 32 := 0#32
  let c1_i32_22 : BitVec 32 := 1#32
  let arg26 : BitVec 32 := Scf.iv c0_i32_20 c1_i32_22 k0_t3
  let c16_i32 : BitVec 32 := 16#32
  let v57 : BitVec 32 := Scalar.muli arg26 c16_i32
  let v58 : BitVec 32 := Scalar.addi c0_i32_28 v57
  let v85 : Index := Scalar.indexCast v58
  ![v85.toNat]
def k0_cond4 (k0_t1 : Fin k0_t1_loop.trips) : BitVec 1 :=
  let c0_i32_2 : BitVec 32 := 0#32
  let c1_i32_3 : BitVec 32 := 1#32
  let arg24 : BitVec 32 := Scf.iv c0_i32_2 c1_i32_3 k0_t1
  let c7_i32_25 : BitVec 32 := 7#32
  let v54 : BitVec 1 := Scalar.cmpi .slt arg24 c7_i32_25
  let v55 : BitVec 32 := Scalar.extui v54
  let c0_i32_26 : BitVec 32 := 0#32
  let v56 : BitVec 1 := Scalar.cmpi .ne v55 c0_i32_26
  v56

def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c262144_i32 : BitVec 32 := 262144#32
  let v2 : BitVec 32 := Scalar.muli v1 c262144_i32
  let c0_i32_2 : BitVec 32 := 0#32
  let c1_i32_3 : BitVec 32 := 1#32
  let arg24 : BitVec 32 := Scf.iv c0_i32_2 c1_i32_3 k0_t1
  let c2_i32_15 : BitVec 32 := 2#32
  let v40 : BitVec 32 := Scalar.muli arg24 c2_i32_15
  let c1_i32_16 : BitVec 32 := 1#32
  let v41 : BitVec 32 := Scalar.addi v40 c1_i32_16
  let c2_i32_28 : BitVec 32 := 2#32
  let v57 : BitVec 32 := Scalar.addi v41 c2_i32_28
  let c16384_i32_29 : BitVec 32 := 16384#32
  let v58 : BitVec 32 := Scalar.muli v57 c16384_i32_29
  let v59 : BitVec 32 := Scalar.addi v2 v58
  ![v59.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608 : Shape := ⟨1, ![8388608]⟩
abbrev S1024 : Shape := ⟨1, ![1024]⟩
abbrev S1023 : Shape := ⟨1, ![1023]⟩
abbrev S1x1024 : Shape := ⟨2, ![1, 1024]⟩
abbrev S8388608x1 : Shape := ⟨2, ![8388608, 1]⟩
abbrev S8388608x1024 : Shape := ⟨2, ![8388608, 1024]⟩
abbrev S_ : Shape := ⟨0, ![]⟩
abbrev S1022 : Shape := ⟨1, ![1022]⟩
abbrev S1 : Shape := ⟨1, ![1]⟩

abbrev nBuf : Space → Nat
  | .hbm => 191
  | .vmem => 0
  | .smem => 0
  | _ => 0

abbrev hbmTy0_0 (i : Nat) : BufTy := match i % 128 with
  | 0 => ⟨S8388608, .f32⟩
  | 1 => ⟨S1024, .f32⟩
  | 2 => ⟨S1024, .f32⟩
  | 3 => ⟨S1023, .f32⟩
  | 4 => ⟨S1023, .f32⟩
  | 5 => ⟨S1023, .f32⟩
  | 6 => ⟨S1x1024, .f32⟩
  | 7 => ⟨S8388608x1, .f32⟩
  | 8 => ⟨S8388608x1024, .f32⟩
  | 9 => ⟨S8388608x1024, .f32⟩
  | 10 => ⟨S8388608x1024, .i1⟩
  | 11 => ⟨S8388608x1024, .i32⟩
  | 12 => ⟨S_, .i32⟩
  | 13 => ⟨S8388608, .i32⟩
  | 14 => ⟨S_, .i32⟩
  | 15 => ⟨S8388608, .i32⟩
  | 16 => ⟨S8388608, .i32⟩
  | 17 => ⟨S_, .i32⟩
  | 18 => ⟨S_, .i32⟩
  | 19 => ⟨S_, .i32⟩
  | 20 => ⟨S8388608, .i32⟩
  | 21 => ⟨S8388608, .i32⟩
  | 22 => ⟨S_, .i32⟩
  | 23 => ⟨S8388608, .i32⟩
  | 24 => ⟨S8388608, .i32⟩
  | 25 => ⟨S_, .i32⟩
  | 26 => ⟨S8388608, .i32⟩
  | 27 => ⟨S8388608, .i32⟩
  | 28 => ⟨S_, .i32⟩
  | 29 => ⟨S8388608, .i32⟩
  | 30 => ⟨S8388608, .i1⟩
  | 31 => ⟨S_, .i32⟩
  | 32 => ⟨S8388608, .i32⟩
  | 33 => ⟨S8388608, .i32⟩
  | 34 => ⟨S8388608, .i32⟩
  | 35 => ⟨S8388608x1, .i32⟩
  | 36 => ⟨S8388608, .f32⟩
  | 37 => ⟨S8388608, .f32⟩
  | 38 => ⟨S_, .i32⟩
  | 39 => ⟨S8388608, .i32⟩
  | 40 => ⟨S8388608, .i1⟩
  | 41 => ⟨S_, .i32⟩
  | 42 => ⟨S8388608, .i32⟩
  | 43 => ⟨S8388608, .i32⟩
  | 44 => ⟨S8388608, .i32⟩
  | 45 => ⟨S8388608x1, .i32⟩
  | 46 => ⟨S8388608, .f32⟩
  | 47 => ⟨S8388608, .f32⟩
  | 48 => ⟨S_, .i32⟩
  | 49 => ⟨S8388608, .i32⟩
  | 50 => ⟨S8388608, .i1⟩
  | 51 => ⟨S_, .i32⟩
  | 52 => ⟨S8388608, .i32⟩
  | 53 => ⟨S8388608, .i32⟩
  | 54 => ⟨S8388608, .i32⟩
  | 55 => ⟨S8388608x1, .i32⟩
  | 56 => ⟨S8388608, .f32⟩
  | 57 => ⟨S8388608, .f32⟩
  | 58 => ⟨S_, .i32⟩
  | 59 => ⟨S8388608, .i32⟩
  | 60 => ⟨S8388608, .i1⟩
  | 61 => ⟨S_, .i32⟩
  | 62 => ⟨S8388608, .i32⟩
  | 63 => ⟨S8388608, .i32⟩
  | 64 => ⟨S8388608, .i32⟩
  | 65 => ⟨S8388608x1, .i32⟩
  | 66 => ⟨S8388608, .f32⟩
  | 67 => ⟨S8388608, .f32⟩
  | 68 => ⟨S1023, .f32⟩
  | 69 => ⟨S_, .f32⟩
  | 70 => ⟨S1023, .f32⟩
  | 71 => ⟨S1023, .f32⟩
  | 72 => ⟨S_, .i32⟩
  | 73 => ⟨S8388608, .i32⟩
  | 74 => ⟨S8388608, .i1⟩
  | 75 => ⟨S_, .i32⟩
  | 76 => ⟨S8388608, .i32⟩
  | 77 => ⟨S8388608, .i32⟩
  | 78 => ⟨S8388608, .i32⟩
  | 79 => ⟨S8388608x1, .i32⟩
  | 80 => ⟨S8388608, .f32⟩
  | 81 => ⟨S_, .i32⟩
  | 82 => ⟨S8388608, .i32⟩
  | 83 => ⟨S8388608, .i1⟩
  | 84 => ⟨S_, .i32⟩
  | 85 => ⟨S8388608, .i32⟩
  | 86 => ⟨S8388608, .i32⟩
  | 87 => ⟨S8388608, .i32⟩
  | 88 => ⟨S8388608x1, .i32⟩
  | 89 => ⟨S8388608, .f32⟩
  | 90 => ⟨S_, .i32⟩
  | 91 => ⟨S8388608, .i32⟩
  | 92 => ⟨S8388608, .i32⟩
  | 93 => ⟨S_, .i32⟩
  | 94 => ⟨S8388608, .i32⟩
  | 95 => ⟨S8388608, .i1⟩
  | 96 => ⟨S_, .i32⟩
  | 97 => ⟨S8388608, .i32⟩
  | 98 => ⟨S8388608, .i32⟩
  | 99 => ⟨S8388608, .i32⟩
  | 100 => ⟨S8388608x1, .i32⟩
  | 101 => ⟨S8388608, .f32⟩
  | 102 => ⟨S1023, .f32⟩
  | 103 => ⟨S1023, .f32⟩
  | 104 => ⟨S1023, .f32⟩
  | 105 => ⟨S1023, .f32⟩
  | 106 => ⟨S1023, .f32⟩
  | 107 => ⟨S1023, .f32⟩
  | 108 => ⟨S1023, .f32⟩
  | 109 => ⟨S1022, .f32⟩
  | 110 => ⟨S_, .f32⟩
  | 111 => ⟨S1022, .f32⟩
  | 112 => ⟨S1022, .f32⟩
  | 113 => ⟨S1022, .f32⟩
  | 114 => ⟨S_, .f32⟩
  | 115 => ⟨S1022, .f32⟩
  | 116 => ⟨S1022, .f32⟩
  | 117 => ⟨S1022, .f32⟩
  | 118 => ⟨S1022, .f32⟩
  | 119 => ⟨S1022, .f32⟩
  | 120 => ⟨S_, .f32⟩
  | 121 => ⟨S1022, .f32⟩
  | 122 => ⟨S1022, .f32⟩
  | 123 => ⟨S1022, .f32⟩
  | 124 => ⟨S1022, .f32⟩
  | 125 => ⟨S1022, .f32⟩
  | 126 => ⟨S_, .f32⟩
  | 127 => ⟨S1024, .f32⟩
  | _ => ⟨S8388608, .f32⟩

abbrev hbmTy0_1 (i : Nat) : BufTy := match i % 128 with
  | 0 => ⟨S_, .i32⟩
  | 1 => ⟨S_, .i32⟩
  | 2 => ⟨S1022, .f32⟩
  | 3 => ⟨S1022, .f32⟩
  | 4 => ⟨S1022, .f32⟩
  | 5 => ⟨S1022, .f32⟩
  | 6 => ⟨S_, .i32⟩
  | 7 => ⟨S_, .i32⟩
  | 8 => ⟨S1024, .f32⟩
  | 9 => ⟨S_, .i32⟩
  | 10 => ⟨S_, .i1⟩
  | 11 => ⟨S_, .i32⟩
  | 12 => ⟨S_, .i32⟩
  | 13 => ⟨S1022, .f32⟩
  | 14 => ⟨S1022, .f32⟩
  | 15 => ⟨S1022, .f32⟩
  | 16 => ⟨S1022, .f32⟩
  | 17 => ⟨S1022, .f32⟩
  | 18 => ⟨S1022, .f32⟩
  | 19 => ⟨S1022, .f32⟩
  | 20 => ⟨S_, .i32⟩
  | 21 => ⟨S1, .i32⟩
  | 22 => ⟨S1024, .f32⟩
  | 23 => ⟨S_, .i32⟩
  | 24 => ⟨S_, .i32⟩
  | 25 => ⟨S8388608, .f32⟩
  | 26 => ⟨S_, .f32⟩
  | 27 => ⟨S8388608, .f32⟩
  | 28 => ⟨S8388608, .f32⟩
  | 29 => ⟨S_, .i32⟩
  | 30 => ⟨S8388608, .i32⟩
  | 31 => ⟨S8388608, .i1⟩
  | 32 => ⟨S_, .i32⟩
  | 33 => ⟨S8388608, .i32⟩
  | 34 => ⟨S8388608, .i32⟩
  | 35 => ⟨S8388608, .i32⟩
  | 36 => ⟨S8388608x1, .i32⟩
  | 37 => ⟨S8388608, .f32⟩
  | 38 => ⟨S8388608, .f32⟩
  | 39 => ⟨S8388608, .f32⟩
  | 40 => ⟨S8388608, .f32⟩
  | 41 => ⟨S8388608, .f32⟩
  | 42 => ⟨S8388608, .f32⟩
  | 43 => ⟨S_, .f32⟩
  | 44 => ⟨S8388608, .f32⟩
  | 45 => ⟨S8388608, .f32⟩
  | 46 => ⟨S_, .i32⟩
  | 47 => ⟨S8388608, .i32⟩
  | 48 => ⟨S8388608, .i32⟩
  | 49 => ⟨S_, .i32⟩
  | 50 => ⟨S8388608, .i32⟩
  | 51 => ⟨S8388608, .i1⟩
  | 52 => ⟨S_, .i32⟩
  | 53 => ⟨S8388608, .i32⟩
  | 54 => ⟨S8388608, .i32⟩
  | 55 => ⟨S8388608, .i32⟩
  | 56 => ⟨S8388608x1, .i32⟩
  | 57 => ⟨S8388608, .f32⟩
  | 58 => ⟨S8388608, .f32⟩
  | 59 => ⟨S8388608, .f32⟩
  | 60 => ⟨S8388608, .f32⟩
  | 61 => ⟨S8388608, .f32⟩
  | 62 => ⟨S8388608, .f32⟩
  | _ => ⟨S8388608, .f32⟩

abbrev hbmTy (i : Nat) : BufTy := match i / 128 with
  | 0 => hbmTy0_0 i
  | 1 => hbmTy0_1 i
  | _ => ⟨S8388608, .f32⟩

abbrev bufTy : (tb : Table) → Fin (tcTables nBuf tb) → BufTy
  | .hbm, ⟨i, _⟩ => hbmTy i
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_10 : Ref sig .tc := ⟨.hbm, 58, rfl⟩
abbrev main_v39 : Ref sig .tc := ⟨.hbm, 59, rfl⟩
abbrev main_v40 : Ref sig .tc := ⟨.hbm, 60, rfl⟩
abbrev main_c_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_14 : Ref sig .tc := ⟨.hbm, 81, rfl⟩
abbrev main_v57 : Ref sig .tc := ⟨.hbm, 82, rfl⟩
abbrev main_v58 : Ref sig .tc := ⟨.hbm, 83, rfl⟩
abbrev main_c_15 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_16 : Ref sig .tc := ⟨.hbm, 90, rfl⟩
abbrev main_v64 : Ref sig .tc := ⟨.hbm, 91, rfl⟩
abbrev main_v65 : Ref sig .tc := ⟨.hbm, 92, rfl⟩
abbrev main_c_17 : Ref sig .tc := ⟨.hbm, 93, rfl⟩
abbrev main_v66 : Ref sig .tc := ⟨.hbm, 94, rfl⟩
abbrev main_v67 : Ref sig .tc := ⟨.hbm, 95, rfl⟩
abbrev main_c_18 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_19 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_21 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_22 : Ref sig .tc := ⟨.hbm, 126, rfl⟩
abbrev main_v94 : Ref sig .tc := ⟨.hbm, 127, rfl⟩
abbrev main_c_23 : Ref sig .tc := ⟨.hbm, 128, rfl⟩
abbrev main_c_24 : Ref sig .tc := ⟨.hbm, 129, rfl⟩
abbrev main_v95_0 : Ref sig .tc := ⟨.hbm, 130, rfl⟩
abbrev main_v95_1 : Ref sig .tc := ⟨.hbm, 131, rfl⟩
abbrev main_v95_2 : Ref sig .tc := ⟨.hbm, 132, rfl⟩
abbrev main_v95_3 : Ref sig .tc := ⟨.hbm, 133, rfl⟩
abbrev main_v95_4 : Ref sig .tc := ⟨.hbm, 134, rfl⟩
abbrev main_v95_5 : Ref sig .tc := ⟨.hbm, 135, rfl⟩
abbrev main_v95_6 : Ref sig .tc := ⟨.hbm, 136, rfl⟩
abbrev main_while0c_c_38 : Ref sig .tc := ⟨.hbm, 137, rfl⟩
abbrev main_while0c_v127 : Ref sig .tc := ⟨.hbm, 138, rfl⟩
abbrev main_while0b_c_38 : Ref sig .tc := ⟨.hbm, 139, rfl⟩
abbrev main_while0b_v127 : Ref sig .tc := ⟨.hbm, 140, rfl⟩
abbrev main_while0b_v128 : Ref sig .tc := ⟨.hbm, 141, rfl⟩
abbrev main_while0b_v129 : Ref sig .tc := ⟨.hbm, 142, rfl⟩
abbrev main_while0b_v130 : Ref sig .tc := ⟨.hbm, 143, rfl⟩
abbrev main_while0b_v131 : Ref sig .tc := ⟨.hbm, 144, rfl⟩
abbrev main_while0b_v132 : Ref sig .tc := ⟨.hbm, 145, rfl⟩
abbrev main_while0b_v133 : Ref sig .tc := ⟨.hbm, 146, rfl⟩
abbrev main_while0b_v134 : Ref sig .tc := ⟨.hbm, 147, rfl⟩
abbrev main_while0b_c_39 : Ref sig .tc := ⟨.hbm, 148, rfl⟩
abbrev main_while0b_v135 : Ref sig .tc := ⟨.hbm, 149, rfl⟩
abbrev main_while0b_v136 : Ref sig .tc := ⟨.hbm, 150, rfl⟩
abbrev main_while0b_c_40 : Ref sig .tc := ⟨.hbm, 151, rfl⟩
abbrev main_while0b_v137 : Ref sig .tc := ⟨.hbm, 152, rfl⟩
abbrev main_v96 : Ref sig .tc := ⟨.hbm, 153, rfl⟩
abbrev main_cst_25 : Ref sig .tc := ⟨.hbm, 154, rfl⟩
abbrev main_v97 : Ref sig .tc := ⟨.hbm, 155, rfl⟩
abbrev main_v98 : Ref sig .tc := ⟨.hbm, 156, rfl⟩
abbrev main_c_26 : Ref sig .tc := ⟨.hbm, 157, rfl⟩
abbrev main_v99 : Ref sig .tc := ⟨.hbm, 158, rfl⟩
abbrev main_v100 : Ref sig .tc := ⟨.hbm, 159, rfl⟩
abbrev main_c_27 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_cst_28 : Ref sig .tc := ⟨.hbm, 171, rfl⟩
abbrev main_v111 : Ref sig .tc := ⟨.hbm, 172, rfl⟩
abbrev main_v112 : Ref sig .tc := ⟨.hbm, 173, rfl⟩
abbrev main_c_29 : Ref sig .tc := ⟨.hbm, 174, rfl⟩
abbrev main_v113 : Ref sig .tc := ⟨.hbm, 175, rfl⟩
abbrev main_v114 : Ref sig .tc := ⟨.hbm, 176, rfl⟩
abbrev main_c_30 : Ref sig .tc := ⟨.hbm, 177, rfl⟩
abbrev main_v115 : Ref sig .tc := ⟨.hbm, 178, rfl⟩
abbrev main_v116 : Ref sig .tc := ⟨.hbm, 179, rfl⟩
abbrev main_c_31 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩

abbrev nD : Nat := 1
abbrev τ : Topo := Topo.v7x

variable {F : FTy → Type} [FloatOps F]

abbrev main_while0_count : Scf.Loop 32 := ⟨0#32, 41#32, 1#32⟩
-- ==== Proof.Lane.lean ====
/-
  One lane of the SparseCore kernel. `laneVal` is what the kernel computes for
  one query: its bucket from the query's offset into the knots' range, the bucket's threshold picking one of the
  bucket's two table rows, the row's cubic at the offset from the bucket's edge. The chunk loop is in Chunk.lean.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

/-! ## The value -/

/-- A word of a table's index range as an index of the table (reduced below its length, which changes nothing in range). -/
def at4096 (j : BitVec 32) : S4096.Idx := Shape.ofLane (d := ![4096]) ⟨j.toNat % 4096, Nat.mod_lt _ (by decide)⟩
def at8192 (j : BitVec 32) : S8192.Idx := Shape.ofLane (d := ![8192]) ⟨j.toNat % 8192, Nat.mod_lt _ (by decide)⟩

/-- The bucket of query `v`, as lane `l` computes it. -/
def bucketOf (v3 v4 : Vec F S16 .f32) (l : S16.Idx) (v : Elt F .f32) : BitVec 32 :=
  k0_pay4 v3 v4 k0_pay2 k0_pay3 (fun _ => v) l

/-- The table row: twice the bucket, one more from the bucket's threshold on. -/
def rowOf (v3 v4 : Vec F S16 .f32) (tb : Vec F S4096 .f32) (l : S16.Idx) (v : Elt F .f32) : BitVec 32 :=
  k0_pay5 (F := F) k0_pay1 k0_pay2 (fun _ => v) (fun _ => bucketOf v3 v4 l v) (fun _ => tb (at4096 (bucketOf v3 v4 l v))) l

/-- What the kernel leaves for query `v` at lane `l`. -/
def laneVal (v3 v4 v5 : Vec F S16 .f32) (t0 t1 t2 t3 : Vec F S8192 .f32) (tb : Vec F S4096 .f32) (l : S16.Idx) (v : Elt F .f32) : Elt F .f32 :=
  k0_pay6 v3 v5 (fun _ => v) (fun _ => bucketOf v3 v4 l v) (fun _ => t0 (at8192 (rowOf v3 v4 tb l v)))
    (fun _ => t1 (at8192 (rowOf v3 v4 tb l v))) (fun _ => t2 (at8192 (rowOf v3 v4 tb l v))) (fun _ => t3 (at8192 (rowOf v3 v4 tb l v))) l

/-- A word clamped to the buckets' range, as a number: its signed value clamped. -/
theorem clamp_toNat (w : BitVec 32) : ((IntOp.minsi (IntOp.maxsi w 0#32) 4095#32).toNat : ℤ) = min (max w.toInt 0) 4095 := by
  simp only [IntOp.minsi, IntOp.maxsi, BitVec.slt_eq_decide, decide_eq_true_eq]
  have e : (4095#32 : BitVec 32).toInt = 4095 := by decide
  have e0 : (0#32 : BitVec 32).toInt = 0 := by decide
  have t : ∀ v : BitVec 32, 0 ≤ v.toInt → (v.toNat : ℤ) = v.toInt := fun v hv => by
    rw [BitVec.toInt_eq_toNat_cond] at hv ⊢; have := v.isLt; split at hv <;> rename_i h <;> simp only [h, if_true, if_false] <;> omega
  rw [e0]
  by_cases h : 0 < w.toInt
  · simp only [h, if_true, e]
    by_cases h' : w.toInt < 4095
    · simp only [h', if_true]; rw [t _ h.le]; omega
    · simp only [h', if_false]; rw [t _ (by rw [e]; omega), e]; omega
  · simp only [h, if_false, e0, e]
    rw [if_pos (by omega), t _ (by rw [e0]), e0]; omega

/-- The bucket is in the table, whatever the query. -/
theorem bucketOf_lt (v3 v4 : Vec F S16 .f32) (l : S16.Idx) (v : Elt F .f32) : (bucketOf v3 v4 l v).toNat < 4096 := by
  have h := clamp_toNat (fptosi 32 (mulf (subf (fun _ => v : Vec F S16 .f32) v3) v4) l)
  show (IntOp.minsi (IntOp.maxsi _ 0#32) 4095#32).toNat < 4096
  omega

/-- The row is in the tables. -/
theorem row_lt (j : BitVec 32) (hj : j.toNat < 4096) (c : BitVec 1) : (IntOp.addi (IntOp.addi j j) (if c = 1#1 then 1#32 else 0#32)).toNat < 8192 := by
  have h : ∀ b : BitVec 32, b.toNat ≤ 1 → (j + j + b).toNat < 8192 := fun b hb => by
    rw [BitVec.toNat_add, BitVec.toNat_add]; omega
  show (j + j + _).toNat < 8192
  split <;> exact h _ (by decide)

theorem rowOf_lt (v3 v4 : Vec F S16 .f32) (tb : Vec F S4096 .f32) (l : S16.Idx) (v : Elt F .f32) : (rowOf v3 v4 tb l v).toNat < 8192 :=
  row_lt _ (bucketOf_lt v3 v4 l v) _

/-! ## One trip: sixteen queries -/

/-- Lane of a place of a chunk. -/
def laneAt (y : S16384.Idx) : S16.Idx := Shape.ofLane (d := ![16]) ⟨(y 0).val % 16, Nat.mod_lt _ (by decide)⟩

/-- A chunk's results from its queries. -/
def chunkVal (v3 v4 v5 : Vec F S16 .f32) (t0 t1 t2 t3 : Vec F S8192 .f32) (tb : Vec F S4096 .f32) (xs : Vec F S16384 .f32) : Vec F S16384 .f32 :=
  fun y => laneVal v3 v4 v5 t0 t1 t2 t3 tb (laneAt y) (xs y)

theorem pay4_lane (v3 v4 v60 : Vec F S16 .f32) (l : S16.Idx) : k0_pay4 v3 v4 k0_pay2 k0_pay3 v60 l = bucketOf v3 v4 l (v60 l) := by
  unfold bucketOf k0_pay4; dsimp only [minsi, maxsi, fptosi, mulf, subf]

theorem size4096 : S4096.size 0 = 4096 := rfl
theorem size8192 : S8192.size 0 = 8192 := rfl

theorem chk1 (v3 v4 v60 : Vec F S16 .f32) : k0_chk1 (k0_pay4 v3 v4 k0_pay2 k0_pay3 v60) := by
  intro a l
  obtain rfl : a = 0 := Subsingleton.elim _ _
  refine lt_of_lt_of_eq ?_ size4096.symm
  show (k0_pay4 v3 v4 k0_pay2 k0_pay3 v60 l).toNat < 4096
  rw [pay4_lane]; exact bucketOf_lt v3 v4 l (v60 l)

/-- The thresholds gathered at the buckets. -/
theorem load_tb (v3 v4 v60 : Vec F S16 .f32) (tb : Vec F S4096 .f32) (h) (l : S16.Idx) :
    loadIdx tb ![k0_pay4 v3 v4 k0_pay2 k0_pay3 v60] h l = tb (at4096 (bucketOf v3 v4 l (v60 l))) := by
  show tb _ = tb _
  congr 1; funext a; apply Fin.ext
  obtain rfl : a = 0 := Subsingleton.elim _ _
  show (k0_pay4 v3 v4 k0_pay2 k0_pay3 v60 l).toNat = (bucketOf v3 v4 l (v60 l)).toNat % 4096
  rw [pay4_lane]; exact (Nat.mod_eq_of_lt (bucketOf_lt v3 v4 l (v60 l))).symm

theorem pay5_lane (v3 v4 v60 : Vec F S16 .f32) (tb : Vec F S4096 .f32) (h) (l : S16.Idx) :
    k0_pay5 k0_pay1 k0_pay2 v60 (k0_pay4 v3 v4 k0_pay2 k0_pay3 v60) (loadIdx tb ![k0_pay4 v3 v4 k0_pay2 k0_pay3 v60] h) l
      = rowOf v3 v4 tb l (v60 l) := by
  unfold rowOf k0_pay5
  dsimp only [addi, select, cmpf]
  rw [load_tb, pay4_lane]

theorem chk2 (v3 v4 v60 : Vec F S16 .f32) (tb : Vec F S4096 .f32) (h) :
    k0_chk2 (k0_pay5 k0_pay1 k0_pay2 v60 (k0_pay4 v3 v4 k0_pay2 k0_pay3 v60) (loadIdx tb ![k0_pay4 v3 v4 k0_pay2 k0_pay3 v60] h)) := by
  have key : ∀ a x, ((![k0_pay5 k0_pay1 k0_pay2 v60 (k0_pay4 v3 v4 k0_pay2 k0_pay3 v60) (loadIdx tb ![k0_pay4 v3 v4 k0_pay2 k0_pay3 v60] h)] : Fin 1 → IVec S16 32) a x).toNat
      < S8192.size a := fun a l => by
    obtain rfl : a = 0 := Subsingleton.elim _ _
    refine lt_of_lt_of_eq ?_ size8192.symm
    show (k0_pay5 k0_pay1 k0_pay2 v60 _ _ l).toNat < 8192
    rw [pay5_lane]; exact rowOf_lt v3 v4 tb l (v60 l)
  exact ⟨key, key, key, key⟩

/-- A table gathered at rows that are, lane by lane, `r`. -/
theorem load_row (t : Vec F S8192 .f32) (v70 : IVec S16 32) (h) (l : S16.Idx) (r : BitVec 32) (hr : v70 l = r) :
    loadIdx t ![v70] h l = t (at8192 r) := by
  subst hr
  show t _ = t _
  congr 1; funext a; apply Fin.ext
  obtain rfl : a = 0 := Subsingleton.elim _ _
  show (v70 l).toNat = (v70 l).toNat % 8192
  exact (Nat.mod_eq_of_lt (lt_of_lt_of_eq (h 0 l) size8192)).symm

theorem pay6_lane (v3 v4 v5 v60 : Vec F S16 .f32) (t0 t1 t2 t3 : Vec F S8192 .f32) (tb : Vec F S4096 .f32) (h) (h0 h1 h2 h3) (l : S16.Idx) :
    k0_pay6 v3 v5 v60 (k0_pay4 v3 v4 k0_pay2 k0_pay3 v60)
      (loadIdx t0 ![k0_pay5 k0_pay1 k0_pay2 v60 (k0_pay4 v3 v4 k0_pay2 k0_pay3 v60) (loadIdx tb ![k0_pay4 v3 v4 k0_pay2 k0_pay3 v60] h)] h0)
      (loadIdx t1 ![k0_pay5 k0_pay1 k0_pay2 v60 (k0_pay4 v3 v4 k0_pay2 k0_pay3 v60) (loadIdx tb ![k0_pay4 v3 v4 k0_pay2 k0_pay3 v60] h)] h1)
      (loadIdx t2 ![k0_pay5 k0_pay1 k0_pay2 v60 (k0_pay4 v3 v4 k0_pay2 k0_pay3 v60) (loadIdx tb ![k0_pay4 v3 v4 k0_pay2 k0_pay3 v60] h)] h2)
      (loadIdx t3 ![k0_pay5 k0_pay1 k0_pay2 v60 (k0_pay4 v3 v4 k0_pay2 k0_pay3 v60) (loadIdx tb ![k0_pay4 v3 v4 k0_pay2 k0_pay3 v60] h)] h3) l
      = laneVal v3 v4 v5 t0 t1 t2 t3 tb l (v60 l) := by
  unfold laneVal k0_pay6
  dsimp only [addf, mulf, subf, sitofp]
  rw [load_row t0 _ h0 l _ (pay5_lane v3 v4 v60 tb h l), load_row t1 _ h1 l _ (pay5_lane v3 v4 v60 tb h l),
    load_row t2 _ h2 l _ (pay5_lane v3 v4 v60 tb h l), load_row t3 _ h3 l _ (pay5_lane v3 v4 v60 tb h l), pay4_lane]

end Cert.Proof.Spline

end
-- ==== Proof.Setup.lean ====
/-
  The kernel's program as the launch theorem sees it: the resource algebra, the arrays the SparseCore call reads and
  writes, and what the call carries. The call reads the queries, the four coefficient tables, the thresholds and the
  parameters and writes the results. Every tile reads all of the seven arrays it is given, so they go out as read shares,
  dealt first to the two SparseCores and then to each one's sixteen tiles; the results go out as disjoint blocks, one per
  tile, and come back holding `G`: at each query, the value of `laneVal` at the lane the query's index falls on.
-/
module

public import proofs.«01_k».proof.Proof.Lane

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false from fun _ _ _ => rfl,
    fun _ => rfl⟩

/-! ## The resource algebra: the handshakes' rounds beside the transfers' counters -/

abbrev UH : Type := URounds (GSem nD τ sig) ℕ
abbrev UU : Type := UH × Counters

abbrev MM (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The arrays -/

abbrev xLoc (d : Dev nD) : Loc nD τ sig := (SparseCore.T d).loc main_arg0
abbrev q0Loc (d : Dev nD) : Loc nD τ sig := (SparseCore.T d).loc main_v538
abbrev q1Loc (d : Dev nD) : Loc nD τ sig := (SparseCore.T d).loc main_v542
abbrev q2Loc (d : Dev nD) : Loc nD τ sig := (SparseCore.T d).loc main_v546
abbrev q3Loc (d : Dev nD) : Loc nD τ sig := (SparseCore.T d).loc main_v550
abbrev bLoc (d : Dev nD) : Loc nD τ sig := (SparseCore.T d).loc main_v448
abbrev pLoc (d : Dev nD) : Loc nD τ sig := (SparseCore.T d).loc main_v554
abbrev oLoc (d : Dev nD) : Loc nD τ sig := (SparseCore.T d).loc main_v555

variable (m : (ℓ : Loc nD τ sig) → Buf (Elt F) ℓ)

/-- The sixteen parameters from place `a` on: the first knot, the scale to buckets or the bucket's width, repeated. -/
def par (p : Vec F S48 .f32) (a : Fin 33) : Vec F S16 .f32 := fun l => p (Shape.ofLane (d := ![48]) ⟨a.val + (l 0).val, by
  have h : (l 0).val < 16 := (l 0).isLt
  show _ < 48; omega⟩)

/-- The lane a query's index falls on. -/
def laneOf (i : S8388608.Idx) : S16.Idx := Shape.ofLane (d := ![16]) ⟨(i 0).val % 16, Nat.mod_lt _ (by decide)⟩

/-- The results: what the call leaves, from the queries, tables, thresholds and parameters in memory when it starts. -/
def G [FloatOps F] (d : Dev nD) : Vec F S8388608 .f32 := fun i =>
  laneVal (par (m (pLoc d)) 0) (par (m (pLoc d)) 16) (par (m (pLoc d)) 32)
    (m (q0Loc d)) (m (q1Loc d)) (m (q2Loc d)) (m (q3Loc d)) (m (bLoc d)) (laneOf i) ((m (xLoc d) : Vec F S8388608 .f32) i)

/-! ## Shares and blocks -/

/-- SparseCore `c`'s share of a read array, and tile `i`'s share of that. -/
def qc (c : Fin 2) : PosShare TreeShare := dealOf fullShare (Finset.univ : Finset (Fin 2)) c
def qt (c : Fin 2) (i : Fin 16) : PosShare TreeShare := dealOf (qc c) (Finset.univ : Finset (Fin 16)) i

/-- The queries from place `a` to before place `b`. -/
def ivl (a b : ℕ) : Finset S8388608.Idx := Finset.univ.filter fun i => a ≤ (i 0).val ∧ (i 0).val < b

theorem mem_ivl {a b : ℕ} {i : S8388608.Idx} : i ∈ ivl a b ↔ a ≤ (i 0).val ∧ (i 0).val < b := by simp [ivl]

/-- Where tile `i` of SparseCore `c` starts, and its block. -/
def base (c : Fin 2) (i : Fin 16) : ℕ := 524288 * i.val + 262144 * c.val
def blk (c : Fin 2) (i : Fin 16) : Finset S8388608.Idx := ivl (base c i) (base c i + 262144)
def coreSet (c : Fin 2) : Finset S8388608.Idx := (Finset.univ : Finset (Fin 16)).biUnion (blk c)

theorem blk_disjoint (c : Fin 2) : ∀ i ∈ (Finset.univ : Finset (Fin 16)), ∀ j ∈ (Finset.univ : Finset (Fin 16)), i ≠ j → Disjoint (blk c i) (blk c j) := by
  intro i _ j _ h
  refine Finset.disjoint_left.mpr fun x hx hy => h (Fin.ext ?_)
  simp only [blk, mem_ivl, base] at hx hy
  omega

theorem coreSet_disjoint : ∀ i ∈ (Finset.univ : Finset (Fin 2)), ∀ j ∈ (Finset.univ : Finset (Fin 2)), i ≠ j → Disjoint (coreSet i) (coreSet j) := by
  intro i _ j _ h
  refine Finset.disjoint_left.mpr fun x hx hy => h (Fin.ext ?_)
  simp only [coreSet, Finset.mem_biUnion, blk, mem_ivl, base, Finset.mem_univ, true_and] at hx hy
  obtain ⟨a, ha⟩ := hx; obtain ⟨b, hb⟩ := hy
  have := i.isLt; have := j.isLt
  omega

theorem coreSet_cover : (Finset.univ : Finset (Fin 2)).biUnion coreSet = Finset.univ := by
  refine Finset.eq_univ_iff_forall.mpr fun x => ?_
  simp only [coreSet, Finset.mem_biUnion, blk, mem_ivl, base, Finset.mem_univ, true_and]
  have hx : (x 0).val < 8388608 := (x 0).isLt
  refine ⟨⟨(x 0).val / 262144 % 2, by omega⟩, ⟨(x 0).val / 524288, by omega⟩, ?_, ?_⟩ <;> dsimp only <;> omega

/-! ## What the call carries -/

/-- The seven read arrays at share `q`, at their contents when the call starts. -/
def reads (d : Dev nD) (q : PosShare TreeShare) : sProp 𝕄 :=
  iprop((xLoc d ↦{q} m (xLoc d)) ∗ (q0Loc d ↦{q} m (q0Loc d)) ∗ (q1Loc d ↦{q} m (q1Loc d)) ∗ (q2Loc d ↦{q} m (q2Loc d))
    ∗ (q3Loc d ↦{q} m (q3Loc d)) ∗ (bLoc d ↦{q} m (bLoc d)) ∗ (pLoc d ↦{q} m (pLoc d)))

/-- The results' block `S`, at contents `f`. -/
abbrev oPts (d : Dev nD) (S : Finset S8388608.Idx) (f : Vec F S8388608 .f32) : sProp 𝕄 := oLoc d ↦[S]{fullShare} (f : Buf (Elt F) (oLoc d))

variable [FloatOps F]

def P : (K (F := F)).Pay (nD := nD) (Val := Elt F) (Name := ℕ) (U := UU) where
  st := fun q d c => match q with | 0 => iprop(reads m d (qc (Fin.cast nCore_zero c)) ∗ oPts d (coreSet (Fin.cast nCore_zero c)) (m (oLoc d)))
  dn := fun q d c => match q with | 0 => iprop(reads m d (qc (Fin.cast nCore_zero c)) ∗ oPts d (coreSet (Fin.cast nCore_zero c)) (G m d))
  go := fun q d c i => match q with
    | 0 => iprop(reads m d (qt (Fin.cast nCore_zero c) (Fin.cast nSub_zero i)) ∗ oPts d (blk (Fin.cast nCore_zero c) (Fin.cast nSub_zero i)) (m (oLoc d)))
  td := fun q d c i => match q with
    | 0 => iprop(reads m d (qt (Fin.cast nCore_zero c) (Fin.cast nSub_zero i)) ∗ oPts d (blk (Fin.cast nCore_zero c) (Fin.cast nSub_zero i)) (G m d))
  x := fun _ _ => iprop(emp)

omit [FloatOps F] in
instance reads_storable (d : Dev nD) (q : PosShare TreeShare) : BI.Storable (upEmb : UEmb _ 𝕄) (reads m d q) := by unfold reads; infer_instance

instance P_storable : (P (F := F) m).IsStorable where
  st q d c := by match q with | 0 => unfold P; infer_instance
  dn q d c := by match q with | 0 => unfold P; infer_instance
  go q d c i := by match q with | 0 => unfold P; infer_instance
  td q d c i := by match q with | 0 => unfold P; infer_instance

/-! ## The blocks and shares joined -/

omit [FloatOps F] in
theorem reads_deal {ι : Type} [LinearOrder ι] (d : Dev nD) (s : Finset ι) (hs : s.Nonempty) (q : PosShare TreeShare) :
    (reads m d q : sProp 𝕄) = BI.bigSep s fun i => reads m d (dealOf q s i) := by
  unfold reads
  rw [bigSep_sep', bigSep_sep', bigSep_sep', bigSep_sep', bigSep_sep', bigSep_sep']
  rw [← pointsTo_deal s hs q, ← pointsTo_deal s hs q, ← pointsTo_deal s hs q, ← pointsTo_deal s hs q, ← pointsTo_deal s hs q,
    ← pointsTo_deal s hs q, ← pointsTo_deal s hs q]

omit [FloatOps F] in
theorem oPts_core (d : Dev nD) (c : Fin 2) (f : Vec F S8388608 .f32) :
    (oPts d (coreSet c) f : sProp 𝕄) = bigSep Finset.univ fun i : Fin 16 => oPts d (blk c i) f := by
  unfold coreSet oPts
  exact pointsTo_biUnion Finset.univ (ℓ := oLoc d) (blk c) (blk_disjoint c)

omit [FloatOps F] in
theorem oPts_all (d : Dev nD) (f : Vec F S8388608 .f32) :
    (oLoc d ↦{fullShare} (f : Buf (Elt F) (oLoc d)) : sProp 𝕄) = bigSep Finset.univ fun c : Fin 2 => oPts d (coreSet c) f := by
  unfold oPts
  rw [← pointsTo_biUnion Finset.univ (ℓ := oLoc d) coreSet coreSet_disjoint, coreSet_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

omit [FloatOps F] in
theorem core_deal (d : Dev nD) (c : Fin 2) (f : Vec F S8388608 .f32) :
    (iprop(reads m d (qc c) ∗ oPts d (coreSet c) f) : sProp 𝕄) = bigSep Finset.univ fun i : Fin 16 => iprop(reads m d (qt c i) ∗ oPts d (blk c i) f) := by
  rw [oPts_core, reads_deal m d (Finset.univ : Finset (Fin 16)) Finset.univ_nonempty, bigSep_sep']; rfl

omit [FloatOps F] in
theorem all_deal (d : Dev nD) (f : Vec F S8388608 .f32) :
    (iprop(reads m d fullShare ∗ oLoc d ↦{fullShare} (f : Buf (Elt F) (oLoc d))) : sProp 𝕄)
      = bigSep Finset.univ fun c : Fin 2 => iprop(reads m d (qc c) ∗ oPts d (coreSet c) f) := by
  rw [oPts_all, reads_deal m d (Finset.univ : Finset (Fin 2)) Finset.univ_nonempty, bigSep_sep']; rfl

/-- A SparseCore's part splits into its tiles' and is joined from theirs. -/
theorem vecSplit : (K (F := F)).VecSplit' (P m) 0 := by
  intro d c
  show iprop(reads m d (qc (Fin.cast nCore_zero c)) ∗ oPts d (coreSet (Fin.cast nCore_zero c)) (m (oLoc d))) ⊢ |={Set.univ}=> iprop(
      (bigSep Finset.univ fun i : Fin ((K (F := F)).nSub 0) =>
        iprop(reads m d (qt (Fin.cast nCore_zero c) (Fin.cast nSub_zero i)) ∗ oPts d (blk (Fin.cast nCore_zero c) (Fin.cast nSub_zero i)) (m (oLoc d))))
      ∗ ((bigSep Finset.univ fun i : Fin ((K (F := F)).nSub 0) =>
          iprop(reads m d (qt (Fin.cast nCore_zero c) (Fin.cast nSub_zero i)) ∗ oPts d (blk (Fin.cast nCore_zero c) (Fin.cast nSub_zero i)) (G m d)))
          -∗ iprop(reads m d (qc (Fin.cast nCore_zero c)) ∗ oPts d (coreSet (Fin.cast nCore_zero c)) (G m d))))
  rw [bigSep_tasks (F := F) (fun i => iprop(reads m d (qt (Fin.cast nCore_zero c) i) ∗ oPts d (blk (Fin.cast nCore_zero c) i) (m (oLoc d)))),
    bigSep_tasks (F := F) (fun i => iprop(reads m d (qt (Fin.cast nCore_zero c) i) ∗ oPts d (blk (Fin.cast nCore_zero c) i) (G m d))),
    ← core_deal, ← core_deal]
  iintro H; imodintro
  isplitl [H]; · iexact H
  iintro H; iexact H

end Cert.Proof.Spline

end
-- ==== Proof.Chunk.lean ====
/-
  The loop that fills a chunk. Each of its 1024 trips loads sixteen queries, gathers from the thresholds and the four
  coefficient tables, and stores sixteen results; after trip `n` the first `16 n` places of the output buffer hold
  `chunkVal` of the queries. Stated for any pair of buffers, since the kernel runs the same loop over two pairs in turn.
-/
module

public import proofs.«01_k».proof.Proof.Setup
public import Idealize.ShloMosaic.Lib.SparseCore.Ops

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The buffers, as a tile names them -/

abbrev xV : Memref sig .scVector .hbm S8388608 .f32 := Memref.whole main_arg0_scv
abbrev q0V : Memref sig .scVector .hbm S8192 .f32 := Memref.whole main_v538_scv
abbrev q1V : Memref sig .scVector .hbm S8192 .f32 := Memref.whole main_v542_scv
abbrev q2V : Memref sig .scVector .hbm S8192 .f32 := Memref.whole main_v546_scv
abbrev q3V : Memref sig .scVector .hbm S8192 .f32 := Memref.whole main_v550_scv
abbrev bV : Memref sig .scVector .hbm S4096 .f32 := Memref.whole main_v448_scv
abbrev pV : Memref sig .scVector .hbm S48 .f32 := Memref.whole main_v554_scv
abbrev oV : Memref sig .scVector .hbm S8388608 .f32 := Memref.whole main_v555_scv
abbrev s0V : Memref sig .scVector .vmem S8192 .f32 := Memref.whole cc0_scratch0
abbrev s1V : Memref sig .scVector .vmem S8192 .f32 := Memref.whole cc0_scratch1
abbrev s2V : Memref sig .scVector .vmem S8192 .f32 := Memref.whole cc0_scratch2
abbrev s3V : Memref sig .scVector .vmem S8192 .f32 := Memref.whole cc0_scratch3
abbrev sbV : Memref sig .scVector .vmem S4096 .f32 := Memref.whole cc0_scratch4
abbrev spV : Memref sig .scVector .vmem S48 .f32 := Memref.whole cc0_scratch5
abbrev xb0V : Memref sig .scVector .vmem S16384 .f32 := Memref.whole cc0_scratch6
abbrev xb1V : Memref sig .scVector .vmem S16384 .f32 := Memref.whole cc0_scratch7
abbrev ob0V : Memref sig .scVector .vmem S16384 .f32 := Memref.whole cc0_scratch8
abbrev ob1V : Memref sig .scVector .vmem S16384 .f32 := Memref.whole cc0_scratch9

abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)

/-- The chunk loop's body, over the buffers of the current pair. -/
abbrev trip (L : grid0.Coords) (xb : Memref sig .scVector .vmem S16384 .f32) (hxb : xb.IsWhole) (ob : Memref sig .scVector .vmem S16384 .f32) (hob : ob.IsWhole)
    (v2 : BitVec 32) (v3 v4 v5 : Vec F S16 .f32) (k : Fin k0_t1_loop.trips) :
    Fin k0_t2_loop.trips → Unit → Prog (TpuEff nD τ sig (Elt F) Λ₀ (.scVector (cV L) (jV L))) Unit :=
  k0_t2_body L xV (Memref.isWhole_whole _) q0V (Memref.isWhole_whole _) q1V (Memref.isWhole_whole _) q2V (Memref.isWhole_whole _) q3V (Memref.isWhole_whole _)
    bV (Memref.isWhole_whole _) pV (Memref.isWhole_whole _) oV (Memref.isWhole_whole _) s0V (Memref.isWhole_whole _) s1V (Memref.isWhole_whole _)
    s2V (Memref.isWhole_whole _) s3V (Memref.isWhole_whole _) sbV (Memref.isWhole_whole _) spV (Memref.isWhole_whole _) xb hxb xb hxb ob hob ob hob
    cc0_scratch10 cc0_scratch11 cc0_scratch12 cc0_scratch13 cc0_scoped0 cc0_scoped1 cc0_scoped2 cc0_scoped3 cc0_scoped4 cc0_scoped5
    v2 v3 v4 v5 k0_pay1 k0_pay2 k0_pay3 0#32 1#32 k

/-- A tile's copies of the tables and thresholds. -/
def tabs (d : Dev nD) (L : grid0.Coords) (t0 t1 t2 t3 : Vec F S8192 .f32) (tb : Vec F S4096 .f32) : sProp 𝕄 :=
  iprop(((s0V).view.loc (tV d L) ↦{fullShare} (t0 : Buf (Elt F) ((s0V).view.loc (tV d L))))
    ∗ ((s1V).view.loc (tV d L) ↦{fullShare} (t1 : Buf (Elt F) ((s1V).view.loc (tV d L))))
    ∗ ((s2V).view.loc (tV d L) ↦{fullShare} (t2 : Buf (Elt F) ((s2V).view.loc (tV d L))))
    ∗ ((s3V).view.loc (tV d L) ↦{fullShare} (t3 : Buf (Elt F) ((s3V).view.loc (tV d L))))
    ∗ ((sbV).view.loc (tV d L) ↦{fullShare} (tb : Buf (Elt F) ((sbV).view.loc (tV d L)))))

/-- After `n` trips: the queries' buffer unchanged, the first `16 n` results written. -/
def chunkInv (d : Dev nD) (L : grid0.Coords) (xb ob : Memref sig .scVector .vmem S16384 .f32) (v3 v4 v5 : Vec F S16 .f32)
    (t0 t1 t2 t3 : Vec F S8192 .f32) (tb : Vec F S4096 .f32) (fx : Buf (Elt F) (xb.view.loc (tV d L))) (n : ℕ) (_ : Unit) : sProp 𝕄 :=
  iprop(tabs d L t0 t1 t2 t3 tb ∗ (xb.view.loc (tV d L) ↦{fullShare} fx)
    ∗ ∃ f, (ob.view.loc (tV d L) ↦{fullShare} f)
        ∗ ⌜∀ y : S16384.Idx, (y 0).val < 16 * n → ob.view.read (Elt F) f y = chunkVal v3 v4 v5 t0 t1 t2 t3 tb (xb.view.read (Elt F) fx) y⌝)

theorem trips2 : k0_t2_loop.trips = 1024 := by decide +kernel

/-- The sixteen places a trip loads and stores. -/
abbrev span (t : Fin k0_t2_loop.trips) : Rect S16384 := Rect.unit (s := S16384) (k0_off4 t) S16.size (k0_off4_inb t)

abbrev span5 (t : Fin k0_t2_loop.trips) : Rect S16384 := Rect.unit (s := S16384) (k0_off5 t) S16.size (k0_off5_inb t)

omit [FloatOps F] in
theorem span_emb (t : Fin k0_t2_loop.trips) (l : S16.Idx) : (((span t).emb l) 0).val = 16 * t.val + (l 0).val := by
  show k0_off4 t 0 + 1 * (l 0).val = _
  rw [k0_off4_eq]; simp

omit [FloatOps F] in
theorem lane_span (t : Fin k0_t2_loop.trips) (l : S16.Idx) : laneAt ((span t).emb l) = l := by
  funext a; apply Fin.ext
  obtain rfl : a = 0 := Subsingleton.elim _ _
  show (((span t).emb l) 0).val % 16 = (l 0).val
  have h : (l 0).val < 16 := (l 0).isLt
  rw [span_emb]; omega

/-- Storing at a trip's places what they are to hold makes the first `16 (t + 1)` places right when the first `16 t` were. -/
theorem step_val (ob : Memref sig .scVector .vmem S16384 .f32) (t : Fin k0_t2_loop.trips) (f : ob.view.ty.Contents (Elt F))
    (w : S16.Idx → Elt F .f32) (cv : Vec F S16384 .f32) (hw : ∀ l, w l = cv ((span t).emb l))
    (hf : ∀ y : S16384.Idx, (y 0).val < 16 * t.val → ob.view.read (Elt F) f y = cv y) :
    ∀ y : S16384.Idx, (y 0).val < 16 * (t.val + 1) → ob.view.read (Elt F) ((ob.access (span5 t)).write (Elt F) f w Finset.univ) y = cv y := by
  intro y hy
  change ob.view.read (Elt F) ((ob.view.slice (span t)).write (Elt F) f w Finset.univ) y = cv y
  by_cases h : (y 0).val < 16 * t.val
  · rw [View.read_slice_write_of_not_mem (v := ob.view) _ _ _ _ (?_), hf y h]
    intro hm
    obtain ⟨l, -, e⟩ := Finset.mem_map.mp hm
    have := span_emb t l
    rw [e] at this; omega
  · obtain ⟨l, e⟩ : ∃ l : S16.Idx, (span t).emb l = y := ⟨Shape.ofLane (d := ![16]) ⟨(y 0).val - 16 * t.val, by show _ < 16; omega⟩, by
      funext a; apply Fin.ext
      obtain rfl : a = 0 := Subsingleton.elim _ _
      rw [span_emb]
      show 16 * t.val + ((y 0).val - 16 * t.val) = _
      omega⟩
    rw [← e]
    exact (View.read_slice_write_emb (v := ob.view) (span t) f w (Finset.mem_univ l)).trans (hw l)

theorem read_s0 (d : Dev nD) (L : grid0.Coords) (t : Vec F S8192 .f32) :
    ((s0V).access (.whole S8192)).read (Elt F) (t : Buf (Elt F) ((s0V).view.loc (tV d L))) = t := Memref.read_access_whole (Elt F) cc0_scratch0 _
theorem read_s1 (d : Dev nD) (L : grid0.Coords) (t : Vec F S8192 .f32) :
    ((s1V).access (.whole S8192)).read (Elt F) (t : Buf (Elt F) ((s1V).view.loc (tV d L))) = t := Memref.read_access_whole (Elt F) cc0_scratch1 _
theorem read_s2 (d : Dev nD) (L : grid0.Coords) (t : Vec F S8192 .f32) :
    ((s2V).access (.whole S8192)).read (Elt F) (t : Buf (Elt F) ((s2V).view.loc (tV d L))) = t := Memref.read_access_whole (Elt F) cc0_scratch2 _
theorem read_s3 (d : Dev nD) (L : grid0.Coords) (t : Vec F S8192 .f32) :
    ((s3V).access (.whole S8192)).read (Elt F) (t : Buf (Elt F) ((s3V).view.loc (tV d L))) = t := Memref.read_access_whole (Elt F) cc0_scratch3 _

set_option maxHeartbeats 1000000 in
/-- One trip. -/
theorem trip_run (d : Dev nD) (L : grid0.Coords) (xb : Memref sig .scVector .vmem S16384 .f32) (hxb : xb.IsWhole)
    (ob : Memref sig .scVector .vmem S16384 .f32) (hob : ob.IsWhole) (v2 : BitVec 32) (v3 v4 v5 : Vec F S16 .f32)
    (t0 t1 t2 t3 : Vec F S8192 .f32) (tb : Vec F S4096 .f32) (fx : Buf (Elt F) (xb.view.loc (tV d L))) (k : Fin k0_t1_loop.trips)
    (t : Fin k0_t2_loop.trips) (acc : Unit) :
    chunkInv d L xb ob v3 v4 v5 t0 t1 t2 t3 tb fx t.val acc
      ⊢ wp frame (wpE (defs₀ (F := F)) 𝒱₀ (tV d L) none) Set.univ (trip L xb hxb ob hob v2 v3 v4 v5 k t acc)
          (chunkInv d L xb ob v3 v4 v5 t0 t1 t2 t3 tb fx (t.val + 1)) := by
  unfold trip k0_t2_body chunkInv tabs
  simp only [Prog.lift, Prog.bind_op, Prog.bind_ret, Prog.pure_eq_ret]
  iintro ⟨⟨H0, H1, H2, H3, Hb⟩, Hx, %f, Ho, %hf⟩
  iapply (wp_load 𝒱₀ (tV d L) none Set.univ (m := xb) (S := Finset.univ) (Finset.subset_univ _)) $$ Hx; iintro Hx
  rw [wp_assume_of _ _ _ _ (chk1 v3 v4 _)]
  iapply (SparseCore.wp_vectorLoadIdx 𝒱₀ (tV d L) none Set.univ (base := sbV) (S := Finset.univ) (q := fullShare) (Finset.subset_univ _)) $$ Hb; iintro Hb
  rw [show ((sbV).access (.whole S4096)).read (Elt F) (tb : Buf (Elt F) ((sbV).view.loc (tV d L))) = tb from Memref.read_access_whole (Elt F) cc0_scratch4 _]
  rw [wp_assume_of _ _ _ _ (chk2 v3 v4 _ tb _)]
  iapply (SparseCore.wp_vectorLoadIdx 𝒱₀ (tV d L) none Set.univ (base := s0V) (S := Finset.univ) (q := fullShare) (Finset.subset_univ _)) $$ H0; iintro H0
  iapply (SparseCore.wp_vectorLoadIdx 𝒱₀ (tV d L) none Set.univ (base := s1V) (S := Finset.univ) (q := fullShare) (Finset.subset_univ _)) $$ H1; iintro H1
  iapply (SparseCore.wp_vectorLoadIdx 𝒱₀ (tV d L) none Set.univ (base := s2V) (S := Finset.univ) (q := fullShare) (Finset.subset_univ _)) $$ H2; iintro H2
  iapply (SparseCore.wp_vectorLoadIdx 𝒱₀ (tV d L) none Set.univ (base := s3V) (S := Finset.univ) (q := fullShare) (Finset.subset_univ _)) $$ H3; iintro H3
  iapply (wp_load 𝒱₀ (tV d L) none Set.univ (m := ob) (S := Finset.univ) (Finset.subset_univ _)) $$ Ho; iintro Ho
  ihave Ho' := (show (ob.view.loc (tV d L) ↦{fullShare} f : sProp 𝕄) ⊢ (ob.access (span5 t)).loc (tV d L) ↦{fullShare} f from .rfl) $$ Ho
  iapply (wp_store 𝒱₀ (tV d L) none Set.univ (m := ob) (r := span5 t) (Mk := Finset.univ) (S := Finset.univ) (Finset.subset_univ _)) $$ Ho'; iintro Ho
  rw [wp_ret]; imodintro
  isplitl [H0 H1 H2 H3 Hb]
  · isplitl [H0]; · iexact H0
    isplitl [H1]; · iexact H1
    isplitl [H2]; · iexact H2
    isplitl [H3]; · iexact H3
    iexact Hb
  isplitl [Hx]; · iexact Hx
  iexists _
  isplitl [Ho]; · iexact Ho
  ipureintro
  refine step_val ob t f _ _ (fun l => ?_) hf
  rw [read_s0 d L, read_s1 d L, read_s2 d L, read_s3 d L]
  refine (pay6_lane v3 v4 v5 _ t0 t1 t2 t3 tb _ _ _ _ _ l).trans ?_
  unfold chunkVal
  rw [lane_span]
  rfl

/-- The whole loop: the output buffer at the chunk's results. -/
theorem chunk_loop (d : Dev nD) (L : grid0.Coords) (xb : Memref sig .scVector .vmem S16384 .f32) (hxb : xb.IsWhole)
    (ob : Memref sig .scVector .vmem S16384 .f32) (hob : ob.IsWhole) (v2 : BitVec 32) (v3 v4 v5 : Vec F S16 .f32)
    (t0 t1 t2 t3 : Vec F S8192 .f32) (tb : Vec F S4096 .f32) (fx : Buf (Elt F) (xb.view.loc (tV d L))) (k : Fin k0_t1_loop.trips)
    {β : Type} {kk : Unit → Prog (TpuEff nD τ sig (Elt F) Λ₀ (.scVector (cV L) (jV L))) β} {Q : β → sProp 𝕄} :
    iprop(tabs d L t0 t1 t2 t3 tb ∗ (xb.view.loc (tV d L) ↦{fullShare} fx) ∗ ∃ f, ob.view.loc (tV d L) ↦{fullShare} f)
      ⊢ iprop((iprop(tabs d L t0 t1 t2 t3 tb ∗ (xb.view.loc (tV d L) ↦{fullShare} fx)
          ∗ ∃ f, (ob.view.loc (tV d L) ↦{fullShare} f) ∗ ⌜ob.view.read (Elt F) f = chunkVal v3 v4 v5 t0 t1 t2 t3 tb (xb.view.read (Elt F) fx)⌝)
          -∗ wp frame (wpE (defs₀ (F := F)) 𝒱₀ (tV d L) none) Set.univ (kk ⟨⟩) Q)
        -∗ wp frame (wpE (defs₀ (F := F)) 𝒱₀ (tV d L) none) Set.univ
            (Scf.Loop.for k0_t2_loop k0_t2_ok ⟨⟩ (trip L xb hxb ob hob v2 v3 v4 v5 k) >>= kk) Q) := by
  iintro ⟨Ht, Hx, %f, Ho⟩ HK
  iapply (Scf.wp_for_bind frame (wpE (defs₀ (F := F)) 𝒱₀ (tV d L) none) Set.univ _ _ _ k0_t2_ok ⟨⟩ (trip L xb hxb ob hob v2 v3 v4 v5 k)
    (chunkInv d L xb ob v3 v4 v5 t0 t1 t2 t3 tb fx) (fun t acc => trip_run d L xb hxb ob hob v2 v3 v4 v5 t0 t1 t2 t3 tb fx k t acc)) $$ [Ht Hx Ho]
  · unfold chunkInv
    isplitl [Ht]; · iexact Ht
    isplitl [Hx]; · iexact Hx
    iexists f
    isplitl [Ho]; · iexact Ho
    ipureintro; intro y hy; omega
  iintro %acc HI
  unfold chunkInv
  icases HI with ⟨Ht, Hx, %g, Ho, %hg⟩
  iapply HK
  isplitl [Ht]; · iexact Ht
  isplitl [Hx]; · iexact Hx
  iexists g
  isplitl [Ho]; · iexact Ho
  ipureintro; funext y
  refine hg y ?_
  have hy : (y 0).val < 16384 := (y 0).isLt
  rw [show Scf.trips _ _ _ = k0_t2_loop.trips from rfl, trips2]; omega

end Cert.Proof.Spline

end
-- ==== Proof.Moves.lean ====
/-
  A tile's transfers. Chunks of queries are fetched into a buffer, lending that chunk of the read share while the
  transfer is in flight (`XFly`); chunks of results are written back, and the flight delivers the results' chunk at `G`
  and the buffer free (`OFly`). For each: issuing it, and waiting for it.
-/
module

public import proofs.«01_k».proof.Proof.Chunk

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono wp_dmaLocal wp_waitLocalO)

variable {F : FTy → Type} [FloatOps F]

local notation "𝕄" => MT nD τ sig (HIx 1) (Elt F) ℕ UU ℕ

variable (m : (ℓ : Loc nD τ sig) → Buf (Elt F) ℓ) (d : Dev nD) (L : grid0.Coords)

/-- `w` is the chunk of queries from place `a` on. -/
def HoldsX (a : ℕ) (w : Vec F S16384 .f32) : Prop :=
  ∀ (y : S16384.Idx) (i : S8388608.Idx), (i 0).val = a + (y 0).val → w y = (m (xLoc d) : Vec F S8388608 .f32) i

/-- `w` is the chunk of results from place `a` on. -/
def HoldsG (a : ℕ) (w : Vec F S16384 .f32) : Prop :=
  ∀ (y : S16384.Idx) (i : S8388608.Idx), (i 0).val = a + (y 0).val → w y = G m d i

/-- A chunk of queries gives its chunk of results. -/
theorem holdsG_of_holdsX (a : ℕ) (ha : 16 ∣ a) (w : Vec F S16384 .f32) (hw : HoldsX m d a w) :
    HoldsG m d a (chunkVal (par (m (pLoc d)) 0) (par (m (pLoc d)) 16) (par (m (pLoc d)) 32)
      (m (q0Loc d)) (m (q1Loc d)) (m (q2Loc d)) (m (q3Loc d)) (m (bLoc d)) w) := by
  intro y i h
  unfold chunkVal G
  have e : laneAt y = laneOf i := by
    unfold laneAt laneOf
    congr 1; apply Fin.ext
    show (y 0).val % 16 = (i 0).val % 16
    omega
  rw [hw y i h, e]

/-- What a tile owes, its waits recorded beyond `W` all of the transfers' own. -/
def Owes (O : CellTallies nD τ sig (HIx 1)) (W : Waits sig (HIx 1)) : sProp 𝕄 :=
  iprop(∃ W', ⌜∀ p ∈ W', p ∈ W ∨ p.2 = none⌝ ∗ owes (tV d L) O W')

theorem chunk_set (off : Fin 1 → ℕ) (a : ℕ) (hoff : off = ![a]) (inb : ∀ b, off b + S16384.size b ≤ S8388608.size b) :
    (Rect.unit (s := S8388608) off S16384.size inb).set = ivl a (a + 16384) := by
  subst hoff
  ext i
  rw [Rect.mem_set_unit, mem_ivl]
  constructor
  · intro h; have := h 0; exact this
  · intro h b; obtain rfl : b = 0 := Subsingleton.elim _ _; exact h

abbrev xSl (off : Fin 1 → ℕ) (inb : ∀ b, off b + S16384.size b ≤ S8388608.size b) : Memref sig .scVector .hbm S16384 .f32 := (xV).slice (Rect.unit (s := S8388608) off S16384.size inb) (fun _ => rfl)
abbrev oSl (off : Fin 1 → ℕ) (inb : ∀ b, off b + S16384.size b ≤ S8388608.size b) : Memref sig .scVector .hbm S16384 .f32 := (oV).slice (Rect.unit (s := S8388608) off S16384.size inb) (fun _ => rfl)

theorem xSl_set (off : Fin 1 → ℕ) (a : ℕ) (hoff : off = ![a]) (inb : ∀ b, off b + S16384.size b ≤ S8388608.size b) : (xSl off inb).view.set = ivl a (a + 16384) := by
  rw [← chunk_set off a hoff inb]
  exact (View.set_slice _ _).trans Finset.map_refl
theorem oSl_set (off : Fin 1 → ℕ) (a : ℕ) (hoff : off = ![a]) (inb : ∀ b, off b + S16384.size b ≤ S8388608.size b) : (oSl off inb).view.set = ivl a (a + 16384) := by
  rw [← chunk_set off a hoff inb]
  exact (View.set_slice _ _).trans Finset.map_refl

theorem sl_emb (off : Fin 1 → ℕ) (a : ℕ) (hoff : off = ![a]) (inb : ∀ b, off b + S16384.size b ≤ S8388608.size b) (y : S16384.Idx)
    (i : S8388608.Idx) (h : (i 0).val = a + (y 0).val) : (Rect.unit (s := S8388608) off S16384.size inb).emb y = i := by
  subst hoff
  funext b; apply Fin.ext
  obtain rfl : b = 0 := Subsingleton.elim _ _
  show a + 1 * (y 0).val = (i 0).val
  omega

/-- A chunk of the queries, read. -/
theorem holds_read (off : Fin 1 → ℕ) (a : ℕ) (hoff : off = ![a]) (inb : ∀ b, off b + S16384.size b ≤ S8388608.size b) :
    HoldsX m d a ((xSl off inb).view.read (Elt F) (m (xLoc d))) := by
  intro y i h
  refine (View.read_apply _ _).trans ((cast_eq _ _).trans ?_)
  show m (xLoc d) ((Rect.unit (s := S8388608) off S16384.size inb).emb y) = _
  rw [sl_emb off a hoff inb y i h]

/-- The results' block holding a chunk of results written over it holds `G` there. -/
theorem write_G (off : Fin 1 → ℕ) (a : ℕ) (hoff : off = ![a]) (inb : ∀ b, off b + S16384.size b ≤ S8388608.size b)
    (f0 : Buf (Elt F) (oLoc d)) (w : Vec F S16384 .f32) (hw : HoldsG m d a w) :
    ((oSl off inb).view.loc (tV d L) ↦[(oSl off inb).view.set]{fullShare} (oSl off inb).view.write (Elt F) f0 w Finset.univ : sProp 𝕄)
      = oPts d (ivl a (a + 16384)) (G m d) := by
  unfold oPts
  rw [← oSl_set off a hoff inb]
  refine pointsTo_congr fun i hi => ?_
  obtain ⟨y, -, e⟩ := Finset.mem_map.mp hi
  subst e
  refine (View.write_emb_of_mem (v := (oSl off inb).view) f0 w (Finset.mem_univ y)).trans ((cast_eq _ _).trans ?_)
  refine hw y _ ?_
  show (((Rect.unit (s := S8388608) off S16384.size inb).emb y) 0).val = _
  subst hoff
  show a + 1 * (y 0).val = _
  omega

/-- What a chunk's transfer to or from the results credits. -/
abbrev NO : ℕ := sig.dmaCredit .scVector (Kind.scVector.table .hbm) (main_v555_scv : Ref sig .scVector).idx S16384 .f32
theorem NO_pos : 0 < NO := sig.dmaCredit_pos _ _ _ _ _ (by decide)

/-- The queries at share `q` less a chunk, and that chunk in flight to `xb`. -/
def XFly (xb : Memref sig .scVector .vmem S16384 .f32) (sx : DmaSem sig) (q : PosShare TreeShare) (a : ℕ) : sProp 𝕄 :=
  iprop(Flight EC (tV d L) (.dma sx) none xb.view.dmaCredit
      iprop((∃ g, (xb.view.loc (tV d L) ↦{fullShare} g) ∗ ⌜HoldsX m d a (xb.view.read (Elt F) g)⌝)
        ∗ xLoc d ↦[ivl a (a + 16384)]{q} m (xLoc d))
    ∗ xLoc d ↦[Finset.univ \ ivl a (a + 16384)]{q} m (xLoc d))

theorem issue_x (xb : Memref sig .scVector .vmem S16384 .f32) (sx : DmaSem sig) (q : PosShare TreeShare) (off : Fin 1 → ℕ) (a : ℕ) (hoff : off = ![a]) (inb : ∀ b, off b + S16384.size b ≤ S8388608.size b)
    {h1 : (xSl off inb).view.WordExact} {h2 : xb.view.WordExact} {h3 : DmaTarget.Typed (nD := nD) (τ := τ) (p := .scVector (cV L) (jV L)) .hbm (.dma sx) (.here xb)}
    {β : Type} {k : PUnit → Prog (TpuEff nD τ sig (Elt F) Λ₀ (.scVector (cV L) (jV L))) β} {Q : β → sProp 𝕄} :
    iprop((xLoc d ↦{q} m (xLoc d)) ∗ (∃ g, xb.view.loc (tV d L) ↦{fullShare} g) ∗ semVal (tV d L, .dma sx) 0)
      ⊢ iprop((XFly m d L xb sx q a -∗ wp frame (wpE (defs₀ (F := F)) 𝒱₀ (tV d L) none) Set.univ (k ⟨⟩) Q)
        -∗ wp frame (wpE (defs₀ (F := F)) 𝒱₀ (tV d L) none) Set.univ (.op (.enqueueDma (xSl off inb) (.here xb) (.dma sx) h1 h2 h3) k) Q) := by
  iintro ⟨Hx, ⟨%g, Hb⟩, Hs⟩ HK
  ihave Hx' := (pointsTo_split_subset (Finset.subset_univ (ivl a (a + 16384)))).1 $$ Hx
  icases Hx' with ⟨Hxa, Hxr⟩
  ihave Hxa' := (Entails.of_eq (show (xLoc d ↦[ivl a (a + 16384)]{q} m (xLoc d) : sProp 𝕄)
    = (xSl off inb).view.loc (tV d L) ↦[(xSl off inb).view.set]{q} m (xLoc d) by rw [xSl_set off a hoff inb])) $$ Hxa
  iapply (wp_dmaLocal EC 𝒱₀ (tV d L) none none xb.view.dmaCredit rfl (View.dmaCredit_pos _ (by decide)) (Finset.subset_univ _)) $$ [Hxa' Hb Hs]
  · isplitl [Hxa']; · iexact Hxa'
    isplitl [Hb]; · iexact Hb
    iexact Hs
  iintro HF
  iapply HK
  unfold XFly
  isplitl [HF]
  · iapply (Flight_mono EC (tV d L) ?hm) $$ HF
    rw [xSl_set off a hoff inb]
    iintro ⟨Hb, Hx⟩
    isplitl [Hb]
    · iexists _
      isplitl [Hb]; · iexact Hb
      ipureintro
      rw [View.read_write_univ]
      exact holds_read m d off a hoff inb
    · iexact Hx
  · iexact Hxr

theorem wait_x (O : CellTallies nD τ sig (HIx 1)) (W : Waits sig (HIx 1)) (hO : ∀ g, O g none = 0)
    (xb : Memref sig .scVector .vmem S16384 .f32) (sx : DmaSem sig) (q : PosShare TreeShare) (a : ℕ)
    {srcw : Memref sig .scVector .hbm S16384 .f32} {h1 : srcw.view.WordExact} {h2 : xb.view.WordExact}
    {β : Type} {k : PUnit → Prog (TpuEff nD τ sig (Elt F) Λ₀ (.scVector (cV L) (jV L))) β} {Q : β → sProp 𝕄} :
    iprop(levAts (K (F := F)).L (K (F := F)).lev ∗ XFly m d L xb sx q a ∗ Owes d L O W)
      ⊢ iprop((iprop((xLoc d ↦{q} m (xLoc d)) ∗ (∃ g, (xb.view.loc (tV d L) ↦{fullShare} g) ∗ ⌜HoldsX m d a (xb.view.read (Elt F) g)⌝)
            ∗ semVal (tV d L, .dma sx) 0 ∗ Owes d L O W)
          -∗ wp frame (wpE (defs₀ (F := F)) 𝒱₀ (tV d L) none) Set.univ (k ⟨⟩) Q)
        -∗ wp frame (wpE (defs₀ (F := F)) 𝒱₀ (tV d L) none) Set.univ (.op (.waitDma2 sx srcw xb h1 h2) k) Q) := by
  unfold XFly Owes
  iintro ⟨#Hlv, ⟨HF, Hxr⟩, %W', %hW', HO⟩ HK
  iapply (wp_waitLocalO EC 𝒱₀ (tV d L) none none rfl) $$ [HF HO]
  · isplitl [HF]; · iexact HF
    isplitl [HO]; · iexact HO
    iapply ((K (F := F)).mayWait_none (SemLoc.dma sx) hO); iexact Hlv
  iintro ⟨⟨Hb, Hxa⟩, Hs, HO⟩
  iapply HK
  isplitl [Hxa Hxr]
  · iapply (pointsTo_split_subset (Finset.subset_univ (ivl a (a + 16384)))).2
    isplitl [Hxa] <;> iassumption
  isplitl [Hb]; · iexact Hb
  isplitl [Hs]; · iexact Hs
  iexists (insert (SemLoc.dma sx, none) W')
  isplitr
  · ipureintro; intro p hp
    rcases Finset.mem_insert.mp hp with rfl | hp
    · exact .inr rfl
    · exact hW' p hp
  iexact HO

/-- A chunk of results in flight from `ob`. -/
def OFly (ob : Memref sig .scVector .vmem S16384 .f32) (so : DmaSem sig) (a : ℕ) : sProp 𝕄 :=
  Flight EC (tV d L) (.dma so) none NO iprop(oPts d (ivl a (a + 16384)) (G m d) ∗ ∃ f, ob.view.loc (tV d L) ↦{fullShare} f)

theorem issue_o (ob : Memref sig .scVector .vmem S16384 .f32) (hob : ob.IsWhole) (so : DmaSem sig) (off : Fin 1 → ℕ) (a : ℕ) (hoff : off = ![a])
    (inb : ∀ b, off b + S16384.size b ≤ S8388608.size b)
    {h1 : ob.view.WordExact} {h2 : (oSl off inb).view.WordExact}
    {h3 : DmaTarget.Typed (nD := nD) (τ := τ) (p := .scVector (cV L) (jV L)) .vmem (.dma so) (.here (oSl off inb))}
    {β : Type} {k : PUnit → Prog (TpuEff nD τ sig (Elt F) Λ₀ (.scVector (cV L) (jV L))) β} {Q : β → sProp 𝕄} :
    iprop((∃ f, (ob.view.loc (tV d L) ↦{fullShare} f) ∗ ⌜HoldsG m d a (ob.view.read (Elt F) f)⌝)
        ∗ oPts d (ivl a (a + 16384)) (m (oLoc d)) ∗ semVal (tV d L, .dma so) 0)
      ⊢ iprop((OFly m d L ob so a -∗ wp frame (wpE (defs₀ (F := F)) 𝒱₀ (tV d L) none) Set.univ (k ⟨⟩) Q)
        -∗ wp frame (wpE (defs₀ (F := F)) 𝒱₀ (tV d L) none) Set.univ (.op (.enqueueDma ob (.here (oSl off inb)) (.dma so) h1 h2 h3) k) Q) := by
  iintro ⟨⟨%f, Hb, %hf⟩, Ho, Hs⟩ HK
  ihave Ho' := (Entails.of_eq (show (oPts d (ivl a (a + 16384)) (m (oLoc d)) : sProp 𝕄)
    = (oSl off inb).view.loc (tV d L) ↦[(oSl off inb).view.set]{fullShare} m (oLoc d) by rw [oSl_set off a hoff inb])) $$ Ho
  ihave Hb' := (Entails.of_eq (show (ob.view.loc (tV d L) ↦{fullShare} f : sProp 𝕄)
    = ob.view.loc (tV d L) ↦[ob.view.set]{fullShare} f by rw [hob.set_eq_univ])) $$ Hb
  iapply (wp_dmaLocal EC 𝒱₀ (tV d L) none none NO rfl NO_pos (Finset.Subset.refl _)) $$ [Hb' Ho' Hs]
  · isplitl [Hb']; · iexact Hb'
    isplitl [Ho']; · iexact Ho'
    iexact Hs
  iintro HF
  iapply HK
  unfold OFly
  iapply (Flight_mono EC (tV d L) ?hm) $$ HF
  rw [hob.set_eq_univ]
  iintro ⟨Ho, Hb⟩
  isplitl [Ho]
  · iapply (Entails.of_eq (write_G m d L off a hoff inb _ _ hf)) $$ Ho
  · iexists f; iexact Hb

theorem wait_o (O : CellTallies nD τ sig (HIx 1)) (W : Waits sig (HIx 1)) (hO : ∀ g, O g none = 0)
    (ob : Memref sig .scVector .vmem S16384 .f32) (so : DmaSem sig) (a : ℕ) (off : Fin 1 → ℕ) (inb : ∀ b, off b + S16384.size b ≤ S8388608.size b)
    {h1 : ob.view.WordExact} {h2 : (oSl off inb).view.WordExact}
    {β : Type} {k : PUnit → Prog (TpuEff nD τ sig (Elt F) Λ₀ (.scVector (cV L) (jV L))) β} {Q : β → sProp 𝕄} :
    iprop(levAts (K (F := F)).L (K (F := F)).lev ∗ OFly m d L ob so a ∗ Owes d L O W)
      ⊢ iprop((iprop(oPts d (ivl a (a + 16384)) (G m d) ∗ (∃ f, ob.view.loc (tV d L) ↦{fullShare} f) ∗ semVal (tV d L, .dma so) 0 ∗ Owes d L O W)
          -∗ wp frame (wpE (defs₀ (F := F)) 𝒱₀ (tV d L) none) Set.univ (k ⟨⟩) Q)
        -∗ wp frame (wpE (defs₀ (F := F)) 𝒱₀ (tV d L) none) Set.univ (.op (.waitDma2 so ob (oSl off inb) h1 h2) k) Q) := by
  unfold OFly Owes
  iintro ⟨#Hlv, HF, %W', %hW', HO⟩ HK
  iapply (wp_waitLocalO EC 𝒱₀ (tV d L) none none rfl) $$ [HF HO]
  · isplitl [HF]; · iexact HF
    isplitl [HO]; · iexact HO
    iapply ((K (F := F)).mayWait_none (SemLoc.dma so) hO); iexact Hlv
  iintro ⟨⟨Ho, Hb⟩, Hs, HO⟩
  iapply HK
  isplitl [Ho]; · iexact Ho
  isplitl [Hb]; · iexact Hb
  isplitl [Hs]; · iexact Hs
  iexists (insert (SemLoc.dma so, none) W')
  isplitr
  · ipureintro; intro p hp
    rcases Finset.mem_insert.mp hp with rfl | hp
    · exact .inr rfl
    · exact hW' p hp
  iexact HO

end Cert.Proof.Spline

end
-- ==== Proof.Tile.lean ====
/-
  A tile's run. It copies the four tables, the thresholds and the parameters into its own memory, then takes its block of
  queries in sixteen chunks, two at a time: while one chunk is computed the next is being fetched and the last results
  written back. `outerInv` says where the transfers stand before each of the eight trips.
-/
module

public import proofs.«01_k».proof.Proof.Moves

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono wp_dmaLocal wp_waitLocalO)

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The first place of the tile's block. -/
def B : ℕ := 524288 * (L 1).val + 262144 * (L 0).val

theorem B_dvd : 16 ∣ B L := ⟨32768 * (L 1).val + 16384 * (L 0).val, by unfold B; omega⟩

/-- Before trip `k`, a queries' buffer: its chunk of the trip in flight, or free after the last. -/
def Xst (xb : Memref sig .scVector .vmem S16384 .f32) (sx : DmaSem sig) (q : PosShare TreeShare) (r k : ℕ) : sProp 𝕄 :=
  if k < 8 then XFly m d L xb sx q (B L + 32768 * k + 16384 * r)
  else iprop((xLoc d ↦{q} m (xLoc d)) ∗ (∃ g, xb.view.loc (tV d L) ↦{fullShare} g) ∗ semVal (tV d L, .dma sx) 0)

/-- Before trip `k`, a results' buffer: free before the first, then its chunk of the trip before in flight. -/
def Ost (ob : Memref sig .scVector .vmem S16384 .f32) (so : DmaSem sig) (r k : ℕ) : sProp 𝕄 :=
  if k = 0 then iprop((∃ f, ob.view.loc (tV d L) ↦{fullShare} f) ∗ semVal (tV d L, .dma so) 0)
  else OFly m d L ob so (B L + 32768 * (k - 1) + 16384 * r)

/-- What a results' buffer's flight before trip `k` delivers. -/
def landed (r k : ℕ) : Finset S8388608.Idx := if k = 0 then ∅ else ivl (B L + 32768 * (k - 1) + 16384 * r) (B L + 32768 * (k - 1) + 16384 * r + 16384)

abbrev par0 : Vec F S16 .f32 := par (m (pLoc d)) 0
abbrev par1 : Vec F S16 .f32 := par (m (pLoc d)) 16
abbrev par2 : Vec F S16 .f32 := par (m (pLoc d)) 32

abbrev mtabs : sProp 𝕄 := tabs d L (m (q0Loc d)) (m (q1Loc d)) (m (q2Loc d)) (m (q3Loc d)) (m (bLoc d))

def outerInv (O : CellTallies nD τ sig (HIx 1)) (W : Waits sig (HIx 1)) (qa qb : PosShare TreeShare) (k : ℕ) (_ : BitVec 32) : sProp 𝕄 :=
  iprop(levAts (K (F := F)).L (K (F := F)).lev ∗ mtabs m d L
    ∗ Xst m d L xb0V cc0_scratch10.sem qa 0 k ∗ Xst m d L xb1V cc0_scratch11.sem qb 1 k
    ∗ Ost m d L ob0V cc0_scratch12.sem 0 k ∗ Ost m d L ob1V cc0_scratch13.sem 1 k
    ∗ oPts d (ivl (B L + 32768 * k) (B L + 262144)) (m (oLoc d)) ∗ oPts d (ivl (B L) (B L + 32768 * (k - 1))) (G m d)
    ∗ Owes d L O W)

/-- After the first part of a trip: the first pair's transfers under way again, the second pair's chunk computed. -/
def midInv (O : CellTallies nD τ sig (HIx 1)) (W : Waits sig (HIx 1)) (qa qb : PosShare TreeShare) (k : ℕ) : sProp 𝕄 :=
  iprop(levAts (K (F := F)).L (K (F := F)).lev ∗ mtabs m d L
    ∗ Xst m d L xb0V cc0_scratch10.sem qa 0 (k + 1)
    ∗ ((xLoc d ↦{qb} m (xLoc d)) ∗ (∃ g, (xb1V).view.loc (tV d L) ↦{fullShare} g) ∗ semVal (tV d L, .dma cc0_scratch11.sem) 0)
    ∗ OFly m d L ob0V cc0_scratch12.sem (B L + 32768 * k)
    ∗ ((∃ f, ((ob1V).view.loc (tV d L) ↦{fullShare} f) ∗ ⌜HoldsG m d (B L + 32768 * k + 16384) ((ob1V).view.read (Elt F) f)⌝)
        ∗ semVal (tV d L, .dma cc0_scratch13.sem) 0)
    ∗ oPts d (ivl (B L + 32768 * k + 16384) (B L + 262144)) (m (oLoc d)) ∗ oPts d (ivl (B L) (B L + 32768 * k)) (G m d)
    ∗ Owes d L O W)

abbrev part1 (v2 : BitVec 32) (k : Fin k0_t1_loop.trips) (c0 c1 : BitVec 32) :
    Prog (TpuEff nD τ sig (Elt F) Λ₀ (.scVector (cV L) (jV L))) (Σ' (_ : BitVec 32), BitVec 32) :=
  k0_part1_skel L xV (Memref.isWhole_whole _) q0V (Memref.isWhole_whole _) q1V (Memref.isWhole_whole _) q2V (Memref.isWhole_whole _) q3V (Memref.isWhole_whole _)
    bV (Memref.isWhole_whole _) pV (Memref.isWhole_whole _) oV (Memref.isWhole_whole _) s0V (Memref.isWhole_whole _) s1V (Memref.isWhole_whole _)
    s2V (Memref.isWhole_whole _) s3V (Memref.isWhole_whole _) sbV (Memref.isWhole_whole _) spV (Memref.isWhole_whole _)
    xb0V (Memref.isWhole_whole _) xb1V (Memref.isWhole_whole _) ob0V (Memref.isWhole_whole _) ob1V (Memref.isWhole_whole _)
    cc0_scratch10 cc0_scratch11 cc0_scratch12 cc0_scratch13 cc0_scoped0 cc0_scoped1 cc0_scoped2 cc0_scoped3 cc0_scoped4 cc0_scoped5
    v2 (par0 m d) (par1 m d) (par2 m d) k0_pay1 k0_pay2 k0_pay3 c0 c1 k

theorem trips1 : k0_t1_loop.trips = 8 := by decide +kernel

theorem cond1_iff : ∀ k : Fin k0_t1_loop.trips, k0_cond1 k = 1#1 ↔ k.val ≠ 0 := by decide +kernel
theorem cond2_iff : ∀ k : Fin k0_t1_loop.trips, k0_cond2 k = 1#1 ↔ k.val + 1 < 8 := by decide +kernel
theorem cond3_iff : ∀ k : Fin k0_t1_loop.trips, k0_cond3 k = 1#1 ↔ k.val ≠ 0 := by decide +kernel
theorem cond4_iff : ∀ k : Fin k0_t1_loop.trips, k0_cond4 k = 1#1 ↔ k.val + 1 < 8 := by decide +kernel

/-- Freeing a results' buffer: after the first trip by waiting for its flight, in the first for nothing. -/
theorem drain (O : CellTallies nD τ sig (HIx 1)) (W : Waits sig (HIx 1)) (hO : ∀ g, O g none = 0)
    (ob : Memref sig .scVector .vmem S16384 .f32) (so : DmaSem sig) (r k : ℕ) (c : Prop) [Decidable c] (hc : c ↔ k ≠ 0) (off : Fin 1 → ℕ)
    (inb : c → ∀ b, off b + S16384.size b ≤ S8388608.size b) {h1 : c → ob.view.WordExact} {h2 : ∀ h : c, (oSl off (inb h)).view.WordExact}
    {β : Type} {rest : Prog (TpuEff nD τ sig (Elt F) Λ₀ (.scVector (cV L) (jV L))) β} {Q : β → sProp 𝕄} :
    iprop(levAts (K (F := F)).L (K (F := F)).lev ∗ Ost m d L ob so r k ∗ Owes d L O W)
      ⊢ iprop((iprop(oPts d (landed L r k) (G m d) ∗ (∃ f, ob.view.loc (tV d L) ↦{fullShare} f) ∗ semVal (tV d L, .dma so) 0 ∗ Owes d L O W)
          -∗ wp frame (wpE (defs₀ (F := F)) 𝒱₀ (tV d L) none) Set.univ rest Q)
        -∗ wp frame (wpE (defs₀ (F := F)) 𝒱₀ (tV d L) none) Set.univ
            (if h : c then .op (.waitDma2 so ob (oSl off (inb h)) (h1 h) (h2 h)) (fun _ => rest) else rest) Q) := by
  by_cases h : c
  · rw [dif_pos h]
    unfold Ost landed
    rw [if_neg (hc.mp h), if_neg (hc.mp h)]
    exact wait_o m d L O W hO ob so _ off (inb h) (k := fun _ => rest)
  · rw [dif_neg h]
    have hk : k = 0 := by by_contra hk; exact h (hc.mpr hk)
    unfold Ost landed
    rw [if_pos hk, if_pos hk]
    iintro ⟨-, ⟨Hb, Hs⟩, HO⟩ HK
    iapply HK
    isplitr
    · rw [show (oPts d ∅ (G m d) : sProp 𝕄) = iprop(emp) from pointsTo_empty]; iempintro
    isplitl [Hb]; · iexact Hb
    isplitl [Hs]; · iexact Hs
    iexact HO

/-- Sending for a queries' buffer's next chunk, if there is one. -/
theorem refill (xb : Memref sig .scVector .vmem S16384 .f32) (sx : DmaSem sig) (q : PosShare TreeShare) (r k : ℕ) (c : Prop) [Decidable c] (hc : c ↔ k < 8)
    (off : Fin 1 → ℕ) (hoff : off = ![B L + 32768 * k + 16384 * r]) (inb : c → ∀ b, off b + S16384.size b ≤ S8388608.size b)
    {h1 : ∀ h : c, (xSl off (inb h)).view.WordExact} {h2 : c → xb.view.WordExact}
    {h3 : c → DmaTarget.Typed (nD := nD) (τ := τ) (p := .scVector (cV L) (jV L)) .hbm (.dma sx) (.here xb)}
    {β : Type} {rest : Prog (TpuEff nD τ sig (Elt F) Λ₀ (.scVector (cV L) (jV L))) β} {Q : β → sProp 𝕄} :
    iprop((xLoc d ↦{q} m (xLoc d)) ∗ (∃ g, xb.view.loc (tV d L) ↦{fullShare} g) ∗ semVal (tV d L, .dma sx) 0)
      ⊢ iprop((Xst m d L xb sx q r k -∗ wp frame (wpE (defs₀ (F := F)) 𝒱₀ (tV d L) none) Set.univ rest Q)
        -∗ wp frame (wpE (defs₀ (F := F)) 𝒱₀ (tV d L) none) Set.univ
            (if h : c then .op (.enqueueDma (xSl off (inb h)) (.here xb) (.dma sx) (h1 h) (h2 h) (h3 h)) (fun _ => rest) else rest) Q) := by
  by_cases h : c
  · rw [dif_pos h]
    unfold Xst
    rw [if_pos (hc.mp h)]
    exact issue_x m d L xb sx q off _ hoff (inb h) (k := fun _ => rest)
  · rw [dif_neg h]
    unfold Xst
    rw [if_neg (fun hk => h (hc.mpr hk))]
    iintro H HK
    iapply HK; iexact H

/-- The two chunk loops of a trip are the one loop over the two pairs of buffers. -/
theorem loop0_eq (v2 : BitVec 32) (v3 v4 v5 : Vec F S16 .f32) (k : Fin k0_t1_loop.trips) :
    k0_t2_body L xV (Memref.isWhole_whole _) q0V (Memref.isWhole_whole _) q1V (Memref.isWhole_whole _) q2V (Memref.isWhole_whole _) q3V (Memref.isWhole_whole _)
    bV (Memref.isWhole_whole _) pV (Memref.isWhole_whole _) oV (Memref.isWhole_whole _) s0V (Memref.isWhole_whole _) s1V (Memref.isWhole_whole _)
    s2V (Memref.isWhole_whole _) s3V (Memref.isWhole_whole _) sbV (Memref.isWhole_whole _) spV (Memref.isWhole_whole _)
    xb0V (Memref.isWhole_whole _) xb1V (Memref.isWhole_whole _) ob0V (Memref.isWhole_whole _) ob1V (Memref.isWhole_whole _)
    cc0_scratch10 cc0_scratch11 cc0_scratch12 cc0_scratch13 cc0_scoped0 cc0_scoped1 cc0_scoped2 cc0_scoped3 cc0_scoped4 cc0_scoped5
    v2 v3 v4 v5 k0_pay1 k0_pay2 k0_pay3 0#32 1#32 k
      = trip L xb0V (Memref.isWhole_whole _) ob0V (Memref.isWhole_whole _) v2 v3 v4 v5 k := rfl

theorem loop1_eq (v2 : BitVec 32) (v3 v4 v5 : Vec F S16 .f32) (k : Fin k0_t1_loop.trips) :
    Scf.Loop.for k0_t3_loop k0_t3_ok ⟨⟩ (k0_t3_body L xV (Memref.isWhole_whole _) q0V (Memref.isWhole_whole _) q1V (Memref.isWhole_whole _) q2V (Memref.isWhole_whole _) q3V (Memref.isWhole_whole _)
    bV (Memref.isWhole_whole _) pV (Memref.isWhole_whole _) oV (Memref.isWhole_whole _) s0V (Memref.isWhole_whole _) s1V (Memref.isWhole_whole _)
    s2V (Memref.isWhole_whole _) s3V (Memref.isWhole_whole _) sbV (Memref.isWhole_whole _) spV (Memref.isWhole_whole _)
    xb0V (Memref.isWhole_whole _) xb1V (Memref.isWhole_whole _) ob0V (Memref.isWhole_whole _) ob1V (Memref.isWhole_whole _)
    cc0_scratch10 cc0_scratch11 cc0_scratch12 cc0_scratch13 cc0_scoped0 cc0_scoped1 cc0_scoped2 cc0_scoped3 cc0_scoped4 cc0_scoped5
    v2 v3 v4 v5 k0_pay1 k0_pay2 k0_pay3 0#32 1#32 k)
      = Scf.Loop.for k0_t2_loop k0_t2_ok ⟨⟩ (trip L xb1V (Memref.isWhole_whole _) ob1V (Memref.isWhole_whole _) v2 v3 v4 v5 k) := rfl

theorem oPts_union (S I J : Finset S8388608.Idx) (h : S = I ∪ J) (hd : Disjoint I J) (f : Vec F S8388608 .f32) :
    (oPts d S f : sProp 𝕄) ⊣⊢ iprop(oPts d I f ∗ oPts d J f) := by
  subst h; exact pointsTo_union hd

theorem ivl_union (a b c : ℕ) (h1 : a ≤ b) (h2 : b ≤ c) : ivl a c = ivl a b ∪ ivl b c := by
  ext i; simp only [Finset.mem_union, mem_ivl]; omega
theorem ivl_disjoint (a b c : ℕ) : Disjoint (ivl a b) (ivl b c) :=
  Finset.disjoint_left.mpr fun i h h' => by rw [mem_ivl] at h h'; omega

theorem oPts_ivl (a b c : ℕ) (h1 : a ≤ b) (h2 : b ≤ c) (f : Vec F S8388608 .f32) :
    (oPts d (ivl a c) f : sProp 𝕄) ⊣⊢ iprop(oPts d (ivl a b) f ∗ oPts d (ivl b c) f) :=
  oPts_union d _ _ _ (ivl_union a b c h1 h2) (ivl_disjoint a b c) f

/-- What has landed joins what is done. -/
theorem done_join (k : ℕ) :
    iprop(oPts d (ivl (B L) (B L + 32768 * (k - 1))) (G m d) ∗ oPts d (landed L 0 k) (G m d) ∗ oPts d (landed L 1 k) (G m d))
      ⊢ (oPts d (ivl (B L) (B L + 32768 * k)) (G m d) : sProp 𝕄) := by
  unfold landed
  by_cases hk : k = 0
  · subst hk
    rw [if_pos rfl, if_pos rfl]
    iintro ⟨H, -, -⟩; iexact H
  · rw [if_neg hk, if_neg hk, show B L + 32768 * (k - 1) + 16384 * 0 = B L + 32768 * (k - 1) from by omega,
      show B L + 32768 * (k - 1) + 16384 * 1 = B L + 32768 * (k - 1) + 16384 from by omega]
    iintro ⟨H, H0, H1⟩
    iapply (oPts_ivl d (B L) (B L + 32768 * (k - 1)) (B L + 32768 * k) (by omega) (by omega) (G m d)).2
    isplitl [H]; · iexact H
    iapply (oPts_ivl d (B L + 32768 * (k - 1)) (B L + 32768 * (k - 1) + 16384) (B L + 32768 * k) (by omega) (by omega) (G m d)).2
    isplitl [H0]; · iexact H0
    rw [show B L + 32768 * k = B L + 32768 * (k - 1) + 16384 + 16384 from by omega]
    iexact H1

theorem Xst_lt (xb : Memref sig .scVector .vmem S16384 .f32) (sx : DmaSem sig) (q : PosShare TreeShare) (r k : ℕ) (hk : k < 8) :
    Xst m d L xb sx q r k = XFly m d L xb sx q (B L + 32768 * k + 16384 * r) := if_pos hk

theorem off3_at0 (k : Fin k0_t1_loop.trips) : k0_off3 L k 0#32 = ![B L + 32768 * k.val] :=
  (k0_off3_eq L k 0).trans (congrArg (fun n : ℕ => ![n]) (by show _ + 16384 * 0 = _; unfold B; omega))
theorem off3_at1 (k : Fin k0_t1_loop.trips) : k0_off3 L k 1#32 = ![B L + 32768 * k.val + 16384] :=
  (k0_off3_eq L k 1).trans (congrArg (fun n : ℕ => ![n]) (by show _ + 16384 * 1 = _; unfold B; omega))
theorem off6_at (k : Fin k0_t1_loop.trips) : k0_off6 L k = ![B L + 32768 * (k.val + 1) + 16384 * 0] :=
  (k0_off6_eq L k).trans (congrArg (fun n : ℕ => ![n]) (by unfold B; omega))
theorem off10_at (k : Fin k0_t1_loop.trips) : k0_off10 L k = ![B L + 32768 * (k.val + 1) + 16384 * 1] :=
  (k0_off10_eq L k).trans (congrArg (fun n : ℕ => ![n]) (by unfold B; omega))

/-- The first part of a trip. -/
theorem part1_run (O : CellTallies nD τ sig (HIx 1)) (W : Waits sig (HIx 1)) (hO : ∀ g, O g none = 0) (qa qb : PosShare TreeShare)
    (v2 : BitVec 32) (k : Fin k0_t1_loop.trips) (acc : BitVec 32) :
    outerInv m d L O W qa qb k.val acc
      ⊢ wp frame (wpE (defs₀ (F := F)) 𝒱₀ (tV d L) none) Set.univ (part1 m d L v2 k 0#32 1#32) (fun _ => midInv m d L O W qa qb k.val) := by
  have hk8 : k.val < 8 := trips1 ▸ k.isLt
  have hB := B_dvd L
  unfold part1 k0_part1_skel outerInv midInv
  simp only [Prog.lift, Prog.bind_op, Prog.bind_ret, Prog.pure_eq_ret]
  rw [loop0_eq, loop1_eq, Xst_lt m d L xb0V _ _ _ _ hk8, Xst_lt m d L xb1V _ _ _ _ hk8]
  iintro ⟨#Hlv, Ht, Hx0, Hx1, Ho0, Ho1, Htodo, Hdone, HO⟩
  -- the first pair's results' buffer
  ihave H := (drain m d L O W hO ob0V cc0_scratch12.sem 0 k.val _ (cond1_iff k) _ _) $$ [Ho0 HO]
  · isplitl []; · iexact Hlv
    isplitl [Ho0]; · iexact Ho0
    iexact HO
  iapply H
  iintro ⟨Hl0, Hb0, Hs0, HO⟩
  -- the first pair's queries
  ihave H := (wait_x m d L O W hO xb0V cc0_scratch10.sem qa _) $$ [Hx0 HO]
  · isplitl []; · iexact Hlv
    isplitl [Hx0]; · iexact Hx0
    iexact HO
  iapply H
  iintro ⟨Hx, ⟨%g0, Hg0, %hg0⟩, Hsx0, HO⟩
  -- its chunk of results
  ihave H := (chunk_loop d L xb0V (Memref.isWhole_whole _) ob0V (Memref.isWhole_whole _) v2 (par0 m d) (par1 m d) (par2 m d) _ _ _ _ _ g0 k) $$ [Ht Hg0 Hb0]
  · isplitl [Ht]; · iexact Ht
    isplitl [Hg0]; · iexact Hg0
    iexact Hb0
  iapply H
  iintro ⟨Ht, Hg0, ⟨%f0, Hf0, %hf0⟩⟩
  -- sent off
  have hG0 := holdsG_of_holdsX m d (B L + 32768 * k.val + 16384 * 0) (by omega) _ hg0
  rw [← hf0] at hG0
  ihave Htodo := (oPts_ivl d (B L + 32768 * k.val) (B L + 32768 * k.val + 16384) (B L + 262144) (by omega) (by omega) (m (oLoc d))).1 $$ Htodo
  icases Htodo with ⟨Hnow, Htodo⟩
  ihave H := (issue_o m d L ob0V (Memref.isWhole_whole _) cc0_scratch12.sem _ (B L + 32768 * k.val)
    (off3_at0 L k) _) $$ [Hf0 Hnow Hs0]
  · isplitl [Hf0]
    · iexists f0; isplitl [Hf0]; · iexact Hf0
      ipureintro; exact hG0
    isplitl [Hnow]; · iexact Hnow
    iexact Hs0
  iapply H
  iintro Hfl0
  -- its next queries
  ihave H := (refill m d L xb0V cc0_scratch10.sem qa 0 (k.val + 1) _ (cond2_iff k) _ (off6_at L k) _) $$ [Hx Hg0 Hsx0]
  · isplitl [Hx]; · iexact Hx
    isplitl [Hg0]; · iexists g0; iexact Hg0
    iexact Hsx0
  iapply H
  iintro HX0
  -- the second pair
  ihave H := (drain m d L O W hO ob1V cc0_scratch13.sem 1 k.val _ (cond3_iff k) _ _) $$ [Ho1 HO]
  · isplitl []; · iexact Hlv
    isplitl [Ho1]; · iexact Ho1
    iexact HO
  iapply H
  iintro ⟨Hl1, Hb1, Hs1, HO⟩
  ihave H := (wait_x m d L O W hO xb1V cc0_scratch11.sem qb _) $$ [Hx1 HO]
  · isplitl []; · iexact Hlv
    isplitl [Hx1]; · iexact Hx1
    iexact HO
  iapply H
  iintro ⟨Hx, ⟨%g1, Hg1, %hg1⟩, Hsx1, HO⟩
  ihave H := (chunk_loop d L xb1V (Memref.isWhole_whole _) ob1V (Memref.isWhole_whole _) v2 (par0 m d) (par1 m d) (par2 m d) _ _ _ _ _ g1 k) $$ [Ht Hg1 Hb1]
  · isplitl [Ht]; · iexact Ht
    isplitl [Hg1]; · iexact Hg1
    iexact Hb1
  iapply H
  iintro ⟨Ht, Hg1, ⟨%f1, Hf1, %hf1⟩⟩
  have hG1 := holdsG_of_holdsX m d (B L + 32768 * k.val + 16384 * 1) (by omega) _ hg1
  rw [← hf1] at hG1
  rw [wp_ret]
  imodintro
  isplitl []; · iexact Hlv
  isplitl [Ht]; · iexact Ht
  isplitl [HX0]; · iexact HX0
  isplitl [Hx Hg1 Hsx1]
  · isplitl [Hx]; · iexact Hx
    isplitl [Hg1]; · iexists g1; iexact Hg1
    iexact Hsx1
  isplitl [Hfl0]; · iexact Hfl0
  isplitl [Hf1 Hs1]
  · isplitl [Hf1]
    · iexists f1; isplitl [Hf1]; · iexact Hf1
      ipureintro; exact hG1
    iexact Hs1
  isplitl [Htodo]; · iexact Htodo
  isplitl [Hdone Hl0 Hl1]
  · iapply (done_join m d L k.val)
    isplitl [Hdone]; · iexact Hdone
    isplitl [Hl0]; · iexact Hl0
    iexact Hl1
  iexact HO

abbrev outerTrip (v2 : BitVec 32) (v3 v4 v5 : Vec F S16 .f32) :
    Fin k0_t1_loop.trips → BitVec 32 → Prog (TpuEff nD τ sig (Elt F) Λ₀ (.scVector (cV L) (jV L))) (BitVec 32) :=
  k0_t1_body L xV (Memref.isWhole_whole _) q0V (Memref.isWhole_whole _) q1V (Memref.isWhole_whole _) q2V (Memref.isWhole_whole _) q3V (Memref.isWhole_whole _)
    bV (Memref.isWhole_whole _) pV (Memref.isWhole_whole _) oV (Memref.isWhole_whole _) s0V (Memref.isWhole_whole _) s1V (Memref.isWhole_whole _)
    s2V (Memref.isWhole_whole _) s3V (Memref.isWhole_whole _) sbV (Memref.isWhole_whole _) spV (Memref.isWhole_whole _)
    xb0V (Memref.isWhole_whole _) xb1V (Memref.isWhole_whole _) ob0V (Memref.isWhole_whole _) ob1V (Memref.isWhole_whole _)
    cc0_scratch10 cc0_scratch11 cc0_scratch12 cc0_scratch13 cc0_scoped0 cc0_scoped1 cc0_scoped2 cc0_scoped3 cc0_scoped4 cc0_scoped5
    v2 v3 v4 v5

/-- One trip. -/
theorem outer_run (O : CellTallies nD τ sig (HIx 1)) (W : Waits sig (HIx 1)) (hO : ∀ g, O g none = 0) (qa qb : PosShare TreeShare)
    (v2 : BitVec 32) (k : Fin k0_t1_loop.trips) (acc : BitVec 32) :
    outerInv m d L O W qa qb k.val acc
      ⊢ wp frame (wpE (defs₀ (F := F)) 𝒱₀ (tV d L) none) Set.univ (outerTrip L v2 (par0 m d) (par1 m d) (par2 m d) k acc)
          (fun a => outerInv m d L O W qa qb (k.val + 1) a) := by
  have hk8 : k.val < 8 := trips1 ▸ k.isLt
  unfold outerTrip k0_t1_body
  rw [k0_part1_eq_skeleton, wp_bind]
  iintro H
  iapply (wp_wand frame (wpE (defs₀ (F := F)) 𝒱₀ (tV d L) none) Set.univ) $$ [H]
  · iapply (part1_run m d L O W hO qa qb v2 k acc) $$ [H]; iexact H
  iintro %r Hmid
  obtain ⟨r1, r2⟩ := r
  simp only [Prog.lift, Prog.bind_op, Prog.bind_ret, Prog.pure_eq_ret]
  unfold midInv
  icases Hmid with ⟨#Hlv, Ht, HX0, ⟨Hx, Hg1, Hsx1⟩, Hfl0, ⟨⟨%f1, Hf1, %hG1⟩, Hs1⟩, Htodo, Hdone, HO⟩
  ihave Htodo := (oPts_ivl d (B L + 32768 * k.val + 16384) (B L + 32768 * k.val + 16384 + 16384) (B L + 262144) (by omega) (by omega) (m (oLoc d))).1 $$ Htodo
  icases Htodo with ⟨Hnow, Htodo⟩
  ihave H := (issue_o m d L ob1V (Memref.isWhole_whole _) cc0_scratch13.sem _ (B L + 32768 * k.val + 16384) (off3_at1 L k) _) $$ [Hf1 Hnow Hs1]
  · isplitl [Hf1]
    · iexists f1; isplitl [Hf1]; · iexact Hf1
      ipureintro; exact hG1
    isplitl [Hnow]; · iexact Hnow
    iexact Hs1
  iapply H
  iintro Hfl1
  ihave H := (refill m d L xb1V cc0_scratch11.sem qb 1 (k.val + 1) _ (cond4_iff k) _ (off10_at L k) _) $$ [Hx Hg1 Hsx1]
  · isplitl [Hx]; · iexact Hx
    isplitl [Hg1]; · iexact Hg1
    iexact Hsx1
  iapply H
  iintro HX1
  rw [wp_ret]
  imodintro
  unfold outerInv Ost
  rw [if_neg (Nat.succ_ne_zero _), if_neg (Nat.succ_ne_zero _)]
  isplitl []; · iexact Hlv
  isplitl [Ht]; · iexact Ht
  isplitl [HX0]; · iexact HX0
  isplitl [HX1]; · iexact HX1
  isplitl [Hfl0]; · iexact Hfl0
  isplitl [Hfl1]; · iexact Hfl1
  isplitl [Htodo]
  · rw [show B L + 32768 * (k.val + 1) = B L + 32768 * k.val + 16384 + 16384 from by omega]
    iexact Htodo
  isplitl [Hdone]; · iexact Hdone
  iexact HO

/-- The eight trips. -/
theorem outer_loop (O : CellTallies nD τ sig (HIx 1)) (W : Waits sig (HIx 1)) (hO : ∀ g, O g none = 0) (qa qb : PosShare TreeShare)
    (v2 a0 : BitVec 32) {β : Type} {kk : BitVec 32 → Prog (TpuEff nD τ sig (Elt F) Λ₀ (.scVector (cV L) (jV L))) β} {Q : β → sProp 𝕄} :
    outerInv m d L O W qa qb 0 a0
      ⊢ iprop((∀ a, outerInv m d L O W qa qb 8 a -∗ wp frame (wpE (defs₀ (F := F)) 𝒱₀ (tV d L) none) Set.univ (kk a) Q)
        -∗ wp frame (wpE (defs₀ (F := F)) 𝒱₀ (tV d L) none) Set.univ
            (Scf.Loop.for k0_t1_loop k0_t1_ok a0 (outerTrip L v2 (par0 m d) (par1 m d) (par2 m d)) >>= kk) Q) := by
  iintro H HK
  iapply (Scf.wp_for_bind frame (wpE (defs₀ (F := F)) 𝒱₀ (tV d L) none) Set.univ _ _ _ k0_t1_ok _ _ (outerInv m d L O W qa qb)
    (fun k acc => outer_run m d L O W hO qa qb v2 k acc)) $$ [H]
  · iexact H
  iintro %a Ha
  iapply HK
  have e : k0_t1_loop.trips = 8 := trips1
  rw [← e]; iexact Ha

end Cert.Proof.Spline

end
-- ==== Proof.Body.lean ====
/-
  A tile's whole run: the copies into its own memory, the eight trips, the last results' arrival.
-/
module

public import proofs.«01_k».proof.Proof.Tile

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono wp_dmaLocal wp_waitLocalO dealOf pointsTo_deal)

variable {F : FTy → Type} [FloatOps F]

local notation "𝕄" => MT nD τ sig (HIx 1) (Elt F) ℕ UU ℕ

variable (m : (ℓ : Loc nD τ sig) → Buf (Elt F) ℓ) (d : Dev nD) (L : grid0.Coords)

/-- A whole array copied into a buffer of the tile's own, and waited for. -/
theorem copy_whole (O : CellTallies nD τ sig (HIx 1)) (W : Waits sig (HIx 1)) (hO : ∀ g, O g none = 0) {s : Shape}
    (src : Memref sig .scVector .hbm s .f32) (hsrc : src.IsWhole) (dst : Memref sig .scVector .vmem s .f32) (hN : 0 < dst.view.dmaCredit)
    (sm : DmaSem sig) (q : PosShare TreeShare) (fs : Buf (Elt F) (src.view.loc (tV d L)))
    {h1 : src.view.WordExact} {h2 : dst.view.WordExact} {h3 : DmaTarget.Typed (nD := nD) (τ := τ) (p := .scVector (cV L) (jV L)) .hbm (.dma sm) (.here dst)}
    {h4 : src.view.WordExact} {h5 : dst.view.WordExact}
    {β : Type} {k : PUnit → Prog (TpuEff nD τ sig (Elt F) Λ₀ (.scVector (cV L) (jV L))) β} {Q : β → sProp 𝕄} :
    iprop(levAts (K (F := F)).L (K (F := F)).lev ∗ (src.view.loc (tV d L) ↦{q} fs) ∗ (∃ g, dst.view.loc (tV d L) ↦{fullShare} g)
        ∗ semVal (tV d L, .dma sm) 0 ∗ Owes d L O W)
      ⊢ iprop((iprop((src.view.loc (tV d L) ↦{q} fs) ∗ (∃ g, (dst.view.loc (tV d L) ↦{fullShare} g) ∗ ⌜dst.view.read (Elt F) g = src.view.read (Elt F) fs⌝)
            ∗ semVal (tV d L, .dma sm) 0 ∗ Owes d L O W)
          -∗ wp frame (wpE (defs₀ (F := F)) 𝒱₀ (tV d L) none) Set.univ (k ⟨⟩) Q)
        -∗ wp frame (wpE (defs₀ (F := F)) 𝒱₀ (tV d L) none) Set.univ
            (.op (.enqueueDma src (.here dst) (.dma sm) h1 h2 h3) fun _ => .op (.waitDma2 sm src dst h4 h5) k) Q) := by
  unfold Owes
  iintro ⟨#Hlv, Hx, ⟨%g, Hb⟩, Hs, %W', %hW', HO⟩ HK
  ihave Hx' := (Entails.of_eq (show (src.view.loc (tV d L) ↦{q} fs : sProp 𝕄)
    = src.view.loc (tV d L) ↦[src.view.set]{q} fs by rw [hsrc.set_eq_univ])) $$ Hx
  iapply (wp_dmaLocal EC 𝒱₀ (tV d L) none none dst.view.dmaCredit rfl hN (Finset.subset_univ _)) $$ [Hx' Hb Hs]
  · isplitl [Hx']; · iexact Hx'
    isplitl [Hb]; · iexact Hb
    iexact Hs
  iintro HF
  iapply (wp_waitLocalO EC 𝒱₀ (tV d L) none none rfl) $$ [HF HO]
  · isplitl [HF]; · iexact HF
    isplitl [HO]; · iexact HO
    iapply ((K (F := F)).mayWait_none (SemLoc.dma sm) hO); iexact Hlv
  iintro ⟨⟨Hb, Hx⟩, Hs, HO⟩
  iapply HK
  isplitl [Hx]
  · rw [hsrc.set_eq_univ]; iexact Hx
  isplitl [Hb]
  · iexists _
    isplitl [Hb]; · iexact Hb
    ipureintro
    rw [View.read_write_univ]
  isplitl [Hs]; · iexact Hs
  iexists (insert (SemLoc.dma sm, none) W')
  isplitr
  · ipureintro; intro p hp
    rcases Finset.mem_insert.mp hp with rfl | hp
    · exact .inr rfl
    · exact hW' p hp
  iexact HO

/-! ## The tile's own buffers and cells -/

/-- A separating conjunction over a set, with the members of a list taken out in turn. -/
theorem bigSep_list {I : Type} [DecidableEq I] (Φ : I → sProp 𝕄) : ∀ (l : List I) (S : Finset I), l.Nodup → (∀ a ∈ l, a ∈ S) →
    bigSep S Φ = l.foldr (fun a R => iprop(Φ a ∗ R)) (bigSep (S \ l.toFinset) Φ)
  | [], S, _, _ => by simp
  | a :: l, S, hl, h => by
    rw [List.foldr_cons, SparseCore.bigSep_erase' (h a (List.mem_cons_self)),
      bigSep_list Φ l (S.erase a) (List.nodup_cons.mp hl).2 (fun b hb => Finset.mem_erase.mpr
        ⟨fun e => (List.nodup_cons.mp hl).1 (e ▸ hb), h b (List.mem_cons_of_mem _ hb)⟩)]
    have e : S.erase a \ l.toFinset = S \ (a :: l).toFinset := by
      ext x; simp only [Finset.mem_sdiff, Finset.mem_erase, List.mem_toFinset, List.mem_cons]; tauto
    rw [e]

/-- The tile's semaphores. -/
def cells : List (SemLoc sig) := [.dma cc0_scoped0.sem, .dma cc0_scoped1.sem, .dma cc0_scoped2.sem, .dma cc0_scoped3.sem, .dma cc0_scoped4.sem,
  .dma cc0_scoped5.sem, .dma cc0_scratch10.sem, .dma cc0_scratch11.sem, .dma cc0_scratch12.sem, .dma cc0_scratch13.sem]

/-- The tile's buffers. -/
def bufs : List (Ref sig .scVector) := [cc0_scratch0, cc0_scratch1, cc0_scratch2, cc0_scratch3, cc0_scratch4, cc0_scratch5, cc0_scratch6, cc0_scratch7,
  cc0_scratch8, cc0_scratch9]

theorem cells_scoped : ∀ s ∈ cells, (s : SemLoc sig).isScoped .scVector = true := by decide +kernel
theorem cells_nodup : cells.Nodup := by decide +kernel
theorem bufs_nodup : bufs.Nodup := by decide +kernel

theorem ownSems0_V : (ownSems0 (tV d L) : sProp 𝕄)
    = (cells.map fun s => (tV d L, s)).foldr (fun g R => iprop(semVal g 0 ∗ R))
        (bigSep (ownCells (tV d L) \ (cells.map fun s => (tV d L, s)).toFinset) fun g => semVal g 0) := by
  unfold SparseCore.Cfg.ownSems0
  refine bigSep_list _ _ _ (cells_nodup.map fun _ _ e => (Prod.mk.inj e).2) fun g hg => ?_
  obtain ⟨s, hs, rfl⟩ := List.mem_map.mp hg
  exact (mem_ownCells (g := (tV d L, s))).mpr ⟨rfl, cells_scoped s hs⟩

theorem bufs_owned : ∀ r ∈ bufs, ((Proc.scVector (cV L) (jV L)).devRef r).owner = Owner.proc (Proc.scVector (cV L) (jV L)) := by
  intro r hr
  simp only [bufs, List.mem_cons, List.not_mem_nil, _root_.or_false] at hr
  rcases hr with h | h | h | h | h | h | h | h | h | h <;> (rw [h]; rfl)

set_option maxRecDepth 65536 in
theorem own_bufs (b : DevRef τ sig) (hb : b ∈ bufs.map fun r => (Proc.scVector (cV L) (jV L)).devRef r) :
    b ∈ ownRefs (τ := τ) (Proc.scVector (cV L) (jV L)) := by
  rw [List.mem_map] at hb
  obtain ⟨r, hr, e⟩ := hb
  rw [← e]
  exact SparseCore.Cfg.mem_ownRefs_of_owner (bufs_owned L r hr)

set_option maxRecDepth 65536 in
theorem ownBufs_V : (ownBufs (tV d L) : sProp 𝕄)
    = (bufs.map fun b => (Proc.scVector (cV L) (jV L)).devRef b).foldr (fun b R => iprop((∃ f, ((d, b) : Loc nD τ sig) ↦{fullShare} f) ∗ R))
        (bigSep (ownRefs (τ := τ) (.scVector (cV L) (jV L)) \ (bufs.map fun b => (Proc.scVector (cV L) (jV L)).devRef b).toFinset)
          fun b => iprop(∃ f, ((d, b) : Loc nD τ sig) ↦{fullShare} f)) := by
  unfold SparseCore.Cfg.ownBufs
  exact bigSep_list _ _ _ (bufs_nodup.map (Proc.devRef_injective _)) (own_bufs L)

/-! ## The run -/

theorem off1_at0 : ∀ i : grid0.Coords, k0_off1 i 0#32 = ![524288 * (i 1).val + 262144 * (i 0).val + 32768 * 0 + 16384 * 0] := by decide +kernel
theorem off1_at1 : ∀ i : grid0.Coords, k0_off1 i 16384#32 = ![524288 * (i 1).val + 262144 * (i 0).val + 32768 * 0 + 16384 * 1] := by decide +kernel

theorem par_read (g : Vec F S48 .f32) (p : Buf (Elt F) (pLoc d)) (h : (spV).view.read (Elt F) g = (pV).view.read (Elt F) p) (a : ℕ) (ha : a < 33)
    (inb : ∀ b, (![a] : Fin 1 → ℕ) b + S16.size b ≤ S48.size b) :
    (spV).view.readAt (Elt F) (Rect.unit (s := S48) ![a] S16.size inb).toLoadRect g = par (F := F) p ⟨a, ha⟩ := by
  obtain rfl : g = p := h
  funext l
  unfold par
  show g _ = g _
  congr 1
  funext b; apply Fin.ext
  obtain rfl : b = (0 : Fin 1) := Fin.ext (by have h : b.val < 1 := b.isLt; show b.val = 0; omega)
  show a + 1 * (l 0).val = a + (l 0).val
  omega

/-- The tile's SparseCore and number. -/
abbrev cI : Fin 2 := L 0
abbrev iI : Fin 16 := L 1

theorem blk_eq : blk (cI L) (iI L) = ivl (B L) (B L + 262144) := rfl

/-- The two buffers' halves of a tile's share of the queries. -/
abbrev xsh (q : PosShare TreeShare) (r : Fin 2) : PosShare TreeShare := dealOf q (Finset.univ : Finset (Fin 2)) r

theorem x_two (q : PosShare TreeShare) : (xLoc d ↦{q} m (xLoc d) : sProp 𝕄)
    = iprop((xLoc d ↦{xsh q 0} m (xLoc d)) ∗ (xLoc d ↦{xsh q 1} m (xLoc d))) := by
  exact (pointsTo_deal (Finset.univ : Finset (Fin 2)) Finset.univ_nonempty q).trans (BI.bigSep_fin_two _)

set_option maxHeartbeats 2000000 in
theorem tile_body (hF : (K (F := F)).Facts) (O : CellTallies nD τ sig (HIx 1)) (W : Waits sig (HIx 1)) (hO : ∀ g, O g none = 0) :
    iprop(levAts (K (F := F)).L (K (F := F)).lev ∗ emp
        ∗ (reads m d (qt (cI L) (iI L)) ∗ oPts d (blk (cI L) (iI L)) (m (oLoc d)))
        ∗ scopedBufs (tV d L) ∗ scopedSems0 (tV d L) ∗ owes (tV d L) O W)
      ⊢ wp frame (wpE (defs₀ (F := F)) 𝒱₀ (tV d L) none) Set.univ
          (cc0__spline_sc_body L xV (Memref.isWhole_whole _) q0V (Memref.isWhole_whole _) q1V (Memref.isWhole_whole _) q2V (Memref.isWhole_whole _) q3V (Memref.isWhole_whole _)
            bV (Memref.isWhole_whole _) pV (Memref.isWhole_whole _) oV (Memref.isWhole_whole _) s0V (Memref.isWhole_whole _) s1V (Memref.isWhole_whole _)
            s2V (Memref.isWhole_whole _) s3V (Memref.isWhole_whole _) sbV (Memref.isWhole_whole _) spV (Memref.isWhole_whole _)
            xb0V (Memref.isWhole_whole _) xb1V (Memref.isWhole_whole _) ob0V (Memref.isWhole_whole _) ob1V (Memref.isWhole_whole _)
            cc0_scratch10 cc0_scratch11 cc0_scratch12 cc0_scratch13 cc0_scoped0 cc0_scoped1 cc0_scoped2 cc0_scoped3 cc0_scoped4 cc0_scoped5)
          fun _ => iprop((reads m d (qt (cI L) (iI L)) ∗ oPts d (blk (cI L) (iI L)) (G m d)) ∗ scopedBufs (tV d L) ∗ scopedSems0 (tV d L)
            ∗ ∃ W', ⌜∀ p ∈ W', p ∈ W ∨ p.2 = none⌝ ∗ owes (tV d L) O W') := by
  rw [cc0__spline_sc_body_eq_skeleton, blk_eq]
  unfold cc0__spline_sc_body_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  simp only [cells, bufs, List.map_cons, List.map_nil, List.foldr_cons, List.foldr_nil]
  unfold reads
  iintro ⟨#Hlv, -, ⟨⟨Hx, Hq0, Hq1, Hq2, Hq3, Hqb, Hqp⟩, Ho⟩,
    ⟨Hb0, Hb1, Hb2, Hb3, Hbb, Hbp, Hc0, Hc1, Hd0, Hd1, Hbufs⟩, ⟨Hz0, Hz1, Hz2, Hz3, Hz4, Hz5, Hy0, Hy1, Hw0, Hw1, Hsems⟩, HO⟩
  ihave HO := (show (owes (tV d L) O W : sProp 𝕄) ⊢ Owes d L O W from by
    unfold Owes; iintro H; iexists W; isplitr; · ipureintro; exact fun p hp => .inl hp
    iexact H) $$ HO
  ihave H := (copy_whole d L O W hO q0V (Memref.isWhole_whole _) s0V (View.dmaCredit_pos _ (by decide)) cc0_scoped0.sem (qt (cI L) (iI L)) (m (q0Loc d))) $$ [Hq0 Hb0 Hz0 HO]
  · isplitl []; · iexact Hlv
    isplitl [Hq0]; · iexact Hq0
    isplitl [Hb0]; · iexact Hb0
    isplitl [Hz0]; · iexact Hz0
    iexact HO
  iapply H
  iintro ⟨Hq0, ⟨%g0, Hb0, %e0⟩, Hz0, HO⟩
  ihave H := (copy_whole d L O W hO q1V (Memref.isWhole_whole _) s1V (View.dmaCredit_pos _ (by decide)) cc0_scoped1.sem (qt (cI L) (iI L)) (m (q1Loc d))) $$ [Hq1 Hb1 Hz1 HO]
  · isplitl []; · iexact Hlv
    isplitl [Hq1]; · iexact Hq1
    isplitl [Hb1]; · iexact Hb1
    isplitl [Hz1]; · iexact Hz1
    iexact HO
  iapply H
  iintro ⟨Hq1, ⟨%g1, Hb1, %e1⟩, Hz1, HO⟩
  ihave H := (copy_whole d L O W hO q2V (Memref.isWhole_whole _) s2V (View.dmaCredit_pos _ (by decide)) cc0_scoped2.sem (qt (cI L) (iI L)) (m (q2Loc d))) $$ [Hq2 Hb2 Hz2 HO]
  · isplitl []; · iexact Hlv
    isplitl [Hq2]; · iexact Hq2
    isplitl [Hb2]; · iexact Hb2
    isplitl [Hz2]; · iexact Hz2
    iexact HO
  iapply H
  iintro ⟨Hq2, ⟨%g2, Hb2, %e2⟩, Hz2, HO⟩
  ihave H := (copy_whole d L O W hO q3V (Memref.isWhole_whole _) s3V (View.dmaCredit_pos _ (by decide)) cc0_scoped3.sem (qt (cI L) (iI L)) (m (q3Loc d))) $$ [Hq3 Hb3 Hz3 HO]
  · isplitl []; · iexact Hlv
    isplitl [Hq3]; · iexact Hq3
    isplitl [Hb3]; · iexact Hb3
    isplitl [Hz3]; · iexact Hz3
    iexact HO
  iapply H
  iintro ⟨Hq3, ⟨%g3, Hb3, %e3⟩, Hz3, HO⟩
  ihave H := (copy_whole d L O W hO bV (Memref.isWhole_whole _) sbV (View.dmaCredit_pos _ (by decide)) cc0_scoped4.sem (qt (cI L) (iI L)) (m (bLoc d))) $$ [Hqb Hbb Hz4 HO]
  · isplitl []; · iexact Hlv
    isplitl [Hqb]; · iexact Hqb
    isplitl [Hbb]; · iexact Hbb
    isplitl [Hz4]; · iexact Hz4
    iexact HO
  iapply H
  iintro ⟨Hqb, ⟨%g4, Hbb, %e4⟩, Hz4, HO⟩
  ihave H := (copy_whole d L O W hO pV (Memref.isWhole_whole _) spV (View.dmaCredit_pos _ (by decide)) cc0_scoped5.sem (qt (cI L) (iI L)) (m (pLoc d))) $$ [Hqp Hbp Hz5 HO]
  · isplitl []; · iexact Hlv
    isplitl [Hqp]; · iexact Hqp
    isplitl [Hbp]; · iexact Hbp
    isplitl [Hz5]; · iexact Hz5
    iexact HO
  iapply H
  iintro ⟨Hqp, ⟨%g5, Hbp, %e5⟩, Hz5, HO⟩
  obtain rfl : g0 = m (q0Loc d) := e0
  obtain rfl : g1 = m (q1Loc d) := e1
  obtain rfl : g2 = m (q2Loc d) := e2
  obtain rfl : g3 = m (q3Loc d) := e3
  obtain rfl : g4 = m (bLoc d) := e4
  -- the parameters
  iapply (wp_load 𝒱₀ (tV d L) none Set.univ (m := spV) (S := Finset.univ) (Finset.subset_univ _)) $$ Hbp; iintro Hbp
  iapply (wp_load 𝒱₀ (tV d L) none Set.univ (m := spV) (S := Finset.univ) (Finset.subset_univ _)) $$ Hbp; iintro Hbp
  iapply (wp_load 𝒱₀ (tV d L) none Set.univ (m := spV) (S := Finset.univ) (Finset.subset_univ _)) $$ Hbp; iintro Hbp
  rw [par_read d g5 (m (pLoc d)) e5 0 (by decide), par_read d g5 (m (pLoc d)) e5 16 (by decide), par_read d g5 (m (pLoc d)) e5 32 (by decide)]
  -- the first two chunks sent for
  ihave Hx := (Entails.of_eq (x_two m d _)) $$ Hx
  icases Hx with ⟨Hxa, Hxb⟩
  ihave H := (issue_x m d L xb0V cc0_scratch10.sem (xsh (qt (cI L) (iI L)) 0) _ _ (off1_at0 L) _) $$ [Hxa Hc0 Hy0]
  · isplitl [Hxa]; · iexact Hxa
    isplitl [Hc0]; · iexact Hc0
    iexact Hy0
  iapply H
  iintro HX0
  ihave H := (issue_x m d L xb1V cc0_scratch11.sem (xsh (qt (cI L) (iI L)) 1) _ _ (off1_at1 L) _) $$ [Hxb Hc1 Hy1]
  · isplitl [Hxb]; · iexact Hxb
    isplitl [Hc1]; · iexact Hc1
    iexact Hy1
  iapply H
  iintro HX1
  -- the trips
  ihave H := (outer_loop m d L O W hO (xsh (qt (cI L) (iI L)) 0) (xsh (qt (cI L) (iI L)) 1) _ 0#32)
    $$ [Hb0 Hb1 Hb2 Hb3 Hbb HX0 HX1 Hd0 Hd1 Hw0 Hw1 Ho HO]
  · unfold outerInv Ost mtabs tabs
    rw [Xst_lt m d L xb0V _ _ _ _ (by decide), Xst_lt m d L xb1V _ _ _ _ (by decide), if_pos rfl, if_pos rfl]
    isplitl []; · iexact Hlv
    isplitl [Hb0 Hb1 Hb2 Hb3 Hbb]
    · isplitl [Hb0]; · iexact Hb0
      isplitl [Hb1]; · iexact Hb1
      isplitl [Hb2]; · iexact Hb2
      isplitl [Hb3]; · iexact Hb3
      iexact Hbb
    isplitl [HX0]; · iexact HX0
    isplitl [HX1]; · iexact HX1
    isplitl [Hd0 Hw0]
    · isplitl [Hd0]; · iexact Hd0
      iexact Hw0
    isplitl [Hd1 Hw1]
    · isplitl [Hd1]; · iexact Hd1
      iexact Hw1
    isplitl [Ho]; · iexact Ho
    isplitl []
    · rw [show ivl (B L) (B L + 32768 * (0 - 1)) = ∅ from by ext i; simp only [mem_ivl, Finset.notMem_empty, iff_false]; omega]
      rw [show (oPts d ∅ (G m d) : sProp 𝕄) = iprop(emp) from pointsTo_empty]; iempintro
    iexact HO
  iapply H
  iintro %a HI
  unfold outerInv Ost Xst mtabs tabs
  rw [if_neg (by decide), if_neg (by decide), if_neg (by decide), if_neg (by decide)]
  icases HI with ⟨-, ⟨Hb0, Hb1, Hb2, Hb3, Hbb⟩, ⟨Hxa, Hc0, Hy0⟩, ⟨Hxb, Hc1, Hy1⟩, Hf0, Hf1, Htodo, Hdone, HO⟩
  ihave H := (wait_o m d L O W hO ob0V cc0_scratch12.sem _ _ _) $$ [Hf0 HO]
  · isplitl []; · iexact Hlv
    isplitl [Hf0]; · iexact Hf0
    iexact HO
  iapply H
  iintro ⟨Hl0, Hd0, Hw0, HO⟩
  ihave H := (wait_o m d L O W hO ob1V cc0_scratch13.sem _ _ _) $$ [Hf1 HO]
  · isplitl []; · iexact Hlv
    isplitl [Hf1]; · iexact Hf1
    iexact HO
  iapply H
  iintro ⟨Hl1, Hd1, Hw1, HO⟩
  rw [wp_ret]
  imodintro
  isplitl [Hxa Hxb Hq0 Hq1 Hq2 Hq3 Hqb Hqp Hdone Hl0 Hl1]
  · isplitl [Hxa Hxb Hq0 Hq1 Hq2 Hq3 Hqb Hqp]
    · isplitl [Hxa Hxb]
      · iapply (Entails.of_eq (x_two m d _).symm)
        isplitl [Hxa] <;> iassumption
      isplitl [Hq0]; · iexact Hq0
      isplitl [Hq1]; · iexact Hq1
      isplitl [Hq2]; · iexact Hq2
      isplitl [Hq3]; · iexact Hq3
      isplitl [Hqb]; · iexact Hqb
      iexact Hqp
    · iapply (done_join m d L 8)
      isplitl [Hdone]; · iexact Hdone
      isplitl [Hl0]; · iexact Hl0
      iexact Hl1
  isplitl [Hb0 Hb1 Hb2 Hb3 Hbb Hbp Hc0 Hc1 Hd0 Hd1 Hbufs]
  · isplitl [Hb0]; · iexists _; iexact Hb0
    isplitl [Hb1]; · iexists _; iexact Hb1
    isplitl [Hb2]; · iexists _; iexact Hb2
    isplitl [Hb3]; · iexists _; iexact Hb3
    isplitl [Hbb]; · iexists _; iexact Hbb
    isplitl [Hbp]; · iexists _; iexact Hbp
    isplitl [Hc0]; · iexact Hc0
    isplitl [Hc1]; · iexact Hc1
    isplitl [Hd0]; · iexact Hd0
    isplitl [Hd1]; · iexact Hd1
    iexact Hbufs
  isplitl [Hz0 Hz1 Hz2 Hz3 Hz4 Hz5 Hy0 Hy1 Hw0 Hw1 Hsems]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hy0]; · iexact Hy0
    isplitl [Hy1]; · iexact Hy1
    isplitl [Hw0]; · iexact Hw0
    isplitl [Hw1]; · iexact Hw1
    iexact Hsems
  unfold Owes
  iexact HO

end Cert.Proof.Spline

end
-- ==== Proof.HostOps.lean ====
/-
  The host operations before the SparseCore call, as lists: one list for each stretch of the program text.
-/
module

public import proofs.«01_k».proof.Proof.Setup

@[expose] public section

noncomputable section

namespace Cert.Proof.Spline

open Cert.KernelIdeal Cert.KernelIdeal.Gen

open Idealize.ShloMosaic Idealize.ShloMosaic.StableHlo

variable {F : FTy → Type} [FloatOps F]

abbrev slice_1024_1023_at1 : Vec F S1024 .f32 → Vec F S1023 .f32 :=
  (extractStridedSlice S1023 ![1] · slices_S1024_S1023_1)
abbrev slice_1024_1023_at0 : Vec F S1024 .f32 → Vec F S1023 .f32 :=
  (extractStridedSlice S1023 ![0] · slices_S1024_S1023_0)
abbrev subf_1023 : Vec F S1023 .f32 → Vec F S1023 .f32 → Vec F S1023 .f32 :=
  subf
abbrev divf_1023 : Vec F S1023 .f32 → Vec F S1023 .f32 → Vec F S1023 .f32 :=
  Host.divf
abbrev bc_0_1 : Vec F S_ .f32 → Vec F S1 .f32 :=
  broadcastInDim S1 ![] bcast_S_S1
abbrev bc_0_1023 : Vec F S_ .f32 → Vec F S1023 .f32 :=
  broadcastInDim S1023 ![] bcast_S_S1023
abbrev cat_1_1023 : Vec F S1 .f32 → Vec F S1023 .f32 → Vec F S1024 .f32 :=
  (fun a b => concatenate S1024 0 [⟨S1, a⟩, ⟨S1023, b⟩] concatenates_S1_S1023_S1024_d0)
abbrev cat_1023_1 : Vec F S1023 .f32 → Vec F S1 .f32 → Vec F S1024 .f32 :=
  (fun a b => concatenate S1024 0 [⟨S1023, a⟩, ⟨S1, b⟩] concatenates_S1023_S1_S1024_d0)
abbrev bcI_0_1024 : Vec F S_ .i32 → Vec F S1024 .i32 :=
  broadcastInDim S1024 ![] bcast_S_S1024
abbrev cmp_sge_1024 : Vec F S1024 .i32 → Vec F S1024 .i32 → Vec F S1024 .i1 :=
  cmpi .sge
abbrev cmp_sle_1024 : Vec F S1024 .i32 → Vec F S1024 .i32 → Vec F S1024 .i1 :=
  cmpi .sle
abbrev andi_1024 : Vec F S1024 .i1 → Vec F S1024 .i1 → Vec F S1024 .i1 :=
  andi
abbrev same_f32 : Vec F S_ .f32 → Vec F S_ .f32 :=
  id
abbrev bc_0_1024 : Vec F S_ .f32 → Vec F S1024 .f32 :=
  broadcastInDim S1024 ![] bcast_S_S1024
abbrev sel_1024 : Vec F S1024 .i1 → Vec F S1024 .f32 → Vec F S1024 .f32 → Vec F S1024 .f32 :=
  select
abbrev addf_1024 : Vec F S1024 .f32 → Vec F S1024 .f32 → Vec F S1024 .f32 :=
  addf
abbrev mulf_1024 : Vec F S1024 .f32 → Vec F S1024 .f32 → Vec F S1024 .f32 :=
  mulf
abbrev slice_1023_1022_at1 : Vec F S1023 .f32 → Vec F S1022 .f32 :=
  (extractStridedSlice S1022 ![1] · slices_S1023_S1022_1)
abbrev slice_1023_1022_at0 : Vec F S1023 .f32 → Vec F S1022 .f32 :=
  (extractStridedSlice S1022 ![0] · slices_S1023_S1022_0)
abbrev subf_1022 : Vec F S1022 .f32 → Vec F S1022 .f32 → Vec F S1022 .f32 :=
  subf
abbrev bcI_0_1 : Vec F S_ .i32 → Vec F S1 .i32 :=
  broadcastInDim S1 ![] bcast_S_S1
abbrev interiorSet : Vec F S1024 .f32 → Vec F S1 .i32 → Vec F S1022 .f32 → Vec F S1024 .f32 :=
  (fun x i u => Host.scatter scatter_S1024_S1_S1022_0_n_0_0 (fun _ b => b) x i u)
abbrev divf_1024 : Vec F S1024 .f32 → Vec F S1024 .f32 → Vec F S1024 .f32 :=
  Host.divf
abbrev subf_1024 : Vec F S1024 .f32 → Vec F S1024 .f32 → Vec F S1024 .f32 :=
  subf
abbrev mulf_1023 : Vec F S1023 .f32 → Vec F S1023 .f32 → Vec F S1023 .f32 :=
  mulf
abbrev addf_1023 : Vec F S1023 .f32 → Vec F S1023 .f32 → Vec F S1023 .f32 :=
  addf
abbrev slice_1024_1_at0 : Vec F S1024 .f32 → Vec F S1 .f32 :=
  (extractStridedSlice S1 ![0] · slices_S1024_S1_0)
abbrev slice_1024_1_at1023 : Vec F S1024 .f32 → Vec F S1 .f32 :=
  (extractStridedSlice S1 ![1023] · slices_S1024_S1_1023)
abbrev subf_0 : Vec F S_ .f32 → Vec F S_ .f32 → Vec F S_ .f32 :=
  subf
abbrev divf_0 : Vec F S_ .f32 → Vec F S_ .f32 → Vec F S_ .f32 :=
  Host.divf
abbrev trunc_1023 : Vec F S1023 .f32 → Vec F S1023 .i32 :=
  fptosi 32
abbrev same_i32 : Vec F S_ .i32 → Vec F S_ .i32 :=
  id
abbrev bcI_0_1023 : Vec F S_ .i32 → Vec F S1023 .i32 :=
  broadcastInDim S1023 ![] bcast_S_S1023
abbrev maxsi_1023 : Vec F S1023 .i32 → Vec F S1023 .i32 → Vec F S1023 .i32 :=
  maxsi
abbrev minsi_1023 : Vec F S1023 .i32 → Vec F S1023 .i32 → Vec F S1023 .i32 :=
  minsi
abbrev bcI_1023_1x1023 : Vec F S1023 .i32 → Vec F S1x1023 .i32 :=
  broadcastInDim S1x1023 ![1] bcast_S1023_S1x1023_1
abbrev bcI_4096_4096x1 : Vec F S4096 .i32 → Vec F S4096x1 .i32 :=
  broadcastInDim S4096x1 ![0] bcast_S4096_S4096x1_0
abbrev bcI_1x1023_4096x1023 : Vec F S1x1023 .i32 → Vec F S4096x1023 .i32 :=
  broadcastInDim S4096x1023 ![0, 1] bcast_S1x1023_S4096x1023_0_1
abbrev bcI_4096x1_4096x1023 : Vec F S4096x1 .i32 → Vec F S4096x1023 .i32 :=
  broadcastInDim S4096x1023 ![0, 1] bcast_S4096x1_S4096x1023_0_1
abbrev cmp_sle_4096x1023 : Vec F S4096x1023 .i32 → Vec F S4096x1023 .i32 → Vec F S4096x1023 .i1 :=
  cmpi .sle
abbrev cmp_eq_4096x1023 : Vec F S4096x1023 .i32 → Vec F S4096x1023 .i32 → Vec F S4096x1023 .i1 :=
  cmpi .eq
abbrev toI : Vec F S4096x1023 .i1 → Vec F S4096x1023 .i32 :=
  (extui 32 · natLt_1_32)
abbrev rowSumI : Vec F S4096x1023 .i32 → Vec F S_ .i32 → Vec F S4096 .i32 :=
  (fun x v => Host.reduce IntOp.addi x v reducesTo_S4096x1023_S4096_d1 h_S_)
abbrev bcI_0_4096 : Vec F S_ .i32 → Vec F S4096 .i32 :=
  broadcastInDim S4096 ![] bcast_S_S4096
abbrev subi_4096 : Vec F S4096 .i32 → Vec F S4096 .i32 → Vec F S4096 .i32 :=
  subi
abbrev maxsi_4096 : Vec F S4096 .i32 → Vec F S4096 .i32 → Vec F S4096 .i32 :=
  maxsi
abbrev bc_1023_1x1023 : Vec F S1023 .f32 → Vec F S1x1023 .f32 :=
  broadcastInDim S1x1023 ![1] bcast_S1023_S1x1023_1
abbrev bc_1x1023_4096x1023 : Vec F S1x1023 .f32 → Vec F S4096x1023 .f32 :=
  broadcastInDim S4096x1023 ![0, 1] bcast_S1x1023_S4096x1023_0_1
abbrev bc_0_4096x1023 : Vec F S_ .f32 → Vec F S4096x1023 .f32 :=
  broadcastInDim S4096x1023 ![] bcast_S_S4096x1023
abbrev sel_4096x1023 : Vec F S4096x1023 .i1 → Vec F S4096x1023 .f32 → Vec F S4096x1023 .f32 → Vec F S4096x1023 .f32 :=
  select
abbrev rowMax : Vec F S4096x1023 .f32 → Vec F S_ .f32 → Vec F S4096 .f32 :=
  (fun x v => Host.reduce FloatOps.maximumf x v reducesTo_S4096x1023_S4096_d1 h_S_)
abbrev toF_4096 : Vec F S4096 .i32 → Vec F S4096 .f32 :=
  sitofp .f32
abbrev bc_0_4096 : Vec F S_ .f32 → Vec F S4096 .f32 :=
  broadcastInDim S4096 ![] bcast_S_S4096
abbrev mulf_4096 : Vec F S4096 .f32 → Vec F S4096 .f32 → Vec F S4096 .f32 :=
  mulf
abbrev addf_4096 : Vec F S4096 .f32 → Vec F S4096 .f32 → Vec F S4096 .f32 :=
  addf
abbrev rowSum : Vec F S4096x1023 .f32 → Vec F S_ .f32 → Vec F S4096 .f32 :=
  (fun x v => Host.reduceAdd x v reducesTo_S4096x1023_S4096_d1 h_S_)
abbrev subf_4096 : Vec F S4096 .f32 → Vec F S4096 .f32 → Vec F S4096 .f32 :=
  subf
abbrev bc_4096_4096x1 : Vec F S4096 .f32 → Vec F S4096x1 .f32 :=
  broadcastInDim S4096x1 ![0] bcast_S4096_S4096x1_0
abbrev cat_4096x1_4096x1 : Vec F S4096x1 .f32 → Vec F S4096x1 .f32 → Vec F S4096x2 .f32 :=
  (fun a b => concatenate S4096x2 1 [⟨S4096x1, a⟩, ⟨S4096x1, b⟩] concatenates_S4096x1_S4096x1_S4096x2_d1)
abbrev bc_0_16 : Vec F S_ .f32 → Vec F S16 .f32 :=
  broadcastInDim S16 ![] bcast_S_S16
/-- The three parameters, sixteen times each, in one array. -/
abbrev cat3 (u : (k : Fin 3) → ((![main_v551, main_v552, main_v553] : Fin 3 → Ref sig .tc) k).ty.Contents (Elt F)) : Vec F S48 .f32 :=
  (concatenate S48 0 [⟨S16, (u 0 : Vec F S16 .f32)⟩, ⟨S16, (u 1 : Vec F S16 .f32)⟩, ⟨S16, (u 2 : Vec F S16 .f32)⟩] concatenates_S16_S16_S16_S48_d0 : Vec F S48 .f32)

/-- The step sizes, the slopes, the system's rows and the first sweep. -/
def ops0 : List (HloOp τ sig (Elt F)) :=
  unary main_arg1 main_v0 slice_1024_1023_at1 ::
  unary main_arg1 main_v1 slice_1024_1023_at0 ::
  binary main_v0 main_v1 main_v2 subf_1023 ::
  unary main_arg2 main_v3 slice_1024_1023_at1 ::
  unary main_arg2 main_v4 slice_1024_1023_at0 ::
  binary main_v3 main_v4 main_v5 subf_1023 ::
  binary main_v5 main_v2 main_v6 divf_1023 ::
  nullary main_cst (constant S_ .f32 0x00000000#32) ::
  unary main_cst main_v7 bc_0_1 ::
  nullary main_cst_0 (constant S_ .f32 0x40C00000#32) ::
  unary main_cst_0 main_v8 bc_0_1023 ::
  binary main_v2 main_v8 main_v9 divf_1023 ::
  binary main_v7 main_v9 main_v10 cat_1_1023 ::
  nullary main_cst_1 (constant S_ .f32 0x40C00000#32) ::
  unary main_cst_1 main_v11 bc_0_1023 ::
  binary main_v2 main_v11 main_v12 divf_1023 ::
  nullary main_cst_2 (constant S_ .f32 0x00000000#32) ::
  unary main_cst_2 main_v13 bc_0_1 ::
  binary main_v12 main_v13 main_v14 cat_1023_1 ::
  nullary main_v15 (iotaInDim S1024 32 0) ::
  nullary main_c (constantI S_ 32 1#32) ::
  unary main_c main_v16 bcI_0_1024 ::
  binary main_v15 main_v16 main_v17 cmp_sge_1024 ::
  nullary main_c_3 (constantI S_ 32 1022#32) ::
  unary main_c_3 main_v18 bcI_0_1024 ::
  binary main_v15 main_v18 main_v19 cmp_sle_1024 ::
  binary main_v17 main_v19 main_v20 andi_1024 ::
  nullary main_cst_4 (constant S_ .f32 0x00000000#32) ::
  unary main_cst_4 main_call0_v0 same_f32 ::
  unary main_call0_v0 main_call0_v1 bc_0_1024 ::
  ternary main_v20 main_v10 main_call0_v1 main_v21 sel_1024 ::
  nullary main_cst_5 (constant S_ .f32 0x00000000#32) ::
  unary main_cst_5 main_call1_v0 same_f32 ::
  unary main_call1_v0 main_call1_v1 bc_0_1024 ::
  ternary main_v20 main_v14 main_call1_v1 main_v22 sel_1024 ::
  binary main_v21 main_v22 main_v23 addf_1024 ::
  nullary main_cst_6 (constant S_ .f32 0x40000000#32) ::
  unary main_cst_6 main_v24 bc_0_1024 ::
  binary main_v24 main_v23 main_v25 mulf_1024 ::
  nullary main_cst_7 (constant S_ .f32 0x3F800000#32) ::
  unary main_cst_7 main_call2_v0 same_f32 ::
  unary main_call2_v0 main_call2_v1 bc_0_1024 ::
  ternary main_v20 main_v25 main_call2_v1 main_v26 sel_1024 ::
  nullary main_cst_8 (constant S_ .f32 0x00000000#32) ::
  unary main_cst_8 main_v27 bc_0_1024 ::
  unary main_v6 main_v28 slice_1023_1022_at1 ::
  unary main_v6 main_v29 slice_1023_1022_at0 ::
  binary main_v28 main_v29 main_v30 subf_1022 ::
  nullary main_c_9 (constantI S_ 32 1#32) ::
  unary main_c_9 main_v31 bcI_0_1 ::
  ternary main_v27 main_v31 main_v30 main_v32 interiorSet ::
  binary main_v32 main_v26 main_v33 divf_1024 ::
  nullary main_cst_10 (constant S_ .f32 0x00000000#32) ::
  unary main_cst_10 main_v34 bc_0_1 ::
  unary main_v33 main_v35 slice_1024_1023_at0 ::
  binary main_v34 main_v35 main_v36 cat_1_1023 ::
  unary main_v33 main_v37 slice_1024_1023_at1 ::
  binary main_v37 main_v34 main_v38 cat_1023_1 ::
  binary main_v21 main_v36 main_v39 mulf_1024 ::
  binary main_v32 main_v39 main_v40 subf_1024 ::
  binary main_v22 main_v38 main_v41 mulf_1024 ::
  binary main_v40 main_v41 main_v42 subf_1024 ::
  binary main_v42 main_v26 main_v43 divf_1024 ::
  unary main_v43 main_v44 slice_1024_1023_at0 ::
  binary main_v34 main_v44 main_v45 cat_1_1023 ::
  unary main_v43 main_v46 slice_1024_1023_at1 :: []

/-- Sweeps of the linear system. -/
def ops1 : List (HloOp τ sig (Elt F)) :=
  binary main_v46 main_v34 main_v47 cat_1023_1 ::
  binary main_v21 main_v45 main_v48 mulf_1024 ::
  binary main_v32 main_v48 main_v49 subf_1024 ::
  binary main_v22 main_v47 main_v50 mulf_1024 ::
  binary main_v49 main_v50 main_v51 subf_1024 ::
  binary main_v51 main_v26 main_v52 divf_1024 ::
  unary main_v52 main_v53 slice_1024_1023_at0 ::
  binary main_v34 main_v53 main_v54 cat_1_1023 ::
  unary main_v52 main_v55 slice_1024_1023_at1 ::
  binary main_v55 main_v34 main_v56 cat_1023_1 ::
  binary main_v21 main_v54 main_v57 mulf_1024 ::
  binary main_v32 main_v57 main_v58 subf_1024 ::
  binary main_v22 main_v56 main_v59 mulf_1024 ::
  binary main_v58 main_v59 main_v60 subf_1024 ::
  binary main_v60 main_v26 main_v61 divf_1024 ::
  unary main_v61 main_v62 slice_1024_1023_at0 ::
  binary main_v34 main_v62 main_v63 cat_1_1023 ::
  unary main_v61 main_v64 slice_1024_1023_at1 ::
  binary main_v64 main_v34 main_v65 cat_1023_1 ::
  binary main_v21 main_v63 main_v66 mulf_1024 ::
  binary main_v32 main_v66 main_v67 subf_1024 ::
  binary main_v22 main_v65 main_v68 mulf_1024 ::
  binary main_v67 main_v68 main_v69 subf_1024 ::
  binary main_v69 main_v26 main_v70 divf_1024 ::
  unary main_v70 main_v71 slice_1024_1023_at0 ::
  binary main_v34 main_v71 main_v72 cat_1_1023 ::
  unary main_v70 main_v73 slice_1024_1023_at1 ::
  binary main_v73 main_v34 main_v74 cat_1023_1 ::
  binary main_v21 main_v72 main_v75 mulf_1024 ::
  binary main_v32 main_v75 main_v76 subf_1024 ::
  binary main_v22 main_v74 main_v77 mulf_1024 ::
  binary main_v76 main_v77 main_v78 subf_1024 ::
  binary main_v78 main_v26 main_v79 divf_1024 ::
  unary main_v79 main_v80 slice_1024_1023_at0 ::
  binary main_v34 main_v80 main_v81 cat_1_1023 ::
  unary main_v79 main_v82 slice_1024_1023_at1 ::
  binary main_v82 main_v34 main_v83 cat_1023_1 ::
  binary main_v21 main_v81 main_v84 mulf_1024 ::
  binary main_v32 main_v84 main_v85 subf_1024 ::
  binary main_v22 main_v83 main_v86 mulf_1024 ::
  binary main_v85 main_v86 main_v87 subf_1024 ::
  binary main_v87 main_v26 main_v88 divf_1024 ::
  unary main_v88 main_v89 slice_1024_1023_at0 ::
  binary main_v34 main_v89 main_v90 cat_1_1023 ::
  unary main_v88 main_v91 slice_1024_1023_at1 ::
  binary main_v91 main_v34 main_v92 cat_1023_1 ::
  binary main_v21 main_v90 main_v93 mulf_1024 ::
  binary main_v32 main_v93 main_v94 subf_1024 ::
  binary main_v22 main_v92 main_v95 mulf_1024 ::
  binary main_v94 main_v95 main_v96 subf_1024 ::
  binary main_v96 main_v26 main_v97 divf_1024 ::
  unary main_v97 main_v98 slice_1024_1023_at0 ::
  binary main_v34 main_v98 main_v99 cat_1_1023 ::
  unary main_v97 main_v100 slice_1024_1023_at1 ::
  binary main_v100 main_v34 main_v101 cat_1023_1 ::
  binary main_v21 main_v99 main_v102 mulf_1024 ::
  binary main_v32 main_v102 main_v103 subf_1024 ::
  binary main_v22 main_v101 main_v104 mulf_1024 ::
  binary main_v103 main_v104 main_v105 subf_1024 ::
  binary main_v105 main_v26 main_v106 divf_1024 :: []

/-- Sweeps of the linear system. -/
def ops2 : List (HloOp τ sig (Elt F)) :=
  unary main_v106 main_v107 slice_1024_1023_at0 ::
  binary main_v34 main_v107 main_v108 cat_1_1023 ::
  unary main_v106 main_v109 slice_1024_1023_at1 ::
  binary main_v109 main_v34 main_v110 cat_1023_1 ::
  binary main_v21 main_v108 main_v111 mulf_1024 ::
  binary main_v32 main_v111 main_v112 subf_1024 ::
  binary main_v22 main_v110 main_v113 mulf_1024 ::
  binary main_v112 main_v113 main_v114 subf_1024 ::
  binary main_v114 main_v26 main_v115 divf_1024 ::
  unary main_v115 main_v116 slice_1024_1023_at0 ::
  binary main_v34 main_v116 main_v117 cat_1_1023 ::
  unary main_v115 main_v118 slice_1024_1023_at1 ::
  binary main_v118 main_v34 main_v119 cat_1023_1 ::
  binary main_v21 main_v117 main_v120 mulf_1024 ::
  binary main_v32 main_v120 main_v121 subf_1024 ::
  binary main_v22 main_v119 main_v122 mulf_1024 ::
  binary main_v121 main_v122 main_v123 subf_1024 ::
  binary main_v123 main_v26 main_v124 divf_1024 ::
  unary main_v124 main_v125 slice_1024_1023_at0 ::
  binary main_v34 main_v125 main_v126 cat_1_1023 ::
  unary main_v124 main_v127 slice_1024_1023_at1 ::
  binary main_v127 main_v34 main_v128 cat_1023_1 ::
  binary main_v21 main_v126 main_v129 mulf_1024 ::
  binary main_v32 main_v129 main_v130 subf_1024 ::
  binary main_v22 main_v128 main_v131 mulf_1024 ::
  binary main_v130 main_v131 main_v132 subf_1024 ::
  binary main_v132 main_v26 main_v133 divf_1024 ::
  unary main_v133 main_v134 slice_1024_1023_at0 ::
  binary main_v34 main_v134 main_v135 cat_1_1023 ::
  unary main_v133 main_v136 slice_1024_1023_at1 ::
  binary main_v136 main_v34 main_v137 cat_1023_1 ::
  binary main_v21 main_v135 main_v138 mulf_1024 ::
  binary main_v32 main_v138 main_v139 subf_1024 ::
  binary main_v22 main_v137 main_v140 mulf_1024 ::
  binary main_v139 main_v140 main_v141 subf_1024 ::
  binary main_v141 main_v26 main_v142 divf_1024 ::
  unary main_v142 main_v143 slice_1024_1023_at0 ::
  binary main_v34 main_v143 main_v144 cat_1_1023 ::
  unary main_v142 main_v145 slice_1024_1023_at1 ::
  binary main_v145 main_v34 main_v146 cat_1023_1 ::
  binary main_v21 main_v144 main_v147 mulf_1024 ::
  binary main_v32 main_v147 main_v148 subf_1024 ::
  binary main_v22 main_v146 main_v149 mulf_1024 ::
  binary main_v148 main_v149 main_v150 subf_1024 ::
  binary main_v150 main_v26 main_v151 divf_1024 ::
  unary main_v151 main_v152 slice_1024_1023_at0 ::
  binary main_v34 main_v152 main_v153 cat_1_1023 ::
  unary main_v151 main_v154 slice_1024_1023_at1 ::
  binary main_v154 main_v34 main_v155 cat_1023_1 ::
  binary main_v21 main_v153 main_v156 mulf_1024 ::
  binary main_v32 main_v156 main_v157 subf_1024 ::
  binary main_v22 main_v155 main_v158 mulf_1024 ::
  binary main_v157 main_v158 main_v159 subf_1024 ::
  binary main_v159 main_v26 main_v160 divf_1024 ::
  unary main_v160 main_v161 slice_1024_1023_at0 ::
  binary main_v34 main_v161 main_v162 cat_1_1023 ::
  unary main_v160 main_v163 slice_1024_1023_at1 ::
  binary main_v163 main_v34 main_v164 cat_1023_1 ::
  binary main_v21 main_v162 main_v165 mulf_1024 ::
  binary main_v32 main_v165 main_v166 subf_1024 :: []

/-- Sweeps of the linear system. -/
def ops3 : List (HloOp τ sig (Elt F)) :=
  binary main_v22 main_v164 main_v167 mulf_1024 ::
  binary main_v166 main_v167 main_v168 subf_1024 ::
  binary main_v168 main_v26 main_v169 divf_1024 ::
  unary main_v169 main_v170 slice_1024_1023_at0 ::
  binary main_v34 main_v170 main_v171 cat_1_1023 ::
  unary main_v169 main_v172 slice_1024_1023_at1 ::
  binary main_v172 main_v34 main_v173 cat_1023_1 ::
  binary main_v21 main_v171 main_v174 mulf_1024 ::
  binary main_v32 main_v174 main_v175 subf_1024 ::
  binary main_v22 main_v173 main_v176 mulf_1024 ::
  binary main_v175 main_v176 main_v177 subf_1024 ::
  binary main_v177 main_v26 main_v178 divf_1024 ::
  unary main_v178 main_v179 slice_1024_1023_at0 ::
  binary main_v34 main_v179 main_v180 cat_1_1023 ::
  unary main_v178 main_v181 slice_1024_1023_at1 ::
  binary main_v181 main_v34 main_v182 cat_1023_1 ::
  binary main_v21 main_v180 main_v183 mulf_1024 ::
  binary main_v32 main_v183 main_v184 subf_1024 ::
  binary main_v22 main_v182 main_v185 mulf_1024 ::
  binary main_v184 main_v185 main_v186 subf_1024 ::
  binary main_v186 main_v26 main_v187 divf_1024 ::
  unary main_v187 main_v188 slice_1024_1023_at0 ::
  binary main_v34 main_v188 main_v189 cat_1_1023 ::
  unary main_v187 main_v190 slice_1024_1023_at1 ::
  binary main_v190 main_v34 main_v191 cat_1023_1 ::
  binary main_v21 main_v189 main_v192 mulf_1024 ::
  binary main_v32 main_v192 main_v193 subf_1024 ::
  binary main_v22 main_v191 main_v194 mulf_1024 ::
  binary main_v193 main_v194 main_v195 subf_1024 ::
  binary main_v195 main_v26 main_v196 divf_1024 ::
  unary main_v196 main_v197 slice_1024_1023_at0 ::
  binary main_v34 main_v197 main_v198 cat_1_1023 ::
  unary main_v196 main_v199 slice_1024_1023_at1 ::
  binary main_v199 main_v34 main_v200 cat_1023_1 ::
  binary main_v21 main_v198 main_v201 mulf_1024 ::
  binary main_v32 main_v201 main_v202 subf_1024 ::
  binary main_v22 main_v200 main_v203 mulf_1024 ::
  binary main_v202 main_v203 main_v204 subf_1024 ::
  binary main_v204 main_v26 main_v205 divf_1024 ::
  unary main_v205 main_v206 slice_1024_1023_at0 ::
  binary main_v34 main_v206 main_v207 cat_1_1023 ::
  unary main_v205 main_v208 slice_1024_1023_at1 ::
  binary main_v208 main_v34 main_v209 cat_1023_1 ::
  binary main_v21 main_v207 main_v210 mulf_1024 ::
  binary main_v32 main_v210 main_v211 subf_1024 ::
  binary main_v22 main_v209 main_v212 mulf_1024 ::
  binary main_v211 main_v212 main_v213 subf_1024 ::
  binary main_v213 main_v26 main_v214 divf_1024 ::
  unary main_v214 main_v215 slice_1024_1023_at0 ::
  binary main_v34 main_v215 main_v216 cat_1_1023 ::
  unary main_v214 main_v217 slice_1024_1023_at1 ::
  binary main_v217 main_v34 main_v218 cat_1023_1 ::
  binary main_v21 main_v216 main_v219 mulf_1024 ::
  binary main_v32 main_v219 main_v220 subf_1024 ::
  binary main_v22 main_v218 main_v221 mulf_1024 ::
  binary main_v220 main_v221 main_v222 subf_1024 ::
  binary main_v222 main_v26 main_v223 divf_1024 ::
  unary main_v223 main_v224 slice_1024_1023_at0 ::
  binary main_v34 main_v224 main_v225 cat_1_1023 ::
  unary main_v223 main_v226 slice_1024_1023_at1 :: []

/-- Sweeps of the linear system. -/
def ops4 : List (HloOp τ sig (Elt F)) :=
  binary main_v226 main_v34 main_v227 cat_1023_1 ::
  binary main_v21 main_v225 main_v228 mulf_1024 ::
  binary main_v32 main_v228 main_v229 subf_1024 ::
  binary main_v22 main_v227 main_v230 mulf_1024 ::
  binary main_v229 main_v230 main_v231 subf_1024 ::
  binary main_v231 main_v26 main_v232 divf_1024 ::
  unary main_v232 main_v233 slice_1024_1023_at0 ::
  binary main_v34 main_v233 main_v234 cat_1_1023 ::
  unary main_v232 main_v235 slice_1024_1023_at1 ::
  binary main_v235 main_v34 main_v236 cat_1023_1 ::
  binary main_v21 main_v234 main_v237 mulf_1024 ::
  binary main_v32 main_v237 main_v238 subf_1024 ::
  binary main_v22 main_v236 main_v239 mulf_1024 ::
  binary main_v238 main_v239 main_v240 subf_1024 ::
  binary main_v240 main_v26 main_v241 divf_1024 ::
  unary main_v241 main_v242 slice_1024_1023_at0 ::
  binary main_v34 main_v242 main_v243 cat_1_1023 ::
  unary main_v241 main_v244 slice_1024_1023_at1 ::
  binary main_v244 main_v34 main_v245 cat_1023_1 ::
  binary main_v21 main_v243 main_v246 mulf_1024 ::
  binary main_v32 main_v246 main_v247 subf_1024 ::
  binary main_v22 main_v245 main_v248 mulf_1024 ::
  binary main_v247 main_v248 main_v249 subf_1024 ::
  binary main_v249 main_v26 main_v250 divf_1024 ::
  unary main_v250 main_v251 slice_1024_1023_at0 ::
  binary main_v34 main_v251 main_v252 cat_1_1023 ::
  unary main_v250 main_v253 slice_1024_1023_at1 ::
  binary main_v253 main_v34 main_v254 cat_1023_1 ::
  binary main_v21 main_v252 main_v255 mulf_1024 ::
  binary main_v32 main_v255 main_v256 subf_1024 ::
  binary main_v22 main_v254 main_v257 mulf_1024 ::
  binary main_v256 main_v257 main_v258 subf_1024 ::
  binary main_v258 main_v26 main_v259 divf_1024 ::
  unary main_v259 main_v260 slice_1024_1023_at0 ::
  binary main_v34 main_v260 main_v261 cat_1_1023 ::
  unary main_v259 main_v262 slice_1024_1023_at1 ::
  binary main_v262 main_v34 main_v263 cat_1023_1 ::
  binary main_v21 main_v261 main_v264 mulf_1024 ::
  binary main_v32 main_v264 main_v265 subf_1024 ::
  binary main_v22 main_v263 main_v266 mulf_1024 ::
  binary main_v265 main_v266 main_v267 subf_1024 ::
  binary main_v267 main_v26 main_v268 divf_1024 ::
  unary main_v268 main_v269 slice_1024_1023_at0 ::
  binary main_v34 main_v269 main_v270 cat_1_1023 ::
  unary main_v268 main_v271 slice_1024_1023_at1 ::
  binary main_v271 main_v34 main_v272 cat_1023_1 ::
  binary main_v21 main_v270 main_v273 mulf_1024 ::
  binary main_v32 main_v273 main_v274 subf_1024 ::
  binary main_v22 main_v272 main_v275 mulf_1024 ::
  binary main_v274 main_v275 main_v276 subf_1024 ::
  binary main_v276 main_v26 main_v277 divf_1024 ::
  unary main_v277 main_v278 slice_1024_1023_at0 ::
  binary main_v34 main_v278 main_v279 cat_1_1023 ::
  unary main_v277 main_v280 slice_1024_1023_at1 ::
  binary main_v280 main_v34 main_v281 cat_1023_1 ::
  binary main_v21 main_v279 main_v282 mulf_1024 ::
  binary main_v32 main_v282 main_v283 subf_1024 ::
  binary main_v22 main_v281 main_v284 mulf_1024 ::
  binary main_v283 main_v284 main_v285 subf_1024 ::
  binary main_v285 main_v26 main_v286 divf_1024 :: []

/-- Sweeps of the linear system. -/
def ops5 : List (HloOp τ sig (Elt F)) :=
  unary main_v286 main_v287 slice_1024_1023_at0 ::
  binary main_v34 main_v287 main_v288 cat_1_1023 ::
  unary main_v286 main_v289 slice_1024_1023_at1 ::
  binary main_v289 main_v34 main_v290 cat_1023_1 ::
  binary main_v21 main_v288 main_v291 mulf_1024 ::
  binary main_v32 main_v291 main_v292 subf_1024 ::
  binary main_v22 main_v290 main_v293 mulf_1024 ::
  binary main_v292 main_v293 main_v294 subf_1024 ::
  binary main_v294 main_v26 main_v295 divf_1024 ::
  unary main_v295 main_v296 slice_1024_1023_at0 ::
  binary main_v34 main_v296 main_v297 cat_1_1023 ::
  unary main_v295 main_v298 slice_1024_1023_at1 ::
  binary main_v298 main_v34 main_v299 cat_1023_1 ::
  binary main_v21 main_v297 main_v300 mulf_1024 ::
  binary main_v32 main_v300 main_v301 subf_1024 ::
  binary main_v22 main_v299 main_v302 mulf_1024 ::
  binary main_v301 main_v302 main_v303 subf_1024 ::
  binary main_v303 main_v26 main_v304 divf_1024 ::
  unary main_v304 main_v305 slice_1024_1023_at0 ::
  binary main_v34 main_v305 main_v306 cat_1_1023 ::
  unary main_v304 main_v307 slice_1024_1023_at1 ::
  binary main_v307 main_v34 main_v308 cat_1023_1 ::
  binary main_v21 main_v306 main_v309 mulf_1024 ::
  binary main_v32 main_v309 main_v310 subf_1024 ::
  binary main_v22 main_v308 main_v311 mulf_1024 ::
  binary main_v310 main_v311 main_v312 subf_1024 ::
  binary main_v312 main_v26 main_v313 divf_1024 ::
  unary main_v313 main_v314 slice_1024_1023_at0 ::
  binary main_v34 main_v314 main_v315 cat_1_1023 ::
  unary main_v313 main_v316 slice_1024_1023_at1 ::
  binary main_v316 main_v34 main_v317 cat_1023_1 ::
  binary main_v21 main_v315 main_v318 mulf_1024 ::
  binary main_v32 main_v318 main_v319 subf_1024 ::
  binary main_v22 main_v317 main_v320 mulf_1024 ::
  binary main_v319 main_v320 main_v321 subf_1024 ::
  binary main_v321 main_v26 main_v322 divf_1024 ::
  unary main_v322 main_v323 slice_1024_1023_at0 ::
  binary main_v34 main_v323 main_v324 cat_1_1023 ::
  unary main_v322 main_v325 slice_1024_1023_at1 ::
  binary main_v325 main_v34 main_v326 cat_1023_1 ::
  binary main_v21 main_v324 main_v327 mulf_1024 ::
  binary main_v32 main_v327 main_v328 subf_1024 ::
  binary main_v22 main_v326 main_v329 mulf_1024 ::
  binary main_v328 main_v329 main_v330 subf_1024 ::
  binary main_v330 main_v26 main_v331 divf_1024 ::
  unary main_v331 main_v332 slice_1024_1023_at0 ::
  binary main_v34 main_v332 main_v333 cat_1_1023 ::
  unary main_v331 main_v334 slice_1024_1023_at1 ::
  binary main_v334 main_v34 main_v335 cat_1023_1 ::
  binary main_v21 main_v333 main_v336 mulf_1024 ::
  binary main_v32 main_v336 main_v337 subf_1024 ::
  binary main_v22 main_v335 main_v338 mulf_1024 ::
  binary main_v337 main_v338 main_v339 subf_1024 ::
  binary main_v339 main_v26 main_v340 divf_1024 ::
  unary main_v340 main_v341 slice_1024_1023_at0 ::
  binary main_v34 main_v341 main_v342 cat_1_1023 ::
  unary main_v340 main_v343 slice_1024_1023_at1 ::
  binary main_v343 main_v34 main_v344 cat_1023_1 ::
  binary main_v21 main_v342 main_v345 mulf_1024 ::
  binary main_v32 main_v345 main_v346 subf_1024 :: []

/-- Sweeps of the linear system. -/
def ops6 : List (HloOp τ sig (Elt F)) :=
  binary main_v22 main_v344 main_v347 mulf_1024 ::
  binary main_v346 main_v347 main_v348 subf_1024 ::
  binary main_v348 main_v26 main_v349 divf_1024 ::
  unary main_v349 main_v350 slice_1024_1023_at0 ::
  binary main_v34 main_v350 main_v351 cat_1_1023 ::
  unary main_v349 main_v352 slice_1024_1023_at1 ::
  binary main_v352 main_v34 main_v353 cat_1023_1 ::
  binary main_v21 main_v351 main_v354 mulf_1024 ::
  binary main_v32 main_v354 main_v355 subf_1024 ::
  binary main_v22 main_v353 main_v356 mulf_1024 ::
  binary main_v355 main_v356 main_v357 subf_1024 ::
  binary main_v357 main_v26 main_v358 divf_1024 ::
  unary main_v358 main_v359 slice_1024_1023_at0 ::
  binary main_v34 main_v359 main_v360 cat_1_1023 ::
  unary main_v358 main_v361 slice_1024_1023_at1 ::
  binary main_v361 main_v34 main_v362 cat_1023_1 ::
  binary main_v21 main_v360 main_v363 mulf_1024 ::
  binary main_v32 main_v363 main_v364 subf_1024 ::
  binary main_v22 main_v362 main_v365 mulf_1024 ::
  binary main_v364 main_v365 main_v366 subf_1024 ::
  binary main_v366 main_v26 main_v367 divf_1024 ::
  unary main_v367 main_v368 slice_1024_1023_at0 ::
  binary main_v34 main_v368 main_v369 cat_1_1023 ::
  unary main_v367 main_v370 slice_1024_1023_at1 ::
  binary main_v370 main_v34 main_v371 cat_1023_1 ::
  binary main_v21 main_v369 main_v372 mulf_1024 ::
  binary main_v32 main_v372 main_v373 subf_1024 ::
  binary main_v22 main_v371 main_v374 mulf_1024 ::
  binary main_v373 main_v374 main_v375 subf_1024 ::
  binary main_v375 main_v26 main_v376 divf_1024 ::
  unary main_v376 main_v377 slice_1024_1023_at0 ::
  binary main_v34 main_v377 main_v378 cat_1_1023 ::
  unary main_v376 main_v379 slice_1024_1023_at1 ::
  binary main_v379 main_v34 main_v380 cat_1023_1 ::
  binary main_v21 main_v378 main_v381 mulf_1024 ::
  binary main_v32 main_v381 main_v382 subf_1024 ::
  binary main_v22 main_v380 main_v383 mulf_1024 ::
  binary main_v382 main_v383 main_v384 subf_1024 ::
  binary main_v384 main_v26 main_v385 divf_1024 ::
  unary main_v385 main_v386 slice_1024_1023_at0 ::
  binary main_v34 main_v386 main_v387 cat_1_1023 ::
  unary main_v385 main_v388 slice_1024_1023_at1 ::
  binary main_v388 main_v34 main_v389 cat_1023_1 ::
  binary main_v21 main_v387 main_v390 mulf_1024 ::
  binary main_v32 main_v390 main_v391 subf_1024 ::
  binary main_v22 main_v389 main_v392 mulf_1024 ::
  binary main_v391 main_v392 main_v393 subf_1024 ::
  binary main_v393 main_v26 main_v394 divf_1024 ::
  unary main_v394 main_v395 slice_1024_1023_at0 ::
  unary main_v394 main_v396 slice_1024_1023_at1 ::
  unary main_arg2 main_v397 slice_1024_1023_at0 ::
  nullary main_cst_11 (constant S_ .f32 0x40000000#32) ::
  unary main_cst_11 main_v398 bc_0_1023 ::
  binary main_v398 main_v395 main_v399 mulf_1023 ::
  binary main_v399 main_v396 main_v400 addf_1023 ::
  binary main_v2 main_v400 main_v401 mulf_1023 ::
  nullary main_cst_12 (constant S_ .f32 0x40C00000#32) ::
  unary main_cst_12 main_v402 bc_0_1023 ::
  binary main_v401 main_v402 main_v403 divf_1023 ::
  binary main_v6 main_v403 main_v404 subf_1023 :: []

/-- The last sweeps, the cubics on the intervals, the buckets of the knots. -/
def ops7 : List (HloOp τ sig (Elt F)) :=
  nullary main_cst_13 (constant S_ .f32 0x40000000#32) ::
  unary main_cst_13 main_v405 bc_0_1023 ::
  binary main_v395 main_v405 main_v406 divf_1023 ::
  binary main_v396 main_v395 main_v407 subf_1023 ::
  nullary main_cst_14 (constant S_ .f32 0x40C00000#32) ::
  unary main_cst_14 main_v408 bc_0_1023 ::
  binary main_v408 main_v2 main_v409 mulf_1023 ::
  binary main_v407 main_v409 main_v410 divf_1023 ::
  unary main_arg1 main_v411 slice_1024_1_at0 ::
  reshape main_v411 main_v412 (rfl : (.f32 : EltTy) = .f32) shapeCasts_S1_S_ ::
  unary main_arg1 main_v413 slice_1024_1_at1023 ::
  reshape main_v413 main_v414 (rfl : (.f32 : EltTy) = .f32) shapeCasts_S1_S_ ::
  binary main_v414 main_v412 main_v415 subf_0 ::
  nullary main_cst_15 (constant S_ .f32 0x45800000#32) ::
  binary main_cst_15 main_v415 main_v416 divf_0 ::
  binary main_v414 main_v412 main_v417 subf_0 ::
  nullary main_cst_16 (constant S_ .f32 0x45800000#32) ::
  binary main_v417 main_cst_16 main_v418 divf_0 ::
  unary main_arg1 main_v419 slice_1024_1023_at0 ::
  unary main_v412 main_v420 bc_0_1023 ::
  binary main_v419 main_v420 main_v421 subf_1023 ::
  unary main_v416 main_v422 bc_0_1023 ::
  binary main_v421 main_v422 main_v423 mulf_1023 ::
  unary main_v423 main_v424 trunc_1023 ::
  nullary main_c_17 (constantI S_ 32 0#32) ::
  nullary main_c_18 (constantI S_ 32 4095#32) ::
  unary main_c_17 main_call3_v0 same_i32 ::
  unary main_call3_v0 main_call3_v1 bcI_0_1023 ::
  binary main_call3_v1 main_v424 main_call3_v2 maxsi_1023 ::
  unary main_c_18 main_call3_v3 same_i32 ::
  unary main_call3_v3 main_call3_v4 bcI_0_1023 ::
  binary main_call3_v4 main_call3_v2 main_v425 minsi_1023 ::
  nullary main_v426 (iotaInDim S4096 32 0) ::
  unary main_v425 main_v427 bcI_1023_1x1023 ::
  unary main_v426 main_v428 bcI_4096_4096x1 ::
  unary main_v427 main_v429 bcI_1x1023_4096x1023 ::
  unary main_v428 main_v430 bcI_4096x1_4096x1023 ::
  binary main_v429 main_v430 main_v431 cmp_sle_4096x1023 ::
  unary main_v425 main_v432 bcI_1023_1x1023 ::
  unary main_v426 main_v433 bcI_4096_4096x1 ::
  unary main_v432 main_v434 bcI_1x1023_4096x1023 ::
  unary main_v433 main_v435 bcI_4096x1_4096x1023 ::
  binary main_v434 main_v435 main_v436 cmp_eq_4096x1023 ::
  unary main_v436 main_v437 toI ::
  nullary main_c_19 (constantI S_ 32 0#32) ::
  binary main_v437 main_c_19 main_v438 rowSumI ::
  unary main_v431 main_v439 toI ::
  nullary main_c_20 (constantI S_ 32 0#32) ::
  binary main_v439 main_c_20 main_v440 rowSumI ::
  nullary main_c_21 (constantI S_ 32 1#32) ::
  unary main_c_21 main_v441 bcI_0_4096 ::
  binary main_v440 main_v441 main_v442 subi_4096 ::
  binary main_v442 main_v438 main_v443 subi_4096 ::
  nullary main_c_22 (constantI S_ 32 0#32) ::
  unary main_c_22 main_v444 bcI_0_4096 ::
  binary main_v443 main_v444 main_v445 maxsi_4096 ::
  unary main_v419 main_v446 bc_1023_1x1023 ::
  nullary main_cst_23 (constant S_ .f32 0xFF800000#32) ::
  unary main_cst_23 main_call4_v0 same_f32 ::
  unary main_v446 main_call4_v1 bc_1x1023_4096x1023 ::
  unary main_call4_v0 main_call4_v2 bc_0_4096x1023 ::
  ternary main_v436 main_call4_v1 main_call4_v2 main_v447 sel_4096x1023 ::
  nullary main_cst_24 (constant S_ .f32 0xFF800000#32) ::
  binary main_v447 main_cst_24 main_v448 rowMax ::
  unary main_v426 main_v449 toF_4096 ::
  unary main_v418 main_v450 bc_0_4096 ::
  binary main_v449 main_v450 main_v451 mulf_4096 ::
  unary main_v412 main_v452 bc_0_4096 :: []

/-- Counts, thresholds and the cubic left of a bucket's knot. -/
def ops8 : List (HloOp τ sig (Elt F)) :=
  binary main_v452 main_v451 main_v453 addf_4096 ::
  nullary main_v454 (iotaInDim S1023 32 0) ::
  unary main_v454 main_v455 bcI_1023_1x1023 ::
  unary main_v445 main_v456 bcI_4096_4096x1 ::
  unary main_v455 main_v457 bcI_1x1023_4096x1023 ::
  unary main_v456 main_v458 bcI_4096x1_4096x1023 ::
  binary main_v457 main_v458 main_v459 cmp_eq_4096x1023 ::
  unary main_arg1 main_v460 slice_1024_1023_at0 ::
  unary main_v460 main_v461 bc_1023_1x1023 ::
  nullary main_cst_25 (constant S_ .f32 0x00000000#32) ::
  unary main_cst_25 main_call5_v0 same_f32 ::
  unary main_v461 main_call5_v1 bc_1x1023_4096x1023 ::
  unary main_call5_v0 main_call5_v2 bc_0_4096x1023 ::
  ternary main_v459 main_call5_v1 main_call5_v2 main_v462 sel_4096x1023 ::
  nullary main_cst_26 (constant S_ .f32 0x00000000#32) ::
  binary main_v462 main_cst_26 main_v463 rowSum ::
  binary main_v453 main_v463 main_v464 subf_4096 ::
  unary main_v397 main_v465 bc_1023_1x1023 ::
  nullary main_cst_27 (constant S_ .f32 0x00000000#32) ::
  unary main_cst_27 main_call6_v0 same_f32 ::
  unary main_v465 main_call6_v1 bc_1x1023_4096x1023 ::
  unary main_call6_v0 main_call6_v2 bc_0_4096x1023 ::
  ternary main_v459 main_call6_v1 main_call6_v2 main_v466 sel_4096x1023 ::
  nullary main_cst_28 (constant S_ .f32 0x00000000#32) ::
  binary main_v466 main_cst_28 main_v467 rowSum ::
  unary main_v404 main_v468 bc_1023_1x1023 ::
  nullary main_cst_29 (constant S_ .f32 0x00000000#32) ::
  unary main_cst_29 main_call7_v0 same_f32 ::
  unary main_v468 main_call7_v1 bc_1x1023_4096x1023 ::
  unary main_call7_v0 main_call7_v2 bc_0_4096x1023 ::
  ternary main_v459 main_call7_v1 main_call7_v2 main_v469 sel_4096x1023 ::
  nullary main_cst_30 (constant S_ .f32 0x00000000#32) ::
  binary main_v469 main_cst_30 main_v470 rowSum ::
  unary main_v406 main_v471 bc_1023_1x1023 ::
  nullary main_cst_31 (constant S_ .f32 0x00000000#32) ::
  unary main_cst_31 main_call8_v0 same_f32 ::
  unary main_v471 main_call8_v1 bc_1x1023_4096x1023 ::
  unary main_call8_v0 main_call8_v2 bc_0_4096x1023 ::
  ternary main_v459 main_call8_v1 main_call8_v2 main_v472 sel_4096x1023 ::
  nullary main_cst_32 (constant S_ .f32 0x00000000#32) ::
  binary main_v472 main_cst_32 main_v473 rowSum ::
  unary main_v410 main_v474 bc_1023_1x1023 ::
  nullary main_cst_33 (constant S_ .f32 0x00000000#32) ::
  unary main_cst_33 main_call9_v0 same_f32 ::
  unary main_v474 main_call9_v1 bc_1x1023_4096x1023 ::
  unary main_call9_v0 main_call9_v2 bc_0_4096x1023 ::
  ternary main_v459 main_call9_v1 main_call9_v2 main_v475 sel_4096x1023 ::
  nullary main_cst_34 (constant S_ .f32 0x00000000#32) ::
  binary main_v475 main_cst_34 main_v476 rowSum ::
  binary main_v464 main_v476 main_v477 mulf_4096 ::
  binary main_v473 main_v477 main_v478 addf_4096 ::
  binary main_v464 main_v478 main_v479 mulf_4096 ::
  binary main_v470 main_v479 main_v480 addf_4096 ::
  binary main_v464 main_v480 main_v481 mulf_4096 ::
  binary main_v467 main_v481 main_v482 addf_4096 ::
  nullary main_cst_35 (constant S_ .f32 0x40000000#32) ::
  unary main_cst_35 main_v483 bc_0_4096 ::
  binary main_v483 main_v473 main_v484 mulf_4096 ::
  nullary main_cst_36 (constant S_ .f32 0x40400000#32) ::
  unary main_cst_36 main_v485 bc_0_4096 ::
  binary main_v485 main_v476 main_v486 mulf_4096 ::
  binary main_v486 main_v464 main_v487 mulf_4096 ::
  binary main_v484 main_v487 main_v488 addf_4096 ::
  binary main_v464 main_v488 main_v489 mulf_4096 ::
  binary main_v470 main_v489 main_v490 addf_4096 ::
  nullary main_cst_37 (constant S_ .f32 0x40400000#32) ::
  unary main_cst_37 main_v491 bc_0_4096 ::
  binary main_v491 main_v476 main_v492 mulf_4096 ::
  binary main_v492 main_v464 main_v493 mulf_4096 ::
  binary main_v473 main_v493 main_v494 addf_4096 ::
  unary main_v454 main_v495 bcI_1023_1x1023 ::
  unary main_v442 main_v496 bcI_4096_4096x1 ::
  unary main_v495 main_v497 bcI_1x1023_4096x1023 ::
  unary main_v496 main_v498 bcI_4096x1_4096x1023 ::
  binary main_v497 main_v498 main_v499 cmp_eq_4096x1023 :: []

/-- The re-expansion at the bucket edges. -/
def ops9 : List (HloOp τ sig (Elt F)) :=
  unary main_arg1 main_v500 slice_1024_1023_at0 ::
  unary main_v500 main_v501 bc_1023_1x1023 ::
  nullary main_cst_38 (constant S_ .f32 0x00000000#32) ::
  unary main_cst_38 main_call10_v0 same_f32 ::
  unary main_v501 main_call10_v1 bc_1x1023_4096x1023 ::
  unary main_call10_v0 main_call10_v2 bc_0_4096x1023 ::
  ternary main_v499 main_call10_v1 main_call10_v2 main_v502 sel_4096x1023 ::
  nullary main_cst_39 (constant S_ .f32 0x00000000#32) ::
  binary main_v502 main_cst_39 main_v503 rowSum ::
  binary main_v453 main_v503 main_v504 subf_4096 ::
  unary main_v397 main_v505 bc_1023_1x1023 ::
  nullary main_cst_40 (constant S_ .f32 0x00000000#32) ::
  unary main_cst_40 main_call11_v0 same_f32 ::
  unary main_v505 main_call11_v1 bc_1x1023_4096x1023 ::
  unary main_call11_v0 main_call11_v2 bc_0_4096x1023 ::
  ternary main_v499 main_call11_v1 main_call11_v2 main_v506 sel_4096x1023 ::
  nullary main_cst_41 (constant S_ .f32 0x00000000#32) ::
  binary main_v506 main_cst_41 main_v507 rowSum ::
  unary main_v404 main_v508 bc_1023_1x1023 ::
  nullary main_cst_42 (constant S_ .f32 0x00000000#32) ::
  unary main_cst_42 main_call12_v0 same_f32 ::
  unary main_v508 main_call12_v1 bc_1x1023_4096x1023 ::
  unary main_call12_v0 main_call12_v2 bc_0_4096x1023 ::
  ternary main_v499 main_call12_v1 main_call12_v2 main_v509 sel_4096x1023 ::
  nullary main_cst_43 (constant S_ .f32 0x00000000#32) ::
  binary main_v509 main_cst_43 main_v510 rowSum ::
  unary main_v406 main_v511 bc_1023_1x1023 ::
  nullary main_cst_44 (constant S_ .f32 0x00000000#32) ::
  unary main_cst_44 main_call13_v0 same_f32 ::
  unary main_v511 main_call13_v1 bc_1x1023_4096x1023 ::
  unary main_call13_v0 main_call13_v2 bc_0_4096x1023 ::
  ternary main_v499 main_call13_v1 main_call13_v2 main_v512 sel_4096x1023 ::
  nullary main_cst_45 (constant S_ .f32 0x00000000#32) ::
  binary main_v512 main_cst_45 main_v513 rowSum ::
  unary main_v410 main_v514 bc_1023_1x1023 ::
  nullary main_cst_46 (constant S_ .f32 0x00000000#32) ::
  unary main_cst_46 main_call14_v0 same_f32 ::
  unary main_v514 main_call14_v1 bc_1x1023_4096x1023 ::
  unary main_call14_v0 main_call14_v2 bc_0_4096x1023 ::
  ternary main_v499 main_call14_v1 main_call14_v2 main_v515 sel_4096x1023 ::
  nullary main_cst_47 (constant S_ .f32 0x00000000#32) ::
  binary main_v515 main_cst_47 main_v516 rowSum ::
  binary main_v504 main_v516 main_v517 mulf_4096 ::
  binary main_v513 main_v517 main_v518 addf_4096 ::
  binary main_v504 main_v518 main_v519 mulf_4096 ::
  binary main_v510 main_v519 main_v520 addf_4096 ::
  binary main_v504 main_v520 main_v521 mulf_4096 ::
  binary main_v507 main_v521 main_v522 addf_4096 ::
  nullary main_cst_48 (constant S_ .f32 0x40000000#32) ::
  unary main_cst_48 main_v523 bc_0_4096 ::
  binary main_v523 main_v513 main_v524 mulf_4096 ::
  nullary main_cst_49 (constant S_ .f32 0x40400000#32) ::
  unary main_cst_49 main_v525 bc_0_4096 ::
  binary main_v525 main_v516 main_v526 mulf_4096 ::
  binary main_v526 main_v504 main_v527 mulf_4096 ::
  binary main_v524 main_v527 main_v528 addf_4096 ::
  binary main_v504 main_v528 main_v529 mulf_4096 ::
  binary main_v510 main_v529 main_v530 addf_4096 ::
  nullary main_cst_50 (constant S_ .f32 0x40400000#32) ::
  unary main_cst_50 main_v531 bc_0_4096 ::
  binary main_v531 main_v516 main_v532 mulf_4096 ::
  binary main_v532 main_v504 main_v533 mulf_4096 ::
  binary main_v513 main_v533 main_v534 addf_4096 ::
  unary main_v482 main_v535 bc_4096_4096x1 ::
  unary main_v522 main_v536 bc_4096_4096x1 ::
  binary main_v535 main_v536 main_v537 cat_4096x1_4096x1 ::
  reshape main_v537 main_v538 (rfl : (.f32 : EltTy) = .f32) shapeCasts_S4096x2_S8192 ::
  unary main_v490 main_v539 bc_4096_4096x1 ::
  unary main_v530 main_v540 bc_4096_4096x1 ::
  binary main_v539 main_v540 main_v541 cat_4096x1_4096x1 ::
  reshape main_v541 main_v542 (rfl : (.f32 : EltTy) = .f32) shapeCasts_S4096x2_S8192 ::
  unary main_v494 main_v543 bc_4096_4096x1 ::
  unary main_v534 main_v544 bc_4096_4096x1 ::
  binary main_v543 main_v544 main_v545 cat_4096x1_4096x1 ::
  reshape main_v545 main_v546 (rfl : (.f32 : EltTy) = .f32) shapeCasts_S4096x2_S8192 :: []

/-- The last table and the parameters. -/
def ops10 : List (HloOp τ sig (Elt F)) :=
  unary main_v476 main_v547 bc_4096_4096x1 ::
  unary main_v516 main_v548 bc_4096_4096x1 ::
  binary main_v547 main_v548 main_v549 cat_4096x1_4096x1 ::
  reshape main_v549 main_v550 (rfl : (.f32 : EltTy) = .f32) shapeCasts_S4096x2_S8192 ::
  unary main_v412 main_v551 bc_0_16 ::
  unary main_v416 main_v552 bc_0_16 ::
  unary main_v418 main_v553 bc_0_16 ::
  nary ![main_v551, main_v552, main_v553] main_v554 cat3 :: []

end Cert.Proof.Spline
-- ==== Proof.Ssa.lean ====
/-
  Lines of host operations of which each writes the array numbered next after the one before: what an operation writes
  is there at the end, so the final contents satisfy one equation for each operation.
-/
module

public import Idealize.ShloMosaic.Lib.StableHlo.Run
public import Idealize.ShloMosaic.Lib.StableHlo.RunLoop

@[expose] public section

noncomputable section

namespace Cert.Proof

open Idealize.ShloMosaic Idealize.ShloMosaic.StableHlo

variable {τ : Topo} {sig : RefSig} {Val : EltTy → Type}

/-- Operation after operation, the arrays written are numbers `n`, `n + 1`, …. -/
def Chain : ℕ → List (HloOp τ sig Val) → Prop
  | _, [] => True
  | n, op :: l => (∃ y : Ref sig .tc, op.writes = {Proc.devRef .tc y} ∧ y.idx.val = n) ∧ Chain (n + 1) l

theorem chain_append {n : ℕ} {l l' : List (HloOp τ sig Val)} (h : Chain n l) (h' : Chain (n + l.length) l') : Chain n (l ++ l') := by
  induction l generalizing n with
  | nil => simpa using h'
  | cons op l ih =>
    refine ⟨h.1, ih h.2 ?_⟩
    rw [List.length_cons] at h'
    rwa [Nat.add_assoc, Nat.add_comm 1]

/-- Arrays numbered below the line's first keep their contents. -/
theorem after_below {n : ℕ} {l : List (HloOp τ sig Val)} (h : Chain n l) (V : Valuation τ sig Val) {r : Ref sig .tc}
    (hr : r.idx.val < n) : after l V (Proc.devRef .tc r) = V (Proc.devRef .tc r) := by
  induction l generalizing n V with
  | nil => rfl
  | cons op l ih =>
    obtain ⟨⟨y, hw, hy⟩, hl⟩ := h
    rw [after_cons, ih hl _ (by omega), op.result_of_not_mem V]
    rw [hw, Finset.mem_singleton]
    exact devRef_ne_of_ne fun e => by rw [e] at hr; omega

/-- What operation number `k` of the line writes is there at the end as the operation left it. -/
theorem after_at {n : ℕ} {l : List (HloOp τ sig Val)} (h : Chain n l) (V : Valuation τ sig Val) {k : ℕ} {op : HloOp τ sig Val}
    (hk : l[k]? = some op) :
    ∃ U : Valuation τ sig Val, (∀ y : Ref sig .tc, op.writes = {Proc.devRef .tc y} → y.idx.val = n + k ∧ after l V (Proc.devRef .tc y) = op.result U (Proc.devRef .tc y))
      ∧ ∀ r : Ref sig .tc, r.idx.val < n + k → U (Proc.devRef .tc r) = after l V (Proc.devRef .tc r) := by
  induction l generalizing n V k with
  | nil => simp at hk
  | cons o l ih =>
    obtain ⟨⟨y, hw, hy⟩, hl⟩ := h
    cases k with
    | zero =>
      obtain rfl : o = op := by simpa using hk
      refine ⟨V, fun z hz => ?_, fun r hr => ?_⟩
      · have e : z = y := Proc.devRef_injective _ (Finset.singleton_injective (hz.symm.trans hw))
        subst e
        exact ⟨hy, after_below hl _ (by omega)⟩
      · rw [after_cons, after_below hl _ (by omega), o.result_of_not_mem V]
        rw [hw, Finset.mem_singleton]
        exact devRef_ne_of_ne fun e => by rw [e] at hr; omega
    | succ k =>
      obtain ⟨U, h1, h2⟩ := ih hl (o.result V) (k := k) (by simpa using hk)
      exact ⟨U, fun z hz => ⟨by have := (h1 z hz).1; omega, (h1 z hz).2⟩, fun r hr => h2 r (by omega)⟩

/-! ## Where an operation sits in a line of pieces -/

theorem sits_left {α : Type} {a b : List α} {k : ℕ} {x : α} (h : a[k]? = some x) : (a ++ b)[k]? = some x := by
  have hk : k < a.length := by
    by_contra hc
    rw [List.getElem?_eq_none (by omega)] at h
    exact absurd h (by simp)
  rw [List.getElem?_append_left hk, h]

theorem sits_right {α : Type} {a b : List α} {n k : ℕ} {x : α} (ha : a.length = n) (h : b[k]? = some x) : (a ++ b)[n + k]? = some x := by
  rw [List.getElem?_append_right (by omega), show n + k - a.length = k by omega, h]

/-! ## One equation for each operation -/

section Equations

variable {n k : ℕ} {l : List (HloOp τ sig Val)} (h : Chain n l) (V : Valuation τ sig Val)

include h in
theorem at_nullary {y : Ref sig .tc} {f : y.ty.Contents Val} {hy} (hk : l[k]? = some (nullary y f hy)) : after l V (Proc.devRef .tc y) = f := by
  obtain ⟨U, h1, _⟩ := after_at h V hk
  exact (h1 y rfl).2.trans (nullary_result y f hy U)

include h in
theorem at_unary {a y : Ref sig .tc} {f : a.ty.Contents Val → y.ty.Contents Val} {ha' hy} (hk : l[k]? = some (unary a y f ha' hy))
    (ha : a.idx.val < n + k) : after l V (Proc.devRef .tc y) = f (after l V (Proc.devRef .tc a)) := by
  obtain ⟨U, h1, h2⟩ := after_at h V hk
  rw [(h1 y rfl).2, unary_result', h2 a ha]

include h in
theorem at_binary {a b y : Ref sig .tc} {f : a.ty.Contents Val → b.ty.Contents Val → y.ty.Contents Val} {ha' hb' hy}
    (hk : l[k]? = some (binary a b y f ha' hb' hy)) (ha : a.idx.val < n + k) (hb : b.idx.val < n + k) :
    after l V (Proc.devRef .tc y) = f (after l V (Proc.devRef .tc a)) (after l V (Proc.devRef .tc b)) := by
  obtain ⟨U, h1, h2⟩ := after_at h V hk
  rw [(h1 y rfl).2, binary_result', h2 a ha, h2 b hb]

include h in
theorem at_ternary {a b c y : Ref sig .tc} {f : a.ty.Contents Val → b.ty.Contents Val → c.ty.Contents Val → y.ty.Contents Val} {ha' hb' hc' hy}
    (hk : l[k]? = some (ternary a b c y f ha' hb' hc' hy)) (ha : a.idx.val < n + k) (hb : b.idx.val < n + k) (hc : c.idx.val < n + k) :
    after l V (Proc.devRef .tc y) = f (after l V (Proc.devRef .tc a)) (after l V (Proc.devRef .tc b)) (after l V (Proc.devRef .tc c)) := by
  obtain ⟨U, h1, h2⟩ := after_at h V hk
  rw [(h1 y rfl).2, ternary_result', h2 a ha, h2 b hb, h2 c hc]

include h in
theorem at_reshape {a y : Ref sig .tc} {he hn ha' hy} (hk : l[k]? = some (reshape (Val := Val) a y he hn ha' hy)) (ha : a.idx.val < n + k) :
    after l V (Proc.devRef .tc y) = fun i => he ▸ shapeCast y.ty.shape (after l V (Proc.devRef .tc a)) hn i := by
  obtain ⟨U, h1, h2⟩ := after_at h V hk
  rw [(h1 y rfl).2, reshape_result', h2 a ha]

include h in
theorem at_nary {p : ℕ} {xs : Fin p → Ref sig .tc} {y : Ref sig .tc} {f : ((j : Fin p) → (xs j).ty.Contents Val) → y.ty.Contents Val} {hx hy}
    (hk : l[k]? = some (nary xs y f hx hy)) (ha : ∀ j, (xs j).idx.val < n + k) :
    after l V (Proc.devRef .tc y) = f (fun j => after l V (Proc.devRef .tc (xs j))) := by
  obtain ⟨U, h1, h2⟩ := after_at h V hk
  rw [(h1 y rfl).2, nary_result']
  exact congrArg f (funext fun j => h2 (xs j) (ha j))

end Equations

end Cert.Proof
-- ==== Proof.HostSeq.lean ====
/-
  The TensorCore's program as one line of host operations followed by the SparseCore call, and what that line is:
  operation number `k` writes the array number `3 + k` and no other.
-/
module

public import proofs.«01_k».proof.Proof.HostOps
public import proofs.«01_k».proof.Proof.Ssa

@[expose] public section

noncomputable section

namespace Cert.Proof.Spline

open Cert.KernelIdeal Cert.KernelIdeal.Gen

open Idealize.ShloMosaic Idealize.ShloMosaic.StableHlo

variable {F : FTy → Type} [FloatOps F]

set_option maxRecDepth 8192 in
theorem chain0 : Chain 3 (ops0 (F := F)) := by
  unfold ops0
  repeat' (first | exact ⟨_, rfl, rfl⟩ | exact trivial | apply And.intro)
set_option maxRecDepth 8192 in
theorem chain1 : Chain 69 (ops1 (F := F)) := by
  unfold ops1
  repeat' (first | exact ⟨_, rfl, rfl⟩ | exact trivial | apply And.intro)
set_option maxRecDepth 8192 in
theorem chain2 : Chain 129 (ops2 (F := F)) := by
  unfold ops2
  repeat' (first | exact ⟨_, rfl, rfl⟩ | exact trivial | apply And.intro)
set_option maxRecDepth 8192 in
theorem chain3 : Chain 189 (ops3 (F := F)) := by
  unfold ops3
  repeat' (first | exact ⟨_, rfl, rfl⟩ | exact trivial | apply And.intro)
set_option maxRecDepth 8192 in
theorem chain4 : Chain 249 (ops4 (F := F)) := by
  unfold ops4
  repeat' (first | exact ⟨_, rfl, rfl⟩ | exact trivial | apply And.intro)
set_option maxRecDepth 8192 in
theorem chain5 : Chain 309 (ops5 (F := F)) := by
  unfold ops5
  repeat' (first | exact ⟨_, rfl, rfl⟩ | exact trivial | apply And.intro)
set_option maxRecDepth 8192 in
theorem chain6 : Chain 369 (ops6 (F := F)) := by
  unfold ops6
  repeat' (first | exact ⟨_, rfl, rfl⟩ | exact trivial | apply And.intro)
set_option maxRecDepth 8192 in
theorem chain7 : Chain 429 (ops7 (F := F)) := by
  unfold ops7
  repeat' (first | exact ⟨_, rfl, rfl⟩ | exact trivial | apply And.intro)
set_option maxRecDepth 8192 in
theorem chain8 : Chain 497 (ops8 (F := F)) := by
  unfold ops8
  repeat' (first | exact ⟨_, rfl, rfl⟩ | exact trivial | apply And.intro)
set_option maxRecDepth 8192 in
theorem chain9 : Chain 572 (ops9 (F := F)) := by
  unfold ops9
  repeat' (first | exact ⟨_, rfl, rfl⟩ | exact trivial | apply And.intro)
set_option maxRecDepth 8192 in
theorem chain10 : Chain 647 (ops10 (F := F)) := by
  unfold ops10
  repeat' (first | exact ⟨_, rfl, rfl⟩ | exact trivial | apply And.intro)

/-- All of it. -/
def hostOps : List (HloOp τ sig (Elt F)) :=
  ops0 ++ (ops1 ++ (ops2 ++ (ops3 ++ (ops4 ++ (ops5 ++ (ops6 ++ (ops7 ++ (ops8 ++ (ops9 ++ (ops10))))))))))

theorem chain : Chain 3 (hostOps (F := F)) :=
  chain_append chain0 <| chain_append chain1 <| chain_append chain2 <| chain_append chain3 <| chain_append chain4 <| chain_append chain5 <| chain_append chain6 <| chain_append chain7 <| chain_append chain8 <| chain_append chain9 <| chain10

set_option maxRecDepth 8192 in
theorem bufs0 : ∀ op ∈ (ops0 (F := F)), op.bufs ⊆ tcRefs τ sig := by
  apply (List.forall_iff_forall_mem (p := fun op : HloOp τ sig (Elt F) => op.bufs ⊆ tcRefs τ sig)).1
  simp only [ops0, List.Forall, unary_bufs_sub, binary_bufs_sub, nullary_bufs_sub, ternary_bufs_sub, reshape_bufs_sub, nary_bufs_sub, and_self]
theorem fresh0 : ∀ op ∈ (ops0 (F := F)), op.fresh = ∅ :=
  List.forall_iff_forall_mem.1 (forall_fresh_of_map rfl)
set_option maxRecDepth 8192 in
theorem bufs1 : ∀ op ∈ (ops1 (F := F)), op.bufs ⊆ tcRefs τ sig := by
  apply (List.forall_iff_forall_mem (p := fun op : HloOp τ sig (Elt F) => op.bufs ⊆ tcRefs τ sig)).1
  simp only [ops1, List.Forall, unary_bufs_sub, binary_bufs_sub, nullary_bufs_sub, ternary_bufs_sub, reshape_bufs_sub, nary_bufs_sub, and_self]
theorem fresh1 : ∀ op ∈ (ops1 (F := F)), op.fresh = ∅ :=
  List.forall_iff_forall_mem.1 (forall_fresh_of_map rfl)
set_option maxRecDepth 8192 in
theorem bufs2 : ∀ op ∈ (ops2 (F := F)), op.bufs ⊆ tcRefs τ sig := by
  apply (List.forall_iff_forall_mem (p := fun op : HloOp τ sig (Elt F) => op.bufs ⊆ tcRefs τ sig)).1
  simp only [ops2, List.Forall, unary_bufs_sub, binary_bufs_sub, nullary_bufs_sub, ternary_bufs_sub, reshape_bufs_sub, nary_bufs_sub, and_self]
theorem fresh2 : ∀ op ∈ (ops2 (F := F)), op.fresh = ∅ :=
  List.forall_iff_forall_mem.1 (forall_fresh_of_map rfl)
set_option maxRecDepth 8192 in
theorem bufs3 : ∀ op ∈ (ops3 (F := F)), op.bufs ⊆ tcRefs τ sig := by
  apply (List.forall_iff_forall_mem (p := fun op : HloOp τ sig (Elt F) => op.bufs ⊆ tcRefs τ sig)).1
  simp only [ops3, List.Forall, unary_bufs_sub, binary_bufs_sub, nullary_bufs_sub, ternary_bufs_sub, reshape_bufs_sub, nary_bufs_sub, and_self]
theorem fresh3 : ∀ op ∈ (ops3 (F := F)), op.fresh = ∅ :=
  List.forall_iff_forall_mem.1 (forall_fresh_of_map rfl)
set_option maxRecDepth 8192 in
theorem bufs4 : ∀ op ∈ (ops4 (F := F)), op.bufs ⊆ tcRefs τ sig := by
  apply (List.forall_iff_forall_mem (p := fun op : HloOp τ sig (Elt F) => op.bufs ⊆ tcRefs τ sig)).1
  simp only [ops4, List.Forall, unary_bufs_sub, binary_bufs_sub, nullary_bufs_sub, ternary_bufs_sub, reshape_bufs_sub, nary_bufs_sub, and_self]
theorem fresh4 : ∀ op ∈ (ops4 (F := F)), op.fresh = ∅ :=
  List.forall_iff_forall_mem.1 (forall_fresh_of_map rfl)
set_option maxRecDepth 8192 in
theorem bufs5 : ∀ op ∈ (ops5 (F := F)), op.bufs ⊆ tcRefs τ sig := by
  apply (List.forall_iff_forall_mem (p := fun op : HloOp τ sig (Elt F) => op.bufs ⊆ tcRefs τ sig)).1
  simp only [ops5, List.Forall, unary_bufs_sub, binary_bufs_sub, nullary_bufs_sub, ternary_bufs_sub, reshape_bufs_sub, nary_bufs_sub, and_self]
theorem fresh5 : ∀ op ∈ (ops5 (F := F)), op.fresh = ∅ :=
  List.forall_iff_forall_mem.1 (forall_fresh_of_map rfl)
set_option maxRecDepth 8192 in
theorem bufs6 : ∀ op ∈ (ops6 (F := F)), op.bufs ⊆ tcRefs τ sig := by
  apply (List.forall_iff_forall_mem (p := fun op : HloOp τ sig (Elt F) => op.bufs ⊆ tcRefs τ sig)).1
  simp only [ops6, List.Forall, unary_bufs_sub, binary_bufs_sub, nullary_bufs_sub, ternary_bufs_sub, reshape_bufs_sub, nary_bufs_sub, and_self]
theorem fresh6 : ∀ op ∈ (ops6 (F := F)), op.fresh = ∅ :=
  List.forall_iff_forall_mem.1 (forall_fresh_of_map rfl)
set_option maxRecDepth 8192 in
theorem bufs7 : ∀ op ∈ (ops7 (F := F)), op.bufs ⊆ tcRefs τ sig := by
  apply (List.forall_iff_forall_mem (p := fun op : HloOp τ sig (Elt F) => op.bufs ⊆ tcRefs τ sig)).1
  simp only [ops7, List.Forall, unary_bufs_sub, binary_bufs_sub, nullary_bufs_sub, ternary_bufs_sub, reshape_bufs_sub, nary_bufs_sub, and_self]
theorem fresh7 : ∀ op ∈ (ops7 (F := F)), op.fresh = ∅ :=
  List.forall_iff_forall_mem.1 (forall_fresh_of_map rfl)
set_option maxRecDepth 8192 in
theorem bufs8 : ∀ op ∈ (ops8 (F := F)), op.bufs ⊆ tcRefs τ sig := by
  apply (List.forall_iff_forall_mem (p := fun op : HloOp τ sig (Elt F) => op.bufs ⊆ tcRefs τ sig)).1
  simp only [ops8, List.Forall, unary_bufs_sub, binary_bufs_sub, nullary_bufs_sub, ternary_bufs_sub, reshape_bufs_sub, nary_bufs_sub, and_self]
theorem fresh8 : ∀ op ∈ (ops8 (F := F)), op.fresh = ∅ :=
  List.forall_iff_forall_mem.1 (forall_fresh_of_map rfl)
set_option maxRecDepth 8192 in
theorem bufs9 : ∀ op ∈ (ops9 (F := F)), op.bufs ⊆ tcRefs τ sig := by
  apply (List.forall_iff_forall_mem (p := fun op : HloOp τ sig (Elt F) => op.bufs ⊆ tcRefs τ sig)).1
  simp only [ops9, List.Forall, unary_bufs_sub, binary_bufs_sub, nullary_bufs_sub, ternary_bufs_sub, reshape_bufs_sub, nary_bufs_sub, and_self]
theorem fresh9 : ∀ op ∈ (ops9 (F := F)), op.fresh = ∅ :=
  List.forall_iff_forall_mem.1 (forall_fresh_of_map rfl)
set_option maxRecDepth 8192 in
theorem bufs10 : ∀ op ∈ (ops10 (F := F)), op.bufs ⊆ tcRefs τ sig := by
  apply (List.forall_iff_forall_mem (p := fun op : HloOp τ sig (Elt F) => op.bufs ⊆ tcRefs τ sig)).1
  simp only [ops10, List.Forall, unary_bufs_sub, binary_bufs_sub, nullary_bufs_sub, ternary_bufs_sub, reshape_bufs_sub, nary_bufs_sub, and_self]
theorem fresh10 : ∀ op ∈ (ops10 (F := F)), op.fresh = ∅ :=
  List.forall_iff_forall_mem.1 (forall_fresh_of_map rfl)

theorem bufs_sub : ∀ op ∈ (hostOps (F := F)), op.bufs ⊆ tcRefs τ sig := by
  simp only [hostOps, List.mem_append]
  rintro op (h | h | h | h | h | h | h | h | h | h | h)
  · exact bufs0 op h
  · exact bufs1 op h
  · exact bufs2 op h
  · exact bufs3 op h
  · exact bufs4 op h
  · exact bufs5 op h
  · exact bufs6 op h
  · exact bufs7 op h
  · exact bufs8 op h
  · exact bufs9 op h
  · exact bufs10 op h

theorem fresh_none : ∀ op ∈ (hostOps (F := F)), op.fresh = ∅ := by
  simp only [hostOps, List.mem_append]
  rintro op (h | h | h | h | h | h | h | h | h | h | h)
  · exact fresh0 op h
  · exact fresh1 op h
  · exact fresh2 op h
  · exact fresh3 op h
  · exact fresh4 op h
  · exact fresh5 op h
  · exact fresh6 op h
  · exact fresh7 op h
  · exact fresh8 op h
  · exact fresh9 op h
  · exact fresh10 op h

theorem part0_eq (d : Dev nD) : main_part0 (F := F) d = seq ops0 := rfl
theorem part1_eq (d : Dev nD) : main_part1 (F := F) d = seq ops1 := rfl
theorem part2_eq (d : Dev nD) : main_part2 (F := F) d = seq ops2 := rfl
theorem part3_eq (d : Dev nD) : main_part3 (F := F) d = seq ops3 := rfl
theorem part4_eq (d : Dev nD) : main_part4 (F := F) d = seq ops4 := rfl
theorem part5_eq (d : Dev nD) : main_part5 (F := F) d = seq ops5 := rfl
theorem part6_eq (d : Dev nD) : main_part6 (F := F) d = seq ops6 := rfl
theorem part7_eq (d : Dev nD) : main_part7 (F := F) d = seq ops7 := rfl
theorem part8_eq (d : Dev nD) : main_part8 (F := F) d = seq ops8 := rfl
theorem part9_eq (d : Dev nD) : main_part9 (F := F) d = seq ops9 := rfl
theorem part10_eq (d : Dev nD) : main_part10 (F := F) d = (seq ops10 >>= fun _ => (do sc.run d 0; pure ⟨⟩)) :=
  Eq.trans (b := seqK ops10 (do sc.run d 0; pure ⟨⟩)) rfl (seq_bind_seqK ops10 _).symm

/-- @main: the line of host operations, then the call. -/
theorem main_eq (d : Dev nD) : main (F := F) d = (seq hostOps >>= fun _ => (do sc.run d 0; pure ⟨⟩)) := by
  simp only [main, hostOps, seq_append, bind_assoc, part0_eq, part1_eq, part2_eq, part3_eq, part4_eq, part5_eq, part6_eq, part7_eq, part8_eq, part9_eq, part10_eq]

end Cert.Proof.Spline
-- ==== Proof.Launch.lean ====
/-
  The whole run: the host operations on the TensorCore, the SparseCore call at the memory they leave, every tile's task.
  At the end the results array holds `G` at that memory, the arguments are as they were, and every semaphore is at zero.
-/
module

public import proofs.«01_k».proof.Proof.Body
public import proofs.«01_k».proof.Proof.HostSeq
public import Idealize.ShloMosaic.Lib.SparseCore.Quiescent
public import Idealize.ShloMosaic.Lib.Pipeline.FrameTail

@[expose] public section

noncomputable section

namespace Cert.Proof.Spline

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_seq seq after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## A tile's task -/

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0__spline_sc_body (coordsV c s)
      xV (Memref.isWhole_whole _) q0V (Memref.isWhole_whole _) q1V (Memref.isWhole_whole _) q2V (Memref.isWhole_whole _) q3V (Memref.isWhole_whole _)
      bV (Memref.isWhole_whole _) pV (Memref.isWhole_whole _) oV (Memref.isWhole_whole _) s0V (Memref.isWhole_whole _) s1V (Memref.isWhole_whole _)
      s2V (Memref.isWhole_whole _) s3V (Memref.isWhole_whole _) sbV (Memref.isWhole_whole _) spV (Memref.isWhole_whole _)
      xb0V (Memref.isWhole_whole _) xb1V (Memref.isWhole_whole _) ob0V (Memref.isWhole_whole _) ob1V (Memref.isWhole_whole _)
      cc0_scratch10 cc0_scratch11 cc0_scratch12 cc0_scratch13 cc0_scoped0 cc0_scoped1 cc0_scoped2 cc0_scoped3 cc0_scoped4 cc0_scoped5) ⟨⟩ c s := rfl

omit [FloatOps F] in
/-- The waits a task leaves, as the launch wants them. -/
theorem obl_post {R B C : sProp 𝕄} {t : Thread nD τ} {O : CellTallies nD τ sig (HIx 1)} {W : Waits sig (HIx 1)} {q : Fin 1} :
    iprop(R ∗ B ∗ C ∗ ∃ W', ⌜∀ p ∈ W', p ∈ W ∨ p.2 = none⌝ ∗ owes t O W')
      ⊢ iprop(R ∗ B ∗ C ∗ ∃ W', ⌜∀ p ∈ W', p ∈ W ∨ p.2 = none ∨ p.2 = some q⌝ ∗ owes t O W') := by
  iintro ⟨HR, HB, HC, %W', %h, HO⟩
  isplitl [HR]; · iexact HR
  isplitl [HB]; · iexact HB
  isplitl [HC]; · iexact HC
  iexists W'
  isplitr
  · ipureintro; exact fun p hp => (h p hp).imp_right .inl
  iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

/-! ## The launch's own resources: the handshakes' rounds -/

omit [FloatOps F] in
/-- Nothing, once for each, is nothing. -/
theorem emp_all {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emp_all]; iempintro
  unfold P; dsimp only
  rw [show (bigSep Finset.univ fun _ : Thread nD τ => bigSep Finset.univ fun _ : Fin 1 => (iprop(emp) : sProp 𝕄)) = iprop(emp) from by
    rw [emp_all, emp_all]]
  iempintro

/-! ## The TensorCore's program -/

abbrev a1Loc (d : Dev nD) : Loc nD τ sig := (SparseCore.T d).loc main_arg1
abbrev a2Loc (d : Dev nD) : Loc nD τ sig := (SparseCore.T d).loc main_arg2

/-- The contents at the launch, and those the host operations leave. -/
def V0 (d : Dev nD) : Valuation τ sig (Elt F) := fun b => m (d, b)
def m1 : (ℓ : Loc nD τ sig) → Buf (Elt F) ℓ := fun ℓ => after hostOps (V0 m ℓ.1) ℓ.2

/-- An array numbered below the first result keeps its launch contents. -/
theorem m1_arg (d : Dev nD) {r : Ref sig .tc} (hr : r.idx.val < 3) : m1 m ((SparseCore.T d : Thread nD τ).loc r) = m ((SparseCore.T d : Thread nD τ).loc r) :=
  after_below chain (V0 m d) hr

abbrev rf (r : Ref sig .tc) : DevRef τ sig := Proc.devRef .tc r

/-- The arrays the call is given, and the two other arguments. -/
abbrev S10 : Finset (DevRef τ sig) :=
  {rf main_arg1, rf main_arg2, rf main_arg0, rf main_v538, rf main_v542, rf main_v546, rf main_v550, rf main_v448, rf main_v554, rf main_v555}

omit [FloatOps F] in
theorem held_S10 (d : Dev nD) (W : Valuation τ sig (Elt F)) :
    (held (SparseCore.T d) S10 W : sProp 𝕄) = iprop((a1Loc d ↦{fullShare} W (rf main_arg1)) ∗ (a2Loc d ↦{fullShare} W (rf main_arg2))
      ∗ (xLoc d ↦{fullShare} W (rf main_arg0)) ∗ (q0Loc d ↦{fullShare} W (rf main_v538)) ∗ (q1Loc d ↦{fullShare} W (rf main_v542))
      ∗ (q2Loc d ↦{fullShare} W (rf main_v546)) ∗ (q3Loc d ↦{fullShare} W (rf main_v550)) ∗ (bLoc d ↦{fullShare} W (rf main_v448))
      ∗ (pLoc d ↦{fullShare} W (rf main_v554)) ∗ (oLoc d ↦{fullShare} W (rf main_v555))) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem S10_sub : S10 ⊆ Pipeline.ucRefs τ sig := by
  intro b hb
  simp only [S10, Finset.mem_insert, Finset.mem_singleton] at hb
  rcases hb with h | h | h | h | h | h | h | h | h | h <;> (rw [h]; exact Pipeline.devRef_mem_ucRefs rfl)

/-- What the program leaves the claim: the arguments as they were, the results at `G`. -/
def FIN (d : Dev nD) : sProp 𝕄 :=
  iprop((a1Loc d ↦{fullShare} m (a1Loc d)) ∗ (a2Loc d ↦{fullShare} m (a2Loc d))
    ∗ (xLoc d ↦{fullShare} m (xLoc d)) ∗ (oLoc d ↦{fullShare} (G (m1 m) d : Buf (Elt F) (oLoc d))))

theorem st_eq (d : Dev nD) : (bigSep Finset.univ fun c : Fin ((K (F := F)).nCore 0) => (P (m1 m)).st 0 d c)
    = iprop(reads (m1 m) d fullShare ∗ oLoc d ↦{fullShare} m1 m (oLoc d)) :=
  (bigSep_cores (F := F) (fun c => iprop(reads (m1 m) d (qc c) ∗ oPts d (coreSet c) (m1 m (oLoc d))))).trans (all_deal (m1 m) d _).symm

theorem dn_eq (d : Dev nD) : (bigSep Finset.univ fun c : Fin ((K (F := F)).nCore 0) => (P (m1 m)).dn 0 d c)
    = iprop(reads (m1 m) d fullShare ∗ oLoc d ↦{fullShare} (G (m1 m) d : Buf (Elt F) (oLoc d))) :=
  (bigSep_cores (F := F) (fun c => iprop(reads (m1 m) d (qc c) ∗ oPts d (coreSet c) (G (m1 m) d)))).trans (all_deal (m1 m) d _).symm

theorem hmain (κ : GSem nD τ sig → ℕ) (d : Dev nD) :
    iprop((K (F := F)).ctx EH (P (m1 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (V0 m d) from
    Pipeline.unscopedBufs_held d (V0 m d)]
  iintro ⟨#Hctx, Hst, ⟨Hb, Hheld, Hts, -⟩, -⟩
  iapply (wp_seq 𝒱 none Set.univ d (Pipeline.ucRefs τ sig) _ hostOps (fun op h => Pipeline.sub_ucRefs op (bufs_sub op h)) fresh_none (V0 m d)) $$ [Hb Hheld]
  · isplitl [Hb] <;> iassumption
  iintro ⟨Hb, Hheld⟩
  ihave Hh := (Entails.of_eq (held_sub_split (c := SparseCore.T d) S10_sub (after hostOps (V0 m d)))) $$ Hheld
  icases Hh with ⟨Hh, -⟩
  ihave Hh := (Entails.of_eq (held_S10 d (after hostOps (V0 m d)))) $$ Hh
  icases Hh with ⟨H1, H2, Hx, Hq0, Hq1, Hq2, Hq3, Hqb, Hqp, Ho⟩
  rw [wp_bind]
  iapply ((K (F := F)).wp_run (D (F := F)) 𝒱 (EH := EH) (P := P (m1 m)) κ d 0) $$ [Hst Hx Hq0 Hq1 Hq2 Hq3 Hqb Hqp Ho Hb Hts H1 H2]
  isplitr; · iexact Hctx
  isplitl [Hst]; · iexact Hst
  isplitl [Hx Hq0 Hq1 Hq2 Hq3 Hqb Hqp Ho]
  · rw [st_eq]
    unfold reads
    isplitr [Ho]
    · isplitl [Hx]; · iexact Hx
      isplitl [Hq0]; · iexact Hq0
      isplitl [Hq1]; · iexact Hq1
      isplitl [Hq2]; · iexact Hq2
      isplitl [Hq3]; · iexact Hq3
      isplitl [Hqb]; · iexact Hqb
      iexact Hqp
    · iexact Ho
  iintro ⟨Hst, Hdn⟩
  ihave Hdn := (Entails.of_eq (dn_eq m d)) $$ Hdn
  unfold reads
  icases Hdn with ⟨⟨Hx, -⟩, Ho⟩
  rw [wp_pure]; imodintro
  isplitl [Hst]; · iexact Hst
  isplitr [Hb Hts]
  · unfold FIN
    isplitl [H1]
    · ihave H := (Entails.of_eq (show (iprop(a1Loc d ↦{fullShare} after hostOps (V0 m d) (rf main_arg1)) : sProp 𝕄) = iprop(a1Loc d ↦{fullShare} m (a1Loc d)) from
        congrArg (fun f : Buf (Elt F) (a1Loc d) => iprop(a1Loc d ↦{fullShare} f)) (m1_arg m d (r := main_arg1) (by decide)))) $$ H1
      iexact H
    isplitl [H2]
    · ihave H := (Entails.of_eq (show (iprop(a2Loc d ↦{fullShare} after hostOps (V0 m d) (rf main_arg2)) : sProp 𝕄) = iprop(a2Loc d ↦{fullShare} m (a2Loc d)) from
        congrArg (fun f : Buf (Elt F) (a2Loc d) => iprop(a2Loc d ↦{fullShare} f)) (m1_arg m d (r := main_arg2) (by decide)))) $$ H2
      iexact H
    isplitl [Hx]
    · ihave H := (Entails.of_eq (show (iprop(xLoc d ↦{fullShare} m1 m (xLoc d)) : sProp 𝕄) = iprop(xLoc d ↦{fullShare} m (xLoc d)) from
        congrArg (fun f : Buf (Elt F) (xLoc d) => iprop(xLoc d ↦{fullShare} f)) (m1_arg m d (r := main_arg0) (by decide)))) $$ Hx
      iexact H
    iexact Ho
  isplitl [Hb] <;> iassumption

/-! ## The run -/

/-- The final memory of a device: the arguments as they were, the results at `G`. -/
def fq (d : Dev nD) (s' : Phys nD τ sig (Elt F)) : Prop :=
  s'.mem.mem (a1Loc d) = m (a1Loc d) ∧ s'.mem.mem (a2Loc d) = m (a2Loc d)
    ∧ s'.mem.mem (xLoc d) = m (xLoc d) ∧ s'.mem.mem (oLoc d) = (G (m1 m) d : Buf (Elt F) (oLoc d))

omit [FloatOps F] in
theorem read_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have h1 : iprop(FIN m d ∗ SI s') ⊢ (iprop((a1Loc d ↦{fullShare} m (a1Loc d)) ∗ SI s') : sProp 𝕄) := by
    unfold FIN; iintro ⟨⟨H, -⟩, HS⟩; isplitl [H] <;> iassumption
  have h2 : iprop(FIN m d ∗ SI s') ⊢ (iprop((a2Loc d ↦{fullShare} m (a2Loc d)) ∗ SI s') : sProp 𝕄) := by
    unfold FIN; iintro ⟨⟨-, H, -⟩, HS⟩; isplitl [H] <;> iassumption
  have h3 : iprop(FIN m d ∗ SI s') ⊢ (iprop((xLoc d ↦{fullShare} m (xLoc d)) ∗ SI s') : sProp 𝕄) := by
    unfold FIN; iintro ⟨⟨-, -, H, -⟩, HS⟩; isplitl [H] <;> iassumption
  have h4 : iprop(FIN m d ∗ SI s') ⊢ (iprop((oLoc d ↦{fullShare} (G (m1 m) d : Buf (Elt F) (oLoc d))) ∗ SI s') : sProp 𝕄) := by
    unfold FIN; iintro ⟨⟨-, -, -, H⟩, HS⟩; isplitl [H] <;> iassumption
  exact fun a h => ⟨h1.trans (read_whole s' _ _) a h, h2.trans (read_whole s' _ _) a h, h3.trans (read_whole s' _ _) a h,
    h4.trans (read_whole s' _ _) a h⟩

def QC : PUnit × MemSt nD τ sig (Elt F) → Prop := fun r =>
  (∀ c : Dev nD, (r.2.mem (xLoc c) = m (xLoc c) ∧ r.2.mem (a1Loc c) = m (a1Loc c) ∧ r.2.mem (a2Loc c) = m (a2Loc c))
    ∧ r.2.mem (oLoc c) = (G (m1 m) c : Buf (Elt F) (oLoc c))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (m1 m)) (A := ∅) facts v₀
    (fun q hq => match q with | 0 => nomatch hq)
    (fun q _ => match q with | 0 => tileObl (m1 m))
    (fun q _ => match q with | 0 => SparseCore.Cfg.VecSplit.of_plain (vecSplit (m1 m)))
    m ρ main (fun _ => iprop(emp)) (FIN m) (u₀ (F := F)) (sep_elim_left.trans (hu₀ (m1 m))) (hmain m ρ) (fq m) (hfin m) (QC m)
    (fun _ h hz => ⟨fun c => ⟨⟨(h c).2.2.1, (h c).1, (h c).2.1⟩, (h c).2.2.2⟩, hz⟩)

end Cert.Proof.Spline
-- ==== Proof.RefRun.lean ====
/-
  The reference's run: the operations before the sweeps, 41 sweeps, the operations after them. Every array numbered
  below the sweeps' own keeps what the first operations left in it.
-/
module

public import proofs.«01_k».proof.Proof.Ssa
public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic Idealize.ShloMosaic.StableHlo

variable {F : FTy → Type} [FloatOps F]

abbrev refs (r : Ref sig .tc) : DevRef τ sig := Proc.devRef .tc r

/-- The operations before the sweeps. -/
def preOps : List (HloOp τ sig (Elt F)) := hostOps0 ++ (hostOps0_1 ++ hostOps0_2)

set_option maxRecDepth 8192 in
theorem chain_a : Chain 3 (hostOps0 (F := F)) := by
  unfold hostOps0
  repeat' (first | exact ⟨_, rfl, rfl⟩ | exact trivial | apply And.intro)
set_option maxRecDepth 8192 in
theorem chain_b : Chain 19 (hostOps0_1 (F := F)) := by
  unfold hostOps0_1
  repeat' (first | exact ⟨_, rfl, rfl⟩ | exact trivial | apply And.intro)
set_option maxRecDepth 8192 in
theorem chain_c : Chain 25 (hostOps0_2 (F := F)) := by
  unfold hostOps0_2
  repeat' (first | exact ⟨_, rfl, rfl⟩ | exact trivial | apply And.intro)
theorem chain_pre : Chain 3 (preOps (F := F)) := chain_append chain_a (chain_append chain_b chain_c)

theorem chain_cond : Chain 137 (condOps (F := F)) := by
  unfold condOps
  repeat' (first | exact ⟨_, rfl, rfl⟩ | exact trivial | apply And.intro)

set_option maxRecDepth 8192 in
theorem chain_post : Chain 153 (hostOps0_3 (F := F)) := by
  unfold hostOps0_3
  repeat' (first | exact ⟨_, rfl, rfl⟩ | exact trivial | apply And.intro)

/-- One sweep's new operations, before the results are carried over. -/
def sweepOps : List (HloOp τ sig (Elt F)) := (while0Ops0 (F := F)).take 14
def carryOps : List (HloOp τ sig (Elt F)) := (while0Ops0 (F := F)).drop 14

theorem body_eq : while0Ops0 (F := F) = sweepOps ++ carryOps := (List.take_append_drop 14 _).symm

theorem chain_sweep : Chain 139 (sweepOps (F := F)) := by
  unfold sweepOps while0Ops0
  repeat' (first | exact ⟨_, rfl, rfl⟩ | exact trivial | apply And.intro)
theorem chain_carry : Chain 134 (carryOps (F := F)) := by
  unfold carryOps while0Ops0
  repeat' (first | exact ⟨_, rfl, rfl⟩ | exact trivial | apply And.intro)

variable (m : (ℓ : Loc nD τ sig) → Buf (Elt F) ℓ) (c : Dev nD)

/-- The contents before the sweeps, after `k` of them, and at the end. -/
def VP : Valuation τ sig (Elt F) := after preOps (launchContents m c)
def VL (k : ℕ) : Valuation τ sig (Elt F) := atTrip condOps bodyI (entryContents preI m) k c
def VF : Valuation τ sig (Elt F) := after hostOps0_3 (after condOps (VL m c 41))

theorem VL_zero : VL m c 0 = VP m c := by
  unfold VL VP preOps; rw [after_append, after_append]; rfl

theorem VL_succ (k : ℕ) : VL m c (k + 1) = after carryOps (after sweepOps (after condOps (VL m c k))) := by
  unfold VL; rw [atTrip_succ, afterL_cons, afterL_nil, body_eq, after_append]

theorem VF_eq : VF m c = finalContents condOps preI bodyI postI 41 m c := rfl

/-- The sweeps keep the arrays numbered below their own. -/
theorem VL_keep (k : ℕ) {r : Ref sig .tc} (hr : r.idx.val < 134) : VL m c k (refs r) = VP m c (refs r) := by
  induction k with
  | zero => rw [VL_zero]
  | succ k ih => rw [VL_succ, after_below chain_carry _ hr, after_below chain_sweep _ (by omega), after_below chain_cond _ (by omega), ih]

theorem VF_keep {r : Ref sig .tc} (hr : r.idx.val < 134) : VF m c (refs r) = VP m c (refs r) := by
  unfold VF
  rw [after_below chain_post _ (by omega), after_below chain_cond _ (by omega), VL_keep m c 41 hr]

theorem VF_arg {r : Ref sig .tc} (hr : r.idx.val < 3) : VF m c (refs r) = m (c, refs r) := by
  rw [VF_keep m c (by omega)]
  exact after_below chain_pre _ hr

/-- The reference has no semaphore. -/
theorem no_sem {s : MemSt nD τ sig (Elt F)} : s.sem = fun _ => 0 := by
  funext g
  match g with
  | (_, .reg k) => exact k.elim0
  | (_, .dma k) => exact k.elim0

variable (ρ : Dev nD → PrngReg)

theorem run_ref [∀ e, Nonempty (Elt F e)] : θ_run (defs (F := F)) (onTc (τ := τ) (main (F := F))) ⟨m, fun _ => 0, ρ⟩ fun r =>
    (∀ c : Dev nD, r.2.mem ((c.tc : Thread nD τ).loc main_v126) = VF m c (refs main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => ⟨h c main_v126 rfl, (h c main_arg0 rfl).trans (VF_arg m c (by decide)),
    (h c main_arg1 rfl).trans (VF_arg m c (by decide)), (h c main_arg2 rfl).trans (VF_arg m c (by decide))⟩, no_sem⟩) (run_fold m ρ)

end Cert.Proof.Ref
-- ==== Proof.Frames.lean ====
/-
  The frames: each program runs to its end, its arguments unchanged, every semaphore at zero.
-/
module

public import proofs.«01_k».proof.Defs
public import proofs.«01_k».proof.Proof.Launch
public import proofs.«01_k».proof.Proof.Gen.Kernel
public import proofs.«01_k».proof.Proof.RefRun

@[expose] public section

noncomputable section

namespace Cert.Proof

open Idealize.ShloMosaic Idealize.SL.Sem

set_option maxRecDepth 16384 in
set_option maxHeartbeats 4000000 in
/-- The printed kernel: the idealized one's text is the same, so its run at the bits is the kernel's. -/
theorem frame_kernel : Cert.quiescent_Kernel := fun m ρ _ =>
  (θ_run Cert.KernelIdeal.defs _ _).mono (fun _ h => ⟨fun c => (h.1 c).1, h.2⟩) (Spline.run_main (F := Bits) m ρ)

theorem frame_kernel_ideal : Cert.quiescent_KernelIdeal := fun m ρ _ =>
  (θ_run Cert.KernelIdeal.defs _ _).mono (fun _ h => ⟨fun c => (h.1 c).1, h.2⟩) (Spline.run_main (F := Ideal) m ρ)

theorem frame_reference : Cert.quiescent_ReferenceIdeal := fun m ρ _ =>
  (θ_run Cert.ReferenceIdeal.defs _ _).mono (fun _ h => ⟨fun c => (h.1 c).2, h.2⟩) (Ref.run_ref (F := Ideal) m ρ)

end Cert.Proof
-- ==== Proof.HostVal.lean ====
/-
  The contents when the SparseCore call starts, and where each host operation sits in the line.
-/
module

public import proofs.«01_k».proof.Proof.Launch

@[expose] public section

noncomputable section

namespace Cert.Proof.Spline

open Cert.KernelIdeal Cert.KernelIdeal.Gen

open Idealize.ShloMosaic Idealize.ShloMosaic.StableHlo

variable {F : FTy → Type} [FloatOps F]

variable (m : (ℓ : Loc nD τ sig) → Buf (Elt F) ℓ) (d : Dev nD)

/-- What array `r` holds when the call starts. -/
def val (r : Ref sig .tc) : r.ty.Contents (Elt F) := after hostOps (V0 m d) (Proc.devRef .tc r)

theorem loc0 {k : ℕ} {op : HloOp τ sig (Elt F)} (h : ops0[k]? = some op) : hostOps[0 + k]? = some op := by
  have := show hostOps[k]? = some op from sits_left h
  rwa [show k = 0 + k by omega] at this
theorem loc1 {k : ℕ} {op : HloOp τ sig (Elt F)} (h : ops1[k]? = some op) : hostOps[66 + k]? = some op := by
  have := show hostOps[66 + (k)]? = some op from sits_right (n := 66) rfl (sits_left h)
  rwa [show 66 + (k) = 66 + k by omega] at this
theorem loc2 {k : ℕ} {op : HloOp τ sig (Elt F)} (h : ops2[k]? = some op) : hostOps[126 + k]? = some op := by
  have := show hostOps[66 + (60 + (k))]? = some op from sits_right (n := 66) rfl (sits_right (n := 60) rfl (sits_left h))
  rwa [show 66 + (60 + (k)) = 126 + k by omega] at this
theorem loc3 {k : ℕ} {op : HloOp τ sig (Elt F)} (h : ops3[k]? = some op) : hostOps[186 + k]? = some op := by
  have := show hostOps[66 + (60 + (60 + (k)))]? = some op from sits_right (n := 66) rfl (sits_right (n := 60) rfl (sits_right (n := 60) rfl (sits_left h)))
  rwa [show 66 + (60 + (60 + (k))) = 186 + k by omega] at this
theorem loc4 {k : ℕ} {op : HloOp τ sig (Elt F)} (h : ops4[k]? = some op) : hostOps[246 + k]? = some op := by
  have := show hostOps[66 + (60 + (60 + (60 + (k))))]? = some op from sits_right (n := 66) rfl (sits_right (n := 60) rfl (sits_right (n := 60) rfl (sits_right (n := 60) rfl (sits_left h))))
  rwa [show 66 + (60 + (60 + (60 + (k)))) = 246 + k by omega] at this
theorem loc5 {k : ℕ} {op : HloOp τ sig (Elt F)} (h : ops5[k]? = some op) : hostOps[306 + k]? = some op := by
  have := show hostOps[66 + (60 + (60 + (60 + (60 + (k)))))]? = some op from sits_right (n := 66) rfl (sits_right (n := 60) rfl (sits_right (n := 60) rfl (sits_right (n := 60) rfl (sits_right (n := 60) rfl (sits_left h)))))
  rwa [show 66 + (60 + (60 + (60 + (60 + (k))))) = 306 + k by omega] at this
theorem loc6 {k : ℕ} {op : HloOp τ sig (Elt F)} (h : ops6[k]? = some op) : hostOps[366 + k]? = some op := by
  have := show hostOps[66 + (60 + (60 + (60 + (60 + (60 + (k))))))]? = some op from sits_right (n := 66) rfl (sits_right (n := 60) rfl (sits_right (n := 60) rfl (sits_right (n := 60) rfl (sits_right (n := 60) rfl (sits_right (n := 60) rfl (sits_left h))))))
  rwa [show 66 + (60 + (60 + (60 + (60 + (60 + (k)))))) = 366 + k by omega] at this
theorem loc7 {k : ℕ} {op : HloOp τ sig (Elt F)} (h : ops7[k]? = some op) : hostOps[426 + k]? = some op := by
  have := show hostOps[66 + (60 + (60 + (60 + (60 + (60 + (60 + (k)))))))]? = some op from sits_right (n := 66) rfl (sits_right (n := 60) rfl (sits_right (n := 60) rfl (sits_right (n := 60) rfl (sits_right (n := 60) rfl (sits_right (n := 60) rfl (sits_right (n := 60) rfl (sits_left h)))))))
  rwa [show 66 + (60 + (60 + (60 + (60 + (60 + (60 + (k))))))) = 426 + k by omega] at this
theorem loc8 {k : ℕ} {op : HloOp τ sig (Elt F)} (h : ops8[k]? = some op) : hostOps[494 + k]? = some op := by
  have := show hostOps[66 + (60 + (60 + (60 + (60 + (60 + (60 + (68 + (k))))))))]? = some op from sits_right (n := 66) rfl (sits_right (n := 60) rfl (sits_right (n := 60) rfl (sits_right (n := 60) rfl (sits_right (n := 60) rfl (sits_right (n := 60) rfl (sits_right (n := 60) rfl (sits_right (n := 68) rfl (sits_left h))))))))
  rwa [show 66 + (60 + (60 + (60 + (60 + (60 + (60 + (68 + (k)))))))) = 494 + k by omega] at this
theorem loc9 {k : ℕ} {op : HloOp τ sig (Elt F)} (h : ops9[k]? = some op) : hostOps[569 + k]? = some op := by
  have := show hostOps[66 + (60 + (60 + (60 + (60 + (60 + (60 + (68 + (75 + (k)))))))))]? = some op from sits_right (n := 66) rfl (sits_right (n := 60) rfl (sits_right (n := 60) rfl (sits_right (n := 60) rfl (sits_right (n := 60) rfl (sits_right (n := 60) rfl (sits_right (n := 60) rfl (sits_right (n := 68) rfl (sits_right (n := 75) rfl (sits_left h)))))))))
  rwa [show 66 + (60 + (60 + (60 + (60 + (60 + (60 + (68 + (75 + (k))))))))) = 569 + k by omega] at this
theorem loc10 {k : ℕ} {op : HloOp τ sig (Elt F)} (h : ops10[k]? = some op) : hostOps[644 + k]? = some op := by
  have := show hostOps[66 + (60 + (60 + (60 + (60 + (60 + (60 + (68 + (75 + (75 + (k))))))))))]? = some op from sits_right (n := 66) rfl (sits_right (n := 60) rfl (sits_right (n := 60) rfl (sits_right (n := 60) rfl (sits_right (n := 60) rfl (sits_right (n := 60) rfl (sits_right (n := 60) rfl (sits_right (n := 68) rfl (sits_right (n := 75) rfl (sits_right (n := 75) rfl (h))))))))))
  rwa [show 66 + (60 + (60 + (60 + (60 + (60 + (60 + (68 + (75 + (75 + (k)))))))))) = 644 + k by omega] at this

end Cert.Proof.Spline
-- ==== Proof.HostEqsA.lean ====
/-
  One equation for each host operation: the system and its sweeps.
-/
module

public import proofs.«01_k».proof.Proof.HostVal

@[expose] public section

noncomputable section

namespace Cert.Proof.Spline

open Cert.KernelIdeal Cert.KernelIdeal.Gen

open Idealize.ShloMosaic Idealize.ShloMosaic.StableHlo

variable {F : FTy → Type} [FloatOps F]

variable (m : (ℓ : Loc nD τ sig) → Buf (Elt F) ℓ) (d : Dev nD)

theorem at_v0 : val m d main_v0 = slice_1024_1023_at1 (val m d main_arg1) :=
  at_unary chain (V0 m d) (loc0 (k := 0) rfl) (by decide)
theorem at_v1 : val m d main_v1 = slice_1024_1023_at0 (val m d main_arg1) :=
  at_unary chain (V0 m d) (loc0 (k := 1) rfl) (by decide)
theorem at_v2 : val m d main_v2 = subf_1023 (val m d main_v0) (val m d main_v1) :=
  at_binary chain (V0 m d) (loc0 (k := 2) rfl) (by decide) (by decide)
theorem at_v3 : val m d main_v3 = slice_1024_1023_at1 (val m d main_arg2) :=
  at_unary chain (V0 m d) (loc0 (k := 3) rfl) (by decide)
theorem at_v4 : val m d main_v4 = slice_1024_1023_at0 (val m d main_arg2) :=
  at_unary chain (V0 m d) (loc0 (k := 4) rfl) (by decide)
theorem at_v5 : val m d main_v5 = subf_1023 (val m d main_v3) (val m d main_v4) :=
  at_binary chain (V0 m d) (loc0 (k := 5) rfl) (by decide) (by decide)
theorem at_v6 : val m d main_v6 = divf_1023 (val m d main_v5) (val m d main_v2) :=
  at_binary chain (V0 m d) (loc0 (k := 6) rfl) (by decide) (by decide)
theorem at_cst : val m d main_cst = (constant S_ .f32 0x00000000#32 : Vec F S_ .f32) :=
  at_nullary chain (V0 m d) (loc0 (k := 7) rfl)
theorem at_v7 : val m d main_v7 = bc_0_1 (val m d main_cst) :=
  at_unary chain (V0 m d) (loc0 (k := 8) rfl) (by decide)
theorem at_cst_0 : val m d main_cst_0 = (constant S_ .f32 0x40C00000#32 : Vec F S_ .f32) :=
  at_nullary chain (V0 m d) (loc0 (k := 9) rfl)
theorem at_v8 : val m d main_v8 = bc_0_1023 (val m d main_cst_0) :=
  at_unary chain (V0 m d) (loc0 (k := 10) rfl) (by decide)
theorem at_v9 : val m d main_v9 = divf_1023 (val m d main_v2) (val m d main_v8) :=
  at_binary chain (V0 m d) (loc0 (k := 11) rfl) (by decide) (by decide)
theorem at_v10 : val m d main_v10 = cat_1_1023 (val m d main_v7) (val m d main_v9) :=
  at_binary chain (V0 m d) (loc0 (k := 12) rfl) (by decide) (by decide)
theorem at_cst_1 : val m d main_cst_1 = (constant S_ .f32 0x40C00000#32 : Vec F S_ .f32) :=
  at_nullary chain (V0 m d) (loc0 (k := 13) rfl)
theorem at_v11 : val m d main_v11 = bc_0_1023 (val m d main_cst_1) :=
  at_unary chain (V0 m d) (loc0 (k := 14) rfl) (by decide)
theorem at_v12 : val m d main_v12 = divf_1023 (val m d main_v2) (val m d main_v11) :=
  at_binary chain (V0 m d) (loc0 (k := 15) rfl) (by decide) (by decide)
theorem at_cst_2 : val m d main_cst_2 = (constant S_ .f32 0x00000000#32 : Vec F S_ .f32) :=
  at_nullary chain (V0 m d) (loc0 (k := 16) rfl)
theorem at_v13 : val m d main_v13 = bc_0_1 (val m d main_cst_2) :=
  at_unary chain (V0 m d) (loc0 (k := 17) rfl) (by decide)
theorem at_v14 : val m d main_v14 = cat_1023_1 (val m d main_v12) (val m d main_v13) :=
  at_binary chain (V0 m d) (loc0 (k := 18) rfl) (by decide) (by decide)
theorem at_v15 : val m d main_v15 = (iotaInDim S1024 32 0 : Vec F S1024 .i32) :=
  at_nullary chain (V0 m d) (loc0 (k := 19) rfl)
theorem at_c : val m d main_c = (constantI S_ 32 1#32 : Vec F S_ .i32) :=
  at_nullary chain (V0 m d) (loc0 (k := 20) rfl)
theorem at_v16 : val m d main_v16 = bcI_0_1024 (val m d main_c) :=
  at_unary chain (V0 m d) (loc0 (k := 21) rfl) (by decide)
theorem at_v17 : val m d main_v17 = cmp_sge_1024 (val m d main_v15) (val m d main_v16) :=
  at_binary chain (V0 m d) (loc0 (k := 22) rfl) (by decide) (by decide)
theorem at_c_3 : val m d main_c_3 = (constantI S_ 32 1022#32 : Vec F S_ .i32) :=
  at_nullary chain (V0 m d) (loc0 (k := 23) rfl)
theorem at_v18 : val m d main_v18 = bcI_0_1024 (val m d main_c_3) :=
  at_unary chain (V0 m d) (loc0 (k := 24) rfl) (by decide)
theorem at_v19 : val m d main_v19 = cmp_sle_1024 (val m d main_v15) (val m d main_v18) :=
  at_binary chain (V0 m d) (loc0 (k := 25) rfl) (by decide) (by decide)
theorem at_v20 : val m d main_v20 = andi_1024 (val m d main_v17) (val m d main_v19) :=
  at_binary chain (V0 m d) (loc0 (k := 26) rfl) (by decide) (by decide)
theorem at_cst_4 : val m d main_cst_4 = (constant S_ .f32 0x00000000#32 : Vec F S_ .f32) :=
  at_nullary chain (V0 m d) (loc0 (k := 27) rfl)
theorem at_call0_v0 : val m d main_call0_v0 = same_f32 (val m d main_cst_4) :=
  at_unary chain (V0 m d) (loc0 (k := 28) rfl) (by decide)
theorem at_call0_v1 : val m d main_call0_v1 = bc_0_1024 (val m d main_call0_v0) :=
  at_unary chain (V0 m d) (loc0 (k := 29) rfl) (by decide)
theorem at_v21 : val m d main_v21 = sel_1024 (val m d main_v20) (val m d main_v10) (val m d main_call0_v1) :=
  at_ternary chain (V0 m d) (loc0 (k := 30) rfl) (by decide) (by decide) (by decide)
theorem at_cst_5 : val m d main_cst_5 = (constant S_ .f32 0x00000000#32 : Vec F S_ .f32) :=
  at_nullary chain (V0 m d) (loc0 (k := 31) rfl)
theorem at_call1_v0 : val m d main_call1_v0 = same_f32 (val m d main_cst_5) :=
  at_unary chain (V0 m d) (loc0 (k := 32) rfl) (by decide)
theorem at_call1_v1 : val m d main_call1_v1 = bc_0_1024 (val m d main_call1_v0) :=
  at_unary chain (V0 m d) (loc0 (k := 33) rfl) (by decide)
theorem at_v22 : val m d main_v22 = sel_1024 (val m d main_v20) (val m d main_v14) (val m d main_call1_v1) :=
  at_ternary chain (V0 m d) (loc0 (k := 34) rfl) (by decide) (by decide) (by decide)
theorem at_v23 : val m d main_v23 = addf_1024 (val m d main_v21) (val m d main_v22) :=
  at_binary chain (V0 m d) (loc0 (k := 35) rfl) (by decide) (by decide)
theorem at_cst_6 : val m d main_cst_6 = (constant S_ .f32 0x40000000#32 : Vec F S_ .f32) :=
  at_nullary chain (V0 m d) (loc0 (k := 36) rfl)
theorem at_v24 : val m d main_v24 = bc_0_1024 (val m d main_cst_6) :=
  at_unary chain (V0 m d) (loc0 (k := 37) rfl) (by decide)
theorem at_v25 : val m d main_v25 = mulf_1024 (val m d main_v24) (val m d main_v23) :=
  at_binary chain (V0 m d) (loc0 (k := 38) rfl) (by decide) (by decide)
theorem at_cst_7 : val m d main_cst_7 = (constant S_ .f32 0x3F800000#32 : Vec F S_ .f32) :=
  at_nullary chain (V0 m d) (loc0 (k := 39) rfl)
theorem at_call2_v0 : val m d main_call2_v0 = same_f32 (val m d main_cst_7) :=
  at_unary chain (V0 m d) (loc0 (k := 40) rfl) (by decide)
theorem at_call2_v1 : val m d main_call2_v1 = bc_0_1024 (val m d main_call2_v0) :=
  at_unary chain (V0 m d) (loc0 (k := 41) rfl) (by decide)
theorem at_v26 : val m d main_v26 = sel_1024 (val m d main_v20) (val m d main_v25) (val m d main_call2_v1) :=
  at_ternary chain (V0 m d) (loc0 (k := 42) rfl) (by decide) (by decide) (by decide)
theorem at_cst_8 : val m d main_cst_8 = (constant S_ .f32 0x00000000#32 : Vec F S_ .f32) :=
  at_nullary chain (V0 m d) (loc0 (k := 43) rfl)
theorem at_v27 : val m d main_v27 = bc_0_1024 (val m d main_cst_8) :=
  at_unary chain (V0 m d) (loc0 (k := 44) rfl) (by decide)
theorem at_v28 : val m d main_v28 = slice_1023_1022_at1 (val m d main_v6) :=
  at_unary chain (V0 m d) (loc0 (k := 45) rfl) (by decide)
theorem at_v29 : val m d main_v29 = slice_1023_1022_at0 (val m d main_v6) :=
  at_unary chain (V0 m d) (loc0 (k := 46) rfl) (by decide)
theorem at_v30 : val m d main_v30 = subf_1022 (val m d main_v28) (val m d main_v29) :=
  at_binary chain (V0 m d) (loc0 (k := 47) rfl) (by decide) (by decide)
theorem at_c_9 : val m d main_c_9 = (constantI S_ 32 1#32 : Vec F S_ .i32) :=
  at_nullary chain (V0 m d) (loc0 (k := 48) rfl)
theorem at_v31 : val m d main_v31 = bcI_0_1 (val m d main_c_9) :=
  at_unary chain (V0 m d) (loc0 (k := 49) rfl) (by decide)
theorem at_v32 : val m d main_v32 = interiorSet (val m d main_v27) (val m d main_v31) (val m d main_v30) :=
  at_ternary chain (V0 m d) (loc0 (k := 50) rfl) (by decide) (by decide) (by decide)
theorem at_v33 : val m d main_v33 = divf_1024 (val m d main_v32) (val m d main_v26) :=
  at_binary chain (V0 m d) (loc0 (k := 51) rfl) (by decide) (by decide)
theorem at_cst_10 : val m d main_cst_10 = (constant S_ .f32 0x00000000#32 : Vec F S_ .f32) :=
  at_nullary chain (V0 m d) (loc0 (k := 52) rfl)
theorem at_v34 : val m d main_v34 = bc_0_1 (val m d main_cst_10) :=
  at_unary chain (V0 m d) (loc0 (k := 53) rfl) (by decide)
theorem at_v35 : val m d main_v35 = slice_1024_1023_at0 (val m d main_v33) :=
  at_unary chain (V0 m d) (loc0 (k := 54) rfl) (by decide)
theorem at_v36 : val m d main_v36 = cat_1_1023 (val m d main_v34) (val m d main_v35) :=
  at_binary chain (V0 m d) (loc0 (k := 55) rfl) (by decide) (by decide)
theorem at_v37 : val m d main_v37 = slice_1024_1023_at1 (val m d main_v33) :=
  at_unary chain (V0 m d) (loc0 (k := 56) rfl) (by decide)
theorem at_v38 : val m d main_v38 = cat_1023_1 (val m d main_v37) (val m d main_v34) :=
  at_binary chain (V0 m d) (loc0 (k := 57) rfl) (by decide) (by decide)
theorem at_v39 : val m d main_v39 = mulf_1024 (val m d main_v21) (val m d main_v36) :=
  at_binary chain (V0 m d) (loc0 (k := 58) rfl) (by decide) (by decide)
theorem at_v40 : val m d main_v40 = subf_1024 (val m d main_v32) (val m d main_v39) :=
  at_binary chain (V0 m d) (loc0 (k := 59) rfl) (by decide) (by decide)
theorem at_v41 : val m d main_v41 = mulf_1024 (val m d main_v22) (val m d main_v38) :=
  at_binary chain (V0 m d) (loc0 (k := 60) rfl) (by decide) (by decide)
theorem at_v42 : val m d main_v42 = subf_1024 (val m d main_v40) (val m d main_v41) :=
  at_binary chain (V0 m d) (loc0 (k := 61) rfl) (by decide) (by decide)
theorem at_v43 : val m d main_v43 = divf_1024 (val m d main_v42) (val m d main_v26) :=
  at_binary chain (V0 m d) (loc0 (k := 62) rfl) (by decide) (by decide)
theorem at_v44 : val m d main_v44 = slice_1024_1023_at0 (val m d main_v43) :=
  at_unary chain (V0 m d) (loc0 (k := 63) rfl) (by decide)
theorem at_v45 : val m d main_v45 = cat_1_1023 (val m d main_v34) (val m d main_v44) :=
  at_binary chain (V0 m d) (loc0 (k := 64) rfl) (by decide) (by decide)
theorem at_v46 : val m d main_v46 = slice_1024_1023_at1 (val m d main_v43) :=
  at_unary chain (V0 m d) (loc0 (k := 65) rfl) (by decide)
theorem at_v47 : val m d main_v47 = cat_1023_1 (val m d main_v46) (val m d main_v34) :=
  at_binary chain (V0 m d) (loc1 (k := 0) rfl) (by decide) (by decide)
theorem at_v48 : val m d main_v48 = mulf_1024 (val m d main_v21) (val m d main_v45) :=
  at_binary chain (V0 m d) (loc1 (k := 1) rfl) (by decide) (by decide)
theorem at_v49 : val m d main_v49 = subf_1024 (val m d main_v32) (val m d main_v48) :=
  at_binary chain (V0 m d) (loc1 (k := 2) rfl) (by decide) (by decide)
theorem at_v50 : val m d main_v50 = mulf_1024 (val m d main_v22) (val m d main_v47) :=
  at_binary chain (V0 m d) (loc1 (k := 3) rfl) (by decide) (by decide)
theorem at_v51 : val m d main_v51 = subf_1024 (val m d main_v49) (val m d main_v50) :=
  at_binary chain (V0 m d) (loc1 (k := 4) rfl) (by decide) (by decide)
theorem at_v52 : val m d main_v52 = divf_1024 (val m d main_v51) (val m d main_v26) :=
  at_binary chain (V0 m d) (loc1 (k := 5) rfl) (by decide) (by decide)
theorem at_v53 : val m d main_v53 = slice_1024_1023_at0 (val m d main_v52) :=
  at_unary chain (V0 m d) (loc1 (k := 6) rfl) (by decide)
theorem at_v54 : val m d main_v54 = cat_1_1023 (val m d main_v34) (val m d main_v53) :=
  at_binary chain (V0 m d) (loc1 (k := 7) rfl) (by decide) (by decide)
theorem at_v55 : val m d main_v55 = slice_1024_1023_at1 (val m d main_v52) :=
  at_unary chain (V0 m d) (loc1 (k := 8) rfl) (by decide)
theorem at_v56 : val m d main_v56 = cat_1023_1 (val m d main_v55) (val m d main_v34) :=
  at_binary chain (V0 m d) (loc1 (k := 9) rfl) (by decide) (by decide)
theorem at_v57 : val m d main_v57 = mulf_1024 (val m d main_v21) (val m d main_v54) :=
  at_binary chain (V0 m d) (loc1 (k := 10) rfl) (by decide) (by decide)
theorem at_v58 : val m d main_v58 = subf_1024 (val m d main_v32) (val m d main_v57) :=
  at_binary chain (V0 m d) (loc1 (k := 11) rfl) (by decide) (by decide)
theorem at_v59 : val m d main_v59 = mulf_1024 (val m d main_v22) (val m d main_v56) :=
  at_binary chain (V0 m d) (loc1 (k := 12) rfl) (by decide) (by decide)
theorem at_v60 : val m d main_v60 = subf_1024 (val m d main_v58) (val m d main_v59) :=
  at_binary chain (V0 m d) (loc1 (k := 13) rfl) (by decide) (by decide)
theorem at_v61 : val m d main_v61 = divf_1024 (val m d main_v60) (val m d main_v26) :=
  at_binary chain (V0 m d) (loc1 (k := 14) rfl) (by decide) (by decide)
theorem at_v62 : val m d main_v62 = slice_1024_1023_at0 (val m d main_v61) :=
  at_unary chain (V0 m d) (loc1 (k := 15) rfl) (by decide)
theorem at_v63 : val m d main_v63 = cat_1_1023 (val m d main_v34) (val m d main_v62) :=
  at_binary chain (V0 m d) (loc1 (k := 16) rfl) (by decide) (by decide)
theorem at_v64 : val m d main_v64 = slice_1024_1023_at1 (val m d main_v61) :=
  at_unary chain (V0 m d) (loc1 (k := 17) rfl) (by decide)
theorem at_v65 : val m d main_v65 = cat_1023_1 (val m d main_v64) (val m d main_v34) :=
  at_binary chain (V0 m d) (loc1 (k := 18) rfl) (by decide) (by decide)
theorem at_v66 : val m d main_v66 = mulf_1024 (val m d main_v21) (val m d main_v63) :=
  at_binary chain (V0 m d) (loc1 (k := 19) rfl) (by decide) (by decide)
theorem at_v67 : val m d main_v67 = subf_1024 (val m d main_v32) (val m d main_v66) :=
  at_binary chain (V0 m d) (loc1 (k := 20) rfl) (by decide) (by decide)
theorem at_v68 : val m d main_v68 = mulf_1024 (val m d main_v22) (val m d main_v65) :=
  at_binary chain (V0 m d) (loc1 (k := 21) rfl) (by decide) (by decide)
theorem at_v69 : val m d main_v69 = subf_1024 (val m d main_v67) (val m d main_v68) :=
  at_binary chain (V0 m d) (loc1 (k := 22) rfl) (by decide) (by decide)
theorem at_v70 : val m d main_v70 = divf_1024 (val m d main_v69) (val m d main_v26) :=
  at_binary chain (V0 m d) (loc1 (k := 23) rfl) (by decide) (by decide)
theorem at_v71 : val m d main_v71 = slice_1024_1023_at0 (val m d main_v70) :=
  at_unary chain (V0 m d) (loc1 (k := 24) rfl) (by decide)
theorem at_v72 : val m d main_v72 = cat_1_1023 (val m d main_v34) (val m d main_v71) :=
  at_binary chain (V0 m d) (loc1 (k := 25) rfl) (by decide) (by decide)
theorem at_v73 : val m d main_v73 = slice_1024_1023_at1 (val m d main_v70) :=
  at_unary chain (V0 m d) (loc1 (k := 26) rfl) (by decide)
theorem at_v74 : val m d main_v74 = cat_1023_1 (val m d main_v73) (val m d main_v34) :=
  at_binary chain (V0 m d) (loc1 (k := 27) rfl) (by decide) (by decide)
theorem at_v75 : val m d main_v75 = mulf_1024 (val m d main_v21) (val m d main_v72) :=
  at_binary chain (V0 m d) (loc1 (k := 28) rfl) (by decide) (by decide)
theorem at_v76 : val m d main_v76 = subf_1024 (val m d main_v32) (val m d main_v75) :=
  at_binary chain (V0 m d) (loc1 (k := 29) rfl) (by decide) (by decide)
theorem at_v77 : val m d main_v77 = mulf_1024 (val m d main_v22) (val m d main_v74) :=
  at_binary chain (V0 m d) (loc1 (k := 30) rfl) (by decide) (by decide)
theorem at_v78 : val m d main_v78 = subf_1024 (val m d main_v76) (val m d main_v77) :=
  at_binary chain (V0 m d) (loc1 (k := 31) rfl) (by decide) (by decide)
theorem at_v79 : val m d main_v79 = divf_1024 (val m d main_v78) (val m d main_v26) :=
  at_binary chain (V0 m d) (loc1 (k := 32) rfl) (by decide) (by decide)
theorem at_v80 : val m d main_v80 = slice_1024_1023_at0 (val m d main_v79) :=
  at_unary chain (V0 m d) (loc1 (k := 33) rfl) (by decide)
theorem at_v81 : val m d main_v81 = cat_1_1023 (val m d main_v34) (val m d main_v80) :=
  at_binary chain (V0 m d) (loc1 (k := 34) rfl) (by decide) (by decide)
theorem at_v82 : val m d main_v82 = slice_1024_1023_at1 (val m d main_v79) :=
  at_unary chain (V0 m d) (loc1 (k := 35) rfl) (by decide)
theorem at_v83 : val m d main_v83 = cat_1023_1 (val m d main_v82) (val m d main_v34) :=
  at_binary chain (V0 m d) (loc1 (k := 36) rfl) (by decide) (by decide)
theorem at_v84 : val m d main_v84 = mulf_1024 (val m d main_v21) (val m d main_v81) :=
  at_binary chain (V0 m d) (loc1 (k := 37) rfl) (by decide) (by decide)
theorem at_v85 : val m d main_v85 = subf_1024 (val m d main_v32) (val m d main_v84) :=
  at_binary chain (V0 m d) (loc1 (k := 38) rfl) (by decide) (by decide)
theorem at_v86 : val m d main_v86 = mulf_1024 (val m d main_v22) (val m d main_v83) :=
  at_binary chain (V0 m d) (loc1 (k := 39) rfl) (by decide) (by decide)
theorem at_v87 : val m d main_v87 = subf_1024 (val m d main_v85) (val m d main_v86) :=
  at_binary chain (V0 m d) (loc1 (k := 40) rfl) (by decide) (by decide)
theorem at_v88 : val m d main_v88 = divf_1024 (val m d main_v87) (val m d main_v26) :=
  at_binary chain (V0 m d) (loc1 (k := 41) rfl) (by decide) (by decide)
theorem at_v89 : val m d main_v89 = slice_1024_1023_at0 (val m d main_v88) :=
  at_unary chain (V0 m d) (loc1 (k := 42) rfl) (by decide)
theorem at_v90 : val m d main_v90 = cat_1_1023 (val m d main_v34) (val m d main_v89) :=
  at_binary chain (V0 m d) (loc1 (k := 43) rfl) (by decide) (by decide)
theorem at_v91 : val m d main_v91 = slice_1024_1023_at1 (val m d main_v88) :=
  at_unary chain (V0 m d) (loc1 (k := 44) rfl) (by decide)
theorem at_v92 : val m d main_v92 = cat_1023_1 (val m d main_v91) (val m d main_v34) :=
  at_binary chain (V0 m d) (loc1 (k := 45) rfl) (by decide) (by decide)
theorem at_v93 : val m d main_v93 = mulf_1024 (val m d main_v21) (val m d main_v90) :=
  at_binary chain (V0 m d) (loc1 (k := 46) rfl) (by decide) (by decide)
theorem at_v94 : val m d main_v94 = subf_1024 (val m d main_v32) (val m d main_v93) :=
  at_binary chain (V0 m d) (loc1 (k := 47) rfl) (by decide) (by decide)
theorem at_v95 : val m d main_v95 = mulf_1024 (val m d main_v22) (val m d main_v92) :=
  at_binary chain (V0 m d) (loc1 (k := 48) rfl) (by decide) (by decide)
theorem at_v96 : val m d main_v96 = subf_1024 (val m d main_v94) (val m d main_v95) :=
  at_binary chain (V0 m d) (loc1 (k := 49) rfl) (by decide) (by decide)
theorem at_v97 : val m d main_v97 = divf_1024 (val m d main_v96) (val m d main_v26) :=
  at_binary chain (V0 m d) (loc1 (k := 50) rfl) (by decide) (by decide)
theorem at_v98 : val m d main_v98 = slice_1024_1023_at0 (val m d main_v97) :=
  at_unary chain (V0 m d) (loc1 (k := 51) rfl) (by decide)
theorem at_v99 : val m d main_v99 = cat_1_1023 (val m d main_v34) (val m d main_v98) :=
  at_binary chain (V0 m d) (loc1 (k := 52) rfl) (by decide) (by decide)
theorem at_v100 : val m d main_v100 = slice_1024_1023_at1 (val m d main_v97) :=
  at_unary chain (V0 m d) (loc1 (k := 53) rfl) (by decide)
theorem at_v101 : val m d main_v101 = cat_1023_1 (val m d main_v100) (val m d main_v34) :=
  at_binary chain (V0 m d) (loc1 (k := 54) rfl) (by decide) (by decide)
theorem at_v102 : val m d main_v102 = mulf_1024 (val m d main_v21) (val m d main_v99) :=
  at_binary chain (V0 m d) (loc1 (k := 55) rfl) (by decide) (by decide)
theorem at_v103 : val m d main_v103 = subf_1024 (val m d main_v32) (val m d main_v102) :=
  at_binary chain (V0 m d) (loc1 (k := 56) rfl) (by decide) (by decide)
theorem at_v104 : val m d main_v104 = mulf_1024 (val m d main_v22) (val m d main_v101) :=
  at_binary chain (V0 m d) (loc1 (k := 57) rfl) (by decide) (by decide)
theorem at_v105 : val m d main_v105 = subf_1024 (val m d main_v103) (val m d main_v104) :=
  at_binary chain (V0 m d) (loc1 (k := 58) rfl) (by decide) (by decide)
theorem at_v106 : val m d main_v106 = divf_1024 (val m d main_v105) (val m d main_v26) :=
  at_binary chain (V0 m d) (loc1 (k := 59) rfl) (by decide) (by decide)
theorem at_v107 : val m d main_v107 = slice_1024_1023_at0 (val m d main_v106) :=
  at_unary chain (V0 m d) (loc2 (k := 0) rfl) (by decide)
theorem at_v108 : val m d main_v108 = cat_1_1023 (val m d main_v34) (val m d main_v107) :=
  at_binary chain (V0 m d) (loc2 (k := 1) rfl) (by decide) (by decide)
theorem at_v109 : val m d main_v109 = slice_1024_1023_at1 (val m d main_v106) :=
  at_unary chain (V0 m d) (loc2 (k := 2) rfl) (by decide)
theorem at_v110 : val m d main_v110 = cat_1023_1 (val m d main_v109) (val m d main_v34) :=
  at_binary chain (V0 m d) (loc2 (k := 3) rfl) (by decide) (by decide)
theorem at_v111 : val m d main_v111 = mulf_1024 (val m d main_v21) (val m d main_v108) :=
  at_binary chain (V0 m d) (loc2 (k := 4) rfl) (by decide) (by decide)
theorem at_v112 : val m d main_v112 = subf_1024 (val m d main_v32) (val m d main_v111) :=
  at_binary chain (V0 m d) (loc2 (k := 5) rfl) (by decide) (by decide)
theorem at_v113 : val m d main_v113 = mulf_1024 (val m d main_v22) (val m d main_v110) :=
  at_binary chain (V0 m d) (loc2 (k := 6) rfl) (by decide) (by decide)
theorem at_v114 : val m d main_v114 = subf_1024 (val m d main_v112) (val m d main_v113) :=
  at_binary chain (V0 m d) (loc2 (k := 7) rfl) (by decide) (by decide)
theorem at_v115 : val m d main_v115 = divf_1024 (val m d main_v114) (val m d main_v26) :=
  at_binary chain (V0 m d) (loc2 (k := 8) rfl) (by decide) (by decide)
theorem at_v116 : val m d main_v116 = slice_1024_1023_at0 (val m d main_v115) :=
  at_unary chain (V0 m d) (loc2 (k := 9) rfl) (by decide)
theorem at_v117 : val m d main_v117 = cat_1_1023 (val m d main_v34) (val m d main_v116) :=
  at_binary chain (V0 m d) (loc2 (k := 10) rfl) (by decide) (by decide)
theorem at_v118 : val m d main_v118 = slice_1024_1023_at1 (val m d main_v115) :=
  at_unary chain (V0 m d) (loc2 (k := 11) rfl) (by decide)
theorem at_v119 : val m d main_v119 = cat_1023_1 (val m d main_v118) (val m d main_v34) :=
  at_binary chain (V0 m d) (loc2 (k := 12) rfl) (by decide) (by decide)
theorem at_v120 : val m d main_v120 = mulf_1024 (val m d main_v21) (val m d main_v117) :=
  at_binary chain (V0 m d) (loc2 (k := 13) rfl) (by decide) (by decide)
theorem at_v121 : val m d main_v121 = subf_1024 (val m d main_v32) (val m d main_v120) :=
  at_binary chain (V0 m d) (loc2 (k := 14) rfl) (by decide) (by decide)
theorem at_v122 : val m d main_v122 = mulf_1024 (val m d main_v22) (val m d main_v119) :=
  at_binary chain (V0 m d) (loc2 (k := 15) rfl) (by decide) (by decide)
theorem at_v123 : val m d main_v123 = subf_1024 (val m d main_v121) (val m d main_v122) :=
  at_binary chain (V0 m d) (loc2 (k := 16) rfl) (by decide) (by decide)
theorem at_v124 : val m d main_v124 = divf_1024 (val m d main_v123) (val m d main_v26) :=
  at_binary chain (V0 m d) (loc2 (k := 17) rfl) (by decide) (by decide)
theorem at_v125 : val m d main_v125 = slice_1024_1023_at0 (val m d main_v124) :=
  at_unary chain (V0 m d) (loc2 (k := 18) rfl) (by decide)
theorem at_v126 : val m d main_v126 = cat_1_1023 (val m d main_v34) (val m d main_v125) :=
  at_binary chain (V0 m d) (loc2 (k := 19) rfl) (by decide) (by decide)
theorem at_v127 : val m d main_v127 = slice_1024_1023_at1 (val m d main_v124) :=
  at_unary chain (V0 m d) (loc2 (k := 20) rfl) (by decide)
theorem at_v128 : val m d main_v128 = cat_1023_1 (val m d main_v127) (val m d main_v34) :=
  at_binary chain (V0 m d) (loc2 (k := 21) rfl) (by decide) (by decide)
theorem at_v129 : val m d main_v129 = mulf_1024 (val m d main_v21) (val m d main_v126) :=
  at_binary chain (V0 m d) (loc2 (k := 22) rfl) (by decide) (by decide)
theorem at_v130 : val m d main_v130 = subf_1024 (val m d main_v32) (val m d main_v129) :=
  at_binary chain (V0 m d) (loc2 (k := 23) rfl) (by decide) (by decide)
theorem at_v131 : val m d main_v131 = mulf_1024 (val m d main_v22) (val m d main_v128) :=
  at_binary chain (V0 m d) (loc2 (k := 24) rfl) (by decide) (by decide)
theorem at_v132 : val m d main_v132 = subf_1024 (val m d main_v130) (val m d main_v131) :=
  at_binary chain (V0 m d) (loc2 (k := 25) rfl) (by decide) (by decide)
theorem at_v133 : val m d main_v133 = divf_1024 (val m d main_v132) (val m d main_v26) :=
  at_binary chain (V0 m d) (loc2 (k := 26) rfl) (by decide) (by decide)
theorem at_v134 : val m d main_v134 = slice_1024_1023_at0 (val m d main_v133) :=
  at_unary chain (V0 m d) (loc2 (k := 27) rfl) (by decide)
theorem at_v135 : val m d main_v135 = cat_1_1023 (val m d main_v34) (val m d main_v134) :=
  at_binary chain (V0 m d) (loc2 (k := 28) rfl) (by decide) (by decide)
theorem at_v136 : val m d main_v136 = slice_1024_1023_at1 (val m d main_v133) :=
  at_unary chain (V0 m d) (loc2 (k := 29) rfl) (by decide)
theorem at_v137 : val m d main_v137 = cat_1023_1 (val m d main_v136) (val m d main_v34) :=
  at_binary chain (V0 m d) (loc2 (k := 30) rfl) (by decide) (by decide)
theorem at_v138 : val m d main_v138 = mulf_1024 (val m d main_v21) (val m d main_v135) :=
  at_binary chain (V0 m d) (loc2 (k := 31) rfl) (by decide) (by decide)
theorem at_v139 : val m d main_v139 = subf_1024 (val m d main_v32) (val m d main_v138) :=
  at_binary chain (V0 m d) (loc2 (k := 32) rfl) (by decide) (by decide)
theorem at_v140 : val m d main_v140 = mulf_1024 (val m d main_v22) (val m d main_v137) :=
  at_binary chain (V0 m d) (loc2 (k := 33) rfl) (by decide) (by decide)
theorem at_v141 : val m d main_v141 = subf_1024 (val m d main_v139) (val m d main_v140) :=
  at_binary chain (V0 m d) (loc2 (k := 34) rfl) (by decide) (by decide)
theorem at_v142 : val m d main_v142 = divf_1024 (val m d main_v141) (val m d main_v26) :=
  at_binary chain (V0 m d) (loc2 (k := 35) rfl) (by decide) (by decide)
theorem at_v143 : val m d main_v143 = slice_1024_1023_at0 (val m d main_v142) :=
  at_unary chain (V0 m d) (loc2 (k := 36) rfl) (by decide)
theorem at_v144 : val m d main_v144 = cat_1_1023 (val m d main_v34) (val m d main_v143) :=
  at_binary chain (V0 m d) (loc2 (k := 37) rfl) (by decide) (by decide)
theorem at_v145 : val m d main_v145 = slice_1024_1023_at1 (val m d main_v142) :=
  at_unary chain (V0 m d) (loc2 (k := 38) rfl) (by decide)
theorem at_v146 : val m d main_v146 = cat_1023_1 (val m d main_v145) (val m d main_v34) :=
  at_binary chain (V0 m d) (loc2 (k := 39) rfl) (by decide) (by decide)
theorem at_v147 : val m d main_v147 = mulf_1024 (val m d main_v21) (val m d main_v144) :=
  at_binary chain (V0 m d) (loc2 (k := 40) rfl) (by decide) (by decide)
theorem at_v148 : val m d main_v148 = subf_1024 (val m d main_v32) (val m d main_v147) :=
  at_binary chain (V0 m d) (loc2 (k := 41) rfl) (by decide) (by decide)
theorem at_v149 : val m d main_v149 = mulf_1024 (val m d main_v22) (val m d main_v146) :=
  at_binary chain (V0 m d) (loc2 (k := 42) rfl) (by decide) (by decide)
theorem at_v150 : val m d main_v150 = subf_1024 (val m d main_v148) (val m d main_v149) :=
  at_binary chain (V0 m d) (loc2 (k := 43) rfl) (by decide) (by decide)
theorem at_v151 : val m d main_v151 = divf_1024 (val m d main_v150) (val m d main_v26) :=
  at_binary chain (V0 m d) (loc2 (k := 44) rfl) (by decide) (by decide)
theorem at_v152 : val m d main_v152 = slice_1024_1023_at0 (val m d main_v151) :=
  at_unary chain (V0 m d) (loc2 (k := 45) rfl) (by decide)
theorem at_v153 : val m d main_v153 = cat_1_1023 (val m d main_v34) (val m d main_v152) :=
  at_binary chain (V0 m d) (loc2 (k := 46) rfl) (by decide) (by decide)
theorem at_v154 : val m d main_v154 = slice_1024_1023_at1 (val m d main_v151) :=
  at_unary chain (V0 m d) (loc2 (k := 47) rfl) (by decide)
theorem at_v155 : val m d main_v155 = cat_1023_1 (val m d main_v154) (val m d main_v34) :=
  at_binary chain (V0 m d) (loc2 (k := 48) rfl) (by decide) (by decide)
theorem at_v156 : val m d main_v156 = mulf_1024 (val m d main_v21) (val m d main_v153) :=
  at_binary chain (V0 m d) (loc2 (k := 49) rfl) (by decide) (by decide)
theorem at_v157 : val m d main_v157 = subf_1024 (val m d main_v32) (val m d main_v156) :=
  at_binary chain (V0 m d) (loc2 (k := 50) rfl) (by decide) (by decide)
theorem at_v158 : val m d main_v158 = mulf_1024 (val m d main_v22) (val m d main_v155) :=
  at_binary chain (V0 m d) (loc2 (k := 51) rfl) (by decide) (by decide)
theorem at_v159 : val m d main_v159 = subf_1024 (val m d main_v157) (val m d main_v158) :=
  at_binary chain (V0 m d) (loc2 (k := 52) rfl) (by decide) (by decide)
theorem at_v160 : val m d main_v160 = divf_1024 (val m d main_v159) (val m d main_v26) :=
  at_binary chain (V0 m d) (loc2 (k := 53) rfl) (by decide) (by decide)
theorem at_v161 : val m d main_v161 = slice_1024_1023_at0 (val m d main_v160) :=
  at_unary chain (V0 m d) (loc2 (k := 54) rfl) (by decide)
theorem at_v162 : val m d main_v162 = cat_1_1023 (val m d main_v34) (val m d main_v161) :=
  at_binary chain (V0 m d) (loc2 (k := 55) rfl) (by decide) (by decide)
theorem at_v163 : val m d main_v163 = slice_1024_1023_at1 (val m d main_v160) :=
  at_unary chain (V0 m d) (loc2 (k := 56) rfl) (by decide)
theorem at_v164 : val m d main_v164 = cat_1023_1 (val m d main_v163) (val m d main_v34) :=
  at_binary chain (V0 m d) (loc2 (k := 57) rfl) (by decide) (by decide)
theorem at_v165 : val m d main_v165 = mulf_1024 (val m d main_v21) (val m d main_v162) :=
  at_binary chain (V0 m d) (loc2 (k := 58) rfl) (by decide) (by decide)
theorem at_v166 : val m d main_v166 = subf_1024 (val m d main_v32) (val m d main_v165) :=
  at_binary chain (V0 m d) (loc2 (k := 59) rfl) (by decide) (by decide)
theorem at_v167 : val m d main_v167 = mulf_1024 (val m d main_v22) (val m d main_v164) :=
  at_binary chain (V0 m d) (loc3 (k := 0) rfl) (by decide) (by decide)
theorem at_v168 : val m d main_v168 = subf_1024 (val m d main_v166) (val m d main_v167) :=
  at_binary chain (V0 m d) (loc3 (k := 1) rfl) (by decide) (by decide)
theorem at_v169 : val m d main_v169 = divf_1024 (val m d main_v168) (val m d main_v26) :=
  at_binary chain (V0 m d) (loc3 (k := 2) rfl) (by decide) (by decide)
theorem at_v170 : val m d main_v170 = slice_1024_1023_at0 (val m d main_v169) :=
  at_unary chain (V0 m d) (loc3 (k := 3) rfl) (by decide)
theorem at_v171 : val m d main_v171 = cat_1_1023 (val m d main_v34) (val m d main_v170) :=
  at_binary chain (V0 m d) (loc3 (k := 4) rfl) (by decide) (by decide)
theorem at_v172 : val m d main_v172 = slice_1024_1023_at1 (val m d main_v169) :=
  at_unary chain (V0 m d) (loc3 (k := 5) rfl) (by decide)
theorem at_v173 : val m d main_v173 = cat_1023_1 (val m d main_v172) (val m d main_v34) :=
  at_binary chain (V0 m d) (loc3 (k := 6) rfl) (by decide) (by decide)
theorem at_v174 : val m d main_v174 = mulf_1024 (val m d main_v21) (val m d main_v171) :=
  at_binary chain (V0 m d) (loc3 (k := 7) rfl) (by decide) (by decide)
theorem at_v175 : val m d main_v175 = subf_1024 (val m d main_v32) (val m d main_v174) :=
  at_binary chain (V0 m d) (loc3 (k := 8) rfl) (by decide) (by decide)
theorem at_v176 : val m d main_v176 = mulf_1024 (val m d main_v22) (val m d main_v173) :=
  at_binary chain (V0 m d) (loc3 (k := 9) rfl) (by decide) (by decide)
theorem at_v177 : val m d main_v177 = subf_1024 (val m d main_v175) (val m d main_v176) :=
  at_binary chain (V0 m d) (loc3 (k := 10) rfl) (by decide) (by decide)
theorem at_v178 : val m d main_v178 = divf_1024 (val m d main_v177) (val m d main_v26) :=
  at_binary chain (V0 m d) (loc3 (k := 11) rfl) (by decide) (by decide)
theorem at_v179 : val m d main_v179 = slice_1024_1023_at0 (val m d main_v178) :=
  at_unary chain (V0 m d) (loc3 (k := 12) rfl) (by decide)
theorem at_v180 : val m d main_v180 = cat_1_1023 (val m d main_v34) (val m d main_v179) :=
  at_binary chain (V0 m d) (loc3 (k := 13) rfl) (by decide) (by decide)
theorem at_v181 : val m d main_v181 = slice_1024_1023_at1 (val m d main_v178) :=
  at_unary chain (V0 m d) (loc3 (k := 14) rfl) (by decide)
theorem at_v182 : val m d main_v182 = cat_1023_1 (val m d main_v181) (val m d main_v34) :=
  at_binary chain (V0 m d) (loc3 (k := 15) rfl) (by decide) (by decide)
theorem at_v183 : val m d main_v183 = mulf_1024 (val m d main_v21) (val m d main_v180) :=
  at_binary chain (V0 m d) (loc3 (k := 16) rfl) (by decide) (by decide)
theorem at_v184 : val m d main_v184 = subf_1024 (val m d main_v32) (val m d main_v183) :=
  at_binary chain (V0 m d) (loc3 (k := 17) rfl) (by decide) (by decide)
theorem at_v185 : val m d main_v185 = mulf_1024 (val m d main_v22) (val m d main_v182) :=
  at_binary chain (V0 m d) (loc3 (k := 18) rfl) (by decide) (by decide)
theorem at_v186 : val m d main_v186 = subf_1024 (val m d main_v184) (val m d main_v185) :=
  at_binary chain (V0 m d) (loc3 (k := 19) rfl) (by decide) (by decide)
theorem at_v187 : val m d main_v187 = divf_1024 (val m d main_v186) (val m d main_v26) :=
  at_binary chain (V0 m d) (loc3 (k := 20) rfl) (by decide) (by decide)
theorem at_v188 : val m d main_v188 = slice_1024_1023_at0 (val m d main_v187) :=
  at_unary chain (V0 m d) (loc3 (k := 21) rfl) (by decide)
theorem at_v189 : val m d main_v189 = cat_1_1023 (val m d main_v34) (val m d main_v188) :=
  at_binary chain (V0 m d) (loc3 (k := 22) rfl) (by decide) (by decide)
theorem at_v190 : val m d main_v190 = slice_1024_1023_at1 (val m d main_v187) :=
  at_unary chain (V0 m d) (loc3 (k := 23) rfl) (by decide)
theorem at_v191 : val m d main_v191 = cat_1023_1 (val m d main_v190) (val m d main_v34) :=
  at_binary chain (V0 m d) (loc3 (k := 24) rfl) (by decide) (by decide)
theorem at_v192 : val m d main_v192 = mulf_1024 (val m d main_v21) (val m d main_v189) :=
  at_binary chain (V0 m d) (loc3 (k := 25) rfl) (by decide) (by decide)
theorem at_v193 : val m d main_v193 = subf_1024 (val m d main_v32) (val m d main_v192) :=
  at_binary chain (V0 m d) (loc3 (k := 26) rfl) (by decide) (by decide)
theorem at_v194 : val m d main_v194 = mulf_1024 (val m d main_v22) (val m d main_v191) :=
  at_binary chain (V0 m d) (loc3 (k := 27) rfl) (by decide) (by decide)
theorem at_v195 : val m d main_v195 = subf_1024 (val m d main_v193) (val m d main_v194) :=
  at_binary chain (V0 m d) (loc3 (k := 28) rfl) (by decide) (by decide)
theorem at_v196 : val m d main_v196 = divf_1024 (val m d main_v195) (val m d main_v26) :=
  at_binary chain (V0 m d) (loc3 (k := 29) rfl) (by decide) (by decide)
theorem at_v197 : val m d main_v197 = slice_1024_1023_at0 (val m d main_v196) :=
  at_unary chain (V0 m d) (loc3 (k := 30) rfl) (by decide)
theorem at_v198 : val m d main_v198 = cat_1_1023 (val m d main_v34) (val m d main_v197) :=
  at_binary chain (V0 m d) (loc3 (k := 31) rfl) (by decide) (by decide)
theorem at_v199 : val m d main_v199 = slice_1024_1023_at1 (val m d main_v196) :=
  at_unary chain (V0 m d) (loc3 (k := 32) rfl) (by decide)
theorem at_v200 : val m d main_v200 = cat_1023_1 (val m d main_v199) (val m d main_v34) :=
  at_binary chain (V0 m d) (loc3 (k := 33) rfl) (by decide) (by decide)
theorem at_v201 : val m d main_v201 = mulf_1024 (val m d main_v21) (val m d main_v198) :=
  at_binary chain (V0 m d) (loc3 (k := 34) rfl) (by decide) (by decide)
theorem at_v202 : val m d main_v202 = subf_1024 (val m d main_v32) (val m d main_v201) :=
  at_binary chain (V0 m d) (loc3 (k := 35) rfl) (by decide) (by decide)
theorem at_v203 : val m d main_v203 = mulf_1024 (val m d main_v22) (val m d main_v200) :=
  at_binary chain (V0 m d) (loc3 (k := 36) rfl) (by decide) (by decide)
theorem at_v204 : val m d main_v204 = subf_1024 (val m d main_v202) (val m d main_v203) :=
  at_binary chain (V0 m d) (loc3 (k := 37) rfl) (by decide) (by decide)
theorem at_v205 : val m d main_v205 = divf_1024 (val m d main_v204) (val m d main_v26) :=
  at_binary chain (V0 m d) (loc3 (k := 38) rfl) (by decide) (by decide)
theorem at_v206 : val m d main_v206 = slice_1024_1023_at0 (val m d main_v205) :=
  at_unary chain (V0 m d) (loc3 (k := 39) rfl) (by decide)
theorem at_v207 : val m d main_v207 = cat_1_1023 (val m d main_v34) (val m d main_v206) :=
  at_binary chain (V0 m d) (loc3 (k := 40) rfl) (by decide) (by decide)
theorem at_v208 : val m d main_v208 = slice_1024_1023_at1 (val m d main_v205) :=
  at_unary chain (V0 m d) (loc3 (k := 41) rfl) (by decide)
theorem at_v209 : val m d main_v209 = cat_1023_1 (val m d main_v208) (val m d main_v34) :=
  at_binary chain (V0 m d) (loc3 (k := 42) rfl) (by decide) (by decide)
theorem at_v210 : val m d main_v210 = mulf_1024 (val m d main_v21) (val m d main_v207) :=
  at_binary chain (V0 m d) (loc3 (k := 43) rfl) (by decide) (by decide)
theorem at_v211 : val m d main_v211 = subf_1024 (val m d main_v32) (val m d main_v210) :=
  at_binary chain (V0 m d) (loc3 (k := 44) rfl) (by decide) (by decide)
theorem at_v212 : val m d main_v212 = mulf_1024 (val m d main_v22) (val m d main_v209) :=
  at_binary chain (V0 m d) (loc3 (k := 45) rfl) (by decide) (by decide)
theorem at_v213 : val m d main_v213 = subf_1024 (val m d main_v211) (val m d main_v212) :=
  at_binary chain (V0 m d) (loc3 (k := 46) rfl) (by decide) (by decide)
theorem at_v214 : val m d main_v214 = divf_1024 (val m d main_v213) (val m d main_v26) :=
  at_binary chain (V0 m d) (loc3 (k := 47) rfl) (by decide) (by decide)
theorem at_v215 : val m d main_v215 = slice_1024_1023_at0 (val m d main_v214) :=
  at_unary chain (V0 m d) (loc3 (k := 48) rfl) (by decide)
theorem at_v216 : val m d main_v216 = cat_1_1023 (val m d main_v34) (val m d main_v215) :=
  at_binary chain (V0 m d) (loc3 (k := 49) rfl) (by decide) (by decide)
theorem at_v217 : val m d main_v217 = slice_1024_1023_at1 (val m d main_v214) :=
  at_unary chain (V0 m d) (loc3 (k := 50) rfl) (by decide)
theorem at_v218 : val m d main_v218 = cat_1023_1 (val m d main_v217) (val m d main_v34) :=
  at_binary chain (V0 m d) (loc3 (k := 51) rfl) (by decide) (by decide)
theorem at_v219 : val m d main_v219 = mulf_1024 (val m d main_v21) (val m d main_v216) :=
  at_binary chain (V0 m d) (loc3 (k := 52) rfl) (by decide) (by decide)
theorem at_v220 : val m d main_v220 = subf_1024 (val m d main_v32) (val m d main_v219) :=
  at_binary chain (V0 m d) (loc3 (k := 53) rfl) (by decide) (by decide)
theorem at_v221 : val m d main_v221 = mulf_1024 (val m d main_v22) (val m d main_v218) :=
  at_binary chain (V0 m d) (loc3 (k := 54) rfl) (by decide) (by decide)
theorem at_v222 : val m d main_v222 = subf_1024 (val m d main_v220) (val m d main_v221) :=
  at_binary chain (V0 m d) (loc3 (k := 55) rfl) (by decide) (by decide)
theorem at_v223 : val m d main_v223 = divf_1024 (val m d main_v222) (val m d main_v26) :=
  at_binary chain (V0 m d) (loc3 (k := 56) rfl) (by decide) (by decide)
theorem at_v224 : val m d main_v224 = slice_1024_1023_at0 (val m d main_v223) :=
  at_unary chain (V0 m d) (loc3 (k := 57) rfl) (by decide)
theorem at_v225 : val m d main_v225 = cat_1_1023 (val m d main_v34) (val m d main_v224) :=
  at_binary chain (V0 m d) (loc3 (k := 58) rfl) (by decide) (by decide)
theorem at_v226 : val m d main_v226 = slice_1024_1023_at1 (val m d main_v223) :=
  at_unary chain (V0 m d) (loc3 (k := 59) rfl) (by decide)

end Cert.Proof.Spline
-- ==== Proof.Rd.lean ====
/-
  Reading real-valued vectors at the ideal values: `Rd n v f` says the vector `v` of length `n` holds the real `f i` at
  place `i`. Each operation the two programs' tables are built from carries such a reading to its result.
-/
module

public import Idealize.ShloMosaic.PureOps.Ideal.Laws
public import Idealize.ShloMosaic.PureOps.Reduce
public import Idealize.ShloMosaic.Lib.ValueIdxCore
public import Idealize.ShloMosaic.Lib.Pipeline.Value
public import Idealize.ShloMosaic.Lib.Routing.OpsOrder

@[expose] public section

noncomputable section

namespace Cert.Proof

open Idealize.ShloMosaic Idealize.ShloMosaic.ValueIdx

/-- The flat shape of length `n`. -/
abbrev Fl (n : ℕ) : Shape := ⟨1, ![n]⟩
abbrev Sc : Shape := ⟨0, ![]⟩

/-- `v` holds the real `f i` at place `i`. -/
def Rd (n : ℕ) (v : FVec Ideal (Fl n) .f32) (f : ℕ → ℝ) : Prop := ∀ i : (Fl n).Idx, v i = ((f (i 0).val : ℝ) : EReal)

/-- The scalar `v` is the real `r`. -/
def Rs (v : FVec Ideal Sc .f32) (r : ℝ) : Prop := ∀ i : Sc.Idx, v i = ((r : ℝ) : EReal)

/-- `v` holds the integer `f i`, as a word, at place `i`. -/
def Ri (n : ℕ) (v : IVec (Fl n) 32) (f : ℕ → ℤ) : Prop := ∀ i : (Fl n).Idx, v i = BitVec.ofInt 32 (f (i 0).val)

theorem lt_fl {n : ℕ} (i : (Fl n).Idx) : (i 0).val < n := (i 0).isLt

variable {n : ℕ} {v v' : FVec Ideal (Fl n) .f32} {f g : ℕ → ℝ}

theorem Rd.congr (h : Rd n v f) (e : ∀ i < n, f i = g i) : Rd n v g := fun i => by rw [h i, e _ (lt_fl i)]

theorem Rd.add (h : Rd n v f) (h' : Rd n v' g) : Rd n (addf v v') fun i => f i + g i := fun i => by
  show v i + v' i = _; rw [h i, h' i, EReal.coe_add]
theorem Rd.sub (h : Rd n v f) (h' : Rd n v' g) : Rd n (subf v v') fun i => f i - g i := fun i => by
  show v i - v' i = _; rw [h i, h' i, EReal.coe_sub]
theorem Rd.mul (h : Rd n v f) (h' : Rd n v' g) : Rd n (mulf v v') fun i => f i * g i := fun i => by
  show v i * v' i = _; rw [h i, h' i, EReal.coe_mul]

theorem div_real {x y : ℝ} (h : y ≠ 0) : Ideal.div (x : EReal) (y : EReal) = ((x / y : ℝ) : EReal) := by
  rw [Ideal.div_coe h, ← EReal.coe_mul, mul_one_div]

theorem Rd.div (h : Rd n v f) (h' : Rd n v' g) (hg : ∀ i < n, g i ≠ 0) : Rd n (Host.divf v v') fun i => f i / g i := fun i => by
  show Ideal.div (v i) (v' i) = _; rw [h i, h' i, div_real (hg _ (lt_fl i))]

theorem Rs.sub {a b : FVec Ideal Sc .f32} {r s : ℝ} (h : Rs a r) (h' : Rs b s) : Rs (subf a b) (r - s) := fun i => by
  show a i - b i = _; rw [h i, h' i, EReal.coe_sub]
theorem Rs.div {a b : FVec Ideal Sc .f32} {r s : ℝ} (h : Rs a r) (h' : Rs b s) (hs : s ≠ 0) : Rs (Host.divf a b) (r / s) := fun i => by
  show Ideal.div (a i) (b i) = _; rw [h i, h' i, div_real hs]

/-! ## Literals -/

theorem lit0 : Ideal.ofBits .f32 0x00000000#32 = ((0 : ℝ) : EReal) := by simp [Ideal.ofBits, Ideal.ieee]
theorem lit1 : Ideal.ofBits .f32 0x3F800000#32 = ((1 : ℝ) : EReal) := by
  simp [Ideal.ofBits, Ideal.ieee]; rw [← EReal.coe_mul]; norm_num
theorem lit2 : Ideal.ofBits .f32 0x40000000#32 = ((2 : ℝ) : EReal) := by
  simp [Ideal.ofBits, Ideal.ieee]; rw [← EReal.coe_mul]; norm_num
theorem lit3 : Ideal.ofBits .f32 0x40400000#32 = ((3 : ℝ) : EReal) := by
  simp [Ideal.ofBits, Ideal.ieee]; rw [← EReal.coe_mul]; norm_num
theorem lit6 : Ideal.ofBits .f32 0x40C00000#32 = ((6 : ℝ) : EReal) := by
  simp [Ideal.ofBits, Ideal.ieee]; rw [← EReal.coe_mul]; norm_num
theorem lit4096 : Ideal.ofBits .f32 0x45800000#32 = ((4096 : ℝ) : EReal) := by
  simp [Ideal.ofBits, Ideal.ieee]; rw [← EReal.coe_mul]; norm_num
theorem litNegInf : Ideal.ofBits .f32 0xFF800000#32 = ⊥ := by simp [Ideal.ofBits, Ideal.ieee]
theorem litInf : Ideal.ofBits .f32 0x7F800000#32 = ⊤ := by simp [Ideal.ofBits, Ideal.ieee]

theorem Rs.lit {w : BitVec 32} {r : ℝ} (h : Ideal.ofBits .f32 w = (r : EReal)) : Rs (constant Sc .f32 w) r := fun _ => h

/-! ## Re-indexings -/

theorem Rd.bc {a : FVec Ideal Sc .f32} {r : ℝ} (h : Rs a r) (dims) (hb : Sc.BroadcastsInDim (Fl n) dims) :
    Rd n (broadcastInDim (Fl n) dims hb a) fun _ => r := fun _ => h _

theorem Rd.slice {k o : ℕ} (h : Rd n v f) (hs : (Fl n).Slices ![o] (Fl k)) : Rd k (extractStridedSlice (Fl k) ![o] v hs) fun i => f (o + i) := fun i =>
  h _

theorem Rs.ofSlice {a : FVec Ideal (Fl 1) .f32} (h : Rd 1 a f) (hc : (Fl 1).ShapeCasts Sc) : Rs (shapeCast Sc a hc) (f 0) := fun i => by
  show a _ = _
  rw [h _]
  have := lt_fl (Shape.reshapeEquiv hc i)
  exact congrArg (fun k => ((f k : ℝ) : EReal)) (by omega)

theorem Rd.cat {p q : ℕ} {a : FVec Ideal (Fl p) .f32} {b : FVec Ideal (Fl q) .f32} (h : Rd p a f) (h' : Rd q b g)
    (hc : Shape.Concatenates [Fl p, Fl q] (Fl n) 0) :
    Rd n (concatenate (Fl n) 0 [⟨Fl p, a⟩, ⟨Fl q, b⟩] hc) fun i => if i < p then f i else g (i - p) := fun i => by
  dsimp only
  have hn : p + q = n := by simpa using hc.2.2
  have hi := lt_fl i
  split
  · rename_i hp
    rw [concatenate_pair_apply_left (s₁ := Fl p) (s₂ := Fl q) 0 a b hc i rfl (ix1 ⟨(i 0).val, hp⟩) (fun x => by
      obtain rfl : x = 0 := Subsingleton.elim _ _
      rfl), h _]; rfl
  · rename_i hp
    rw [concatenate_pair_apply_right (s₁ := Fl p) (s₂ := Fl q) 0 a b hc i rfl rfl (ix1 ⟨(i 0).val - p, by omega⟩) (fun x hx => absurd (Subsingleton.elim _ _) hx) (by
      show (i 0).val - p + p = (i 0).val; omega), h' _]; rfl

theorem Rd.sel {c : IVec (Fl n) 1} {p : ℕ → Prop} [DecidablePred p] (hc : ∀ i, c i = BitVec.ofBool (decide (p (i 0).val))) (h : Rd n v f) (h' : Rd n v' g) :
    Rd n (select c v v') fun i => if p i then f i else g i := fun i => by
  show (if c i = 1 then v i else v' i) = _
  rw [hc i, h i, h' i]
  by_cases e : p (i 0).val <;> simp [e]

/-! ## Writing an interval -/

theorem foldl_hit {ι α : Type} (P : ι → Prop) [DecidablePred P] (u : ι → α) (c : α) (L : List ι) (a : α) (h : ∀ k ∈ L, P k → u k = c) (h' : ∃ k ∈ L, P k) :
    L.foldl (fun r k => if P k then u k else r) a = c := by
  have keep : ∀ (L : List ι), (∀ k ∈ L, P k → u k = c) → L.foldl (fun r k => if P k then u k else r) c = c := by
    intro L
    induction L with
    | nil => intro _; rfl
    | cons k L ih =>
      intro h
      rw [List.foldl_cons]
      by_cases hk : P k
      · rw [if_pos hk, h k List.mem_cons_self hk]; exact ih fun j hj => h j (List.mem_cons_of_mem _ hj)
      · rw [if_neg hk]; exact ih fun j hj => h j (List.mem_cons_of_mem _ hj)
  induction L generalizing a with
  | nil => obtain ⟨k, hk, _⟩ := h'; exact absurd hk (List.not_mem_nil)
  | cons k L ih =>
    rw [List.foldl_cons]
    by_cases hk : P k
    · rw [if_pos hk, h k List.mem_cons_self hk]; exact keep L fun j hj => h j (List.mem_cons_of_mem _ hj)
    · rw [if_neg hk]
      refine ih _ (fun j hj => h j (List.mem_cons_of_mem _ hj)) ?_
      obtain ⟨j, hj, pj⟩ := h'
      rcases List.mem_cons.1 hj with rfl | hj
      · exact absurd pj hk
      · exact ⟨j, hj, pj⟩

theorem foldl_miss {ι α : Type} (P : ι → Prop) [DecidablePred P] (u : ι → α) (L : List ι) (a : α) (h : ∀ k ∈ L, ¬ P k) :
    L.foldl (fun r k => if P k then u k else r) a = a := by
  induction L with
  | nil => rfl
  | cons k L ih => rw [List.foldl_cons, if_neg (h k List.mem_cons_self)]; exact ih fun j hj => h j (List.mem_cons_of_mem _ hj)

/-- The dimension numbers of `z.at[o:o+k].set(u)`. -/
abbrev setDims (n k : ℕ) (wf : ScatterDims.WF (Fl n) (Fl 1) (Fl k) [0] [] [0] 0) : ScatterDims (Fl n) (Fl 1) (Fl k) where
  updateWindowDims := [0]
  insertedWindowDims := []
  scatterDimsToOperandDims := [0]
  indexVectorDim := 0
  wf := wf

theorem setDims_hit {k : ℕ} (wf) (idx : IVec (Fl 1) 32) (h1 : idx = fun _ => 1#32) (j : (Fl k).Idx) (i : (Fl n).Idx) :
    (setDims n k wf).resultIdx? j idx = some i ↔ 1 + (j 0).val = (i 0).val := by
  subst h1
  have e : ∀ a, (setDims n k wf).start j (fun _ => 1#32 : IVec (Fl 1) 32) a + (setDims n k wf).window j a = 1 + ((j 0).val : ℤ) := by
    intro a
    obtain rfl : a = 0 := Subsingleton.elim _ _
    congr 1
  unfold ScatterDims.resultIdx?
  constructor
  · intro h
    split at h
    · rename_i hb
      have := congrFun (Option.some.inj h) 0
      have := congrArg Fin.val this
      dsimp only at this
      rw [e 0] at this
      omega
    · exact absurd h (by simp)
  · intro h
    have hi := lt_fl i
    rw [dif_pos (fun a => by
      obtain rfl : a = 0 := Subsingleton.elim _ _
      rw [e 0]
      refine ⟨by omega, ?_⟩
      show _ < ((n : ℕ) : ℤ)
      omega)]
    congr 1
    funext a
    obtain rfl : a = 0 := Subsingleton.elim _ _
    apply Fin.ext
    dsimp only
    rw [e 0]
    omega

theorem Rd.set {k : ℕ} {u : FVec Ideal (Fl k) .f32} (h : Rd n v f) (hu : Rd k u g) (wf) (idx : IVec (Fl 1) 32) (h1 : idx = fun _ => 1#32) :
    Rd n (Host.scatter (setDims n k wf) (fun _ b => b) v idx u) fun i => if 1 ≤ i ∧ i < 1 + k then g (i - 1) else f i := fun i => by
  rw [← Routing.scatterIn_finRange, Routing.scatterIn_at]
  dsimp only
  split
  · rename_i hi
    refine foldl_hit (fun n' => (setDims n k wf).resultIdx? ((Fl k).rowMajor.symm n') idx = some i) (fun n' => u ((Fl k).rowMajor.symm n')) _ _ _ (fun n' _ hp => ?_) ?_
    · rw [setDims_hit wf idx h1] at hp
      rw [hu _]
      exact congrArg (fun k => ((g k : ℝ) : EReal)) (by omega)
    · refine ⟨(Fl k).rowMajor (ix1 ⟨(i 0).val - 1, by omega⟩), List.mem_finRange _, ?_⟩
      rw [setDims_hit wf idx h1, Equiv.symm_apply_apply]
      show 1 + ((i 0).val - 1) = _
      omega
  · rename_i hi
    rw [← h i]
    refine foldl_miss (fun n' => (setDims n k wf).resultIdx? ((Fl k).rowMajor.symm n') idx = some i) (fun n' => u ((Fl k).rowMajor.symm n')) _ _ (fun n' _ hp => ?_)
    rw [setDims_hit wf idx h1] at hp
    have := lt_fl ((Fl k).rowMajor.symm n')
    omega

end Cert.Proof
-- ==== Proof.Words.lean ====
/-
  Reading words and tables: vectors of small integers, the comparison of a row with a column, counting along a row,
  picking one entry of a row, and the largest entry of a row.
-/
module

public import proofs.«01_k».proof.Proof.Rd

@[expose] public section

noncomputable section

namespace Cert.Proof

open Idealize.ShloMosaic Idealize.ShloMosaic.ValueIdx

/-! ## Words -/

theorem toInt_of {a : ℤ} (h : -2147483648 ≤ a) (h' : a < 2147483648) : (BitVec.ofInt 32 a).toInt = a := by
  rw [BitVec.toInt_ofInt]
  exact Int.bmod_eq_of_le (by omega) (by omega)

theorem toNat_of {a : ℤ} (h : 0 ≤ a) (h' : a < 2147483648) : (BitVec.ofInt 32 a).toNat = a.toNat := by
  rw [BitVec.toNat_ofInt, Int.emod_eq_of_lt h (by omega)]

theorem toInt_max (x y : BitVec 32) : (IntOp.maxsi x y).toInt = max x.toInt y.toInt := by
  unfold IntOp.maxsi
  rw [BitVec.slt_eq_decide]
  split <;> rename_i h <;> simp only [decide_eq_true_eq] at h <;> omega

theorem toInt_min (x y : BitVec 32) : (IntOp.minsi x y).toInt = min x.toInt y.toInt := by
  unfold IntOp.minsi
  rw [BitVec.slt_eq_decide]
  split <;> rename_i h <;> simp only [decide_eq_true_eq] at h <;> omega

theorem max_of {a b : ℤ} (ha : -2147483648 ≤ a) (ha' : a < 2147483648) (hb : -2147483648 ≤ b) (hb' : b < 2147483648) :
    IntOp.maxsi (BitVec.ofInt 32 a) (BitVec.ofInt 32 b) = BitVec.ofInt 32 (max a b) := by
  refine BitVec.eq_of_toInt_eq ?_
  rw [toInt_max, toInt_of ha ha', toInt_of hb hb', toInt_of (by omega) (by omega)]

theorem min_of {a b : ℤ} (ha : -2147483648 ≤ a) (ha' : a < 2147483648) (hb : -2147483648 ≤ b) (hb' : b < 2147483648) :
    IntOp.minsi (BitVec.ofInt 32 a) (BitVec.ofInt 32 b) = BitVec.ofInt 32 (min a b) := by
  refine BitVec.eq_of_toInt_eq ?_
  rw [toInt_min, toInt_of ha ha', toInt_of hb hb', toInt_of (by omega) (by omega)]

theorem add_of (a b : ℤ) : IntOp.addi (BitVec.ofInt 32 a) (BitVec.ofInt 32 b) = BitVec.ofInt 32 (a + b) := by
  show _ + _ = _
  rw [BitVec.ofInt_add]

theorem sub_of (a b : ℤ) : IntOp.subi (BitVec.ofInt 32 a) (BitVec.ofInt 32 b) = BitVec.ofInt 32 (a - b) := by
  refine BitVec.eq_of_toInt_eq ?_
  show (_ - _ : BitVec 32).toInt = _
  rw [BitVec.toInt_sub, BitVec.toInt_ofInt, BitVec.toInt_ofInt, BitVec.toInt_ofInt, Int.bmod_sub_bmod, Int.sub_bmod_bmod]

theorem eq_of_words {a b : ℤ} (ha : -2147483648 ≤ a) (ha' : a < 2147483648) (hb : -2147483648 ≤ b) (hb' : b < 2147483648) :
    IntOp.cmpi .eq (BitVec.ofInt 32 a) (BitVec.ofInt 32 b) = BitVec.ofBool (decide (a = b)) := by
  show BitVec.ofBool (_ == _) = _
  congr 1
  rw [beq_eq_decide]
  refine decide_eq_decide.2 ⟨fun h => ?_, fun h => by rw [h]⟩
  have := congrArg BitVec.toInt h
  rwa [toInt_of ha ha', toInt_of hb hb'] at this

theorem sle_of_words {a b : ℤ} (ha : -2147483648 ≤ a) (ha' : a < 2147483648) (hb : -2147483648 ≤ b) (hb' : b < 2147483648) :
    IntOp.cmpi .sle (BitVec.ofInt 32 a) (BitVec.ofInt 32 b) = BitVec.ofBool (decide (a ≤ b)) := by
  show BitVec.ofBool (BitVec.sle _ _) = _
  rw [BitVec.sle_eq_decide, toInt_of ha ha', toInt_of hb hb']

theorem slt_of_words {a b : ℤ} (ha : -2147483648 ≤ a) (ha' : a < 2147483648) (hb : -2147483648 ≤ b) (hb' : b < 2147483648) :
    IntOp.cmpi .slt (BitVec.ofInt 32 a) (BitVec.ofInt 32 b) = BitVec.ofBool (decide (a < b)) := by
  show BitVec.ofBool (BitVec.slt _ _) = _
  rw [BitVec.slt_eq_decide, toInt_of ha ha', toInt_of hb hb']

theorem toInt_fptosi (r : ℝ) : (Ideal.fptosi 32 (r : EReal)).toInt = max (-2147483648) (min 2147483647 (if 0 ≤ r then ⌊r⌋ else ⌈r⌉)) := by
  unfold Ideal.fptosi
  rw [Ideal.toIntClamped_coe]
  norm_num
  exact Int.bmod_eq_of_le (by omega) (by omega)

/-- Rounded toward zero and kept from 0 to 4095 is rounded down and kept so, in either order of the two bounds' operands. -/
theorem clamp_word (r : ℝ) : min (max (Ideal.fptosi 32 (r : EReal)).toInt 0) 4095 = min (max ⌊r⌋ 0) 4095 := by
  rw [toInt_fptosi]
  split
  · omega
  · rename_i h
    have h1 : ⌈r⌉ ≤ 0 := Int.ceil_le.2 (by push_cast; linarith)
    have h2 : ⌊r⌋ ≤ ⌈r⌉ := Int.floor_le_ceil r
    omega

theorem clamp_lane (r : ℝ) : IntOp.minsi (IntOp.maxsi (Ideal.fptosi 32 (r : EReal)) 0#32) 4095#32 = BitVec.ofInt 32 (min (max ⌊r⌋ 0) 4095) := by
  refine BitVec.eq_of_toInt_eq ?_
  rw [toInt_min, toInt_max, toInt_of (by omega) (by omega), ← clamp_word]
  rfl

theorem clamp_host (r : ℝ) : IntOp.minsi 4095#32 (IntOp.maxsi 0#32 (Ideal.fptosi 32 (r : EReal))) = BitVec.ofInt 32 (min (max ⌊r⌋ 0) 4095) := by
  refine BitVec.eq_of_toInt_eq ?_
  rw [toInt_min, toInt_max, toInt_of (by omega) (by omega), ← clamp_word, min_comm, max_comm]
  rfl

/-! ## Rows and columns -/

/-- The shape of `r` rows of `n`. -/
abbrev Mx (r n : ℕ) : Shape := ⟨2, ![r, n]⟩

variable {r n : ℕ}

/-- A vector repeated on every row, at an entry. -/
theorem row_at {α : Type} (hn : n ≠ 1) (v : (Fl n).Idx → α) (h : (Fl n).BroadcastsInDim (Mx 1 n) ![1]) (h' : (Mx 1 n).BroadcastsInDim (Mx r n) ![0, 1])
    (i : (Mx r n).Idx) : broadcastInDim (Mx r n) ![0, 1] h' (broadcastInDim (Mx 1 n) ![1] h v) i = v (ix1 ⟨(i 1).val, (i 1).isLt⟩) := by
  unfold broadcastInDim
  congr 1
  funext a
  obtain rfl : a = 0 := Subsingleton.elim _ _
  apply Fin.ext
  simp [hn]
  rfl

/-- A vector repeated on every column, at an entry. -/
theorem col_at {α : Type} (hr : r ≠ 1) (v : (Fl r).Idx → α) (h : (Fl r).BroadcastsInDim (Mx r 1) ![0]) (h' : (Mx r 1).BroadcastsInDim (Mx r n) ![0, 1])
    (i : (Mx r n).Idx) : broadcastInDim (Mx r n) ![0, 1] h' (broadcastInDim (Mx r 1) ![0] h v) i = v (ix1 ⟨(i 0).val, (i 0).isLt⟩) := by
  unfold broadcastInDim
  congr 1
  funext a
  obtain rfl : a = 0 := Subsingleton.elim _ _
  apply Fin.ext
  simp [hr]
  rfl

theorem lift_row (h : (Mx r n).Reduces [1] (Fl r)) (j : (Fl r).Idx) (k : Fin ((Mx r n).size 1)) : (h.lift j k 0).val = (j 0).val :=
  (h.lift_val j k 0).trans rfl
theorem lift_col (h : (Mx r n).Reduces [1] (Fl r)) (j : (Fl r).Idx) (k : Fin ((Mx r n).size 1)) : (h.lift j k 1).val = k.val :=
  (h.lift_val j k 1).trans rfl

/-- The bits of a comparison of places and rows. -/
def Bits (r n : ℕ) (c : IVec (Mx r n) 1) (P : ℕ → ℕ → Prop) [∀ j, DecidablePred (P j)] : Prop :=
  ∀ i : (Mx r n).Idx, c i = BitVec.ofBool (decide (P (i 0).val (i 1).val))

theorem card_fin (n : ℕ) (P : ℕ → Prop) [DecidablePred P] :
    ((Finset.univ : Finset (Fin n)).filter fun k => P k.val).card = ((Finset.range n).filter P).card := by
  refine Finset.card_nbij (fun k => k.val) ?_ ?_ ?_
  · intro k hk
    exact Finset.mem_filter.2 ⟨Finset.mem_range.2 k.isLt, (Finset.mem_filter.1 hk).2⟩
  · intro k _ k' _ e; exact Fin.ext e
  · intro k hk
    have := Finset.mem_filter.1 hk
    exact ⟨⟨k, Finset.mem_range.1 this.1⟩, by simp [this.2], rfl⟩

theorem fold_count {ι : Type} [DecidableEq ι] (s : Finset ι) (p : ι → Prop) [DecidablePred p] :
    s.fold IntOp.addi 0#32 (fun k => (BitVec.ofBool (decide (p k))).setWidth 32) = BitVec.ofInt 32 ((s.filter p).card : ℤ) := by
  induction s using Finset.induction_on with
  | empty => rfl
  | insert a s ha ih =>
    rw [Finset.fold_insert ha, ih, Finset.filter_insert]
    by_cases h : p a
    · rw [if_pos h, Finset.card_insert_of_notMem (by simp [ha])]
      rw [decide_eq_true h]
      push_cast
      rw [add_comm, ← add_of]
      rfl
    · rw [if_neg h, decide_eq_false h]
      show (0#32 : BitVec 32) + _ = _
      rw [BitVec.zero_add]

/-- Adding up a row's bits counts the places where they hold. -/
theorem Bits.count {c : IVec (Mx r n) 1} {P : ℕ → ℕ → Prop} [∀ j, DecidablePred (P j)] (hc : Bits r n c P) (hw : 1 < 32) (v : IVec Sc 32) (hv : v = fun _ => 0#32)
    (h' : (Mx r n).ReducesTo [1] (Fl r)) (h : (Mx r n).Reduces [1] (Fl r)) (hu : 0 < Sc.numel) :
    Ri r (Host.reduce IntOp.addi (extui 32 c hw) v h' hu) fun j => (((Finset.range n).filter (P j)).card : ℤ) := fun j => by
  rw [Host.reduce_eq_fold_single _ _ _ h' h hu j, hv]
  dsimp only
  rw [← card_fin, ← fold_count]
  refine Finset.fold_congr fun k _ => ?_
  show (c (h.lift j k)).setWidth 32 = _
  rw [hc (h.lift j k), lift_row h, lift_col h]

/-- A row's entry where the bits keep it, else the scalar. -/
theorem Bits.entry {c : IVec (Mx r n) 1} {P : ℕ → ℕ → Prop} [∀ j, DecidablePred (P j)] (hc : Bits r n c P)
    (hn : n ≠ 1) {p : FVec Ideal (Fl n) .f32} {g : ℕ → ℝ} (hp : Rd n p g)
    (b1 : (Fl n).BroadcastsInDim (Mx 1 n) ![1]) (b2 : (Mx 1 n).BroadcastsInDim (Mx r n) ![0, 1]) (b3 : Sc.BroadcastsInDim (Mx r n) ![])
    {z : FVec Ideal Sc .f32} {e : EReal} (hz : ∀ i, z i = e) (i : (Mx r n).Idx) :
    select c (broadcastInDim (Mx r n) ![0, 1] b2 (broadcastInDim (Mx 1 n) ![1] b1 p)) (broadcastInDim (Mx r n) ![] b3 z) i
      = if P (i 0).val (i 1).val then ((g (i 1).val : ℝ) : EReal) else e := by
  show (if c i = 1 then broadcastInDim (Mx r n) ![0, 1] b2 (broadcastInDim (Mx 1 n) ![1] b1 p) i else broadcastInDim (Mx r n) ![] b3 z i) = _
  rw [hc i, row_at hn, hp _, show broadcastInDim (Mx r n) ![] b3 z i = e from hz _]
  by_cases h : P (i 0).val (i 1).val
  · simp [h]; rfl
  · simp [h]

/-- The sum of a row with one place kept is that place's entry. -/
theorem Bits.pick {c : IVec (Mx r n) 1} {f : ℕ → ℤ} (hc : Bits r n c fun j k => (k : ℤ) = f j) (hf : ∀ j < r, 0 ≤ f j ∧ f j < n)
    (hn : n ≠ 1) {p : FVec Ideal (Fl n) .f32} {g : ℕ → ℝ} (hp : Rd n p g)
    (b1 : (Fl n).BroadcastsInDim (Mx 1 n) ![1]) (b2 : (Mx 1 n).BroadcastsInDim (Mx r n) ![0, 1]) (b3 : Sc.BroadcastsInDim (Mx r n) ![])
    {z z' : FVec Ideal Sc .f32} (hz : Rs z 0) (hz' : Rs z' 0)
    (h' : (Mx r n).ReducesTo [1] (Fl r)) (h : (Mx r n).Reduces [1] (Fl r)) (hu : 0 < Sc.numel) :
    Rd r (Host.reduceAdd (select c (broadcastInDim (Mx r n) ![0, 1] b2 (broadcastInDim (Mx 1 n) ![1] b1 p)) (broadcastInDim (Mx r n) ![] b3 z)) z' h' hu)
      fun j => g (f j).toNat := fun j => by
  show Ideal.hostReduceAdd h' _ (z' _) j = _
  obtain ⟨f0, f1⟩ := hf _ (lt_fl j)
  rw [Ideal.hostReduceAdd_single h' h, hz' _, EReal.coe_zero, zero_add]
  refine (Finset.sum_eq_single (⟨(f (j 0).val).toNat, by show _ < n; omega⟩ : Fin ((Mx r n).size 1)) ?_ ?_).trans ?_
  · intro k _ hk
    rw [hc.entry hn hp b1 b2 b3 hz (h.lift j k), lift_row h, lift_col h, if_neg, EReal.coe_zero]
    exact fun e => hk (Fin.ext (by show k.val = (f (j 0).val).toNat; omega))
  · intro hk; exact absurd (Finset.mem_univ _) hk
  · rw [hc.entry hn hp b1 b2 b3 hz (h.lift j _), lift_row h, lift_col h, if_pos (Int.toNat_of_nonneg f0)]

/-- A place is at or above the largest kept entry of a row exactly when it is at or above each. -/
theorem Bits.max_le {c : IVec (Mx r n) 1} {P : ℕ → ℕ → Prop} [∀ j, DecidablePred (P j)] (hc : Bits r n c P)
    (hn : n ≠ 1) {p : FVec Ideal (Fl n) .f32} {g : ℕ → ℝ} (hp : Rd n p g)
    (b1 : (Fl n).BroadcastsInDim (Mx 1 n) ![1]) (b2 : (Mx 1 n).BroadcastsInDim (Mx r n) ![0, 1]) (b3 : Sc.BroadcastsInDim (Mx r n) ![])
    {z z' : FVec Ideal Sc .f32} (hz : ∀ i, z i = (⊥ : EReal)) (hz' : ∀ i, z' i = (⊥ : EReal))
    (h' : (Mx r n).ReducesTo [1] (Fl r)) (h : (Mx r n).Reduces [1] (Fl r)) (hu : 0 < Sc.numel) (j : (Fl r).Idx) (v : ℝ) :
    Host.reduce (FloatOps.maximumf (F := Ideal) (φ := .f32)) (select c (broadcastInDim (Mx r n) ![0, 1] b2 (broadcastInDim (Mx 1 n) ![1] b1 p)) (broadcastInDim (Mx r n) ![] b3 z)) z' h' hu j ≤ (v : EReal)
      ↔ ∀ k < n, P (j 0).val k → g k ≤ v := by
  rw [Host.reduce_eq_fold_single (FloatOps.maximumf (F := Ideal) (φ := .f32)) _ z' h' h hu j, hz' _]
  have e : ∀ q : Fin ((Mx r n).size 1) → EReal, ((Finset.univ : Finset (Fin ((Mx r n).size 1))).fold (FloatOps.maximumf (F := Ideal) (φ := .f32)) (⊥ : EReal) q ≤ (v : EReal)) ↔ ∀ k, q k ≤ (v : EReal) := fun q => by
    have := Finset.fold_max_le (f := q) (b := (⊥ : EReal)) (s := Finset.univ) (c := (v : EReal))
    exact this.trans ⟨fun h k => h.2 k (Finset.mem_univ k), fun h => ⟨bot_le, fun k _ => h k⟩⟩
  refine (e _).trans ⟨fun hq k hk hP => ?_, fun hq k => ?_⟩
  · have := hq ⟨k, hk⟩
    dsimp only [Function.comp] at this
    rw [hc.entry hn hp b1 b2 b3 hz (h.lift j _), lift_row h, lift_col h, if_pos hP] at this
    exact EReal.coe_le_coe_iff.1 this
  · dsimp only [Function.comp]
    rw [hc.entry hn hp b1 b2 b3 hz (h.lift j k), lift_row h, lift_col h]
    split
    · rename_i hP; exact EReal.coe_le_coe_iff.2 (hq k.val k.isLt hP)
    · exact bot_le

end Cert.Proof
-- ==== Proof.Find.lean ====
/-
  Which cubic a query falls on, over the reals. The knots `X 0 < … < X 1023` lie at least one bucket's width apart, the
  width being a 4096th of their range. `buck X v` is the bucket of the place `v`. Counting the knots up to a bucket, less
  the knots in it when the query is before them, gives the same interval as counting the knots up to the query.
-/
module

public import Idealize.ShloMosaic.PureOps.Ideal.Laws

@[expose] public section

noncomputable section

namespace Cert.Proof

open Finset

/-- The knots ascend, by at least a 4096th of their range. -/
structure Knots (X : ℕ → ℝ) : Prop where
  gap : ∀ i < 1023, 0 < X (i + 1) - X i
  wide : ∀ i < 1023, X 1023 - X 0 ≤ (X (i + 1) - X i) * 4096

/-- Buckets per unit of length. -/
def scale (X : ℕ → ℝ) : ℝ := 4096 / (X 1023 - X 0)

/-- The bucket of `v`: how many widths it is from the first knot, rounded down and kept in range. -/
def buck (X : ℕ → ℝ) (v : ℝ) : ℤ := min (max ⌊(v - X 0) * scale X⌋ 0) 4095

/-- How many of the first 1023 knots are in buckets up to `j`, in bucket `j`, and up to `v`. -/
def cle (X : ℕ → ℝ) (j : ℤ) : ℕ := ((range 1023).filter fun i => buck X (X i) ≤ j).card
def ceq (X : ℕ → ℝ) (j : ℤ) : ℕ := ((range 1023).filter fun i => buck X (X i) = j).card
def cnt (X : ℕ → ℝ) (n : ℕ) (v : ℝ) : ℕ := ((range n).filter fun i => X i ≤ v).card

/-- The interval counted from the query, and the two intervals kept for a bucket. -/
def ival (X : ℕ → ℝ) (v : ℝ) : ℤ := min 1022 (max 0 ((cnt X 1024 v : ℤ) - 1))
def row1 (X : ℕ → ℝ) (j : ℤ) : ℤ := (cle X j : ℤ) - 1
def row0 (X : ℕ → ℝ) (j : ℤ) : ℤ := max (row1 X j - (ceq X j : ℤ)) 0

variable {X : ℕ → ℝ} (K : Knots X)
include K

theorem Knots.lt {i j : ℕ} (h : i < j) (hj : j ≤ 1023) : X i < X j := by
  induction j with
  | zero => omega
  | succ j ih =>
    have := K.gap j (by omega)
    rcases Nat.lt_succ_iff_lt_or_eq.1 h with h | rfl
    · have := ih h (by omega); linarith
    · linarith

theorem Knots.range_pos : 0 < X 1023 - X 0 := by have := K.lt (i := 0) (j := 1023) (by omega) le_rfl; linarith

theorem Knots.scale_pos : 0 < scale X := div_pos (by norm_num) K.range_pos

theorem Knots.buck_mono {u v : ℝ} (h : u ≤ v) : buck X u ≤ buck X v := by
  have := Int.floor_mono (mul_le_mul_of_nonneg_right (sub_le_sub_right h (X 0)) K.scale_pos.le)
  unfold buck; omega

omit K in
theorem buck_nonneg (v : ℝ) : 0 ≤ buck X v := by unfold buck; omega
omit K in
theorem buck_le (v : ℝ) : buck X v ≤ 4095 := by unfold buck; omega

omit K in
theorem buck_zero : buck X (X 0) = 0 := by unfold buck; simp

/-- Before the last knot nothing is cut off. -/
theorem Knots.buck_knot {i : ℕ} (hi : i < 1023) : buck X (X i) = ⌊(X i - X 0) * scale X⌋ := by
  have h0 : X 0 ≤ X i := by
    rcases Nat.eq_zero_or_pos i with rfl | h
    · exact le_rfl
    · exact (K.lt h (by omega)).le
  have h1 : 0 ≤ ⌊(X i - X 0) * scale X⌋ := Int.floor_nonneg.2 (mul_nonneg (by linarith) K.scale_pos.le)
  have h2 : (X i - X 0) * scale X < 4096 := by
    have := K.lt hi le_rfl
    unfold scale
    rw [mul_div_assoc', div_lt_iff₀ K.range_pos]
    nlinarith
  have h3 : ⌊(X i - X 0) * scale X⌋ < 4096 := Int.floor_lt.2 (by exact_mod_cast h2)
  unfold buck; omega

theorem Knots.buck_step {i : ℕ} (hi : i + 1 < 1023) : buck X (X i) < buck X (X (i + 1)) := by
  rw [K.buck_knot (by omega), K.buck_knot hi]
  have h : (X i - X 0) * scale X + 1 ≤ (X (i + 1) - X 0) * scale X := by
    have := K.wide i (by omega)
    have e : 1 ≤ (X (i + 1) - X i) * scale X := by
      unfold scale
      rw [mul_div_assoc', le_div_iff₀ K.range_pos]; linarith
    nlinarith
  have := Int.floor_mono h
  rw [Int.floor_add_one] at this
  omega

theorem Knots.buck_lt {i j : ℕ} (h : i < j) (hj : j < 1023) : buck X (X i) < buck X (X j) := by
  induction j with
  | zero => omega
  | succ j ih =>
    have := K.buck_step (i := j) hj
    rcases Nat.lt_succ_iff_lt_or_eq.1 h with h | rfl
    · have := ih h (by omega); omega
    · exact this

theorem Knots.buck_inj {i j : ℕ} (hi : i < 1023) (hj : j < 1023) (h : buck X (X i) = buck X (X j)) : i = j := by
  rcases Nat.lt_trichotomy i j with h' | h' | h'
  · have := K.buck_lt h' hj; omega
  · exact h'
  · have := K.buck_lt h' hi; omega

/-- From the query's count of all knots to its count of the first 1023. -/
theorem Knots.ival_eq (v : ℝ) : ival X v = max ((cnt X 1023 v : ℤ) - 1) 0 := by
  have le : cnt X 1023 v ≤ 1023 := (card_filter_le _ _).trans (by simp)
  unfold ival
  by_cases h : X 1023 ≤ v
  · have e : cnt X 1023 v = 1023 := by
      unfold cnt
      rw [filter_true_of_mem fun i hi => (K.lt (mem_range.1 hi) le_rfl).le.trans h, card_range]
    have e' : cnt X 1024 v = cnt X 1023 v + 1 := by
      unfold cnt
      rw [range_add_one (n := 1023), filter_insert, if_pos h, card_insert_of_notMem (by simp)]
    omega
  · have e' : cnt X 1024 v = cnt X 1023 v := by
      unfold cnt
      rw [range_add_one (n := 1023), filter_insert, if_neg h]
    omega

omit K in
theorem cle_pos {j : ℤ} (hj : 0 ≤ j) : 1 ≤ cle X j :=
  card_pos.2 ⟨0, mem_filter.2 ⟨mem_range.2 (by omega), by rw [buck_zero]; exact hj⟩⟩

omit K in
theorem cle_le (j : ℤ) : cle X j ≤ 1023 := (card_filter_le _ _).trans (by simp)

omit K in
theorem row1_bounds {j : ℤ} (hj : 0 ≤ j) : 0 ≤ row1 X j ∧ row1 X j ≤ 1022 := by
  have := cle_pos (X := X) hj; have := cle_le (X := X) j; unfold row1; omega
omit K in
theorem row0_bounds {j : ℤ} (hj : 0 ≤ j) : 0 ≤ row0 X j ∧ row0 X j ≤ 1022 := by
  have := row1_bounds (X := X) hj; unfold row0; omega
omit K in
theorem ival_bounds (v : ℝ) : 0 ≤ ival X v ∧ ival X v ≤ 1022 := by unfold ival; omega

/-- At or after every knot of its bucket: the count up to the bucket. -/
theorem Knots.ival_hit (v : ℝ) (h : ∀ k < 1023, buck X (X k) = buck X v → X k ≤ v) : ival X v = row1 X (buck X v) := by
  have e : cnt X 1023 v = cle X (buck X v) := by
    unfold cnt cle
    congr 1
    refine filter_congr fun i hi => ⟨fun hv => K.buck_mono hv, fun hb => ?_⟩
    rcases hb.lt_or_eq with hb | hb
    · by_contra hv
      have := K.buck_mono (le_of_not_ge hv)
      omega
    · exact h i (mem_range.1 hi) hb
  have := cle_pos (X := X) (buck_nonneg (X := X) v)
  rw [K.ival_eq, e]; unfold row1; omega

/-- Before a knot of its bucket, its only one: that knot is not counted. -/
theorem Knots.ival_miss (v : ℝ) (h : ¬ ∀ k < 1023, buck X (X k) = buck X v → X k ≤ v) : ival X v = row0 X (buck X v) := by
  push Not at h
  obtain ⟨k, hk, hb, hv⟩ := h
  have e : cnt X 1023 v + ceq X (buck X v) = cle X (buck X v) := by
    unfold cnt ceq cle
    rw [← card_union_of_disjoint, ← filter_or]
    · congr 1
      refine filter_congr fun i hi => ⟨fun hi' => ?_, fun hi' => ?_⟩
      · rcases hi' with hi' | hi'
        · exact K.buck_mono hi'
        · exact hi'.le
      · rcases hi'.lt_or_eq with h' | h'
        · left
          by_contra hv'
          have := K.buck_mono (le_of_not_ge hv')
          omega
        · exact Or.inr h'
    · refine disjoint_filter.2 fun i hi h1 h2 => ?_
      obtain rfl := K.buck_inj (mem_range.1 hi) hk (h2.trans hb.symm)
      linarith
  rw [K.ival_eq]; unfold row0 row1; omega

end Cert.Proof
-- ==== Proof.Cubic.lean ====
/-
  The curve's second derivatives as both programs compute them, 41 Jacobi sweeps from zero, and one interval's cubic
  written both ways: from the interval's two ends, and about the bucket's edge from the interval's coefficients.
-/
module

public import Idealize.ShloMosaic.PureOps.Ideal.Laws

@[expose] public section

noncomputable section

namespace Cert.Proof

/-- Length and slope of interval `i`. -/
def hh (X : ℕ → ℝ) (i : ℕ) : ℝ := X (i + 1) - X i
def dd (X Y : ℕ → ℝ) (i : ℕ) : ℝ := (Y (i + 1) - Y i) / hh X i

/-- The second derivative at knot `i` after `k` sweeps. -/
def Z (X Y : ℕ → ℝ) : ℕ → ℕ → ℝ
  | 0, _ => 0
  | k + 1, i => if 1 ≤ i ∧ i ≤ 1022 then
      ((dd X Y i - dd X Y (i - 1) - hh X (i - 1) / 6 * Z X Y k (i - 1)) - hh X i / 6 * Z X Y k (i + 1)) / ((hh X (i - 1) + hh X i) / 3)
    else 0

theorem Z_succ (X Y : ℕ → ℝ) (k i : ℕ) : Z X Y (k + 1) i = if 1 ≤ i ∧ i ≤ 1022 then
      ((dd X Y i - dd X Y (i - 1) - hh X (i - 1) / 6 * Z X Y k (i - 1)) - hh X i / 6 * Z X Y k (i + 1)) / ((hh X (i - 1) + hh X i) / 3)
    else 0 := rfl

/-- The second derivatives used. -/
abbrev ZZ (X Y : ℕ → ℝ) (i : ℕ) : ℝ := Z X Y 41 i

/-- The cubic of interval `s`, from the interval's ends. -/
def spline (X Y : ℕ → ℝ) (s : ℕ) (v : ℝ) : ℝ :=
  (X (s + 1) - v) / hh X s * (Y s + ((X (s + 1) - v) / hh X s * ((X (s + 1) - v) / hh X s) - 1) * ZZ X Y s * (hh X s * hh X s / 6))
    + (v - X s) / hh X s * (Y (s + 1) + ((v - X s) / hh X s * ((v - X s) / hh X s) - 1) * ZZ X Y (s + 1) * (hh X s * hh X s / 6))

/-- Its coefficients about the interval's left end. -/
def p1 (X Y : ℕ → ℝ) (s : ℕ) : ℝ := dd X Y s - hh X s * (2 * ZZ X Y s + ZZ X Y (s + 1)) / 6
def p2 (X Y : ℕ → ℝ) (s : ℕ) : ℝ := ZZ X Y s / 2
def p3 (X Y : ℕ → ℝ) (s : ℕ) : ℝ := (ZZ X Y (s + 1) - ZZ X Y s) / (6 * hh X s)

/-- The same coefficients about the place `e`. -/
def c0 (X Y : ℕ → ℝ) (s : ℕ) (e : ℝ) : ℝ := Y s + (e - X s) * (p1 X Y s + (e - X s) * (p2 X Y s + (e - X s) * p3 X Y s))
def c1 (X Y : ℕ → ℝ) (s : ℕ) (e : ℝ) : ℝ := p1 X Y s + (e - X s) * (2 * p2 X Y s + 3 * p3 X Y s * (e - X s))
def c2 (X Y : ℕ → ℝ) (s : ℕ) (e : ℝ) : ℝ := p2 X Y s + 3 * p3 X Y s * (e - X s)

/-- The cubic about any place is the cubic of the interval. -/
theorem cubic_eq (X Y : ℕ → ℝ) (s : ℕ) (hs : hh X s ≠ 0) (o w v : ℝ) :
    c0 X Y s (o + w) + ((v - o) - w) * (c1 X Y s (o + w) + ((v - o) - w) * (c2 X Y s (o + w) + ((v - o) - w) * p3 X Y s))
      = spline X Y s v := by
  have e : c0 X Y s (o + w) + ((v - o) - w) * (c1 X Y s (o + w) + ((v - o) - w) * (c2 X Y s (o + w) + ((v - o) - w) * p3 X Y s))
      = Y s + (v - X s) * (p1 X Y s + (v - X s) * (p2 X Y s + (v - X s) * p3 X Y s)) := by
    unfold c0 c1 c2; ring
  rw [e]
  unfold spline p1 p2 p3 dd
  have hx : X (s + 1) = X s + hh X s := by unfold hh; ring
  rw [hx]
  generalize hh X s = h at hs ⊢
  generalize ZZ X Y s = za
  generalize ZZ X Y (s + 1) = zb
  field_simp
  ring

end Cert.Proof
-- ==== Proof.KerA.lean ====
/-
  The kernel's system and its sweeps, read over the reals: the same second derivatives as `Z`, sweep by sweep.
-/
module

public import proofs.«01_k».proof.Proof.HostEqsA
public import proofs.«01_k».proof.Proof.Words
public import proofs.«01_k».proof.Proof.Find
public import proofs.«01_k».proof.Proof.Cubic

@[expose] public section

noncomputable section

namespace Cert.Proof.Spline

open Cert.KernelIdeal Cert.KernelIdeal.Gen

open Idealize.ShloMosaic Idealize.ShloMosaic.StableHlo Idealize.ShloMosaic.ValueIdx

/-- The knots and values are real, and the knots are spaced. -/
structure Reads (m : (ℓ : Loc nD τ sig) → Buf (Elt Ideal) ℓ) (d : Dev nD) (X Y : ℕ → ℝ) : Prop where
  kn : Rd 1024 (val m d main_arg1) X
  vl : Rd 1024 (val m d main_arg2) Y
  K : Knots X

/-- The interior knots. -/
def inn (i : ℕ) : Prop := 1 ≤ i ∧ i ≤ 1022
instance : DecidablePred inn := fun i => inferInstanceAs (Decidable (1 ≤ i ∧ i ≤ 1022))

/-- The system's entries: below, above and on the diagonal, and its right side. -/
def loF (X : ℕ → ℝ) (i : ℕ) : ℝ := if inn i then hh X (i - 1) / 6 else 0
def upF (X : ℕ → ℝ) (i : ℕ) : ℝ := if inn i then hh X i / 6 else 0
def dgF (X : ℕ → ℝ) (i : ℕ) : ℝ := if inn i then (hh X (i - 1) + hh X i) / 3 else 1
def rhF (X Y : ℕ → ℝ) (i : ℕ) : ℝ := if inn i then dd X Y i - dd X Y (i - 1) else 0

theorem hh_ne {X : ℕ → ℝ} (K : Knots X) {i : ℕ} (hi : i < 1023) : hh X i ≠ 0 := (K.gap i hi).ne'

theorem dgF_ne {X : ℕ → ℝ} (K : Knots X) (i : ℕ) : dgF X i ≠ 0 := by
  unfold dgF
  split
  · rename_i h
    obtain ⟨h1, h2⟩ := h
    have a := K.gap i (by omega)
    have b := K.gap (i - 1) (by omega)
    unfold hh
    exact (div_pos (by linarith) (by norm_num)).ne'
  · exact one_ne_zero

theorem ofInt_nat (n : ℕ) : BitVec.ofNat 32 n = BitVec.ofInt 32 (n : ℤ) := (BitVec.ofInt_natCast 32 n).symm

theorem and_bits (a b : Bool) : IntOp.andi (BitVec.ofBool a) (BitVec.ofBool b) = BitVec.ofBool (a && b) := by
  cases a <;> cases b <;> rfl

/-- One sweep. -/
theorem sweep {X Y : ℕ → ℝ} (K : Knots X) {k : ℕ} {z lo up rh dg : FVec Ideal (Fl 1024) .f32} {b : FVec Ideal (Fl 1) .f32}
    (hz : Rd 1024 z (Z X Y k)) (hb : Rd 1 b fun _ => 0) (hlo : Rd 1024 lo (loF X)) (hup : Rd 1024 up (upF X)) (hrh : Rd 1024 rh (rhF X Y))
    (hdg : Rd 1024 dg (dgF X)) :
    Rd 1024 (divf_1024 (F := Ideal) (subf_1024 (F := Ideal) (subf_1024 (F := Ideal) rh (mulf_1024 (F := Ideal) lo (cat_1_1023 (F := Ideal) b (slice_1024_1023_at0 (F := Ideal) z)))) (mulf_1024 (F := Ideal) up (cat_1023_1 (F := Ideal) (slice_1024_1023_at1 (F := Ideal) z) b))) dg)
      (Z X Y (k + 1)) := by
  refine (((hrh.sub (hlo.mul (hb.cat (hz.slice slices_S1024_S1023_0) concatenates_S1_S1023_S1024_d0))).sub
    (hup.mul ((hz.slice slices_S1024_S1023_1).cat hb concatenates_S1023_S1_S1024_d0))).div hdg fun i _ => dgF_ne K i).congr fun i hi => ?_
  rw [Z_succ]
  unfold rhF loF upF dgF
  by_cases h : inn i
  · have h1 : ¬ i < 1 := by have := h.1; omega
    have h2 : i < 1023 := by have := h.2; omega
    have h3 : 1 ≤ i ∧ i ≤ 1022 := h
    rw [if_pos h, if_pos h, if_pos h, if_pos h, if_neg h1, if_pos h2, if_pos h3, Nat.zero_add, Nat.add_comm 1 i]
  · have h3 : ¬ (1 ≤ i ∧ i ≤ 1022) := h
    rw [if_neg h, if_neg h, if_neg h, if_neg h, if_neg h3]
    simp

variable {m : (ℓ : Loc nD τ sig) → Buf (Elt Ideal) ℓ} {d : Dev nD} {X Y : ℕ → ℝ} (R : Reads m d X Y)
include R

theorem r_v2 : Rd 1023 (val m d main_v2) (hh X) := by
  rw [at_v2, at_v0, at_v1]
  exact ((R.kn.slice slices_S1024_S1023_1).sub (R.kn.slice slices_S1024_S1023_0)).congr fun i _ => by unfold hh; rw [Nat.add_comm 1 i, Nat.zero_add]

theorem r_v6 : Rd 1023 (val m d main_v6) (dd X Y) := by
  rw [at_v6, at_v5, at_v3, at_v4]
  exact (((R.vl.slice slices_S1024_S1023_1).sub (R.vl.slice slices_S1024_S1023_0)).div (r_v2 R) fun i hi => hh_ne R.K hi).congr fun i _ => by
    unfold dd; rw [Nat.add_comm 1 i, Nat.zero_add]

omit R in
theorem r_zero1 : Rd 1 (val m d main_v34) fun _ => 0 := by
  rw [at_v34, at_cst_10]; exact Rd.bc (Rs.lit lit0) _ _

theorem r_h6 : Rd 1023 (val m d main_v9) fun i => hh X i / 6 := by
  rw [at_v9, at_v8, at_cst_0]; exact (r_v2 R).div (Rd.bc (Rs.lit lit6) _ _) fun _ _ => by norm_num
theorem r_h6' : Rd 1023 (val m d main_v12) fun i => hh X i / 6 := by
  rw [at_v12, at_v11, at_cst_1]; exact (r_v2 R).div (Rd.bc (Rs.lit lit6) _ _) fun _ _ => by norm_num

omit R in
theorem r_v20 (i : (Fl 1024).Idx) : (val m d main_v20 : IVec (Fl 1024) 1) i = BitVec.ofBool (decide (inn (i 0).val)) := by
  rw [at_v20, at_v17, at_v19, at_v15, at_v16, at_v18, at_c, at_c_3]
  show IntOp.andi (IntOp.cmpi .sle (BitVec.ofInt 32 1) (BitVec.ofNat 32 (i 0).val)) (IntOp.cmpi .sle (BitVec.ofNat 32 (i 0).val) (BitVec.ofInt 32 1022)) = _
  have := lt_fl i
  rw [ofInt_nat, sle_of_words (by norm_num) (by norm_num) (by omega) (by omega), sle_of_words (by omega) (by omega) (by norm_num) (by norm_num), and_bits,
    ← Bool.decide_and]
  congr 1
  exact decide_eq_decide.2 ⟨fun h => ⟨by omega, by omega⟩, fun h => ⟨by have := h.1; omega, by have := h.2; omega⟩⟩

theorem r_lo : Rd 1024 (val m d main_v21) (loF X) := by
  rw [at_v21, at_call0_v1, at_call0_v0, at_cst_4, at_v10, at_v7, at_cst]
  refine (Rd.sel r_v20 (Rd.cat (Rd.bc (Rs.lit lit0) _ _) (r_h6 R) _) (Rd.bc (Rs.lit lit0) _ _)).congr fun i _ => ?_
  unfold loF
  by_cases h : inn i
  · rw [if_pos h, if_pos h, if_neg (by have := h.1; omega)]
  · rw [if_neg h, if_neg h]

theorem r_up : Rd 1024 (val m d main_v22) (upF X) := by
  rw [at_v22, at_call1_v1, at_call1_v0, at_cst_5, at_v14, at_v13, at_cst_2]
  refine (Rd.sel r_v20 (Rd.cat (r_h6' R) (Rd.bc (Rs.lit lit0) _ _) _) (Rd.bc (Rs.lit lit0) _ _)).congr fun i _ => ?_
  unfold upF
  by_cases h : inn i
  · rw [if_pos h, if_pos h, if_pos (by have := h.2; omega)]
  · rw [if_neg h, if_neg h]

theorem r_dg : Rd 1024 (val m d main_v26) (dgF X) := by
  rw [at_v26, at_call2_v1, at_call2_v0, at_cst_7, at_v25, at_v24, at_cst_6, at_v23]
  refine (Rd.sel r_v20 ((Rd.bc (Rs.lit lit2) _ _).mul ((r_lo R).add (r_up R))) (Rd.bc (Rs.lit lit1) _ _)).congr fun i _ => ?_
  unfold dgF loF upF
  by_cases h : inn i
  · simp only [if_pos h]; ring
  · simp only [if_neg h]

theorem r_rh : Rd 1024 (val m d main_v32) (rhF X Y) := by
  rw [at_v32, at_v27, at_cst_8, at_v31, at_c_9, at_v30, at_v28, at_v29]
  refine (Rd.set (n := 1024) (k := 1022) (Rd.bc (Rs.lit lit0) _ _) (((r_v6 R).slice slices_S1023_S1022_1).sub ((r_v6 R).slice slices_S1023_S1022_0)) _ _ rfl).congr fun i _ => ?_
  unfold rhF
  by_cases h : inn i
  · have h1 := h.1
    have h2 := h.2
    rw [if_pos h, if_pos (by omega), Nat.zero_add, show 1 + (i - 1) = i by omega]
  · rw [if_neg h, if_neg (fun h' => h ⟨by omega, by omega⟩)]

theorem z_1 : Rd 1024 (val m d main_v33) (Z X Y 1) := by
  rw [at_v33]
  refine ((r_rh R).div (r_dg R) fun i _ => dgF_ne R.K i).congr fun i _ => ?_
  show rhF X Y i / dgF X i = if 1 ≤ i ∧ i ≤ 1022 then _ else _
  unfold rhF dgF
  by_cases h : inn i
  · have h3 : 1 ≤ i ∧ i ≤ 1022 := h
    rw [if_pos h, if_pos h, if_pos h3]
    simp [Z]
  · have h3 : ¬ (1 ≤ i ∧ i ≤ 1022) := h
    rw [if_neg h, if_neg h, if_neg h3]
    simp

end Cert.Proof.Spline
-- ==== Proof.HostEqsB.lean ====
/-
  One equation for each host operation: the rest of the sweeps.
-/
module

public import proofs.«01_k».proof.Proof.HostVal

@[expose] public section

noncomputable section

namespace Cert.Proof.Spline

open Cert.KernelIdeal Cert.KernelIdeal.Gen

open Idealize.ShloMosaic Idealize.ShloMosaic.StableHlo

variable {F : FTy → Type} [FloatOps F]

variable (m : (ℓ : Loc nD τ sig) → Buf (Elt F) ℓ) (d : Dev nD)

theorem at_v227 : val m d main_v227 = cat_1023_1 (val m d main_v226) (val m d main_v34) :=
  at_binary chain (V0 m d) (loc4 (k := 0) rfl) (by decide) (by decide)
theorem at_v228 : val m d main_v228 = mulf_1024 (val m d main_v21) (val m d main_v225) :=
  at_binary chain (V0 m d) (loc4 (k := 1) rfl) (by decide) (by decide)
theorem at_v229 : val m d main_v229 = subf_1024 (val m d main_v32) (val m d main_v228) :=
  at_binary chain (V0 m d) (loc4 (k := 2) rfl) (by decide) (by decide)
theorem at_v230 : val m d main_v230 = mulf_1024 (val m d main_v22) (val m d main_v227) :=
  at_binary chain (V0 m d) (loc4 (k := 3) rfl) (by decide) (by decide)
theorem at_v231 : val m d main_v231 = subf_1024 (val m d main_v229) (val m d main_v230) :=
  at_binary chain (V0 m d) (loc4 (k := 4) rfl) (by decide) (by decide)
theorem at_v232 : val m d main_v232 = divf_1024 (val m d main_v231) (val m d main_v26) :=
  at_binary chain (V0 m d) (loc4 (k := 5) rfl) (by decide) (by decide)
theorem at_v233 : val m d main_v233 = slice_1024_1023_at0 (val m d main_v232) :=
  at_unary chain (V0 m d) (loc4 (k := 6) rfl) (by decide)
theorem at_v234 : val m d main_v234 = cat_1_1023 (val m d main_v34) (val m d main_v233) :=
  at_binary chain (V0 m d) (loc4 (k := 7) rfl) (by decide) (by decide)
theorem at_v235 : val m d main_v235 = slice_1024_1023_at1 (val m d main_v232) :=
  at_unary chain (V0 m d) (loc4 (k := 8) rfl) (by decide)
theorem at_v236 : val m d main_v236 = cat_1023_1 (val m d main_v235) (val m d main_v34) :=
  at_binary chain (V0 m d) (loc4 (k := 9) rfl) (by decide) (by decide)
theorem at_v237 : val m d main_v237 = mulf_1024 (val m d main_v21) (val m d main_v234) :=
  at_binary chain (V0 m d) (loc4 (k := 10) rfl) (by decide) (by decide)
theorem at_v238 : val m d main_v238 = subf_1024 (val m d main_v32) (val m d main_v237) :=
  at_binary chain (V0 m d) (loc4 (k := 11) rfl) (by decide) (by decide)
theorem at_v239 : val m d main_v239 = mulf_1024 (val m d main_v22) (val m d main_v236) :=
  at_binary chain (V0 m d) (loc4 (k := 12) rfl) (by decide) (by decide)
theorem at_v240 : val m d main_v240 = subf_1024 (val m d main_v238) (val m d main_v239) :=
  at_binary chain (V0 m d) (loc4 (k := 13) rfl) (by decide) (by decide)
theorem at_v241 : val m d main_v241 = divf_1024 (val m d main_v240) (val m d main_v26) :=
  at_binary chain (V0 m d) (loc4 (k := 14) rfl) (by decide) (by decide)
theorem at_v242 : val m d main_v242 = slice_1024_1023_at0 (val m d main_v241) :=
  at_unary chain (V0 m d) (loc4 (k := 15) rfl) (by decide)
theorem at_v243 : val m d main_v243 = cat_1_1023 (val m d main_v34) (val m d main_v242) :=
  at_binary chain (V0 m d) (loc4 (k := 16) rfl) (by decide) (by decide)
theorem at_v244 : val m d main_v244 = slice_1024_1023_at1 (val m d main_v241) :=
  at_unary chain (V0 m d) (loc4 (k := 17) rfl) (by decide)
theorem at_v245 : val m d main_v245 = cat_1023_1 (val m d main_v244) (val m d main_v34) :=
  at_binary chain (V0 m d) (loc4 (k := 18) rfl) (by decide) (by decide)
theorem at_v246 : val m d main_v246 = mulf_1024 (val m d main_v21) (val m d main_v243) :=
  at_binary chain (V0 m d) (loc4 (k := 19) rfl) (by decide) (by decide)
theorem at_v247 : val m d main_v247 = subf_1024 (val m d main_v32) (val m d main_v246) :=
  at_binary chain (V0 m d) (loc4 (k := 20) rfl) (by decide) (by decide)
theorem at_v248 : val m d main_v248 = mulf_1024 (val m d main_v22) (val m d main_v245) :=
  at_binary chain (V0 m d) (loc4 (k := 21) rfl) (by decide) (by decide)
theorem at_v249 : val m d main_v249 = subf_1024 (val m d main_v247) (val m d main_v248) :=
  at_binary chain (V0 m d) (loc4 (k := 22) rfl) (by decide) (by decide)
theorem at_v250 : val m d main_v250 = divf_1024 (val m d main_v249) (val m d main_v26) :=
  at_binary chain (V0 m d) (loc4 (k := 23) rfl) (by decide) (by decide)
theorem at_v251 : val m d main_v251 = slice_1024_1023_at0 (val m d main_v250) :=
  at_unary chain (V0 m d) (loc4 (k := 24) rfl) (by decide)
theorem at_v252 : val m d main_v252 = cat_1_1023 (val m d main_v34) (val m d main_v251) :=
  at_binary chain (V0 m d) (loc4 (k := 25) rfl) (by decide) (by decide)
theorem at_v253 : val m d main_v253 = slice_1024_1023_at1 (val m d main_v250) :=
  at_unary chain (V0 m d) (loc4 (k := 26) rfl) (by decide)
theorem at_v254 : val m d main_v254 = cat_1023_1 (val m d main_v253) (val m d main_v34) :=
  at_binary chain (V0 m d) (loc4 (k := 27) rfl) (by decide) (by decide)
theorem at_v255 : val m d main_v255 = mulf_1024 (val m d main_v21) (val m d main_v252) :=
  at_binary chain (V0 m d) (loc4 (k := 28) rfl) (by decide) (by decide)
theorem at_v256 : val m d main_v256 = subf_1024 (val m d main_v32) (val m d main_v255) :=
  at_binary chain (V0 m d) (loc4 (k := 29) rfl) (by decide) (by decide)
theorem at_v257 : val m d main_v257 = mulf_1024 (val m d main_v22) (val m d main_v254) :=
  at_binary chain (V0 m d) (loc4 (k := 30) rfl) (by decide) (by decide)
theorem at_v258 : val m d main_v258 = subf_1024 (val m d main_v256) (val m d main_v257) :=
  at_binary chain (V0 m d) (loc4 (k := 31) rfl) (by decide) (by decide)
theorem at_v259 : val m d main_v259 = divf_1024 (val m d main_v258) (val m d main_v26) :=
  at_binary chain (V0 m d) (loc4 (k := 32) rfl) (by decide) (by decide)
theorem at_v260 : val m d main_v260 = slice_1024_1023_at0 (val m d main_v259) :=
  at_unary chain (V0 m d) (loc4 (k := 33) rfl) (by decide)
theorem at_v261 : val m d main_v261 = cat_1_1023 (val m d main_v34) (val m d main_v260) :=
  at_binary chain (V0 m d) (loc4 (k := 34) rfl) (by decide) (by decide)
theorem at_v262 : val m d main_v262 = slice_1024_1023_at1 (val m d main_v259) :=
  at_unary chain (V0 m d) (loc4 (k := 35) rfl) (by decide)
theorem at_v263 : val m d main_v263 = cat_1023_1 (val m d main_v262) (val m d main_v34) :=
  at_binary chain (V0 m d) (loc4 (k := 36) rfl) (by decide) (by decide)
theorem at_v264 : val m d main_v264 = mulf_1024 (val m d main_v21) (val m d main_v261) :=
  at_binary chain (V0 m d) (loc4 (k := 37) rfl) (by decide) (by decide)
theorem at_v265 : val m d main_v265 = subf_1024 (val m d main_v32) (val m d main_v264) :=
  at_binary chain (V0 m d) (loc4 (k := 38) rfl) (by decide) (by decide)
theorem at_v266 : val m d main_v266 = mulf_1024 (val m d main_v22) (val m d main_v263) :=
  at_binary chain (V0 m d) (loc4 (k := 39) rfl) (by decide) (by decide)
theorem at_v267 : val m d main_v267 = subf_1024 (val m d main_v265) (val m d main_v266) :=
  at_binary chain (V0 m d) (loc4 (k := 40) rfl) (by decide) (by decide)
theorem at_v268 : val m d main_v268 = divf_1024 (val m d main_v267) (val m d main_v26) :=
  at_binary chain (V0 m d) (loc4 (k := 41) rfl) (by decide) (by decide)
theorem at_v269 : val m d main_v269 = slice_1024_1023_at0 (val m d main_v268) :=
  at_unary chain (V0 m d) (loc4 (k := 42) rfl) (by decide)
theorem at_v270 : val m d main_v270 = cat_1_1023 (val m d main_v34) (val m d main_v269) :=
  at_binary chain (V0 m d) (loc4 (k := 43) rfl) (by decide) (by decide)
theorem at_v271 : val m d main_v271 = slice_1024_1023_at1 (val m d main_v268) :=
  at_unary chain (V0 m d) (loc4 (k := 44) rfl) (by decide)
theorem at_v272 : val m d main_v272 = cat_1023_1 (val m d main_v271) (val m d main_v34) :=
  at_binary chain (V0 m d) (loc4 (k := 45) rfl) (by decide) (by decide)
theorem at_v273 : val m d main_v273 = mulf_1024 (val m d main_v21) (val m d main_v270) :=
  at_binary chain (V0 m d) (loc4 (k := 46) rfl) (by decide) (by decide)
theorem at_v274 : val m d main_v274 = subf_1024 (val m d main_v32) (val m d main_v273) :=
  at_binary chain (V0 m d) (loc4 (k := 47) rfl) (by decide) (by decide)
theorem at_v275 : val m d main_v275 = mulf_1024 (val m d main_v22) (val m d main_v272) :=
  at_binary chain (V0 m d) (loc4 (k := 48) rfl) (by decide) (by decide)
theorem at_v276 : val m d main_v276 = subf_1024 (val m d main_v274) (val m d main_v275) :=
  at_binary chain (V0 m d) (loc4 (k := 49) rfl) (by decide) (by decide)
theorem at_v277 : val m d main_v277 = divf_1024 (val m d main_v276) (val m d main_v26) :=
  at_binary chain (V0 m d) (loc4 (k := 50) rfl) (by decide) (by decide)
theorem at_v278 : val m d main_v278 = slice_1024_1023_at0 (val m d main_v277) :=
  at_unary chain (V0 m d) (loc4 (k := 51) rfl) (by decide)
theorem at_v279 : val m d main_v279 = cat_1_1023 (val m d main_v34) (val m d main_v278) :=
  at_binary chain (V0 m d) (loc4 (k := 52) rfl) (by decide) (by decide)
theorem at_v280 : val m d main_v280 = slice_1024_1023_at1 (val m d main_v277) :=
  at_unary chain (V0 m d) (loc4 (k := 53) rfl) (by decide)
theorem at_v281 : val m d main_v281 = cat_1023_1 (val m d main_v280) (val m d main_v34) :=
  at_binary chain (V0 m d) (loc4 (k := 54) rfl) (by decide) (by decide)
theorem at_v282 : val m d main_v282 = mulf_1024 (val m d main_v21) (val m d main_v279) :=
  at_binary chain (V0 m d) (loc4 (k := 55) rfl) (by decide) (by decide)
theorem at_v283 : val m d main_v283 = subf_1024 (val m d main_v32) (val m d main_v282) :=
  at_binary chain (V0 m d) (loc4 (k := 56) rfl) (by decide) (by decide)
theorem at_v284 : val m d main_v284 = mulf_1024 (val m d main_v22) (val m d main_v281) :=
  at_binary chain (V0 m d) (loc4 (k := 57) rfl) (by decide) (by decide)
theorem at_v285 : val m d main_v285 = subf_1024 (val m d main_v283) (val m d main_v284) :=
  at_binary chain (V0 m d) (loc4 (k := 58) rfl) (by decide) (by decide)
theorem at_v286 : val m d main_v286 = divf_1024 (val m d main_v285) (val m d main_v26) :=
  at_binary chain (V0 m d) (loc4 (k := 59) rfl) (by decide) (by decide)
theorem at_v287 : val m d main_v287 = slice_1024_1023_at0 (val m d main_v286) :=
  at_unary chain (V0 m d) (loc5 (k := 0) rfl) (by decide)
theorem at_v288 : val m d main_v288 = cat_1_1023 (val m d main_v34) (val m d main_v287) :=
  at_binary chain (V0 m d) (loc5 (k := 1) rfl) (by decide) (by decide)
theorem at_v289 : val m d main_v289 = slice_1024_1023_at1 (val m d main_v286) :=
  at_unary chain (V0 m d) (loc5 (k := 2) rfl) (by decide)
theorem at_v290 : val m d main_v290 = cat_1023_1 (val m d main_v289) (val m d main_v34) :=
  at_binary chain (V0 m d) (loc5 (k := 3) rfl) (by decide) (by decide)
theorem at_v291 : val m d main_v291 = mulf_1024 (val m d main_v21) (val m d main_v288) :=
  at_binary chain (V0 m d) (loc5 (k := 4) rfl) (by decide) (by decide)
theorem at_v292 : val m d main_v292 = subf_1024 (val m d main_v32) (val m d main_v291) :=
  at_binary chain (V0 m d) (loc5 (k := 5) rfl) (by decide) (by decide)
theorem at_v293 : val m d main_v293 = mulf_1024 (val m d main_v22) (val m d main_v290) :=
  at_binary chain (V0 m d) (loc5 (k := 6) rfl) (by decide) (by decide)
theorem at_v294 : val m d main_v294 = subf_1024 (val m d main_v292) (val m d main_v293) :=
  at_binary chain (V0 m d) (loc5 (k := 7) rfl) (by decide) (by decide)
theorem at_v295 : val m d main_v295 = divf_1024 (val m d main_v294) (val m d main_v26) :=
  at_binary chain (V0 m d) (loc5 (k := 8) rfl) (by decide) (by decide)
theorem at_v296 : val m d main_v296 = slice_1024_1023_at0 (val m d main_v295) :=
  at_unary chain (V0 m d) (loc5 (k := 9) rfl) (by decide)
theorem at_v297 : val m d main_v297 = cat_1_1023 (val m d main_v34) (val m d main_v296) :=
  at_binary chain (V0 m d) (loc5 (k := 10) rfl) (by decide) (by decide)
theorem at_v298 : val m d main_v298 = slice_1024_1023_at1 (val m d main_v295) :=
  at_unary chain (V0 m d) (loc5 (k := 11) rfl) (by decide)
theorem at_v299 : val m d main_v299 = cat_1023_1 (val m d main_v298) (val m d main_v34) :=
  at_binary chain (V0 m d) (loc5 (k := 12) rfl) (by decide) (by decide)
theorem at_v300 : val m d main_v300 = mulf_1024 (val m d main_v21) (val m d main_v297) :=
  at_binary chain (V0 m d) (loc5 (k := 13) rfl) (by decide) (by decide)
theorem at_v301 : val m d main_v301 = subf_1024 (val m d main_v32) (val m d main_v300) :=
  at_binary chain (V0 m d) (loc5 (k := 14) rfl) (by decide) (by decide)
theorem at_v302 : val m d main_v302 = mulf_1024 (val m d main_v22) (val m d main_v299) :=
  at_binary chain (V0 m d) (loc5 (k := 15) rfl) (by decide) (by decide)
theorem at_v303 : val m d main_v303 = subf_1024 (val m d main_v301) (val m d main_v302) :=
  at_binary chain (V0 m d) (loc5 (k := 16) rfl) (by decide) (by decide)
theorem at_v304 : val m d main_v304 = divf_1024 (val m d main_v303) (val m d main_v26) :=
  at_binary chain (V0 m d) (loc5 (k := 17) rfl) (by decide) (by decide)
theorem at_v305 : val m d main_v305 = slice_1024_1023_at0 (val m d main_v304) :=
  at_unary chain (V0 m d) (loc5 (k := 18) rfl) (by decide)
theorem at_v306 : val m d main_v306 = cat_1_1023 (val m d main_v34) (val m d main_v305) :=
  at_binary chain (V0 m d) (loc5 (k := 19) rfl) (by decide) (by decide)
theorem at_v307 : val m d main_v307 = slice_1024_1023_at1 (val m d main_v304) :=
  at_unary chain (V0 m d) (loc5 (k := 20) rfl) (by decide)
theorem at_v308 : val m d main_v308 = cat_1023_1 (val m d main_v307) (val m d main_v34) :=
  at_binary chain (V0 m d) (loc5 (k := 21) rfl) (by decide) (by decide)
theorem at_v309 : val m d main_v309 = mulf_1024 (val m d main_v21) (val m d main_v306) :=
  at_binary chain (V0 m d) (loc5 (k := 22) rfl) (by decide) (by decide)
theorem at_v310 : val m d main_v310 = subf_1024 (val m d main_v32) (val m d main_v309) :=
  at_binary chain (V0 m d) (loc5 (k := 23) rfl) (by decide) (by decide)
theorem at_v311 : val m d main_v311 = mulf_1024 (val m d main_v22) (val m d main_v308) :=
  at_binary chain (V0 m d) (loc5 (k := 24) rfl) (by decide) (by decide)
theorem at_v312 : val m d main_v312 = subf_1024 (val m d main_v310) (val m d main_v311) :=
  at_binary chain (V0 m d) (loc5 (k := 25) rfl) (by decide) (by decide)
theorem at_v313 : val m d main_v313 = divf_1024 (val m d main_v312) (val m d main_v26) :=
  at_binary chain (V0 m d) (loc5 (k := 26) rfl) (by decide) (by decide)
theorem at_v314 : val m d main_v314 = slice_1024_1023_at0 (val m d main_v313) :=
  at_unary chain (V0 m d) (loc5 (k := 27) rfl) (by decide)
theorem at_v315 : val m d main_v315 = cat_1_1023 (val m d main_v34) (val m d main_v314) :=
  at_binary chain (V0 m d) (loc5 (k := 28) rfl) (by decide) (by decide)
theorem at_v316 : val m d main_v316 = slice_1024_1023_at1 (val m d main_v313) :=
  at_unary chain (V0 m d) (loc5 (k := 29) rfl) (by decide)
theorem at_v317 : val m d main_v317 = cat_1023_1 (val m d main_v316) (val m d main_v34) :=
  at_binary chain (V0 m d) (loc5 (k := 30) rfl) (by decide) (by decide)
theorem at_v318 : val m d main_v318 = mulf_1024 (val m d main_v21) (val m d main_v315) :=
  at_binary chain (V0 m d) (loc5 (k := 31) rfl) (by decide) (by decide)
theorem at_v319 : val m d main_v319 = subf_1024 (val m d main_v32) (val m d main_v318) :=
  at_binary chain (V0 m d) (loc5 (k := 32) rfl) (by decide) (by decide)
theorem at_v320 : val m d main_v320 = mulf_1024 (val m d main_v22) (val m d main_v317) :=
  at_binary chain (V0 m d) (loc5 (k := 33) rfl) (by decide) (by decide)
theorem at_v321 : val m d main_v321 = subf_1024 (val m d main_v319) (val m d main_v320) :=
  at_binary chain (V0 m d) (loc5 (k := 34) rfl) (by decide) (by decide)
theorem at_v322 : val m d main_v322 = divf_1024 (val m d main_v321) (val m d main_v26) :=
  at_binary chain (V0 m d) (loc5 (k := 35) rfl) (by decide) (by decide)
theorem at_v323 : val m d main_v323 = slice_1024_1023_at0 (val m d main_v322) :=
  at_unary chain (V0 m d) (loc5 (k := 36) rfl) (by decide)
theorem at_v324 : val m d main_v324 = cat_1_1023 (val m d main_v34) (val m d main_v323) :=
  at_binary chain (V0 m d) (loc5 (k := 37) rfl) (by decide) (by decide)
theorem at_v325 : val m d main_v325 = slice_1024_1023_at1 (val m d main_v322) :=
  at_unary chain (V0 m d) (loc5 (k := 38) rfl) (by decide)
theorem at_v326 : val m d main_v326 = cat_1023_1 (val m d main_v325) (val m d main_v34) :=
  at_binary chain (V0 m d) (loc5 (k := 39) rfl) (by decide) (by decide)
theorem at_v327 : val m d main_v327 = mulf_1024 (val m d main_v21) (val m d main_v324) :=
  at_binary chain (V0 m d) (loc5 (k := 40) rfl) (by decide) (by decide)
theorem at_v328 : val m d main_v328 = subf_1024 (val m d main_v32) (val m d main_v327) :=
  at_binary chain (V0 m d) (loc5 (k := 41) rfl) (by decide) (by decide)
theorem at_v329 : val m d main_v329 = mulf_1024 (val m d main_v22) (val m d main_v326) :=
  at_binary chain (V0 m d) (loc5 (k := 42) rfl) (by decide) (by decide)
theorem at_v330 : val m d main_v330 = subf_1024 (val m d main_v328) (val m d main_v329) :=
  at_binary chain (V0 m d) (loc5 (k := 43) rfl) (by decide) (by decide)
theorem at_v331 : val m d main_v331 = divf_1024 (val m d main_v330) (val m d main_v26) :=
  at_binary chain (V0 m d) (loc5 (k := 44) rfl) (by decide) (by decide)
theorem at_v332 : val m d main_v332 = slice_1024_1023_at0 (val m d main_v331) :=
  at_unary chain (V0 m d) (loc5 (k := 45) rfl) (by decide)
theorem at_v333 : val m d main_v333 = cat_1_1023 (val m d main_v34) (val m d main_v332) :=
  at_binary chain (V0 m d) (loc5 (k := 46) rfl) (by decide) (by decide)
theorem at_v334 : val m d main_v334 = slice_1024_1023_at1 (val m d main_v331) :=
  at_unary chain (V0 m d) (loc5 (k := 47) rfl) (by decide)
theorem at_v335 : val m d main_v335 = cat_1023_1 (val m d main_v334) (val m d main_v34) :=
  at_binary chain (V0 m d) (loc5 (k := 48) rfl) (by decide) (by decide)
theorem at_v336 : val m d main_v336 = mulf_1024 (val m d main_v21) (val m d main_v333) :=
  at_binary chain (V0 m d) (loc5 (k := 49) rfl) (by decide) (by decide)
theorem at_v337 : val m d main_v337 = subf_1024 (val m d main_v32) (val m d main_v336) :=
  at_binary chain (V0 m d) (loc5 (k := 50) rfl) (by decide) (by decide)
theorem at_v338 : val m d main_v338 = mulf_1024 (val m d main_v22) (val m d main_v335) :=
  at_binary chain (V0 m d) (loc5 (k := 51) rfl) (by decide) (by decide)
theorem at_v339 : val m d main_v339 = subf_1024 (val m d main_v337) (val m d main_v338) :=
  at_binary chain (V0 m d) (loc5 (k := 52) rfl) (by decide) (by decide)
theorem at_v340 : val m d main_v340 = divf_1024 (val m d main_v339) (val m d main_v26) :=
  at_binary chain (V0 m d) (loc5 (k := 53) rfl) (by decide) (by decide)
theorem at_v341 : val m d main_v341 = slice_1024_1023_at0 (val m d main_v340) :=
  at_unary chain (V0 m d) (loc5 (k := 54) rfl) (by decide)
theorem at_v342 : val m d main_v342 = cat_1_1023 (val m d main_v34) (val m d main_v341) :=
  at_binary chain (V0 m d) (loc5 (k := 55) rfl) (by decide) (by decide)
theorem at_v343 : val m d main_v343 = slice_1024_1023_at1 (val m d main_v340) :=
  at_unary chain (V0 m d) (loc5 (k := 56) rfl) (by decide)
theorem at_v344 : val m d main_v344 = cat_1023_1 (val m d main_v343) (val m d main_v34) :=
  at_binary chain (V0 m d) (loc5 (k := 57) rfl) (by decide) (by decide)
theorem at_v345 : val m d main_v345 = mulf_1024 (val m d main_v21) (val m d main_v342) :=
  at_binary chain (V0 m d) (loc5 (k := 58) rfl) (by decide) (by decide)
theorem at_v346 : val m d main_v346 = subf_1024 (val m d main_v32) (val m d main_v345) :=
  at_binary chain (V0 m d) (loc5 (k := 59) rfl) (by decide) (by decide)
theorem at_v347 : val m d main_v347 = mulf_1024 (val m d main_v22) (val m d main_v344) :=
  at_binary chain (V0 m d) (loc6 (k := 0) rfl) (by decide) (by decide)
theorem at_v348 : val m d main_v348 = subf_1024 (val m d main_v346) (val m d main_v347) :=
  at_binary chain (V0 m d) (loc6 (k := 1) rfl) (by decide) (by decide)
theorem at_v349 : val m d main_v349 = divf_1024 (val m d main_v348) (val m d main_v26) :=
  at_binary chain (V0 m d) (loc6 (k := 2) rfl) (by decide) (by decide)
theorem at_v350 : val m d main_v350 = slice_1024_1023_at0 (val m d main_v349) :=
  at_unary chain (V0 m d) (loc6 (k := 3) rfl) (by decide)
theorem at_v351 : val m d main_v351 = cat_1_1023 (val m d main_v34) (val m d main_v350) :=
  at_binary chain (V0 m d) (loc6 (k := 4) rfl) (by decide) (by decide)
theorem at_v352 : val m d main_v352 = slice_1024_1023_at1 (val m d main_v349) :=
  at_unary chain (V0 m d) (loc6 (k := 5) rfl) (by decide)
theorem at_v353 : val m d main_v353 = cat_1023_1 (val m d main_v352) (val m d main_v34) :=
  at_binary chain (V0 m d) (loc6 (k := 6) rfl) (by decide) (by decide)
theorem at_v354 : val m d main_v354 = mulf_1024 (val m d main_v21) (val m d main_v351) :=
  at_binary chain (V0 m d) (loc6 (k := 7) rfl) (by decide) (by decide)
theorem at_v355 : val m d main_v355 = subf_1024 (val m d main_v32) (val m d main_v354) :=
  at_binary chain (V0 m d) (loc6 (k := 8) rfl) (by decide) (by decide)
theorem at_v356 : val m d main_v356 = mulf_1024 (val m d main_v22) (val m d main_v353) :=
  at_binary chain (V0 m d) (loc6 (k := 9) rfl) (by decide) (by decide)
theorem at_v357 : val m d main_v357 = subf_1024 (val m d main_v355) (val m d main_v356) :=
  at_binary chain (V0 m d) (loc6 (k := 10) rfl) (by decide) (by decide)
theorem at_v358 : val m d main_v358 = divf_1024 (val m d main_v357) (val m d main_v26) :=
  at_binary chain (V0 m d) (loc6 (k := 11) rfl) (by decide) (by decide)
theorem at_v359 : val m d main_v359 = slice_1024_1023_at0 (val m d main_v358) :=
  at_unary chain (V0 m d) (loc6 (k := 12) rfl) (by decide)
theorem at_v360 : val m d main_v360 = cat_1_1023 (val m d main_v34) (val m d main_v359) :=
  at_binary chain (V0 m d) (loc6 (k := 13) rfl) (by decide) (by decide)
theorem at_v361 : val m d main_v361 = slice_1024_1023_at1 (val m d main_v358) :=
  at_unary chain (V0 m d) (loc6 (k := 14) rfl) (by decide)
theorem at_v362 : val m d main_v362 = cat_1023_1 (val m d main_v361) (val m d main_v34) :=
  at_binary chain (V0 m d) (loc6 (k := 15) rfl) (by decide) (by decide)
theorem at_v363 : val m d main_v363 = mulf_1024 (val m d main_v21) (val m d main_v360) :=
  at_binary chain (V0 m d) (loc6 (k := 16) rfl) (by decide) (by decide)
theorem at_v364 : val m d main_v364 = subf_1024 (val m d main_v32) (val m d main_v363) :=
  at_binary chain (V0 m d) (loc6 (k := 17) rfl) (by decide) (by decide)
theorem at_v365 : val m d main_v365 = mulf_1024 (val m d main_v22) (val m d main_v362) :=
  at_binary chain (V0 m d) (loc6 (k := 18) rfl) (by decide) (by decide)
theorem at_v366 : val m d main_v366 = subf_1024 (val m d main_v364) (val m d main_v365) :=
  at_binary chain (V0 m d) (loc6 (k := 19) rfl) (by decide) (by decide)
theorem at_v367 : val m d main_v367 = divf_1024 (val m d main_v366) (val m d main_v26) :=
  at_binary chain (V0 m d) (loc6 (k := 20) rfl) (by decide) (by decide)
theorem at_v368 : val m d main_v368 = slice_1024_1023_at0 (val m d main_v367) :=
  at_unary chain (V0 m d) (loc6 (k := 21) rfl) (by decide)
theorem at_v369 : val m d main_v369 = cat_1_1023 (val m d main_v34) (val m d main_v368) :=
  at_binary chain (V0 m d) (loc6 (k := 22) rfl) (by decide) (by decide)
theorem at_v370 : val m d main_v370 = slice_1024_1023_at1 (val m d main_v367) :=
  at_unary chain (V0 m d) (loc6 (k := 23) rfl) (by decide)
theorem at_v371 : val m d main_v371 = cat_1023_1 (val m d main_v370) (val m d main_v34) :=
  at_binary chain (V0 m d) (loc6 (k := 24) rfl) (by decide) (by decide)
theorem at_v372 : val m d main_v372 = mulf_1024 (val m d main_v21) (val m d main_v369) :=
  at_binary chain (V0 m d) (loc6 (k := 25) rfl) (by decide) (by decide)
theorem at_v373 : val m d main_v373 = subf_1024 (val m d main_v32) (val m d main_v372) :=
  at_binary chain (V0 m d) (loc6 (k := 26) rfl) (by decide) (by decide)
theorem at_v374 : val m d main_v374 = mulf_1024 (val m d main_v22) (val m d main_v371) :=
  at_binary chain (V0 m d) (loc6 (k := 27) rfl) (by decide) (by decide)
theorem at_v375 : val m d main_v375 = subf_1024 (val m d main_v373) (val m d main_v374) :=
  at_binary chain (V0 m d) (loc6 (k := 28) rfl) (by decide) (by decide)
theorem at_v376 : val m d main_v376 = divf_1024 (val m d main_v375) (val m d main_v26) :=
  at_binary chain (V0 m d) (loc6 (k := 29) rfl) (by decide) (by decide)
theorem at_v377 : val m d main_v377 = slice_1024_1023_at0 (val m d main_v376) :=
  at_unary chain (V0 m d) (loc6 (k := 30) rfl) (by decide)
theorem at_v378 : val m d main_v378 = cat_1_1023 (val m d main_v34) (val m d main_v377) :=
  at_binary chain (V0 m d) (loc6 (k := 31) rfl) (by decide) (by decide)
theorem at_v379 : val m d main_v379 = slice_1024_1023_at1 (val m d main_v376) :=
  at_unary chain (V0 m d) (loc6 (k := 32) rfl) (by decide)
theorem at_v380 : val m d main_v380 = cat_1023_1 (val m d main_v379) (val m d main_v34) :=
  at_binary chain (V0 m d) (loc6 (k := 33) rfl) (by decide) (by decide)
theorem at_v381 : val m d main_v381 = mulf_1024 (val m d main_v21) (val m d main_v378) :=
  at_binary chain (V0 m d) (loc6 (k := 34) rfl) (by decide) (by decide)
theorem at_v382 : val m d main_v382 = subf_1024 (val m d main_v32) (val m d main_v381) :=
  at_binary chain (V0 m d) (loc6 (k := 35) rfl) (by decide) (by decide)
theorem at_v383 : val m d main_v383 = mulf_1024 (val m d main_v22) (val m d main_v380) :=
  at_binary chain (V0 m d) (loc6 (k := 36) rfl) (by decide) (by decide)
theorem at_v384 : val m d main_v384 = subf_1024 (val m d main_v382) (val m d main_v383) :=
  at_binary chain (V0 m d) (loc6 (k := 37) rfl) (by decide) (by decide)
theorem at_v385 : val m d main_v385 = divf_1024 (val m d main_v384) (val m d main_v26) :=
  at_binary chain (V0 m d) (loc6 (k := 38) rfl) (by decide) (by decide)
theorem at_v386 : val m d main_v386 = slice_1024_1023_at0 (val m d main_v385) :=
  at_unary chain (V0 m d) (loc6 (k := 39) rfl) (by decide)
theorem at_v387 : val m d main_v387 = cat_1_1023 (val m d main_v34) (val m d main_v386) :=
  at_binary chain (V0 m d) (loc6 (k := 40) rfl) (by decide) (by decide)
theorem at_v388 : val m d main_v388 = slice_1024_1023_at1 (val m d main_v385) :=
  at_unary chain (V0 m d) (loc6 (k := 41) rfl) (by decide)
theorem at_v389 : val m d main_v389 = cat_1023_1 (val m d main_v388) (val m d main_v34) :=
  at_binary chain (V0 m d) (loc6 (k := 42) rfl) (by decide) (by decide)
theorem at_v390 : val m d main_v390 = mulf_1024 (val m d main_v21) (val m d main_v387) :=
  at_binary chain (V0 m d) (loc6 (k := 43) rfl) (by decide) (by decide)
theorem at_v391 : val m d main_v391 = subf_1024 (val m d main_v32) (val m d main_v390) :=
  at_binary chain (V0 m d) (loc6 (k := 44) rfl) (by decide) (by decide)
theorem at_v392 : val m d main_v392 = mulf_1024 (val m d main_v22) (val m d main_v389) :=
  at_binary chain (V0 m d) (loc6 (k := 45) rfl) (by decide) (by decide)
theorem at_v393 : val m d main_v393 = subf_1024 (val m d main_v391) (val m d main_v392) :=
  at_binary chain (V0 m d) (loc6 (k := 46) rfl) (by decide) (by decide)
theorem at_v394 : val m d main_v394 = divf_1024 (val m d main_v393) (val m d main_v26) :=
  at_binary chain (V0 m d) (loc6 (k := 47) rfl) (by decide) (by decide)
theorem at_v395 : val m d main_v395 = slice_1024_1023_at0 (val m d main_v394) :=
  at_unary chain (V0 m d) (loc6 (k := 48) rfl) (by decide)
theorem at_v396 : val m d main_v396 = slice_1024_1023_at1 (val m d main_v394) :=
  at_unary chain (V0 m d) (loc6 (k := 49) rfl) (by decide)
theorem at_v397 : val m d main_v397 = slice_1024_1023_at0 (val m d main_arg2) :=
  at_unary chain (V0 m d) (loc6 (k := 50) rfl) (by decide)
theorem at_cst_11 : val m d main_cst_11 = (constant S_ .f32 0x40000000#32 : Vec F S_ .f32) :=
  at_nullary chain (V0 m d) (loc6 (k := 51) rfl)
theorem at_v398 : val m d main_v398 = bc_0_1023 (val m d main_cst_11) :=
  at_unary chain (V0 m d) (loc6 (k := 52) rfl) (by decide)
theorem at_v399 : val m d main_v399 = mulf_1023 (val m d main_v398) (val m d main_v395) :=
  at_binary chain (V0 m d) (loc6 (k := 53) rfl) (by decide) (by decide)
theorem at_v400 : val m d main_v400 = addf_1023 (val m d main_v399) (val m d main_v396) :=
  at_binary chain (V0 m d) (loc6 (k := 54) rfl) (by decide) (by decide)
theorem at_v401 : val m d main_v401 = mulf_1023 (val m d main_v2) (val m d main_v400) :=
  at_binary chain (V0 m d) (loc6 (k := 55) rfl) (by decide) (by decide)
theorem at_cst_12 : val m d main_cst_12 = (constant S_ .f32 0x40C00000#32 : Vec F S_ .f32) :=
  at_nullary chain (V0 m d) (loc6 (k := 56) rfl)
theorem at_v402 : val m d main_v402 = bc_0_1023 (val m d main_cst_12) :=
  at_unary chain (V0 m d) (loc6 (k := 57) rfl) (by decide)
theorem at_v403 : val m d main_v403 = divf_1023 (val m d main_v401) (val m d main_v402) :=
  at_binary chain (V0 m d) (loc6 (k := 58) rfl) (by decide) (by decide)
theorem at_v404 : val m d main_v404 = subf_1023 (val m d main_v6) (val m d main_v403) :=
  at_binary chain (V0 m d) (loc6 (k := 59) rfl) (by decide) (by decide)

end Cert.Proof.Spline
-- ==== Proof.KerB.lean ====
/-
  The kernel's 40 further sweeps.
-/
module

public import proofs.«01_k».proof.Proof.KerA
public import proofs.«01_k».proof.Proof.HostEqsB

@[expose] public section

noncomputable section

namespace Cert.Proof.Spline

open Cert.KernelIdeal Cert.KernelIdeal.Gen

open Idealize.ShloMosaic Idealize.ShloMosaic.StableHlo Idealize.ShloMosaic.ValueIdx

variable {m : (ℓ : Loc nD τ sig) → Buf (Elt Ideal) ℓ} {d : Dev nD} {X Y : ℕ → ℝ} (R : Reads m d X Y)
include R

theorem z_2 : Rd 1024 (val m d main_v43) (Z X Y 2) := by
  rw [at_v43, at_v42, at_v41, at_v40, at_v39, at_v38, at_v37, at_v36, at_v35]
  exact sweep R.K (z_1 R) r_zero1 (r_lo R) (r_up R) (r_rh R) (r_dg R)
theorem z_3 : Rd 1024 (val m d main_v52) (Z X Y 3) := by
  rw [at_v52, at_v51, at_v50, at_v49, at_v48, at_v47, at_v46, at_v45, at_v44]
  exact sweep R.K (z_2 R) r_zero1 (r_lo R) (r_up R) (r_rh R) (r_dg R)
theorem z_4 : Rd 1024 (val m d main_v61) (Z X Y 4) := by
  rw [at_v61, at_v60, at_v59, at_v58, at_v57, at_v56, at_v55, at_v54, at_v53]
  exact sweep R.K (z_3 R) r_zero1 (r_lo R) (r_up R) (r_rh R) (r_dg R)
theorem z_5 : Rd 1024 (val m d main_v70) (Z X Y 5) := by
  rw [at_v70, at_v69, at_v68, at_v67, at_v66, at_v65, at_v64, at_v63, at_v62]
  exact sweep R.K (z_4 R) r_zero1 (r_lo R) (r_up R) (r_rh R) (r_dg R)
theorem z_6 : Rd 1024 (val m d main_v79) (Z X Y 6) := by
  rw [at_v79, at_v78, at_v77, at_v76, at_v75, at_v74, at_v73, at_v72, at_v71]
  exact sweep R.K (z_5 R) r_zero1 (r_lo R) (r_up R) (r_rh R) (r_dg R)
theorem z_7 : Rd 1024 (val m d main_v88) (Z X Y 7) := by
  rw [at_v88, at_v87, at_v86, at_v85, at_v84, at_v83, at_v82, at_v81, at_v80]
  exact sweep R.K (z_6 R) r_zero1 (r_lo R) (r_up R) (r_rh R) (r_dg R)
theorem z_8 : Rd 1024 (val m d main_v97) (Z X Y 8) := by
  rw [at_v97, at_v96, at_v95, at_v94, at_v93, at_v92, at_v91, at_v90, at_v89]
  exact sweep R.K (z_7 R) r_zero1 (r_lo R) (r_up R) (r_rh R) (r_dg R)
theorem z_9 : Rd 1024 (val m d main_v106) (Z X Y 9) := by
  rw [at_v106, at_v105, at_v104, at_v103, at_v102, at_v101, at_v100, at_v99, at_v98]
  exact sweep R.K (z_8 R) r_zero1 (r_lo R) (r_up R) (r_rh R) (r_dg R)
theorem z_10 : Rd 1024 (val m d main_v115) (Z X Y 10) := by
  rw [at_v115, at_v114, at_v113, at_v112, at_v111, at_v110, at_v109, at_v108, at_v107]
  exact sweep R.K (z_9 R) r_zero1 (r_lo R) (r_up R) (r_rh R) (r_dg R)
theorem z_11 : Rd 1024 (val m d main_v124) (Z X Y 11) := by
  rw [at_v124, at_v123, at_v122, at_v121, at_v120, at_v119, at_v118, at_v117, at_v116]
  exact sweep R.K (z_10 R) r_zero1 (r_lo R) (r_up R) (r_rh R) (r_dg R)
theorem z_12 : Rd 1024 (val m d main_v133) (Z X Y 12) := by
  rw [at_v133, at_v132, at_v131, at_v130, at_v129, at_v128, at_v127, at_v126, at_v125]
  exact sweep R.K (z_11 R) r_zero1 (r_lo R) (r_up R) (r_rh R) (r_dg R)
theorem z_13 : Rd 1024 (val m d main_v142) (Z X Y 13) := by
  rw [at_v142, at_v141, at_v140, at_v139, at_v138, at_v137, at_v136, at_v135, at_v134]
  exact sweep R.K (z_12 R) r_zero1 (r_lo R) (r_up R) (r_rh R) (r_dg R)
theorem z_14 : Rd 1024 (val m d main_v151) (Z X Y 14) := by
  rw [at_v151, at_v150, at_v149, at_v148, at_v147, at_v146, at_v145, at_v144, at_v143]
  exact sweep R.K (z_13 R) r_zero1 (r_lo R) (r_up R) (r_rh R) (r_dg R)
theorem z_15 : Rd 1024 (val m d main_v160) (Z X Y 15) := by
  rw [at_v160, at_v159, at_v158, at_v157, at_v156, at_v155, at_v154, at_v153, at_v152]
  exact sweep R.K (z_14 R) r_zero1 (r_lo R) (r_up R) (r_rh R) (r_dg R)
theorem z_16 : Rd 1024 (val m d main_v169) (Z X Y 16) := by
  rw [at_v169, at_v168, at_v167, at_v166, at_v165, at_v164, at_v163, at_v162, at_v161]
  exact sweep R.K (z_15 R) r_zero1 (r_lo R) (r_up R) (r_rh R) (r_dg R)
theorem z_17 : Rd 1024 (val m d main_v178) (Z X Y 17) := by
  rw [at_v178, at_v177, at_v176, at_v175, at_v174, at_v173, at_v172, at_v171, at_v170]
  exact sweep R.K (z_16 R) r_zero1 (r_lo R) (r_up R) (r_rh R) (r_dg R)
theorem z_18 : Rd 1024 (val m d main_v187) (Z X Y 18) := by
  rw [at_v187, at_v186, at_v185, at_v184, at_v183, at_v182, at_v181, at_v180, at_v179]
  exact sweep R.K (z_17 R) r_zero1 (r_lo R) (r_up R) (r_rh R) (r_dg R)
theorem z_19 : Rd 1024 (val m d main_v196) (Z X Y 19) := by
  rw [at_v196, at_v195, at_v194, at_v193, at_v192, at_v191, at_v190, at_v189, at_v188]
  exact sweep R.K (z_18 R) r_zero1 (r_lo R) (r_up R) (r_rh R) (r_dg R)
theorem z_20 : Rd 1024 (val m d main_v205) (Z X Y 20) := by
  rw [at_v205, at_v204, at_v203, at_v202, at_v201, at_v200, at_v199, at_v198, at_v197]
  exact sweep R.K (z_19 R) r_zero1 (r_lo R) (r_up R) (r_rh R) (r_dg R)
theorem z_21 : Rd 1024 (val m d main_v214) (Z X Y 21) := by
  rw [at_v214, at_v213, at_v212, at_v211, at_v210, at_v209, at_v208, at_v207, at_v206]
  exact sweep R.K (z_20 R) r_zero1 (r_lo R) (r_up R) (r_rh R) (r_dg R)
theorem z_22 : Rd 1024 (val m d main_v223) (Z X Y 22) := by
  rw [at_v223, at_v222, at_v221, at_v220, at_v219, at_v218, at_v217, at_v216, at_v215]
  exact sweep R.K (z_21 R) r_zero1 (r_lo R) (r_up R) (r_rh R) (r_dg R)
theorem z_23 : Rd 1024 (val m d main_v232) (Z X Y 23) := by
  rw [at_v232, at_v231, at_v230, at_v229, at_v228, at_v227, at_v226, at_v225, at_v224]
  exact sweep R.K (z_22 R) r_zero1 (r_lo R) (r_up R) (r_rh R) (r_dg R)
theorem z_24 : Rd 1024 (val m d main_v241) (Z X Y 24) := by
  rw [at_v241, at_v240, at_v239, at_v238, at_v237, at_v236, at_v235, at_v234, at_v233]
  exact sweep R.K (z_23 R) r_zero1 (r_lo R) (r_up R) (r_rh R) (r_dg R)
theorem z_25 : Rd 1024 (val m d main_v250) (Z X Y 25) := by
  rw [at_v250, at_v249, at_v248, at_v247, at_v246, at_v245, at_v244, at_v243, at_v242]
  exact sweep R.K (z_24 R) r_zero1 (r_lo R) (r_up R) (r_rh R) (r_dg R)
theorem z_26 : Rd 1024 (val m d main_v259) (Z X Y 26) := by
  rw [at_v259, at_v258, at_v257, at_v256, at_v255, at_v254, at_v253, at_v252, at_v251]
  exact sweep R.K (z_25 R) r_zero1 (r_lo R) (r_up R) (r_rh R) (r_dg R)
theorem z_27 : Rd 1024 (val m d main_v268) (Z X Y 27) := by
  rw [at_v268, at_v267, at_v266, at_v265, at_v264, at_v263, at_v262, at_v261, at_v260]
  exact sweep R.K (z_26 R) r_zero1 (r_lo R) (r_up R) (r_rh R) (r_dg R)
theorem z_28 : Rd 1024 (val m d main_v277) (Z X Y 28) := by
  rw [at_v277, at_v276, at_v275, at_v274, at_v273, at_v272, at_v271, at_v270, at_v269]
  exact sweep R.K (z_27 R) r_zero1 (r_lo R) (r_up R) (r_rh R) (r_dg R)
theorem z_29 : Rd 1024 (val m d main_v286) (Z X Y 29) := by
  rw [at_v286, at_v285, at_v284, at_v283, at_v282, at_v281, at_v280, at_v279, at_v278]
  exact sweep R.K (z_28 R) r_zero1 (r_lo R) (r_up R) (r_rh R) (r_dg R)
theorem z_30 : Rd 1024 (val m d main_v295) (Z X Y 30) := by
  rw [at_v295, at_v294, at_v293, at_v292, at_v291, at_v290, at_v289, at_v288, at_v287]
  exact sweep R.K (z_29 R) r_zero1 (r_lo R) (r_up R) (r_rh R) (r_dg R)
theorem z_31 : Rd 1024 (val m d main_v304) (Z X Y 31) := by
  rw [at_v304, at_v303, at_v302, at_v301, at_v300, at_v299, at_v298, at_v297, at_v296]
  exact sweep R.K (z_30 R) r_zero1 (r_lo R) (r_up R) (r_rh R) (r_dg R)
theorem z_32 : Rd 1024 (val m d main_v313) (Z X Y 32) := by
  rw [at_v313, at_v312, at_v311, at_v310, at_v309, at_v308, at_v307, at_v306, at_v305]
  exact sweep R.K (z_31 R) r_zero1 (r_lo R) (r_up R) (r_rh R) (r_dg R)
theorem z_33 : Rd 1024 (val m d main_v322) (Z X Y 33) := by
  rw [at_v322, at_v321, at_v320, at_v319, at_v318, at_v317, at_v316, at_v315, at_v314]
  exact sweep R.K (z_32 R) r_zero1 (r_lo R) (r_up R) (r_rh R) (r_dg R)
theorem z_34 : Rd 1024 (val m d main_v331) (Z X Y 34) := by
  rw [at_v331, at_v330, at_v329, at_v328, at_v327, at_v326, at_v325, at_v324, at_v323]
  exact sweep R.K (z_33 R) r_zero1 (r_lo R) (r_up R) (r_rh R) (r_dg R)
theorem z_35 : Rd 1024 (val m d main_v340) (Z X Y 35) := by
  rw [at_v340, at_v339, at_v338, at_v337, at_v336, at_v335, at_v334, at_v333, at_v332]
  exact sweep R.K (z_34 R) r_zero1 (r_lo R) (r_up R) (r_rh R) (r_dg R)
theorem z_36 : Rd 1024 (val m d main_v349) (Z X Y 36) := by
  rw [at_v349, at_v348, at_v347, at_v346, at_v345, at_v344, at_v343, at_v342, at_v341]
  exact sweep R.K (z_35 R) r_zero1 (r_lo R) (r_up R) (r_rh R) (r_dg R)
theorem z_37 : Rd 1024 (val m d main_v358) (Z X Y 37) := by
  rw [at_v358, at_v357, at_v356, at_v355, at_v354, at_v353, at_v352, at_v351, at_v350]
  exact sweep R.K (z_36 R) r_zero1 (r_lo R) (r_up R) (r_rh R) (r_dg R)
theorem z_38 : Rd 1024 (val m d main_v367) (Z X Y 38) := by
  rw [at_v367, at_v366, at_v365, at_v364, at_v363, at_v362, at_v361, at_v360, at_v359]
  exact sweep R.K (z_37 R) r_zero1 (r_lo R) (r_up R) (r_rh R) (r_dg R)
theorem z_39 : Rd 1024 (val m d main_v376) (Z X Y 39) := by
  rw [at_v376, at_v375, at_v374, at_v373, at_v372, at_v371, at_v370, at_v369, at_v368]
  exact sweep R.K (z_38 R) r_zero1 (r_lo R) (r_up R) (r_rh R) (r_dg R)
theorem z_40 : Rd 1024 (val m d main_v385) (Z X Y 40) := by
  rw [at_v385, at_v384, at_v383, at_v382, at_v381, at_v380, at_v379, at_v378, at_v377]
  exact sweep R.K (z_39 R) r_zero1 (r_lo R) (r_up R) (r_rh R) (r_dg R)
theorem z_41 : Rd 1024 (val m d main_v394) (Z X Y 41) := by
  rw [at_v394, at_v393, at_v392, at_v391, at_v390, at_v389, at_v388, at_v387, at_v386]
  exact sweep R.K (z_40 R) r_zero1 (r_lo R) (r_up R) (r_rh R) (r_dg R)

end Cert.Proof.Spline
-- ==== Proof.HostEqsC.lean ====
/-
  One equation for each host operation: the tables.
-/
module

public import proofs.«01_k».proof.Proof.HostVal

@[expose] public section

noncomputable section

namespace Cert.Proof.Spline

open Cert.KernelIdeal Cert.KernelIdeal.Gen

open Idealize.ShloMosaic Idealize.ShloMosaic.StableHlo

variable {F : FTy → Type} [FloatOps F]

variable (m : (ℓ : Loc nD τ sig) → Buf (Elt F) ℓ) (d : Dev nD)

theorem at_cst_13 : val m d main_cst_13 = (constant S_ .f32 0x40000000#32 : Vec F S_ .f32) :=
  at_nullary chain (V0 m d) (loc7 (k := 0) rfl)
theorem at_v405 : val m d main_v405 = bc_0_1023 (val m d main_cst_13) :=
  at_unary chain (V0 m d) (loc7 (k := 1) rfl) (by decide)
theorem at_v406 : val m d main_v406 = divf_1023 (val m d main_v395) (val m d main_v405) :=
  at_binary chain (V0 m d) (loc7 (k := 2) rfl) (by decide) (by decide)
theorem at_v407 : val m d main_v407 = subf_1023 (val m d main_v396) (val m d main_v395) :=
  at_binary chain (V0 m d) (loc7 (k := 3) rfl) (by decide) (by decide)
theorem at_cst_14 : val m d main_cst_14 = (constant S_ .f32 0x40C00000#32 : Vec F S_ .f32) :=
  at_nullary chain (V0 m d) (loc7 (k := 4) rfl)
theorem at_v408 : val m d main_v408 = bc_0_1023 (val m d main_cst_14) :=
  at_unary chain (V0 m d) (loc7 (k := 5) rfl) (by decide)
theorem at_v409 : val m d main_v409 = mulf_1023 (val m d main_v408) (val m d main_v2) :=
  at_binary chain (V0 m d) (loc7 (k := 6) rfl) (by decide) (by decide)
theorem at_v410 : val m d main_v410 = divf_1023 (val m d main_v407) (val m d main_v409) :=
  at_binary chain (V0 m d) (loc7 (k := 7) rfl) (by decide) (by decide)
theorem at_v411 : val m d main_v411 = slice_1024_1_at0 (val m d main_arg1) :=
  at_unary chain (V0 m d) (loc7 (k := 8) rfl) (by decide)
theorem at_v412 : val m d main_v412 = shapeCast S_ (val m d main_v411) shapeCasts_S1_S_ := by
  have e := at_reshape chain (V0 m d) (loc7 (k := 9) rfl) (by decide)
  exact e
theorem at_v413 : val m d main_v413 = slice_1024_1_at1023 (val m d main_arg1) :=
  at_unary chain (V0 m d) (loc7 (k := 10) rfl) (by decide)
theorem at_v414 : val m d main_v414 = shapeCast S_ (val m d main_v413) shapeCasts_S1_S_ := by
  have e := at_reshape chain (V0 m d) (loc7 (k := 11) rfl) (by decide)
  exact e
theorem at_v415 : val m d main_v415 = subf_0 (val m d main_v414) (val m d main_v412) :=
  at_binary chain (V0 m d) (loc7 (k := 12) rfl) (by decide) (by decide)
theorem at_cst_15 : val m d main_cst_15 = (constant S_ .f32 0x45800000#32 : Vec F S_ .f32) :=
  at_nullary chain (V0 m d) (loc7 (k := 13) rfl)
theorem at_v416 : val m d main_v416 = divf_0 (val m d main_cst_15) (val m d main_v415) :=
  at_binary chain (V0 m d) (loc7 (k := 14) rfl) (by decide) (by decide)
theorem at_v417 : val m d main_v417 = subf_0 (val m d main_v414) (val m d main_v412) :=
  at_binary chain (V0 m d) (loc7 (k := 15) rfl) (by decide) (by decide)
theorem at_cst_16 : val m d main_cst_16 = (constant S_ .f32 0x45800000#32 : Vec F S_ .f32) :=
  at_nullary chain (V0 m d) (loc7 (k := 16) rfl)
theorem at_v418 : val m d main_v418 = divf_0 (val m d main_v417) (val m d main_cst_16) :=
  at_binary chain (V0 m d) (loc7 (k := 17) rfl) (by decide) (by decide)
theorem at_v419 : val m d main_v419 = slice_1024_1023_at0 (val m d main_arg1) :=
  at_unary chain (V0 m d) (loc7 (k := 18) rfl) (by decide)
theorem at_v420 : val m d main_v420 = bc_0_1023 (val m d main_v412) :=
  at_unary chain (V0 m d) (loc7 (k := 19) rfl) (by decide)
theorem at_v421 : val m d main_v421 = subf_1023 (val m d main_v419) (val m d main_v420) :=
  at_binary chain (V0 m d) (loc7 (k := 20) rfl) (by decide) (by decide)
theorem at_v422 : val m d main_v422 = bc_0_1023 (val m d main_v416) :=
  at_unary chain (V0 m d) (loc7 (k := 21) rfl) (by decide)
theorem at_v423 : val m d main_v423 = mulf_1023 (val m d main_v421) (val m d main_v422) :=
  at_binary chain (V0 m d) (loc7 (k := 22) rfl) (by decide) (by decide)
theorem at_v424 : val m d main_v424 = trunc_1023 (val m d main_v423) :=
  at_unary chain (V0 m d) (loc7 (k := 23) rfl) (by decide)
theorem at_c_17 : val m d main_c_17 = (constantI S_ 32 0#32 : Vec F S_ .i32) :=
  at_nullary chain (V0 m d) (loc7 (k := 24) rfl)
theorem at_c_18 : val m d main_c_18 = (constantI S_ 32 4095#32 : Vec F S_ .i32) :=
  at_nullary chain (V0 m d) (loc7 (k := 25) rfl)
theorem at_call3_v0 : val m d main_call3_v0 = same_i32 (val m d main_c_17) :=
  at_unary chain (V0 m d) (loc7 (k := 26) rfl) (by decide)
theorem at_call3_v1 : val m d main_call3_v1 = bcI_0_1023 (val m d main_call3_v0) :=
  at_unary chain (V0 m d) (loc7 (k := 27) rfl) (by decide)
theorem at_call3_v2 : val m d main_call3_v2 = maxsi_1023 (val m d main_call3_v1) (val m d main_v424) :=
  at_binary chain (V0 m d) (loc7 (k := 28) rfl) (by decide) (by decide)
theorem at_call3_v3 : val m d main_call3_v3 = same_i32 (val m d main_c_18) :=
  at_unary chain (V0 m d) (loc7 (k := 29) rfl) (by decide)
theorem at_call3_v4 : val m d main_call3_v4 = bcI_0_1023 (val m d main_call3_v3) :=
  at_unary chain (V0 m d) (loc7 (k := 30) rfl) (by decide)
theorem at_v425 : val m d main_v425 = minsi_1023 (val m d main_call3_v4) (val m d main_call3_v2) :=
  at_binary chain (V0 m d) (loc7 (k := 31) rfl) (by decide) (by decide)
theorem at_v426 : val m d main_v426 = (iotaInDim S4096 32 0 : Vec F S4096 .i32) :=
  at_nullary chain (V0 m d) (loc7 (k := 32) rfl)
theorem at_v427 : val m d main_v427 = bcI_1023_1x1023 (val m d main_v425) :=
  at_unary chain (V0 m d) (loc7 (k := 33) rfl) (by decide)
theorem at_v428 : val m d main_v428 = bcI_4096_4096x1 (val m d main_v426) :=
  at_unary chain (V0 m d) (loc7 (k := 34) rfl) (by decide)
theorem at_v429 : val m d main_v429 = bcI_1x1023_4096x1023 (val m d main_v427) :=
  at_unary chain (V0 m d) (loc7 (k := 35) rfl) (by decide)
theorem at_v430 : val m d main_v430 = bcI_4096x1_4096x1023 (val m d main_v428) :=
  at_unary chain (V0 m d) (loc7 (k := 36) rfl) (by decide)
theorem at_v431 : val m d main_v431 = cmp_sle_4096x1023 (val m d main_v429) (val m d main_v430) :=
  at_binary chain (V0 m d) (loc7 (k := 37) rfl) (by decide) (by decide)
theorem at_v432 : val m d main_v432 = bcI_1023_1x1023 (val m d main_v425) :=
  at_unary chain (V0 m d) (loc7 (k := 38) rfl) (by decide)
theorem at_v433 : val m d main_v433 = bcI_4096_4096x1 (val m d main_v426) :=
  at_unary chain (V0 m d) (loc7 (k := 39) rfl) (by decide)
theorem at_v434 : val m d main_v434 = bcI_1x1023_4096x1023 (val m d main_v432) :=
  at_unary chain (V0 m d) (loc7 (k := 40) rfl) (by decide)
theorem at_v435 : val m d main_v435 = bcI_4096x1_4096x1023 (val m d main_v433) :=
  at_unary chain (V0 m d) (loc7 (k := 41) rfl) (by decide)
theorem at_v436 : val m d main_v436 = cmp_eq_4096x1023 (val m d main_v434) (val m d main_v435) :=
  at_binary chain (V0 m d) (loc7 (k := 42) rfl) (by decide) (by decide)
theorem at_v437 : val m d main_v437 = toI (val m d main_v436) :=
  at_unary chain (V0 m d) (loc7 (k := 43) rfl) (by decide)
theorem at_c_19 : val m d main_c_19 = (constantI S_ 32 0#32 : Vec F S_ .i32) :=
  at_nullary chain (V0 m d) (loc7 (k := 44) rfl)
theorem at_v438 : val m d main_v438 = rowSumI (val m d main_v437) (val m d main_c_19) :=
  at_binary chain (V0 m d) (loc7 (k := 45) rfl) (by decide) (by decide)
theorem at_v439 : val m d main_v439 = toI (val m d main_v431) :=
  at_unary chain (V0 m d) (loc7 (k := 46) rfl) (by decide)
theorem at_c_20 : val m d main_c_20 = (constantI S_ 32 0#32 : Vec F S_ .i32) :=
  at_nullary chain (V0 m d) (loc7 (k := 47) rfl)
theorem at_v440 : val m d main_v440 = rowSumI (val m d main_v439) (val m d main_c_20) :=
  at_binary chain (V0 m d) (loc7 (k := 48) rfl) (by decide) (by decide)
theorem at_c_21 : val m d main_c_21 = (constantI S_ 32 1#32 : Vec F S_ .i32) :=
  at_nullary chain (V0 m d) (loc7 (k := 49) rfl)
theorem at_v441 : val m d main_v441 = bcI_0_4096 (val m d main_c_21) :=
  at_unary chain (V0 m d) (loc7 (k := 50) rfl) (by decide)
theorem at_v442 : val m d main_v442 = subi_4096 (val m d main_v440) (val m d main_v441) :=
  at_binary chain (V0 m d) (loc7 (k := 51) rfl) (by decide) (by decide)
theorem at_v443 : val m d main_v443 = subi_4096 (val m d main_v442) (val m d main_v438) :=
  at_binary chain (V0 m d) (loc7 (k := 52) rfl) (by decide) (by decide)
theorem at_c_22 : val m d main_c_22 = (constantI S_ 32 0#32 : Vec F S_ .i32) :=
  at_nullary chain (V0 m d) (loc7 (k := 53) rfl)
theorem at_v444 : val m d main_v444 = bcI_0_4096 (val m d main_c_22) :=
  at_unary chain (V0 m d) (loc7 (k := 54) rfl) (by decide)
theorem at_v445 : val m d main_v445 = maxsi_4096 (val m d main_v443) (val m d main_v444) :=
  at_binary chain (V0 m d) (loc7 (k := 55) rfl) (by decide) (by decide)
theorem at_v446 : val m d main_v446 = bc_1023_1x1023 (val m d main_v419) :=
  at_unary chain (V0 m d) (loc7 (k := 56) rfl) (by decide)
theorem at_cst_23 : val m d main_cst_23 = (constant S_ .f32 0xFF800000#32 : Vec F S_ .f32) :=
  at_nullary chain (V0 m d) (loc7 (k := 57) rfl)
theorem at_call4_v0 : val m d main_call4_v0 = same_f32 (val m d main_cst_23) :=
  at_unary chain (V0 m d) (loc7 (k := 58) rfl) (by decide)
theorem at_call4_v1 : val m d main_call4_v1 = bc_1x1023_4096x1023 (val m d main_v446) :=
  at_unary chain (V0 m d) (loc7 (k := 59) rfl) (by decide)
theorem at_call4_v2 : val m d main_call4_v2 = bc_0_4096x1023 (val m d main_call4_v0) :=
  at_unary chain (V0 m d) (loc7 (k := 60) rfl) (by decide)
theorem at_v447 : val m d main_v447 = sel_4096x1023 (val m d main_v436) (val m d main_call4_v1) (val m d main_call4_v2) :=
  at_ternary chain (V0 m d) (loc7 (k := 61) rfl) (by decide) (by decide) (by decide)
theorem at_cst_24 : val m d main_cst_24 = (constant S_ .f32 0xFF800000#32 : Vec F S_ .f32) :=
  at_nullary chain (V0 m d) (loc7 (k := 62) rfl)
theorem at_v448 : val m d main_v448 = rowMax (val m d main_v447) (val m d main_cst_24) :=
  at_binary chain (V0 m d) (loc7 (k := 63) rfl) (by decide) (by decide)
theorem at_v449 : val m d main_v449 = toF_4096 (val m d main_v426) :=
  at_unary chain (V0 m d) (loc7 (k := 64) rfl) (by decide)
theorem at_v450 : val m d main_v450 = bc_0_4096 (val m d main_v418) :=
  at_unary chain (V0 m d) (loc7 (k := 65) rfl) (by decide)
theorem at_v451 : val m d main_v451 = mulf_4096 (val m d main_v449) (val m d main_v450) :=
  at_binary chain (V0 m d) (loc7 (k := 66) rfl) (by decide) (by decide)
theorem at_v452 : val m d main_v452 = bc_0_4096 (val m d main_v412) :=
  at_unary chain (V0 m d) (loc7 (k := 67) rfl) (by decide)
theorem at_v453 : val m d main_v453 = addf_4096 (val m d main_v452) (val m d main_v451) :=
  at_binary chain (V0 m d) (loc8 (k := 0) rfl) (by decide) (by decide)
theorem at_v454 : val m d main_v454 = (iotaInDim S1023 32 0 : Vec F S1023 .i32) :=
  at_nullary chain (V0 m d) (loc8 (k := 1) rfl)
theorem at_v455 : val m d main_v455 = bcI_1023_1x1023 (val m d main_v454) :=
  at_unary chain (V0 m d) (loc8 (k := 2) rfl) (by decide)
theorem at_v456 : val m d main_v456 = bcI_4096_4096x1 (val m d main_v445) :=
  at_unary chain (V0 m d) (loc8 (k := 3) rfl) (by decide)
theorem at_v457 : val m d main_v457 = bcI_1x1023_4096x1023 (val m d main_v455) :=
  at_unary chain (V0 m d) (loc8 (k := 4) rfl) (by decide)
theorem at_v458 : val m d main_v458 = bcI_4096x1_4096x1023 (val m d main_v456) :=
  at_unary chain (V0 m d) (loc8 (k := 5) rfl) (by decide)
theorem at_v459 : val m d main_v459 = cmp_eq_4096x1023 (val m d main_v457) (val m d main_v458) :=
  at_binary chain (V0 m d) (loc8 (k := 6) rfl) (by decide) (by decide)
theorem at_v460 : val m d main_v460 = slice_1024_1023_at0 (val m d main_arg1) :=
  at_unary chain (V0 m d) (loc8 (k := 7) rfl) (by decide)
theorem at_v461 : val m d main_v461 = bc_1023_1x1023 (val m d main_v460) :=
  at_unary chain (V0 m d) (loc8 (k := 8) rfl) (by decide)
theorem at_cst_25 : val m d main_cst_25 = (constant S_ .f32 0x00000000#32 : Vec F S_ .f32) :=
  at_nullary chain (V0 m d) (loc8 (k := 9) rfl)
theorem at_call5_v0 : val m d main_call5_v0 = same_f32 (val m d main_cst_25) :=
  at_unary chain (V0 m d) (loc8 (k := 10) rfl) (by decide)
theorem at_call5_v1 : val m d main_call5_v1 = bc_1x1023_4096x1023 (val m d main_v461) :=
  at_unary chain (V0 m d) (loc8 (k := 11) rfl) (by decide)
theorem at_call5_v2 : val m d main_call5_v2 = bc_0_4096x1023 (val m d main_call5_v0) :=
  at_unary chain (V0 m d) (loc8 (k := 12) rfl) (by decide)
theorem at_v462 : val m d main_v462 = sel_4096x1023 (val m d main_v459) (val m d main_call5_v1) (val m d main_call5_v2) :=
  at_ternary chain (V0 m d) (loc8 (k := 13) rfl) (by decide) (by decide) (by decide)
theorem at_cst_26 : val m d main_cst_26 = (constant S_ .f32 0x00000000#32 : Vec F S_ .f32) :=
  at_nullary chain (V0 m d) (loc8 (k := 14) rfl)
theorem at_v463 : val m d main_v463 = rowSum (val m d main_v462) (val m d main_cst_26) :=
  at_binary chain (V0 m d) (loc8 (k := 15) rfl) (by decide) (by decide)
theorem at_v464 : val m d main_v464 = subf_4096 (val m d main_v453) (val m d main_v463) :=
  at_binary chain (V0 m d) (loc8 (k := 16) rfl) (by decide) (by decide)
theorem at_v465 : val m d main_v465 = bc_1023_1x1023 (val m d main_v397) :=
  at_unary chain (V0 m d) (loc8 (k := 17) rfl) (by decide)
theorem at_cst_27 : val m d main_cst_27 = (constant S_ .f32 0x00000000#32 : Vec F S_ .f32) :=
  at_nullary chain (V0 m d) (loc8 (k := 18) rfl)
theorem at_call6_v0 : val m d main_call6_v0 = same_f32 (val m d main_cst_27) :=
  at_unary chain (V0 m d) (loc8 (k := 19) rfl) (by decide)
theorem at_call6_v1 : val m d main_call6_v1 = bc_1x1023_4096x1023 (val m d main_v465) :=
  at_unary chain (V0 m d) (loc8 (k := 20) rfl) (by decide)
theorem at_call6_v2 : val m d main_call6_v2 = bc_0_4096x1023 (val m d main_call6_v0) :=
  at_unary chain (V0 m d) (loc8 (k := 21) rfl) (by decide)
theorem at_v466 : val m d main_v466 = sel_4096x1023 (val m d main_v459) (val m d main_call6_v1) (val m d main_call6_v2) :=
  at_ternary chain (V0 m d) (loc8 (k := 22) rfl) (by decide) (by decide) (by decide)
theorem at_cst_28 : val m d main_cst_28 = (constant S_ .f32 0x00000000#32 : Vec F S_ .f32) :=
  at_nullary chain (V0 m d) (loc8 (k := 23) rfl)
theorem at_v467 : val m d main_v467 = rowSum (val m d main_v466) (val m d main_cst_28) :=
  at_binary chain (V0 m d) (loc8 (k := 24) rfl) (by decide) (by decide)
theorem at_v468 : val m d main_v468 = bc_1023_1x1023 (val m d main_v404) :=
  at_unary chain (V0 m d) (loc8 (k := 25) rfl) (by decide)
theorem at_cst_29 : val m d main_cst_29 = (constant S_ .f32 0x00000000#32 : Vec F S_ .f32) :=
  at_nullary chain (V0 m d) (loc8 (k := 26) rfl)
theorem at_call7_v0 : val m d main_call7_v0 = same_f32 (val m d main_cst_29) :=
  at_unary chain (V0 m d) (loc8 (k := 27) rfl) (by decide)
theorem at_call7_v1 : val m d main_call7_v1 = bc_1x1023_4096x1023 (val m d main_v468) :=
  at_unary chain (V0 m d) (loc8 (k := 28) rfl) (by decide)
theorem at_call7_v2 : val m d main_call7_v2 = bc_0_4096x1023 (val m d main_call7_v0) :=
  at_unary chain (V0 m d) (loc8 (k := 29) rfl) (by decide)
theorem at_v469 : val m d main_v469 = sel_4096x1023 (val m d main_v459) (val m d main_call7_v1) (val m d main_call7_v2) :=
  at_ternary chain (V0 m d) (loc8 (k := 30) rfl) (by decide) (by decide) (by decide)
theorem at_cst_30 : val m d main_cst_30 = (constant S_ .f32 0x00000000#32 : Vec F S_ .f32) :=
  at_nullary chain (V0 m d) (loc8 (k := 31) rfl)
theorem at_v470 : val m d main_v470 = rowSum (val m d main_v469) (val m d main_cst_30) :=
  at_binary chain (V0 m d) (loc8 (k := 32) rfl) (by decide) (by decide)
theorem at_v471 : val m d main_v471 = bc_1023_1x1023 (val m d main_v406) :=
  at_unary chain (V0 m d) (loc8 (k := 33) rfl) (by decide)
theorem at_cst_31 : val m d main_cst_31 = (constant S_ .f32 0x00000000#32 : Vec F S_ .f32) :=
  at_nullary chain (V0 m d) (loc8 (k := 34) rfl)
theorem at_call8_v0 : val m d main_call8_v0 = same_f32 (val m d main_cst_31) :=
  at_unary chain (V0 m d) (loc8 (k := 35) rfl) (by decide)
theorem at_call8_v1 : val m d main_call8_v1 = bc_1x1023_4096x1023 (val m d main_v471) :=
  at_unary chain (V0 m d) (loc8 (k := 36) rfl) (by decide)
theorem at_call8_v2 : val m d main_call8_v2 = bc_0_4096x1023 (val m d main_call8_v0) :=
  at_unary chain (V0 m d) (loc8 (k := 37) rfl) (by decide)
theorem at_v472 : val m d main_v472 = sel_4096x1023 (val m d main_v459) (val m d main_call8_v1) (val m d main_call8_v2) :=
  at_ternary chain (V0 m d) (loc8 (k := 38) rfl) (by decide) (by decide) (by decide)
theorem at_cst_32 : val m d main_cst_32 = (constant S_ .f32 0x00000000#32 : Vec F S_ .f32) :=
  at_nullary chain (V0 m d) (loc8 (k := 39) rfl)
theorem at_v473 : val m d main_v473 = rowSum (val m d main_v472) (val m d main_cst_32) :=
  at_binary chain (V0 m d) (loc8 (k := 40) rfl) (by decide) (by decide)
theorem at_v474 : val m d main_v474 = bc_1023_1x1023 (val m d main_v410) :=
  at_unary chain (V0 m d) (loc8 (k := 41) rfl) (by decide)
theorem at_cst_33 : val m d main_cst_33 = (constant S_ .f32 0x00000000#32 : Vec F S_ .f32) :=
  at_nullary chain (V0 m d) (loc8 (k := 42) rfl)
theorem at_call9_v0 : val m d main_call9_v0 = same_f32 (val m d main_cst_33) :=
  at_unary chain (V0 m d) (loc8 (k := 43) rfl) (by decide)
theorem at_call9_v1 : val m d main_call9_v1 = bc_1x1023_4096x1023 (val m d main_v474) :=
  at_unary chain (V0 m d) (loc8 (k := 44) rfl) (by decide)
theorem at_call9_v2 : val m d main_call9_v2 = bc_0_4096x1023 (val m d main_call9_v0) :=
  at_unary chain (V0 m d) (loc8 (k := 45) rfl) (by decide)
theorem at_v475 : val m d main_v475 = sel_4096x1023 (val m d main_v459) (val m d main_call9_v1) (val m d main_call9_v2) :=
  at_ternary chain (V0 m d) (loc8 (k := 46) rfl) (by decide) (by decide) (by decide)
theorem at_cst_34 : val m d main_cst_34 = (constant S_ .f32 0x00000000#32 : Vec F S_ .f32) :=
  at_nullary chain (V0 m d) (loc8 (k := 47) rfl)
theorem at_v476 : val m d main_v476 = rowSum (val m d main_v475) (val m d main_cst_34) :=
  at_binary chain (V0 m d) (loc8 (k := 48) rfl) (by decide) (by decide)
theorem at_v477 : val m d main_v477 = mulf_4096 (val m d main_v464) (val m d main_v476) :=
  at_binary chain (V0 m d) (loc8 (k := 49) rfl) (by decide) (by decide)
theorem at_v478 : val m d main_v478 = addf_4096 (val m d main_v473) (val m d main_v477) :=
  at_binary chain (V0 m d) (loc8 (k := 50) rfl) (by decide) (by decide)
theorem at_v479 : val m d main_v479 = mulf_4096 (val m d main_v464) (val m d main_v478) :=
  at_binary chain (V0 m d) (loc8 (k := 51) rfl) (by decide) (by decide)
theorem at_v480 : val m d main_v480 = addf_4096 (val m d main_v470) (val m d main_v479) :=
  at_binary chain (V0 m d) (loc8 (k := 52) rfl) (by decide) (by decide)
theorem at_v481 : val m d main_v481 = mulf_4096 (val m d main_v464) (val m d main_v480) :=
  at_binary chain (V0 m d) (loc8 (k := 53) rfl) (by decide) (by decide)
theorem at_v482 : val m d main_v482 = addf_4096 (val m d main_v467) (val m d main_v481) :=
  at_binary chain (V0 m d) (loc8 (k := 54) rfl) (by decide) (by decide)
theorem at_cst_35 : val m d main_cst_35 = (constant S_ .f32 0x40000000#32 : Vec F S_ .f32) :=
  at_nullary chain (V0 m d) (loc8 (k := 55) rfl)
theorem at_v483 : val m d main_v483 = bc_0_4096 (val m d main_cst_35) :=
  at_unary chain (V0 m d) (loc8 (k := 56) rfl) (by decide)
theorem at_v484 : val m d main_v484 = mulf_4096 (val m d main_v483) (val m d main_v473) :=
  at_binary chain (V0 m d) (loc8 (k := 57) rfl) (by decide) (by decide)
theorem at_cst_36 : val m d main_cst_36 = (constant S_ .f32 0x40400000#32 : Vec F S_ .f32) :=
  at_nullary chain (V0 m d) (loc8 (k := 58) rfl)
theorem at_v485 : val m d main_v485 = bc_0_4096 (val m d main_cst_36) :=
  at_unary chain (V0 m d) (loc8 (k := 59) rfl) (by decide)
theorem at_v486 : val m d main_v486 = mulf_4096 (val m d main_v485) (val m d main_v476) :=
  at_binary chain (V0 m d) (loc8 (k := 60) rfl) (by decide) (by decide)
theorem at_v487 : val m d main_v487 = mulf_4096 (val m d main_v486) (val m d main_v464) :=
  at_binary chain (V0 m d) (loc8 (k := 61) rfl) (by decide) (by decide)
theorem at_v488 : val m d main_v488 = addf_4096 (val m d main_v484) (val m d main_v487) :=
  at_binary chain (V0 m d) (loc8 (k := 62) rfl) (by decide) (by decide)
theorem at_v489 : val m d main_v489 = mulf_4096 (val m d main_v464) (val m d main_v488) :=
  at_binary chain (V0 m d) (loc8 (k := 63) rfl) (by decide) (by decide)
theorem at_v490 : val m d main_v490 = addf_4096 (val m d main_v470) (val m d main_v489) :=
  at_binary chain (V0 m d) (loc8 (k := 64) rfl) (by decide) (by decide)
theorem at_cst_37 : val m d main_cst_37 = (constant S_ .f32 0x40400000#32 : Vec F S_ .f32) :=
  at_nullary chain (V0 m d) (loc8 (k := 65) rfl)
theorem at_v491 : val m d main_v491 = bc_0_4096 (val m d main_cst_37) :=
  at_unary chain (V0 m d) (loc8 (k := 66) rfl) (by decide)
theorem at_v492 : val m d main_v492 = mulf_4096 (val m d main_v491) (val m d main_v476) :=
  at_binary chain (V0 m d) (loc8 (k := 67) rfl) (by decide) (by decide)
theorem at_v493 : val m d main_v493 = mulf_4096 (val m d main_v492) (val m d main_v464) :=
  at_binary chain (V0 m d) (loc8 (k := 68) rfl) (by decide) (by decide)
theorem at_v494 : val m d main_v494 = addf_4096 (val m d main_v473) (val m d main_v493) :=
  at_binary chain (V0 m d) (loc8 (k := 69) rfl) (by decide) (by decide)
theorem at_v495 : val m d main_v495 = bcI_1023_1x1023 (val m d main_v454) :=
  at_unary chain (V0 m d) (loc8 (k := 70) rfl) (by decide)
theorem at_v496 : val m d main_v496 = bcI_4096_4096x1 (val m d main_v442) :=
  at_unary chain (V0 m d) (loc8 (k := 71) rfl) (by decide)
theorem at_v497 : val m d main_v497 = bcI_1x1023_4096x1023 (val m d main_v495) :=
  at_unary chain (V0 m d) (loc8 (k := 72) rfl) (by decide)
theorem at_v498 : val m d main_v498 = bcI_4096x1_4096x1023 (val m d main_v496) :=
  at_unary chain (V0 m d) (loc8 (k := 73) rfl) (by decide)
theorem at_v499 : val m d main_v499 = cmp_eq_4096x1023 (val m d main_v497) (val m d main_v498) :=
  at_binary chain (V0 m d) (loc8 (k := 74) rfl) (by decide) (by decide)
theorem at_v500 : val m d main_v500 = slice_1024_1023_at0 (val m d main_arg1) :=
  at_unary chain (V0 m d) (loc9 (k := 0) rfl) (by decide)
theorem at_v501 : val m d main_v501 = bc_1023_1x1023 (val m d main_v500) :=
  at_unary chain (V0 m d) (loc9 (k := 1) rfl) (by decide)
theorem at_cst_38 : val m d main_cst_38 = (constant S_ .f32 0x00000000#32 : Vec F S_ .f32) :=
  at_nullary chain (V0 m d) (loc9 (k := 2) rfl)
theorem at_call10_v0 : val m d main_call10_v0 = same_f32 (val m d main_cst_38) :=
  at_unary chain (V0 m d) (loc9 (k := 3) rfl) (by decide)
theorem at_call10_v1 : val m d main_call10_v1 = bc_1x1023_4096x1023 (val m d main_v501) :=
  at_unary chain (V0 m d) (loc9 (k := 4) rfl) (by decide)
theorem at_call10_v2 : val m d main_call10_v2 = bc_0_4096x1023 (val m d main_call10_v0) :=
  at_unary chain (V0 m d) (loc9 (k := 5) rfl) (by decide)
theorem at_v502 : val m d main_v502 = sel_4096x1023 (val m d main_v499) (val m d main_call10_v1) (val m d main_call10_v2) :=
  at_ternary chain (V0 m d) (loc9 (k := 6) rfl) (by decide) (by decide) (by decide)
theorem at_cst_39 : val m d main_cst_39 = (constant S_ .f32 0x00000000#32 : Vec F S_ .f32) :=
  at_nullary chain (V0 m d) (loc9 (k := 7) rfl)
theorem at_v503 : val m d main_v503 = rowSum (val m d main_v502) (val m d main_cst_39) :=
  at_binary chain (V0 m d) (loc9 (k := 8) rfl) (by decide) (by decide)
theorem at_v504 : val m d main_v504 = subf_4096 (val m d main_v453) (val m d main_v503) :=
  at_binary chain (V0 m d) (loc9 (k := 9) rfl) (by decide) (by decide)
theorem at_v505 : val m d main_v505 = bc_1023_1x1023 (val m d main_v397) :=
  at_unary chain (V0 m d) (loc9 (k := 10) rfl) (by decide)
theorem at_cst_40 : val m d main_cst_40 = (constant S_ .f32 0x00000000#32 : Vec F S_ .f32) :=
  at_nullary chain (V0 m d) (loc9 (k := 11) rfl)
theorem at_call11_v0 : val m d main_call11_v0 = same_f32 (val m d main_cst_40) :=
  at_unary chain (V0 m d) (loc9 (k := 12) rfl) (by decide)
theorem at_call11_v1 : val m d main_call11_v1 = bc_1x1023_4096x1023 (val m d main_v505) :=
  at_unary chain (V0 m d) (loc9 (k := 13) rfl) (by decide)
theorem at_call11_v2 : val m d main_call11_v2 = bc_0_4096x1023 (val m d main_call11_v0) :=
  at_unary chain (V0 m d) (loc9 (k := 14) rfl) (by decide)
theorem at_v506 : val m d main_v506 = sel_4096x1023 (val m d main_v499) (val m d main_call11_v1) (val m d main_call11_v2) :=
  at_ternary chain (V0 m d) (loc9 (k := 15) rfl) (by decide) (by decide) (by decide)
theorem at_cst_41 : val m d main_cst_41 = (constant S_ .f32 0x00000000#32 : Vec F S_ .f32) :=
  at_nullary chain (V0 m d) (loc9 (k := 16) rfl)
theorem at_v507 : val m d main_v507 = rowSum (val m d main_v506) (val m d main_cst_41) :=
  at_binary chain (V0 m d) (loc9 (k := 17) rfl) (by decide) (by decide)
theorem at_v508 : val m d main_v508 = bc_1023_1x1023 (val m d main_v404) :=
  at_unary chain (V0 m d) (loc9 (k := 18) rfl) (by decide)
theorem at_cst_42 : val m d main_cst_42 = (constant S_ .f32 0x00000000#32 : Vec F S_ .f32) :=
  at_nullary chain (V0 m d) (loc9 (k := 19) rfl)
theorem at_call12_v0 : val m d main_call12_v0 = same_f32 (val m d main_cst_42) :=
  at_unary chain (V0 m d) (loc9 (k := 20) rfl) (by decide)
theorem at_call12_v1 : val m d main_call12_v1 = bc_1x1023_4096x1023 (val m d main_v508) :=
  at_unary chain (V0 m d) (loc9 (k := 21) rfl) (by decide)
theorem at_call12_v2 : val m d main_call12_v2 = bc_0_4096x1023 (val m d main_call12_v0) :=
  at_unary chain (V0 m d) (loc9 (k := 22) rfl) (by decide)
theorem at_v509 : val m d main_v509 = sel_4096x1023 (val m d main_v499) (val m d main_call12_v1) (val m d main_call12_v2) :=
  at_ternary chain (V0 m d) (loc9 (k := 23) rfl) (by decide) (by decide) (by decide)
theorem at_cst_43 : val m d main_cst_43 = (constant S_ .f32 0x00000000#32 : Vec F S_ .f32) :=
  at_nullary chain (V0 m d) (loc9 (k := 24) rfl)
theorem at_v510 : val m d main_v510 = rowSum (val m d main_v509) (val m d main_cst_43) :=
  at_binary chain (V0 m d) (loc9 (k := 25) rfl) (by decide) (by decide)
theorem at_v511 : val m d main_v511 = bc_1023_1x1023 (val m d main_v406) :=
  at_unary chain (V0 m d) (loc9 (k := 26) rfl) (by decide)
theorem at_cst_44 : val m d main_cst_44 = (constant S_ .f32 0x00000000#32 : Vec F S_ .f32) :=
  at_nullary chain (V0 m d) (loc9 (k := 27) rfl)
theorem at_call13_v0 : val m d main_call13_v0 = same_f32 (val m d main_cst_44) :=
  at_unary chain (V0 m d) (loc9 (k := 28) rfl) (by decide)
theorem at_call13_v1 : val m d main_call13_v1 = bc_1x1023_4096x1023 (val m d main_v511) :=
  at_unary chain (V0 m d) (loc9 (k := 29) rfl) (by decide)
theorem at_call13_v2 : val m d main_call13_v2 = bc_0_4096x1023 (val m d main_call13_v0) :=
  at_unary chain (V0 m d) (loc9 (k := 30) rfl) (by decide)
theorem at_v512 : val m d main_v512 = sel_4096x1023 (val m d main_v499) (val m d main_call13_v1) (val m d main_call13_v2) :=
  at_ternary chain (V0 m d) (loc9 (k := 31) rfl) (by decide) (by decide) (by decide)
theorem at_cst_45 : val m d main_cst_45 = (constant S_ .f32 0x00000000#32 : Vec F S_ .f32) :=
  at_nullary chain (V0 m d) (loc9 (k := 32) rfl)
theorem at_v513 : val m d main_v513 = rowSum (val m d main_v512) (val m d main_cst_45) :=
  at_binary chain (V0 m d) (loc9 (k := 33) rfl) (by decide) (by decide)
theorem at_v514 : val m d main_v514 = bc_1023_1x1023 (val m d main_v410) :=
  at_unary chain (V0 m d) (loc9 (k := 34) rfl) (by decide)
theorem at_cst_46 : val m d main_cst_46 = (constant S_ .f32 0x00000000#32 : Vec F S_ .f32) :=
  at_nullary chain (V0 m d) (loc9 (k := 35) rfl)
theorem at_call14_v0 : val m d main_call14_v0 = same_f32 (val m d main_cst_46) :=
  at_unary chain (V0 m d) (loc9 (k := 36) rfl) (by decide)
theorem at_call14_v1 : val m d main_call14_v1 = bc_1x1023_4096x1023 (val m d main_v514) :=
  at_unary chain (V0 m d) (loc9 (k := 37) rfl) (by decide)
theorem at_call14_v2 : val m d main_call14_v2 = bc_0_4096x1023 (val m d main_call14_v0) :=
  at_unary chain (V0 m d) (loc9 (k := 38) rfl) (by decide)
theorem at_v515 : val m d main_v515 = sel_4096x1023 (val m d main_v499) (val m d main_call14_v1) (val m d main_call14_v2) :=
  at_ternary chain (V0 m d) (loc9 (k := 39) rfl) (by decide) (by decide) (by decide)
theorem at_cst_47 : val m d main_cst_47 = (constant S_ .f32 0x00000000#32 : Vec F S_ .f32) :=
  at_nullary chain (V0 m d) (loc9 (k := 40) rfl)
theorem at_v516 : val m d main_v516 = rowSum (val m d main_v515) (val m d main_cst_47) :=
  at_binary chain (V0 m d) (loc9 (k := 41) rfl) (by decide) (by decide)
theorem at_v517 : val m d main_v517 = mulf_4096 (val m d main_v504) (val m d main_v516) :=
  at_binary chain (V0 m d) (loc9 (k := 42) rfl) (by decide) (by decide)
theorem at_v518 : val m d main_v518 = addf_4096 (val m d main_v513) (val m d main_v517) :=
  at_binary chain (V0 m d) (loc9 (k := 43) rfl) (by decide) (by decide)
theorem at_v519 : val m d main_v519 = mulf_4096 (val m d main_v504) (val m d main_v518) :=
  at_binary chain (V0 m d) (loc9 (k := 44) rfl) (by decide) (by decide)
theorem at_v520 : val m d main_v520 = addf_4096 (val m d main_v510) (val m d main_v519) :=
  at_binary chain (V0 m d) (loc9 (k := 45) rfl) (by decide) (by decide)
theorem at_v521 : val m d main_v521 = mulf_4096 (val m d main_v504) (val m d main_v520) :=
  at_binary chain (V0 m d) (loc9 (k := 46) rfl) (by decide) (by decide)
theorem at_v522 : val m d main_v522 = addf_4096 (val m d main_v507) (val m d main_v521) :=
  at_binary chain (V0 m d) (loc9 (k := 47) rfl) (by decide) (by decide)
theorem at_cst_48 : val m d main_cst_48 = (constant S_ .f32 0x40000000#32 : Vec F S_ .f32) :=
  at_nullary chain (V0 m d) (loc9 (k := 48) rfl)
theorem at_v523 : val m d main_v523 = bc_0_4096 (val m d main_cst_48) :=
  at_unary chain (V0 m d) (loc9 (k := 49) rfl) (by decide)
theorem at_v524 : val m d main_v524 = mulf_4096 (val m d main_v523) (val m d main_v513) :=
  at_binary chain (V0 m d) (loc9 (k := 50) rfl) (by decide) (by decide)
theorem at_cst_49 : val m d main_cst_49 = (constant S_ .f32 0x40400000#32 : Vec F S_ .f32) :=
  at_nullary chain (V0 m d) (loc9 (k := 51) rfl)
theorem at_v525 : val m d main_v525 = bc_0_4096 (val m d main_cst_49) :=
  at_unary chain (V0 m d) (loc9 (k := 52) rfl) (by decide)
theorem at_v526 : val m d main_v526 = mulf_4096 (val m d main_v525) (val m d main_v516) :=
  at_binary chain (V0 m d) (loc9 (k := 53) rfl) (by decide) (by decide)
theorem at_v527 : val m d main_v527 = mulf_4096 (val m d main_v526) (val m d main_v504) :=
  at_binary chain (V0 m d) (loc9 (k := 54) rfl) (by decide) (by decide)
theorem at_v528 : val m d main_v528 = addf_4096 (val m d main_v524) (val m d main_v527) :=
  at_binary chain (V0 m d) (loc9 (k := 55) rfl) (by decide) (by decide)
theorem at_v529 : val m d main_v529 = mulf_4096 (val m d main_v504) (val m d main_v528) :=
  at_binary chain (V0 m d) (loc9 (k := 56) rfl) (by decide) (by decide)
theorem at_v530 : val m d main_v530 = addf_4096 (val m d main_v510) (val m d main_v529) :=
  at_binary chain (V0 m d) (loc9 (k := 57) rfl) (by decide) (by decide)
theorem at_cst_50 : val m d main_cst_50 = (constant S_ .f32 0x40400000#32 : Vec F S_ .f32) :=
  at_nullary chain (V0 m d) (loc9 (k := 58) rfl)
theorem at_v531 : val m d main_v531 = bc_0_4096 (val m d main_cst_50) :=
  at_unary chain (V0 m d) (loc9 (k := 59) rfl) (by decide)
theorem at_v532 : val m d main_v532 = mulf_4096 (val m d main_v531) (val m d main_v516) :=
  at_binary chain (V0 m d) (loc9 (k := 60) rfl) (by decide) (by decide)
theorem at_v533 : val m d main_v533 = mulf_4096 (val m d main_v532) (val m d main_v504) :=
  at_binary chain (V0 m d) (loc9 (k := 61) rfl) (by decide) (by decide)
theorem at_v534 : val m d main_v534 = addf_4096 (val m d main_v513) (val m d main_v533) :=
  at_binary chain (V0 m d) (loc9 (k := 62) rfl) (by decide) (by decide)
theorem at_v535 : val m d main_v535 = bc_4096_4096x1 (val m d main_v482) :=
  at_unary chain (V0 m d) (loc9 (k := 63) rfl) (by decide)
theorem at_v536 : val m d main_v536 = bc_4096_4096x1 (val m d main_v522) :=
  at_unary chain (V0 m d) (loc9 (k := 64) rfl) (by decide)
theorem at_v537 : val m d main_v537 = cat_4096x1_4096x1 (val m d main_v535) (val m d main_v536) :=
  at_binary chain (V0 m d) (loc9 (k := 65) rfl) (by decide) (by decide)
theorem at_v538 : val m d main_v538 = shapeCast S8192 (val m d main_v537) shapeCasts_S4096x2_S8192 := by
  have e := at_reshape chain (V0 m d) (loc9 (k := 66) rfl) (by decide)
  exact e
theorem at_v539 : val m d main_v539 = bc_4096_4096x1 (val m d main_v490) :=
  at_unary chain (V0 m d) (loc9 (k := 67) rfl) (by decide)
theorem at_v540 : val m d main_v540 = bc_4096_4096x1 (val m d main_v530) :=
  at_unary chain (V0 m d) (loc9 (k := 68) rfl) (by decide)
theorem at_v541 : val m d main_v541 = cat_4096x1_4096x1 (val m d main_v539) (val m d main_v540) :=
  at_binary chain (V0 m d) (loc9 (k := 69) rfl) (by decide) (by decide)
theorem at_v542 : val m d main_v542 = shapeCast S8192 (val m d main_v541) shapeCasts_S4096x2_S8192 := by
  have e := at_reshape chain (V0 m d) (loc9 (k := 70) rfl) (by decide)
  exact e
theorem at_v543 : val m d main_v543 = bc_4096_4096x1 (val m d main_v494) :=
  at_unary chain (V0 m d) (loc9 (k := 71) rfl) (by decide)
theorem at_v544 : val m d main_v544 = bc_4096_4096x1 (val m d main_v534) :=
  at_unary chain (V0 m d) (loc9 (k := 72) rfl) (by decide)
theorem at_v545 : val m d main_v545 = cat_4096x1_4096x1 (val m d main_v543) (val m d main_v544) :=
  at_binary chain (V0 m d) (loc9 (k := 73) rfl) (by decide) (by decide)
theorem at_v546 : val m d main_v546 = shapeCast S8192 (val m d main_v545) shapeCasts_S4096x2_S8192 := by
  have e := at_reshape chain (V0 m d) (loc9 (k := 74) rfl) (by decide)
  exact e
theorem at_v547 : val m d main_v547 = bc_4096_4096x1 (val m d main_v476) :=
  at_unary chain (V0 m d) (loc10 (k := 0) rfl) (by decide)
theorem at_v548 : val m d main_v548 = bc_4096_4096x1 (val m d main_v516) :=
  at_unary chain (V0 m d) (loc10 (k := 1) rfl) (by decide)
theorem at_v549 : val m d main_v549 = cat_4096x1_4096x1 (val m d main_v547) (val m d main_v548) :=
  at_binary chain (V0 m d) (loc10 (k := 2) rfl) (by decide) (by decide)
theorem at_v550 : val m d main_v550 = shapeCast S8192 (val m d main_v549) shapeCasts_S4096x2_S8192 := by
  have e := at_reshape chain (V0 m d) (loc10 (k := 3) rfl) (by decide)
  exact e
theorem at_v551 : val m d main_v551 = bc_0_16 (val m d main_v412) :=
  at_unary chain (V0 m d) (loc10 (k := 4) rfl) (by decide)
theorem at_v552 : val m d main_v552 = bc_0_16 (val m d main_v416) :=
  at_unary chain (V0 m d) (loc10 (k := 5) rfl) (by decide)
theorem at_v553 : val m d main_v553 = bc_0_16 (val m d main_v418) :=
  at_unary chain (V0 m d) (loc10 (k := 6) rfl) (by decide)
theorem at_v554 : val m d main_v554 = cat3 (fun j => val m d ((![main_v551, main_v552, main_v553] : Fin 3 → Ref sig .tc) j)) :=
  at_nary chain (V0 m d) (loc10 (k := 7) rfl) (by decide)

end Cert.Proof.Spline
-- ==== Proof.KerC.lean ====
/-
  The kernel's coefficients about each interval's left end, its buckets, and the two rows and the threshold of each.
-/
module

public import proofs.«01_k».proof.Proof.KerB
public import proofs.«01_k».proof.Proof.HostEqsC

@[expose] public section

noncomputable section

namespace Cert.Proof.Spline

open Cert.KernelIdeal Cert.KernelIdeal.Gen

open Idealize.ShloMosaic Idealize.ShloMosaic.StableHlo Idealize.ShloMosaic.ValueIdx

variable {m : (ℓ : Loc nD τ sig) → Buf (Elt Ideal) ℓ} {d : Dev nD} {X Y : ℕ → ℝ}

/-- A bucket's width. -/
def wid (X : ℕ → ℝ) : ℝ := (X 1023 - X 0) / 4096

variable (R : Reads m d X Y)
include R

theorem r_v395 : Rd 1023 (val m d main_v395) (ZZ X Y) := by
  rw [at_v395]; exact ((z_41 R).slice slices_S1024_S1023_0).congr fun i _ => by rw [Nat.zero_add]
theorem r_v396 : Rd 1023 (val m d main_v396) fun i => ZZ X Y (i + 1) := by
  rw [at_v396]; exact ((z_41 R).slice slices_S1024_S1023_1).congr fun i _ => by rw [Nat.add_comm 1 i]
theorem r_p0 : Rd 1023 (val m d main_v397) Y := by
  rw [at_v397]; exact (R.vl.slice slices_S1024_S1023_0).congr fun i _ => by rw [Nat.zero_add]
theorem r_p1 : Rd 1023 (val m d main_v404) (p1 X Y) := by
  rw [at_v404, at_v403, at_v402, at_cst_12, at_v401, at_v400, at_v399, at_v398, at_cst_11]
  exact (r_v6 R).sub (((r_v2 R).mul (((Rd.bc (Rs.lit lit2) _ _).mul (r_v395 R)).add (r_v396 R))).div (Rd.bc (Rs.lit lit6) _ _) fun _ _ => by norm_num)
theorem r_p2 : Rd 1023 (val m d main_v406) (p2 X Y) := by
  rw [at_v406, at_v405, at_cst_13]
  exact (r_v395 R).div (Rd.bc (Rs.lit lit2) _ _) fun _ _ => by norm_num
theorem r_p3 : Rd 1023 (val m d main_v410) (p3 X Y) := by
  rw [at_v410, at_v407, at_v409, at_v408, at_cst_14]
  exact ((r_v396 R).sub (r_v395 R)).div ((Rd.bc (Rs.lit lit6) _ _).mul (r_v2 R)) fun i hi => mul_ne_zero (by norm_num) (hh_ne R.K hi)

theorem r_x0 : Rs (val m d main_v412) (X 0) := by
  rw [at_v412, at_v411]; exact Rs.ofSlice (R.kn.slice slices_S1024_S1_0) _
theorem r_xn : Rs (val m d main_v414) (X 1023) := by
  rw [at_v414, at_v413]; exact Rs.ofSlice (R.kn.slice slices_S1024_S1_1023) _
theorem r_scale : Rs (val m d main_v416) (scale X) := by
  rw [at_v416, at_v415, at_cst_15]; exact (Rs.lit lit4096).div ((r_xn R).sub (r_x0 R)) R.K.range_pos.ne'
theorem r_wid : Rs (val m d main_v418) (wid X) := by
  rw [at_v418, at_v417, at_cst_16]; exact ((r_xn R).sub (r_x0 R)).div (Rs.lit lit4096) (by norm_num)

theorem r_v419 : Rd 1023 (val m d main_v419) X := by
  rw [at_v419]; exact (R.kn.slice slices_S1024_S1023_0).congr fun i _ => by rw [Nat.zero_add]
theorem r_v423 : Rd 1023 (val m d main_v423) fun i => (X i - X 0) * scale X := by
  rw [at_v423, at_v422, at_v421, at_v420]; exact ((r_v419 R).sub (Rd.bc (r_x0 R) _ _)).mul (Rd.bc (r_scale R) _ _)

/-- The knots' buckets. -/
theorem r_kb : Ri 1023 (val m d main_v425) fun i => buck X (X i) := fun i => by
  rw [at_v425, at_call3_v4, at_call3_v3, at_c_18, at_call3_v2, at_call3_v1, at_call3_v0, at_c_17, at_v424]
  show IntOp.minsi 4095#32 (IntOp.maxsi 0#32 (Ideal.fptosi 32 ((val m d main_v423 : FVec Ideal (Fl 1023) .f32) i))) = _
  rw [r_v423 R i, clamp_host]
  rfl

omit R in
theorem row_of (v : IVec (Fl 1023) 32) (i : (Mx 4096 1023).Idx) : bcI_1x1023_4096x1023 (F := Ideal) (bcI_1023_1x1023 (F := Ideal) v) i = v (ix1 ⟨(i 1).val, (i 1).isLt⟩) :=
  row_at (by norm_num) v _ _ i
omit R in
theorem col_of (v : IVec (Fl 4096) 32) (i : (Mx 4096 1023).Idx) : bcI_4096x1_4096x1023 (F := Ideal) (bcI_4096_4096x1 (F := Ideal) v) i = v (ix1 ⟨(i 0).val, (i 0).isLt⟩) :=
  col_at (by norm_num) v _ _ i
omit R in
theorem iota_col (i : (Mx 4096 1023).Idx) : (bcI_4096x1_4096x1023 (F := Ideal) (bcI_4096_4096x1 (F := Ideal) (iotaInDim S4096 32 0))) i = BitVec.ofInt 32 ((i 0).val : ℤ) := by
  rw [col_of, ← ofInt_nat]; rfl

omit R in
theorem idx_lt (i : (Mx 4096 1023).Idx) : (i 0).val < 4096 ∧ (i 1).val < 1023 := ⟨(i 0).isLt, (i 1).isLt⟩

theorem r_upto : Bits 4096 1023 (val m d main_v431) fun j k => buck X (X k) ≤ (j : ℤ) := fun i => by
  rw [at_v431, at_v429, at_v427, at_v430, at_v428, at_v426]
  show IntOp.cmpi .sle (bcI_1x1023_4096x1023 (F := Ideal) (bcI_1023_1x1023 (F := Ideal) (val m d main_v425)) i) (bcI_4096x1_4096x1023 (F := Ideal) (bcI_4096_4096x1 (F := Ideal) (iotaInDim S4096 32 0)) i) = _
  have h := idx_lt i
  have h0 := buck_nonneg (X := X) (X (i 1).val)
  have h1 := buck_le (X := X) (X (i 1).val)
  rw [iota_col, row_of, r_kb R _]
  show IntOp.cmpi .sle (BitVec.ofInt 32 (buck X (X (i 1).val))) (BitVec.ofInt 32 ((i 0).val : ℤ)) = _
  exact sle_of_words (by omega) (by omega) (by omega) (by omega)

theorem r_in : Bits 4096 1023 (val m d main_v436) fun j k => buck X (X k) = (j : ℤ) := fun i => by
  rw [at_v436, at_v434, at_v432, at_v435, at_v433, at_v426]
  show IntOp.cmpi .eq (bcI_1x1023_4096x1023 (F := Ideal) (bcI_1023_1x1023 (F := Ideal) (val m d main_v425)) i) (bcI_4096x1_4096x1023 (F := Ideal) (bcI_4096_4096x1 (F := Ideal) (iotaInDim S4096 32 0)) i) = _
  have h := idx_lt i
  have h0 := buck_nonneg (X := X) (X (i 1).val)
  have h1 := buck_le (X := X) (X (i 1).val)
  rw [iota_col, row_of, r_kb R _]
  show IntOp.cmpi .eq (BitVec.ofInt 32 (buck X (X (i 1).val))) (BitVec.ofInt 32 ((i 0).val : ℤ)) = _
  exact eq_of_words (by omega) (by omega) (by omega) (by omega)

omit R in
theorem reduces : (Mx 4096 1023).Reduces [1] (Fl 4096) := by decide

theorem r_cle : Ri 4096 (val m d main_v440) fun j => (cle X (j : ℤ) : ℤ) := by
  rw [at_v440, at_v439, at_c_20]; exact (r_upto R).count _ _ rfl _ reduces _
theorem r_ceq : Ri 4096 (val m d main_v438) fun j => (ceq X (j : ℤ) : ℤ) := by
  rw [at_v438, at_v437, at_c_19]; exact (r_in R).count _ _ rfl _ reduces _

theorem r_row1 : Ri 4096 (val m d main_v442) fun j => row1 X (j : ℤ) := fun i => by
  rw [at_v442, at_v441, at_c_21]
  show IntOp.subi ((val m d main_v440 : IVec (Fl 4096) 32) i) (BitVec.ofInt 32 1) = _
  rw [r_cle R i, sub_of]; rfl
theorem r_row0 : Ri 4096 (val m d main_v445) fun j => row0 X (j : ℤ) := fun i => by
  rw [at_v445, at_v444, at_c_22, at_v443]
  show IntOp.maxsi (IntOp.subi ((val m d main_v442 : IVec (Fl 4096) 32) i) ((val m d main_v438 : IVec (Fl 4096) 32) i)) (BitVec.ofInt 32 0) = _
  have h := row1_bounds (X := X) (j := ((i 0).val : ℤ)) (by omega)
  have h' : ceq X ((i 0).val : ℤ) ≤ 1023 := (Finset.card_filter_le _ _).trans (by simp)
  rw [r_row1 R i, r_ceq R i]
  dsimp only
  rw [sub_of, max_of (by omega) (by omega) (by omega) (by omega)]; rfl

/-- A query is at or above a bucket's threshold when it is at or above each knot in the bucket. -/
theorem r_thr (j : (Fl 4096).Idx) (v : ℝ) : LE.le (α := EReal) (val m d main_v448 j) (v : EReal) ↔ ∀ k < 1023, buck X (X k) = ((j 0).val : ℤ) → X k ≤ v := by
  rw [at_v448, at_cst_24, at_v447, at_call4_v1, at_call4_v2, at_call4_v0, at_cst_23, at_v446]
  exact (r_in R).max_le (by norm_num) (r_v419 R) _ _ _ (fun _ => litNegInf) (fun _ => litNegInf) _ reduces _ j v

theorem r_edge : Rd 4096 (val m d main_v453) fun j => X 0 + (j : ℝ) * wid X := by
  rw [at_v453, at_v452, at_v451, at_v450, at_v449, at_v426]
  have h : Rd 4096 (toF_4096 (F := Ideal) (iotaInDim S4096 32 0)) fun j => (j : ℝ) := fun i => by
    show (((BitVec.ofNat 32 (i 0).val).toInt : ℝ) : EReal) = _
    have := lt_fl i
    rw [ofInt_nat, toInt_of (by omega) (by omega)]; norm_cast
  exact (Rd.bc (r_x0 R) _ _).add (h.mul (Rd.bc (r_wid R) _ _))

omit R in
/-- Where a row's place is the one a vector of rows names. -/
theorem onehot {s : IVec (Fl 4096) 32} {f : ℕ → ℤ} (hs : Ri 4096 s f) (hf : ∀ j < 4096, 0 ≤ f j ∧ f j < (1023 : ℕ)) :
    Bits 4096 1023 (cmp_eq_4096x1023 (F := Ideal) (bcI_1x1023_4096x1023 (F := Ideal) (bcI_1023_1x1023 (F := Ideal) (iotaInDim S1023 32 0))) (bcI_4096x1_4096x1023 (F := Ideal) (bcI_4096_4096x1 (F := Ideal) s)))
      fun j k => (k : ℤ) = f j := fun i => by
  show IntOp.cmpi .eq (bcI_1x1023_4096x1023 (F := Ideal) (bcI_1023_1x1023 (F := Ideal) (iotaInDim S1023 32 0)) i) (bcI_4096x1_4096x1023 (F := Ideal) (bcI_4096_4096x1 (F := Ideal) s) i) = _
  have h := idx_lt i
  have h' := hf (i 0).val h.1
  rw [col_of, row_of, hs _]
  show IntOp.cmpi .eq (BitVec.ofNat 32 (i 1).val) (BitVec.ofInt 32 (f (i 0).val)) = _
  rw [ofInt_nat]
  exact eq_of_words (by omega) (by omega) (by omega) (by omega)

end Cert.Proof.Spline
-- ==== Proof.Weave.lean ====
/-
  Two tables woven into one, row by row, and three repeated scalars laid end to end.
-/
module

public import proofs.«01_k».proof.Proof.Words
public import Idealize.ShloMosaic.Lib.Pointwise.Reshape

@[expose] public section

noncomputable section

namespace Cert.Proof

open Idealize.ShloMosaic hiding ix1 ix2
open Idealize.ShloMosaic.ValueIdx

/-- Two columns side by side, read row by row, alternate the two columns' entries. -/
theorem Rd.weave {n : ℕ} {u v : FVec Ideal (Fl n) .f32} {f g : ℕ → ℝ} (hn : n ≠ 1) (hu : Rd n u f) (hv : Rd n v g)
    (b b' : (Fl n).BroadcastsInDim (Mx n 1) ![0]) (hc : Shape.Concatenates [Mx n 1, Mx n 1] (Mx n 2) 1) (hs : (Mx n 2).ShapeCasts (Fl (2 * n))) :
    Rd (2 * n) (shapeCast (Fl (2 * n)) (concatenate (Mx n 2) 1 [⟨Mx n 1, broadcastInDim (Mx n 1) ![0] b u⟩, ⟨Mx n 1, broadcastInDim (Mx n 1) ![0] b' v⟩] hc) hs)
      fun i => if i % 2 = 0 then f (i / 2) else g (i / 2) := fun i => by
  have hi := lt_fl i
  have hq : (i 0).val / 2 < n := by omega
  have e : Shape.reshapeEquiv hs i = ix2 ⟨(i 0).val / 2, hq⟩ ⟨(i 0).val % 2, by omega⟩ := by
    refine Shape.reshapeEquiv_eq_of_vals hs _ _ (i 0).val (i 0).val ?_ (rowMajor_val1 _) rfl
    rw [rowMajor_val2 _ 2 rfl]
    show (i 0).val / 2 * 2 + (i 0).val % 2 = (i 0).val
    omega
  show concatenate (Mx n 2) 1 [⟨Mx n 1, broadcastInDim (Mx n 1) ![0] b u⟩, ⟨Mx n 1, broadcastInDim (Mx n 1) ![0] b' v⟩] hc (Shape.reshapeEquiv hs i) = _
  rw [e]
  have col : ∀ {w : FVec Ideal (Fl n) .f32} {p : ℕ → ℝ}, Rd n w p → ∀ (c : (Fl n).BroadcastsInDim (Mx n 1) ![0]),
      broadcastInDim (Mx n 1) ![0] c w (ix2 ⟨(i 0).val / 2, hq⟩ 0) = ((p ((i 0).val / 2) : ℝ) : EReal) := fun {w p} hw c => by
    have := hw (ix1 ⟨(i 0).val / 2, hq⟩)
    refine Eq.trans ?_ this
    unfold broadcastInDim
    congr 1
    funext a
    obtain rfl : a = 0 := Subsingleton.elim _ _
    apply Fin.ext
    simp [hn]
    rfl
  dsimp only
  by_cases h : (i 0).val % 2 = 0
  · rw [if_pos h, ← col hu b]
    refine concatenate_pair_apply_left (s₁ := Mx n 1) (s₂ := Mx n 1) 1 _ _ hc _ rfl _ fun x => ?_
    fin_cases x
    · rfl
    · show 0 = (i 0).val % 2; omega
  · rw [if_neg h, ← col hv b']
    refine concatenate_pair_apply_right (s₁ := Mx n 1) (s₂ := Mx n 1) 1 _ _ hc _ rfl rfl _ (fun x hx => ?_) ?_
    · fin_cases x
      · rfl
      · exact absurd rfl hx
    · show 0 + 1 = (i 0).val % 2; omega

/-- Three scalars, each repeated `n` times, laid end to end. -/
theorem Rd.three {n : ℕ} {u v w : FVec Ideal (Fl n) .f32} {a b c : ℝ} (hu : Rd n u fun _ => a) (hv : Rd n v fun _ => b) (hw : Rd n w fun _ => c)
    (hc : Shape.Concatenates [Fl n, Fl n, Fl n] (Fl (3 * n)) 0) :
    Rd (3 * n) (concatenate (Fl (3 * n)) 0 [⟨Fl n, u⟩, ⟨Fl n, v⟩, ⟨Fl n, w⟩] hc) fun i => if i < n then a else if i < 2 * n then b else c := fun i => by
  have hi := lt_fl i
  dsimp only
  by_cases h : (i 0).val < n
  · rw [if_pos h]
    refine (concatenate_apply_piece 0 [⟨Fl n, u⟩, ⟨Fl n, v⟩, ⟨Fl n, w⟩] hc i 0 (by simp) (Fl n) u rfl rfl 0 rfl (ix1 ⟨(i 0).val, h⟩) (fun x hx => absurd (Subsingleton.elim _ _) hx) ?_).trans (hu _)
    show 0 + (i 0).val = (i 0).val; omega
  · rw [if_neg h]
    by_cases h' : (i 0).val < 2 * n
    · rw [if_pos h']
      refine (concatenate_apply_piece 0 [⟨Fl n, u⟩, ⟨Fl n, v⟩, ⟨Fl n, w⟩] hc i 1 (by simp) (Fl n) v rfl rfl n (by simp) (ix1 ⟨(i 0).val - n, by omega⟩) (fun x hx => absurd (Subsingleton.elim _ _) hx) ?_).trans (hv _)
      show n + ((i 0).val - n) = (i 0).val; omega
    · rw [if_neg h']
      refine (concatenate_apply_piece 0 [⟨Fl n, u⟩, ⟨Fl n, v⟩, ⟨Fl n, w⟩] hc i 2 (by simp) (Fl n) w rfl rfl (n + n) (by simp) (ix1 ⟨(i 0).val - (n + n), by omega⟩) (fun x hx => absurd (Subsingleton.elim _ _) hx) ?_).trans (hw _)
      show n + n + ((i 0).val - (n + n)) = (i 0).val; omega

end Cert.Proof
-- ==== Proof.KerD.lean ====
/-
  The kernel's four tables: each bucket's edge, the two rows' coefficients about it, and the rows woven together.
-/
module

public import proofs.«01_k».proof.Proof.KerC
public import proofs.«01_k».proof.Proof.Weave

@[expose] public section

noncomputable section

namespace Cert.Proof.Spline

open Cert.KernelIdeal Cert.KernelIdeal.Gen

open Idealize.ShloMosaic Idealize.ShloMosaic.StableHlo Idealize.ShloMosaic.ValueIdx

variable {m : (ℓ : Loc nD τ sig) → Buf (Elt Ideal) ℓ} {d : Dev nD} {X Y : ℕ → ℝ}

/-- A bucket's edge, and the two rows of a bucket as places in the tables of intervals. -/
def edge (X : ℕ → ℝ) (j : ℕ) : ℝ := X 0 + (j : ℝ) * wid X
def s0 (X : ℕ → ℝ) (j : ℕ) : ℕ := (row0 X (j : ℤ)).toNat
def s1 (X : ℕ → ℝ) (j : ℕ) : ℕ := (row1 X (j : ℤ)).toNat

/-- One entry of every row kept and the rows added up. -/
theorem pick {c : IVec (Mx 4096 1023) 1} {f : ℕ → ℤ} (hc : Bits 4096 1023 c fun j k => (k : ℤ) = f j) (hf : ∀ j < 4096, 0 ≤ f j ∧ f j < (1023 : ℕ))
    {p : FVec Ideal (Fl 1023) .f32} {g : ℕ → ℝ} (hp : Rd 1023 p g) :
    Rd 4096 (rowSum (F := Ideal) (sel_4096x1023 (F := Ideal) c (bc_1x1023_4096x1023 (F := Ideal) (bc_1023_1x1023 (F := Ideal) p)) (bc_0_4096x1023 (F := Ideal) (same_f32 (F := Ideal) (constant (F := Ideal) S_ .f32 0x00000000#32)))) (constant (F := Ideal) S_ .f32 0x00000000#32))
      fun j => g (f j).toNat :=
  hc.pick hf (by norm_num) hp _ _ _ (Rs.lit lit0) (Rs.lit lit0) _ reduces _

variable (R : Reads m d X Y)
include R

theorem r_460 : Rd 1023 (val m d main_v460) X := by
  rw [at_v460]; exact (R.kn.slice slices_S1024_S1023_0).congr fun i _ => by rw [Nat.zero_add]
theorem r_500 : Rd 1023 (val m d main_v500) X := by
  rw [at_v500]; exact (R.kn.slice slices_S1024_S1023_0).congr fun i _ => by rw [Nat.zero_add]

omit R in
theorem row0_lt : ∀ j < 4096, 0 ≤ row0 X ((j : ℕ) : ℤ) ∧ row0 X (j : ℤ) < (1023 : ℕ) := fun j _ => by
  have := row0_bounds (X := X) (j := (j : ℤ)) (by omega); omega
omit R in
theorem row1_lt : ∀ j < 4096, 0 ≤ row1 X ((j : ℕ) : ℤ) ∧ row1 X (j : ℤ) < (1023 : ℕ) := fun j _ => by
  have := row1_bounds (X := X) (j := (j : ℤ)) (by omega); omega

theorem r_v459 : Bits 4096 1023 (val m d main_v459) fun j k => (k : ℤ) = row0 X (j : ℤ) := by
  rw [at_v459, at_v457, at_v458, at_v455, at_v456, at_v454]; exact onehot (r_row0 R) row0_lt
theorem r_v499 : Bits 4096 1023 (val m d main_v499) fun j k => (k : ℤ) = row1 X (j : ℤ) := by
  rw [at_v499, at_v497, at_v498, at_v495, at_v496, at_v454]; exact onehot (r_row1 R) row1_lt

theorem r_v463 : Rd 4096 (val m d main_v463) fun j => X (s0 X j) := by
  rw [at_v463, at_v462, at_cst_26, at_call5_v1, at_call5_v2, at_call5_v0, at_cst_25, at_v461]; exact pick (r_v459 R) row0_lt (r_460 R)

theorem r_v467 : Rd 4096 (val m d main_v467) fun j => Y (s0 X j) := by
  rw [at_v467, at_v466, at_cst_28, at_call6_v1, at_call6_v2, at_call6_v0, at_cst_27, at_v465]; exact pick (r_v459 R) row0_lt (r_p0 R)

theorem r_v470 : Rd 4096 (val m d main_v470) fun j => p1 X Y (s0 X j) := by
  rw [at_v470, at_v469, at_cst_30, at_call7_v1, at_call7_v2, at_call7_v0, at_cst_29, at_v468]; exact pick (r_v459 R) row0_lt (r_p1 R)

theorem r_v473 : Rd 4096 (val m d main_v473) fun j => p2 X Y (s0 X j) := by
  rw [at_v473, at_v472, at_cst_32, at_call8_v1, at_call8_v2, at_call8_v0, at_cst_31, at_v471]; exact pick (r_v459 R) row0_lt (r_p2 R)

theorem r_v476 : Rd 4096 (val m d main_v476) fun j => p3 X Y (s0 X j) := by
  rw [at_v476, at_v475, at_cst_34, at_call9_v1, at_call9_v2, at_call9_v0, at_cst_33, at_v474]; exact pick (r_v459 R) row0_lt (r_p3 R)

/-- Offset of the edge from the row's left end, and the row's coefficients about the edge. -/
theorem r_v464 : Rd 4096 (val m d main_v464) fun j => edge X j - X (s0 X j) := by
  rw [at_v464]; exact (r_edge R).sub (r_v463 R)

theorem r_v482 : Rd 4096 (val m d main_v482) fun j => c0 X Y (s0 X j) (edge X j) := by
  rw [at_v482, at_v481, at_v480, at_v479, at_v478, at_v477]
  exact (r_v467 R).add ((r_v464 R).mul ((r_v470 R).add ((r_v464 R).mul ((r_v473 R).add ((r_v464 R).mul (r_v476 R))))))

theorem r_v490 : Rd 4096 (val m d main_v490) fun j => c1 X Y (s0 X j) (edge X j) := by
  rw [at_v490, at_v489, at_v488, at_v487, at_v486, at_v485, at_v484, at_v483, at_cst_36, at_cst_35]
  exact (r_v470 R).add ((r_v464 R).mul (((Rd.bc (Rs.lit lit2) _ _).mul (r_v473 R)).add (((Rd.bc (Rs.lit lit3) _ _).mul (r_v476 R)).mul (r_v464 R))))

theorem r_v494 : Rd 4096 (val m d main_v494) fun j => c2 X Y (s0 X j) (edge X j) := by
  rw [at_v494, at_v493, at_v492, at_v491, at_cst_37]
  exact (r_v473 R).add (((Rd.bc (Rs.lit lit3) _ _).mul (r_v476 R)).mul (r_v464 R))

theorem r_v503 : Rd 4096 (val m d main_v503) fun j => X (s1 X j) := by
  rw [at_v503, at_v502, at_cst_39, at_call10_v1, at_call10_v2, at_call10_v0, at_cst_38, at_v501]; exact pick (r_v499 R) row1_lt (r_500 R)

theorem r_v507 : Rd 4096 (val m d main_v507) fun j => Y (s1 X j) := by
  rw [at_v507, at_v506, at_cst_41, at_call11_v1, at_call11_v2, at_call11_v0, at_cst_40, at_v505]; exact pick (r_v499 R) row1_lt (r_p0 R)

theorem r_v510 : Rd 4096 (val m d main_v510) fun j => p1 X Y (s1 X j) := by
  rw [at_v510, at_v509, at_cst_43, at_call12_v1, at_call12_v2, at_call12_v0, at_cst_42, at_v508]; exact pick (r_v499 R) row1_lt (r_p1 R)

theorem r_v513 : Rd 4096 (val m d main_v513) fun j => p2 X Y (s1 X j) := by
  rw [at_v513, at_v512, at_cst_45, at_call13_v1, at_call13_v2, at_call13_v0, at_cst_44, at_v511]; exact pick (r_v499 R) row1_lt (r_p2 R)

theorem r_v516 : Rd 4096 (val m d main_v516) fun j => p3 X Y (s1 X j) := by
  rw [at_v516, at_v515, at_cst_47, at_call14_v1, at_call14_v2, at_call14_v0, at_cst_46, at_v514]; exact pick (r_v499 R) row1_lt (r_p3 R)

/-- Offset of the edge from the row's left end, and the row's coefficients about the edge. -/
theorem r_v504 : Rd 4096 (val m d main_v504) fun j => edge X j - X (s1 X j) := by
  rw [at_v504]; exact (r_edge R).sub (r_v503 R)

theorem r_v522 : Rd 4096 (val m d main_v522) fun j => c0 X Y (s1 X j) (edge X j) := by
  rw [at_v522, at_v521, at_v520, at_v519, at_v518, at_v517]
  exact (r_v507 R).add ((r_v504 R).mul ((r_v510 R).add ((r_v504 R).mul ((r_v513 R).add ((r_v504 R).mul (r_v516 R))))))

theorem r_v530 : Rd 4096 (val m d main_v530) fun j => c1 X Y (s1 X j) (edge X j) := by
  rw [at_v530, at_v529, at_v528, at_v527, at_v526, at_v525, at_v524, at_v523, at_cst_49, at_cst_48]
  exact (r_v510 R).add ((r_v504 R).mul (((Rd.bc (Rs.lit lit2) _ _).mul (r_v513 R)).add (((Rd.bc (Rs.lit lit3) _ _).mul (r_v516 R)).mul (r_v504 R))))

theorem r_v534 : Rd 4096 (val m d main_v534) fun j => c2 X Y (s1 X j) (edge X j) := by
  rw [at_v534, at_v533, at_v532, at_v531, at_cst_50]
  exact (r_v513 R).add (((Rd.bc (Rs.lit lit3) _ _).mul (r_v516 R)).mul (r_v504 R))

/-- The row of the tables for place `i`: an even place is a bucket's first row, an odd one its second. -/
def srow (X : ℕ → ℝ) (i : ℕ) : ℕ := if i % 2 = 0 then s0 X (i / 2) else s1 X (i / 2)

theorem r_t0 : Rd 8192 (val m d main_v538) fun i => c0 X Y (srow X i) (edge X (i / 2)) := by
  rw [at_v538, at_v537, at_v536, at_v535]
  exact (Rd.weave (n := 4096) (by norm_num) (r_v482 R) (r_v522 R) _ _ _ _).congr fun i _ => by unfold srow; split <;> rfl

theorem r_t1 : Rd 8192 (val m d main_v542) fun i => c1 X Y (srow X i) (edge X (i / 2)) := by
  rw [at_v542, at_v541, at_v540, at_v539]
  exact (Rd.weave (n := 4096) (by norm_num) (r_v490 R) (r_v530 R) _ _ _ _).congr fun i _ => by unfold srow; split <;> rfl

theorem r_t2 : Rd 8192 (val m d main_v546) fun i => c2 X Y (srow X i) (edge X (i / 2)) := by
  rw [at_v546, at_v545, at_v544, at_v543]
  exact (Rd.weave (n := 4096) (by norm_num) (r_v494 R) (r_v534 R) _ _ _ _).congr fun i _ => by unfold srow; split <;> rfl

theorem r_t3 : Rd 8192 (val m d main_v550) fun i => p3 X Y (srow X i) := by
  rw [at_v550, at_v549, at_v548, at_v547]
  exact (Rd.weave (n := 4096) (by norm_num) (r_v476 R) (r_v516 R) _ _ _ _).congr fun i _ => by unfold srow; split <;> rfl

theorem r_par : Rd 48 (val m d main_v554) fun i => if i < 16 then X 0 else if i < 32 then scale X else wid X := by
  rw [at_v554]
  have h1 : Rd 16 (val m d main_v551) fun _ => X 0 := by rw [at_v551]; exact Rd.bc (r_x0 R) _ _
  have h2 : Rd 16 (val m d main_v552) fun _ => scale X := by rw [at_v552]; exact Rd.bc (r_scale R) _ _
  have h3 : Rd 16 (val m d main_v553) fun _ => wid X := by rw [at_v553]; exact Rd.bc (r_wid R) _ _
  exact Rd.three (n := 16) h1 h2 h3 _

end Cert.Proof.Spline
-- ==== Proof.KerValue.lean ====
/-
  What the kernel leaves for a query: the cubic of the interval that counting the knots gives.
-/
module

public import proofs.«01_k».proof.Proof.KerD

@[expose] public section

noncomputable section

namespace Cert.Proof.Spline

open Cert.KernelIdeal Cert.KernelIdeal.Gen

open Idealize.ShloMosaic Idealize.ShloMosaic.StableHlo

variable {m : (ℓ : Loc nD τ sig) → Buf (Elt Ideal) ℓ} {d : Dev nD} {X Y : ℕ → ℝ}

theorem bucket_word {v3 v4 : FVec Ideal (Fl 16) .f32} {l : (Fl 16).Idx} (h3 : v3 l = ((X 0 : ℝ) : EReal)) (h4 : v4 l = ((scale X : ℝ) : EReal)) (v : ℝ) :
    bucketOf (F := Ideal) v3 v4 l (v : EReal) = BitVec.ofInt 32 (buck X v) := by
  show IntOp.minsi (IntOp.maxsi (Ideal.fptosi 32 (((v : EReal) - v3 l) * v4 l)) 0#32) 4095#32 = _
  rw [h3, h4, ← EReal.coe_sub, ← EReal.coe_mul, clamp_lane]; rfl

theorem at4096_of {a : ℤ} (h : 0 ≤ a) (h' : a < 4096) : ((at4096 (BitVec.ofInt 32 a)) 0).val = a.toNat := by
  show (BitVec.ofInt 32 a).toNat % 4096 = _
  rw [toNat_of h (by omega)]; omega
theorem at8192_of {a : ℤ} (h : 0 ≤ a) (h' : a < 8192) : ((at8192 (BitVec.ofInt 32 a)) 0).val = a.toNat := by
  show (BitVec.ofInt 32 a).toNat % 8192 = _
  rw [toNat_of h (by omega)]; omega

/-- The row and the result written out at one lane. -/
theorem row_def (v3 v4 : FVec Ideal (Fl 16) .f32) (tb : FVec Ideal (Fl 4096) .f32) (l : (Fl 16).Idx) (v : EReal) :
    rowOf (F := Ideal) v3 v4 tb l v = IntOp.addi (IntOp.addi (bucketOf (F := Ideal) v3 v4 l v) (bucketOf (F := Ideal) v3 v4 l v))
      (if BitVec.ofBool (decide (LE.le (α := EReal) (tb (at4096 (bucketOf (F := Ideal) v3 v4 l v))) v)) = 1#1 then 1#32 else 0#32) := rfl
theorem lane_def (v3 v4 v5 : FVec Ideal (Fl 16) .f32) (t0 t1 t2 t3 : FVec Ideal (Fl 8192) .f32) (tb : FVec Ideal (Fl 4096) .f32) (l : (Fl 16).Idx) (v x w q0 q1 q2 q3 : ℝ)
    {b r : ℤ} (hb : bucketOf (F := Ideal) v3 v4 l (v : EReal) = BitVec.ofInt 32 b) (hr : rowOf (F := Ideal) v3 v4 tb l (v : EReal) = BitVec.ofInt 32 r) (b0 : 0 ≤ b) (b1 : b ≤ 4095)
    (h3 : v3 l = (x : EReal)) (h5 : v5 l = (w : EReal)) (e0 : t0 (at8192 (BitVec.ofInt 32 r)) = (q0 : EReal)) (e1 : t1 (at8192 (BitVec.ofInt 32 r)) = (q1 : EReal))
    (e2 : t2 (at8192 (BitVec.ofInt 32 r)) = (q2 : EReal)) (e3 : t3 (at8192 (BitVec.ofInt 32 r)) = (q3 : EReal)) :
    laneVal (F := Ideal) v3 v4 v5 t0 t1 t2 t3 tb l (v : EReal) = ((q0 + (v - x - b * w) * (q1 + (v - x - b * w) * (q2 + (v - x - b * w) * q3)) : ℝ) : EReal) := by
  have el : laneVal (F := Ideal) v3 v4 v5 t0 t1 t2 t3 tb l (v : EReal)
      = (fun B Rw => (t0 (at8192 Rw) : EReal) + (((v : EReal) - v3 l) - ((B.toInt : ℝ) : EReal) * v5 l) * ((t1 (at8192 Rw) : EReal) + (((v : EReal) - v3 l) - ((B.toInt : ℝ) : EReal) * v5 l) * ((t2 (at8192 Rw) : EReal) + (((v : EReal) - v3 l) - ((B.toInt : ℝ) : EReal) * v5 l) * (t3 (at8192 Rw) : EReal))))
        (bucketOf (F := Ideal) v3 v4 l (v : EReal)) (rowOf (F := Ideal) v3 v4 tb l (v : EReal)) := rfl
  rw [el, hb, hr]
  dsimp only
  rw [e0, e1, e2, e3, h3, h5, toInt_of (by omega) (by omega)]
  norm_cast

/-- The row is the bucket's second one when the query is at or above the bucket's knots, else its first. -/
theorem row_word (R : Reads m d X Y) {v3 v4 : FVec Ideal (Fl 16) .f32} {l : (Fl 16).Idx} (h3 : v3 l = ((X 0 : ℝ) : EReal)) (h4 : v4 l = ((scale X : ℝ) : EReal)) (v : ℝ) :
    ∃ r : ℤ, rowOf (F := Ideal) v3 v4 (val m d main_v448) l (v : EReal) = BitVec.ofInt 32 r ∧ 0 ≤ r ∧ r < 8192 ∧ r.toNat / 2 = (buck X v).toNat
      ∧ srow X r.toNat = (ival X v).toNat := by
  have b0 := buck_nonneg (X := X) v
  have b1 := buck_le (X := X) v
  have eb := bucket_word (X := X) h3 h4 v
  have et := r_thr R (at4096 (BitVec.ofInt 32 (buck X v))) v
  rw [at4096_of b0 (by omega), Int.toNat_of_nonneg b0] at et
  have er := row_def v3 v4 (val m d main_v448) l (v : EReal)
  rw [eb] at er
  by_cases h : ∀ k < 1023, buck X (X k) = buck X v → X k ≤ v
  · refine ⟨buck X v + buck X v + 1, ?_, by omega, by omega, by omega, ?_⟩
    · rw [er, decide_eq_true (et.2 h), add_of]
      exact add_of _ 1
    · rw [R.K.ival_hit v h]
      unfold srow s1
      rw [if_neg (by omega), show (buck X v + buck X v + 1).toNat / 2 = (buck X v).toNat by omega, Int.toNat_of_nonneg b0]
  · refine ⟨buck X v + buck X v, ?_, by omega, by omega, by omega, ?_⟩
    · rw [er, decide_eq_false (fun e => h (et.1 e)), add_of]
      exact (add_of _ 0).trans (by rw [add_zero])
    · rw [R.K.ival_miss v h]
      unfold srow s0
      rw [if_pos (by omega), show (buck X v + buck X v).toNat / 2 = (buck X v).toNat by omega, Int.toNat_of_nonneg b0]

/-- One lane's result. -/
theorem lane_value (R : Reads m d X Y) {v3 v4 v5 : FVec Ideal (Fl 16) .f32} {l : (Fl 16).Idx} (h3 : v3 l = ((X 0 : ℝ) : EReal)) (h4 : v4 l = ((scale X : ℝ) : EReal))
    (h5 : v5 l = ((wid X : ℝ) : EReal)) (v : ℝ) :
    laneVal (F := Ideal) v3 v4 v5 (val m d main_v538) (val m d main_v542) (val m d main_v546) (val m d main_v550) (val m d main_v448) l (v : EReal)
      = ((spline X Y (ival X v).toNat v : ℝ) : EReal) := by
  have b0 := buck_nonneg (X := X) v
  have b1 := buck_le (X := X) v
  obtain ⟨r, er, r0, r1, rb, rs⟩ := row_word R h3 h4 v
  have e0 := r_t0 R (at8192 (BitVec.ofInt 32 r))
  have e1 := r_t1 R (at8192 (BitVec.ofInt 32 r))
  have e2 := r_t2 R (at8192 (BitVec.ofInt 32 r))
  have e3 := r_t3 R (at8192 (BitVec.ofInt 32 r))
  rw [at8192_of r0 r1] at e0 e1 e2 e3
  dsimp only at e0 e1 e2 e3
  rw [rs, rb] at e0 e1 e2
  rw [rs] at e3
  have ew : edge X (buck X v).toNat = X 0 + ((buck X v : ℤ) : ℝ) * wid X := by
    unfold edge
    rw [show (((buck X v).toNat : ℕ) : ℝ) = ((buck X v : ℤ) : ℝ) by exact_mod_cast congrArg (fun z : ℤ => (z : ℝ)) (Int.toNat_of_nonneg b0)]
  rw [ew] at e0 e1 e2
  have hi := ival_bounds (X := X) v
  rw [lane_def v3 v4 v5 _ _ _ _ _ l v _ _ _ _ _ _ (bucket_word (X := X) h3 h4 v) er b0 b1 h3 h5 e0 e1 e2 e3,
    ← cubic_eq X Y _ (hh_ne R.K (i := (ival X v).toNat) (by omega)) (X 0) ((buck X v : ℤ) * wid X) v]

/-- The kernel's results are the cubics of the counted intervals. -/
theorem kernel_value (R : Reads m d X Y) (i : (Fl 8388608).Idx) (v : ℝ) (hv : (m (xLoc d) : FVec Ideal (Fl 8388608) .f32) i = (v : EReal)) :
    G (m1 m) d i = ((spline X Y (ival X v).toNat v : ℝ) : EReal) := by
  have ex : (m1 m (xLoc d) : FVec Ideal (Fl 8388608) .f32) i = (v : EReal) :=
    (congrFun (m1_arg m d (r := main_arg0) (by decide)) i).trans hv
  have hl : (laneOf i 0).val < 16 := (laneOf i 0).isLt
  have hp : ∀ a : Fin 33, par (F := Ideal) (val m d main_v554) a (laneOf i) = (((if a.val + (laneOf i 0).val < 16 then X 0 else if a.val + (laneOf i 0).val < 32 then scale X else wid X : ℝ)) : EReal) :=
    fun a => r_par R _
  have h3 := hp 0
  have h4 := hp 16
  have h5 := hp 32
  rw [if_pos (by show 0 + _ < 16; omega)] at h3
  rw [if_neg (by show ¬ 16 + _ < 16; omega), if_pos (by show 16 + _ < 32; omega)] at h4
  rw [if_neg (by show ¬ 32 + _ < 16; omega), if_neg (by show ¬ 32 + _ < 32; omega)] at h5
  have e := lane_value R h3 h4 h5 v
  rw [← ex] at e
  exact e

end Cert.Proof.Spline
-- ==== Proof.RefEqs.lean ====
/-
  One equation for each of the reference's operations.
-/
module

public import proofs.«01_k».proof.Proof.RefRun

@[expose] public section

set_option maxRecDepth 8192

noncomputable section

namespace Cert.Proof.Ref

open Cert.ReferenceIdeal Cert.ReferenceIdeal.Gen Cert.ReferenceIdeal.Value
open Idealize.ShloMosaic Idealize.ShloMosaic.StableHlo

variable {F : FTy → Type} [FloatOps F]

theorem locA {k : ℕ} {op : HloOp τ sig (Elt F)} (h : hostOps0[k]? = some op) : preOps[k]? = some op := sits_left h
theorem locB {k : ℕ} {op : HloOp τ sig (Elt F)} (h : hostOps0_1[k]? = some op) : preOps[16 + k]? = some op := sits_right rfl (sits_left h)
theorem locC {k : ℕ} {op : HloOp τ sig (Elt F)} (h : hostOps0_2[k]? = some op) : preOps[22 + k]? = some op := by
  have := show preOps[16 + (6 + k)]? = some op from sits_right rfl (sits_right rfl h)
  rwa [show 16 + (6 + k) = 22 + k by omega] at this

section

variable (m : (ℓ : Loc nD τ sig) → Buf (Elt F) ℓ) (c : Dev nD)

/-- What array `r` holds before the sweeps. -/
def vp (r : Ref sig .tc) : r.ty.Contents (Elt F) := VP m c (refs r)
/-- What array `r` holds at the end. -/
def vf (r : Ref sig .tc) : r.ty.Contents (Elt F) := VF m c (refs r)

theorem at_v0 : vp m c main_v0 = extractStridedSlice S1023 ![1] (vp m c main_arg1) slices_S1024_S1023_1 := by
  have e := at_unary (a := main_arg1) (y := main_v0) (f := ((extractStridedSlice S1023 ![1] · slices_S1024_S1023_1) : (⟨S1024, .f32⟩ : BufTy).Contents (Elt F) → (⟨S1023, .f32⟩ : BufTy).Contents (Elt F))) chain_pre (launchContents m c) (locA (k := 0) rfl) (by decide)
  exact e
theorem at_v1 : vp m c main_v1 = extractStridedSlice S1023 ![0] (vp m c main_arg1) slices_S1024_S1023_0 := by
  have e := at_unary (a := main_arg1) (y := main_v1) (f := ((extractStridedSlice S1023 ![0] · slices_S1024_S1023_0) : (⟨S1024, .f32⟩ : BufTy).Contents (Elt F) → (⟨S1023, .f32⟩ : BufTy).Contents (Elt F))) chain_pre (launchContents m c) (locA (k := 1) rfl) (by decide)
  exact e
theorem at_v2 : vp m c main_v2 = subf (vp m c main_v0) (vp m c main_v1) := by
  have e := at_binary (a := main_v0) (b := main_v1) (y := main_v2) (f := (subf : (⟨S1023, .f32⟩ : BufTy).Contents (Elt F) → (⟨S1023, .f32⟩ : BufTy).Contents (Elt F) → (⟨S1023, .f32⟩ : BufTy).Contents (Elt F))) chain_pre (launchContents m c) (locA (k := 2) rfl) (by decide) (by decide)
  exact e
theorem at_v3 : vp m c main_v3 = broadcastInDim S1x1024 ![1] bcast_S1024_S1x1024_1 (vp m c main_arg1) := by
  have e := at_unary (a := main_arg1) (y := main_v3) (f := (broadcastInDim S1x1024 ![1] bcast_S1024_S1x1024_1 : (⟨S1024, .f32⟩ : BufTy).Contents (Elt F) → (⟨S1x1024, .f32⟩ : BufTy).Contents (Elt F))) chain_pre (launchContents m c) (locA (k := 3) rfl) (by decide)
  exact e
theorem at_v4 : vp m c main_v4 = broadcastInDim S8388608x1 ![0] bcast_S8388608_S8388608x1_0 (vp m c main_arg0) := by
  have e := at_unary (a := main_arg0) (y := main_v4) (f := (broadcastInDim S8388608x1 ![0] bcast_S8388608_S8388608x1_0 : (⟨S8388608, .f32⟩ : BufTy).Contents (Elt F) → (⟨S8388608x1, .f32⟩ : BufTy).Contents (Elt F))) chain_pre (launchContents m c) (locA (k := 4) rfl) (by decide)
  exact e
theorem at_v5 : vp m c main_v5 = broadcastInDim S8388608x1024 ![0, 1] bcast_S1x1024_S8388608x1024_0_1 (vp m c main_v3) := by
  have e := at_unary (a := main_v3) (y := main_v5) (f := (broadcastInDim S8388608x1024 ![0, 1] bcast_S1x1024_S8388608x1024_0_1 : (⟨S1x1024, .f32⟩ : BufTy).Contents (Elt F) → (⟨S8388608x1024, .f32⟩ : BufTy).Contents (Elt F))) chain_pre (launchContents m c) (locA (k := 5) rfl) (by decide)
  exact e
theorem at_v6 : vp m c main_v6 = broadcastInDim S8388608x1024 ![0, 1] bcast_S8388608x1_S8388608x1024_0_1 (vp m c main_v4) := by
  have e := at_unary (a := main_v4) (y := main_v6) (f := (broadcastInDim S8388608x1024 ![0, 1] bcast_S8388608x1_S8388608x1024_0_1 : (⟨S8388608x1, .f32⟩ : BufTy).Contents (Elt F) → (⟨S8388608x1024, .f32⟩ : BufTy).Contents (Elt F))) chain_pre (launchContents m c) (locA (k := 6) rfl) (by decide)
  exact e
theorem at_v7 : vp m c main_v7 = cmpf .ole (vp m c main_v5) (vp m c main_v6) := by
  have e := at_binary (a := main_v5) (b := main_v6) (y := main_v7) (f := (cmpf .ole : (⟨S8388608x1024, .f32⟩ : BufTy).Contents (Elt F) → (⟨S8388608x1024, .f32⟩ : BufTy).Contents (Elt F) → (⟨S8388608x1024, .i1⟩ : BufTy).Contents (Elt F))) chain_pre (launchContents m c) (locA (k := 7) rfl) (by decide) (by decide)
  exact e
theorem at_v8 : vp m c main_v8 = extui 32 (vp m c main_v7) natLt_1_32 := by
  have e := at_unary (a := main_v7) (y := main_v8) (f := ((extui 32 · natLt_1_32) : (⟨S8388608x1024, .i1⟩ : BufTy).Contents (Elt F) → (⟨S8388608x1024, .i32⟩ : BufTy).Contents (Elt F))) chain_pre (launchContents m c) (locA (k := 8) rfl) (by decide)
  exact e
theorem at_c : vp m c main_c = constantI S_ 32 0#32 :=
  at_nullary chain_pre (launchContents m c) (locA (k := 9) rfl)
theorem at_v9 : vp m c main_v9 = Host.reduce IntOp.addi (vp m c main_v8) (vp m c main_c) reducesTo_S8388608x1024_S8388608_d1 h_S_ := by
  have e := at_binary (a := main_v8) (b := main_c) (y := main_v9) (f := ((fun x v => Host.reduce IntOp.addi x v reducesTo_S8388608x1024_S8388608_d1 h_S_) : (⟨S8388608x1024, .i32⟩ : BufTy).Contents (Elt F) → (⟨S_, .i32⟩ : BufTy).Contents (Elt F) → (⟨S8388608, .i32⟩ : BufTy).Contents (Elt F))) chain_pre (launchContents m c) (locA (k := 10) rfl) (by decide) (by decide)
  exact e
theorem at_c_0 : vp m c main_c_0 = constantI S_ 32 1#32 :=
  at_nullary chain_pre (launchContents m c) (locA (k := 11) rfl)
theorem at_v10 : vp m c main_v10 = broadcastInDim S8388608 ![] bcast_S_S8388608 (vp m c main_c_0) := by
  have e := at_unary (a := main_c_0) (y := main_v10) (f := (broadcastInDim S8388608 ![] bcast_S_S8388608 : (⟨S_, .i32⟩ : BufTy).Contents (Elt F) → (⟨S8388608, .i32⟩ : BufTy).Contents (Elt F))) chain_pre (launchContents m c) (locA (k := 12) rfl) (by decide)
  exact e
theorem at_v11 : vp m c main_v11 = subi (vp m c main_v9) (vp m c main_v10) := by
  have e := at_binary (a := main_v9) (b := main_v10) (y := main_v11) (f := (subi : (⟨S8388608, .i32⟩ : BufTy).Contents (Elt F) → (⟨S8388608, .i32⟩ : BufTy).Contents (Elt F) → (⟨S8388608, .i32⟩ : BufTy).Contents (Elt F))) chain_pre (launchContents m c) (locA (k := 13) rfl) (by decide) (by decide)
  exact e
theorem at_c_1 : vp m c main_c_1 = constantI S_ 32 0#32 :=
  at_nullary chain_pre (launchContents m c) (locA (k := 14) rfl)
theorem at_c_2 : vp m c main_c_2 = constantI S_ 32 1022#32 :=
  at_nullary chain_pre (launchContents m c) (locA (k := 15) rfl)
theorem at_call0_v0 : vp m c main_call0_v0 = id (vp m c main_c_1) := by
  have e := at_unary (a := main_c_1) (y := main_call0_v0) (f := id) chain_pre (launchContents m c) (locB (k := 0) rfl) (by decide)
  exact e
theorem at_call0_v1 : vp m c main_call0_v1 = broadcastInDim S8388608 ![] bcast_S_S8388608 (vp m c main_call0_v0) := by
  have e := at_unary (a := main_call0_v0) (y := main_call0_v1) (f := (broadcastInDim S8388608 ![] bcast_S_S8388608)) chain_pre (launchContents m c) (locB (k := 1) rfl) (by decide)
  exact e
theorem at_call0_v2 : vp m c main_call0_v2 = maxsi (vp m c main_call0_v1) (vp m c main_v11) := by
  have e := at_binary (a := main_call0_v1) (b := main_v11) (y := main_call0_v2) (f := maxsi) chain_pre (launchContents m c) (locB (k := 2) rfl) (by decide) (by decide)
  exact e
theorem at_call0_v3 : vp m c main_call0_v3 = id (vp m c main_c_2) := by
  have e := at_unary (a := main_c_2) (y := main_call0_v3) (f := id) chain_pre (launchContents m c) (locB (k := 3) rfl) (by decide)
  exact e
theorem at_call0_v4 : vp m c main_call0_v4 = broadcastInDim S8388608 ![] bcast_S_S8388608 (vp m c main_call0_v3) := by
  have e := at_unary (a := main_call0_v3) (y := main_call0_v4) (f := (broadcastInDim S8388608 ![] bcast_S_S8388608)) chain_pre (launchContents m c) (locB (k := 4) rfl) (by decide)
  exact e
theorem at_v12 : vp m c main_v12 = minsi (vp m c main_call0_v4) (vp m c main_call0_v2) := by
  have e := at_binary (a := main_call0_v4) (b := main_call0_v2) (y := main_v12) (f := minsi) chain_pre (launchContents m c) (locB (k := 5) rfl) (by decide) (by decide)
  exact e
theorem at_c_3 : vp m c main_c_3 = constantI S_ 32 1#32 :=
  at_nullary chain_pre (launchContents m c) (locC (k := 0) rfl)
theorem at_v13 : vp m c main_v13 = broadcastInDim S8388608 ![] bcast_S_S8388608 (vp m c main_c_3) := by
  have e := at_unary (a := main_c_3) (y := main_v13) (f := (broadcastInDim S8388608 ![] bcast_S_S8388608 : (⟨S_, .i32⟩ : BufTy).Contents (Elt F) → (⟨S8388608, .i32⟩ : BufTy).Contents (Elt F))) chain_pre (launchContents m c) (locC (k := 1) rfl) (by decide)
  exact e
theorem at_v14 : vp m c main_v14 = addi (vp m c main_v12) (vp m c main_v13) := by
  have e := at_binary (a := main_v12) (b := main_v13) (y := main_v14) (f := (addi : (⟨S8388608, .i32⟩ : BufTy).Contents (Elt F) → (⟨S8388608, .i32⟩ : BufTy).Contents (Elt F) → (⟨S8388608, .i32⟩ : BufTy).Contents (Elt F))) chain_pre (launchContents m c) (locC (k := 2) rfl) (by decide) (by decide)
  exact e
theorem at_c_4 : vp m c main_c_4 = constantI S_ 32 0#32 :=
  at_nullary chain_pre (launchContents m c) (locC (k := 3) rfl)
theorem at_v15 : vp m c main_v15 = broadcastInDim S8388608 ![] bcast_S_S8388608 (vp m c main_c_4) := by
  have e := at_unary (a := main_c_4) (y := main_v15) (f := (broadcastInDim S8388608 ![] bcast_S_S8388608 : (⟨S_, .i32⟩ : BufTy).Contents (Elt F) → (⟨S8388608, .i32⟩ : BufTy).Contents (Elt F))) chain_pre (launchContents m c) (locC (k := 4) rfl) (by decide)
  exact e
theorem at_v16 : vp m c main_v16 = cmpi .slt (vp m c main_v14) (vp m c main_v15) := by
  have e := at_binary (a := main_v14) (b := main_v15) (y := main_v16) (f := (cmpi .slt : (⟨S8388608, .i32⟩ : BufTy).Contents (Elt F) → (⟨S8388608, .i32⟩ : BufTy).Contents (Elt F) → (⟨S8388608, .i1⟩ : BufTy).Contents (Elt F))) chain_pre (launchContents m c) (locC (k := 5) rfl) (by decide) (by decide)
  exact e
theorem at_c_5 : vp m c main_c_5 = constantI S_ 32 1024#32 :=
  at_nullary chain_pre (launchContents m c) (locC (k := 6) rfl)
theorem at_v17 : vp m c main_v17 = broadcastInDim S8388608 ![] bcast_S_S8388608 (vp m c main_c_5) := by
  have e := at_unary (a := main_c_5) (y := main_v17) (f := (broadcastInDim S8388608 ![] bcast_S_S8388608 : (⟨S_, .i32⟩ : BufTy).Contents (Elt F) → (⟨S8388608, .i32⟩ : BufTy).Contents (Elt F))) chain_pre (launchContents m c) (locC (k := 7) rfl) (by decide)
  exact e
theorem at_v18 : vp m c main_v18 = addi (vp m c main_v14) (vp m c main_v17) := by
  have e := at_binary (a := main_v14) (b := main_v17) (y := main_v18) (f := (addi : (⟨S8388608, .i32⟩ : BufTy).Contents (Elt F) → (⟨S8388608, .i32⟩ : BufTy).Contents (Elt F) → (⟨S8388608, .i32⟩ : BufTy).Contents (Elt F))) chain_pre (launchContents m c) (locC (k := 8) rfl) (by decide) (by decide)
  exact e
theorem at_v19 : vp m c main_v19 = select (vp m c main_v16) (vp m c main_v18) (vp m c main_v14) := by
  have e := at_ternary (a := main_v16) (b := main_v18) (c := main_v14) (y := main_v19) (f := (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))) chain_pre (launchContents m c) (locC (k := 9) rfl) (by decide) (by decide) (by decide)
  exact e
theorem at_v20 : vp m c main_v20 = broadcastInDim S8388608x1 ![0] bcast_S8388608_S8388608x1_0 (vp m c main_v19) := by
  have e := at_unary (a := main_v19) (y := main_v20) (f := (broadcastInDim S8388608x1 ![0] bcast_S8388608_S8388608x1_0 : (⟨S8388608, .i32⟩ : BufTy).Contents (Elt F) → (⟨S8388608x1, .i32⟩ : BufTy).Contents (Elt F))) chain_pre (launchContents m c) (locC (k := 10) rfl) (by decide)
  exact e
theorem at_v21 : vp m c main_v21 = Host.gather gather_S1024_S8388608x1_S8388608_n_0_n_n_0_1_1 (vp m c main_arg1) (vp m c main_v20) := by
  have e := at_binary (a := main_arg1) (b := main_v20) (y := main_v21) (f := ((fun x i => Host.gather gather_S1024_S8388608x1_S8388608_n_0_n_n_0_1_1 x i) : (⟨S1024, .f32⟩ : BufTy).Contents (Elt F) → (⟨S8388608x1, .i32⟩ : BufTy).Contents (Elt F) → (⟨S8388608, .f32⟩ : BufTy).Contents (Elt F))) chain_pre (launchContents m c) (locC (k := 11) rfl) (by decide) (by decide)
  exact e
theorem at_v22 : vp m c main_v22 = subf (vp m c main_v21) (vp m c main_arg0) := by
  have e := at_binary (a := main_v21) (b := main_arg0) (y := main_v22) (f := (subf : (⟨S8388608, .f32⟩ : BufTy).Contents (Elt F) → (⟨S8388608, .f32⟩ : BufTy).Contents (Elt F) → (⟨S8388608, .f32⟩ : BufTy).Contents (Elt F))) chain_pre (launchContents m c) (locC (k := 12) rfl) (by decide) (by decide)
  exact e
theorem at_c_6 : vp m c main_c_6 = constantI S_ 32 0#32 :=
  at_nullary chain_pre (launchContents m c) (locC (k := 13) rfl)
theorem at_v23 : vp m c main_v23 = broadcastInDim S8388608 ![] bcast_S_S8388608 (vp m c main_c_6) := by
  have e := at_unary (a := main_c_6) (y := main_v23) (f := (broadcastInDim S8388608 ![] bcast_S_S8388608 : (⟨S_, .i32⟩ : BufTy).Contents (Elt F) → (⟨S8388608, .i32⟩ : BufTy).Contents (Elt F))) chain_pre (launchContents m c) (locC (k := 14) rfl) (by decide)
  exact e
theorem at_v24 : vp m c main_v24 = cmpi .slt (vp m c main_v12) (vp m c main_v23) := by
  have e := at_binary (a := main_v12) (b := main_v23) (y := main_v24) (f := (cmpi .slt : (⟨S8388608, .i32⟩ : BufTy).Contents (Elt F) → (⟨S8388608, .i32⟩ : BufTy).Contents (Elt F) → (⟨S8388608, .i1⟩ : BufTy).Contents (Elt F))) chain_pre (launchContents m c) (locC (k := 15) rfl) (by decide) (by decide)
  exact e
theorem at_c_7 : vp m c main_c_7 = constantI S_ 32 1023#32 :=
  at_nullary chain_pre (launchContents m c) (locC (k := 16) rfl)
theorem at_v25 : vp m c main_v25 = broadcastInDim S8388608 ![] bcast_S_S8388608 (vp m c main_c_7) := by
  have e := at_unary (a := main_c_7) (y := main_v25) (f := (broadcastInDim S8388608 ![] bcast_S_S8388608 : (⟨S_, .i32⟩ : BufTy).Contents (Elt F) → (⟨S8388608, .i32⟩ : BufTy).Contents (Elt F))) chain_pre (launchContents m c) (locC (k := 17) rfl) (by decide)
  exact e
theorem at_v26 : vp m c main_v26 = addi (vp m c main_v12) (vp m c main_v25) := by
  have e := at_binary (a := main_v12) (b := main_v25) (y := main_v26) (f := (addi : (⟨S8388608, .i32⟩ : BufTy).Contents (Elt F) → (⟨S8388608, .i32⟩ : BufTy).Contents (Elt F) → (⟨S8388608, .i32⟩ : BufTy).Contents (Elt F))) chain_pre (launchContents m c) (locC (k := 18) rfl) (by decide) (by decide)
  exact e
theorem at_v27 : vp m c main_v27 = select (vp m c main_v24) (vp m c main_v26) (vp m c main_v12) := by
  have e := at_ternary (a := main_v24) (b := main_v26) (c := main_v12) (y := main_v27) (f := (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))) chain_pre (launchContents m c) (locC (k := 19) rfl) (by decide) (by decide) (by decide)
  exact e
theorem at_v28 : vp m c main_v28 = broadcastInDim S8388608x1 ![0] bcast_S8388608_S8388608x1_0 (vp m c main_v27) := by
  have e := at_unary (a := main_v27) (y := main_v28) (f := (broadcastInDim S8388608x1 ![0] bcast_S8388608_S8388608x1_0 : (⟨S8388608, .i32⟩ : BufTy).Contents (Elt F) → (⟨S8388608x1, .i32⟩ : BufTy).Contents (Elt F))) chain_pre (launchContents m c) (locC (k := 20) rfl) (by decide)
  exact e
theorem at_v29 : vp m c main_v29 = Host.gather gather_S1023_S8388608x1_S8388608_n_0_n_n_0_1_1 (vp m c main_v2) (vp m c main_v28) := by
  have e := at_binary (a := main_v2) (b := main_v28) (y := main_v29) (f := ((fun x i => Host.gather gather_S1023_S8388608x1_S8388608_n_0_n_n_0_1_1 x i) : (⟨S1023, .f32⟩ : BufTy).Contents (Elt F) → (⟨S8388608x1, .i32⟩ : BufTy).Contents (Elt F) → (⟨S8388608, .f32⟩ : BufTy).Contents (Elt F))) chain_pre (launchContents m c) (locC (k := 21) rfl) (by decide) (by decide)
  exact e
theorem at_v30 : vp m c main_v30 = Host.divf (vp m c main_v22) (vp m c main_v29) := by
  have e := at_binary (a := main_v22) (b := main_v29) (y := main_v30) (f := (Host.divf : (⟨S8388608, .f32⟩ : BufTy).Contents (Elt F) → (⟨S8388608, .f32⟩ : BufTy).Contents (Elt F) → (⟨S8388608, .f32⟩ : BufTy).Contents (Elt F))) chain_pre (launchContents m c) (locC (k := 22) rfl) (by decide) (by decide)
  exact e
theorem at_c_8 : vp m c main_c_8 = constantI S_ 32 0#32 :=
  at_nullary chain_pre (launchContents m c) (locC (k := 23) rfl)
theorem at_v31 : vp m c main_v31 = broadcastInDim S8388608 ![] bcast_S_S8388608 (vp m c main_c_8) := by
  have e := at_unary (a := main_c_8) (y := main_v31) (f := (broadcastInDim S8388608 ![] bcast_S_S8388608 : (⟨S_, .i32⟩ : BufTy).Contents (Elt F) → (⟨S8388608, .i32⟩ : BufTy).Contents (Elt F))) chain_pre (launchContents m c) (locC (k := 24) rfl) (by decide)
  exact e
theorem at_v32 : vp m c main_v32 = cmpi .slt (vp m c main_v12) (vp m c main_v31) := by
  have e := at_binary (a := main_v12) (b := main_v31) (y := main_v32) (f := (cmpi .slt : (⟨S8388608, .i32⟩ : BufTy).Contents (Elt F) → (⟨S8388608, .i32⟩ : BufTy).Contents (Elt F) → (⟨S8388608, .i1⟩ : BufTy).Contents (Elt F))) chain_pre (launchContents m c) (locC (k := 25) rfl) (by decide) (by decide)
  exact e
theorem at_c_9 : vp m c main_c_9 = constantI S_ 32 1024#32 :=
  at_nullary chain_pre (launchContents m c) (locC (k := 26) rfl)
theorem at_v33 : vp m c main_v33 = broadcastInDim S8388608 ![] bcast_S_S8388608 (vp m c main_c_9) := by
  have e := at_unary (a := main_c_9) (y := main_v33) (f := (broadcastInDim S8388608 ![] bcast_S_S8388608 : (⟨S_, .i32⟩ : BufTy).Contents (Elt F) → (⟨S8388608, .i32⟩ : BufTy).Contents (Elt F))) chain_pre (launchContents m c) (locC (k := 27) rfl) (by decide)
  exact e
theorem at_v34 : vp m c main_v34 = addi (vp m c main_v12) (vp m c main_v33) := by
  have e := at_binary (a := main_v12) (b := main_v33) (y := main_v34) (f := (addi : (⟨S8388608, .i32⟩ : BufTy).Contents (Elt F) → (⟨S8388608, .i32⟩ : BufTy).Contents (Elt F) → (⟨S8388608, .i32⟩ : BufTy).Contents (Elt F))) chain_pre (launchContents m c) (locC (k := 28) rfl) (by decide) (by decide)
  exact e
theorem at_v35 : vp m c main_v35 = select (vp m c main_v32) (vp m c main_v34) (vp m c main_v12) := by
  have e := at_ternary (a := main_v32) (b := main_v34) (c := main_v12) (y := main_v35) (f := (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))) chain_pre (launchContents m c) (locC (k := 29) rfl) (by decide) (by decide) (by decide)
  exact e
theorem at_v36 : vp m c main_v36 = broadcastInDim S8388608x1 ![0] bcast_S8388608_S8388608x1_0 (vp m c main_v35) := by
  have e := at_unary (a := main_v35) (y := main_v36) (f := (broadcastInDim S8388608x1 ![0] bcast_S8388608_S8388608x1_0 : (⟨S8388608, .i32⟩ : BufTy).Contents (Elt F) → (⟨S8388608x1, .i32⟩ : BufTy).Contents (Elt F))) chain_pre (launchContents m c) (locC (k := 30) rfl) (by decide)
  exact e
theorem at_v37 : vp m c main_v37 = Host.gather gather_S1024_S8388608x1_S8388608_n_0_n_n_0_1_1 (vp m c main_arg1) (vp m c main_v36) := by
  have e := at_binary (a := main_arg1) (b := main_v36) (y := main_v37) (f := ((fun x i => Host.gather gather_S1024_S8388608x1_S8388608_n_0_n_n_0_1_1 x i) : (⟨S1024, .f32⟩ : BufTy).Contents (Elt F) → (⟨S8388608x1, .i32⟩ : BufTy).Contents (Elt F) → (⟨S8388608, .f32⟩ : BufTy).Contents (Elt F))) chain_pre (launchContents m c) (locC (k := 31) rfl) (by decide) (by decide)
  exact e
theorem at_v38 : vp m c main_v38 = subf (vp m c main_arg0) (vp m c main_v37) := by
  have e := at_binary (a := main_arg0) (b := main_v37) (y := main_v38) (f := (subf : (⟨S8388608, .f32⟩ : BufTy).Contents (Elt F) → (⟨S8388608, .f32⟩ : BufTy).Contents (Elt F) → (⟨S8388608, .f32⟩ : BufTy).Contents (Elt F))) chain_pre (launchContents m c) (locC (k := 32) rfl) (by decide) (by decide)
  exact e
theorem at_c_10 : vp m c main_c_10 = constantI S_ 32 0#32 :=
  at_nullary chain_pre (launchContents m c) (locC (k := 33) rfl)
theorem at_v39 : vp m c main_v39 = broadcastInDim S8388608 ![] bcast_S_S8388608 (vp m c main_c_10) := by
  have e := at_unary (a := main_c_10) (y := main_v39) (f := (broadcastInDim S8388608 ![] bcast_S_S8388608 : (⟨S_, .i32⟩ : BufTy).Contents (Elt F) → (⟨S8388608, .i32⟩ : BufTy).Contents (Elt F))) chain_pre (launchContents m c) (locC (k := 34) rfl) (by decide)
  exact e
theorem at_v40 : vp m c main_v40 = cmpi .slt (vp m c main_v12) (vp m c main_v39) := by
  have e := at_binary (a := main_v12) (b := main_v39) (y := main_v40) (f := (cmpi .slt : (⟨S8388608, .i32⟩ : BufTy).Contents (Elt F) → (⟨S8388608, .i32⟩ : BufTy).Contents (Elt F) → (⟨S8388608, .i1⟩ : BufTy).Contents (Elt F))) chain_pre (launchContents m c) (locC (k := 35) rfl) (by decide) (by decide)
  exact e
theorem at_c_11 : vp m c main_c_11 = constantI S_ 32 1023#32 :=
  at_nullary chain_pre (launchContents m c) (locC (k := 36) rfl)
theorem at_v41 : vp m c main_v41 = broadcastInDim S8388608 ![] bcast_S_S8388608 (vp m c main_c_11) := by
  have e := at_unary (a := main_c_11) (y := main_v41) (f := (broadcastInDim S8388608 ![] bcast_S_S8388608 : (⟨S_, .i32⟩ : BufTy).Contents (Elt F) → (⟨S8388608, .i32⟩ : BufTy).Contents (Elt F))) chain_pre (launchContents m c) (locC (k := 37) rfl) (by decide)
  exact e
theorem at_v42 : vp m c main_v42 = addi (vp m c main_v12) (vp m c main_v41) := by
  have e := at_binary (a := main_v12) (b := main_v41) (y := main_v42) (f := (addi : (⟨S8388608, .i32⟩ : BufTy).Contents (Elt F) → (⟨S8388608, .i32⟩ : BufTy).Contents (Elt F) → (⟨S8388608, .i32⟩ : BufTy).Contents (Elt F))) chain_pre (launchContents m c) (locC (k := 38) rfl) (by decide) (by decide)
  exact e
theorem at_v43 : vp m c main_v43 = select (vp m c main_v40) (vp m c main_v42) (vp m c main_v12) := by
  have e := at_ternary (a := main_v40) (b := main_v42) (c := main_v12) (y := main_v43) (f := (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))) chain_pre (launchContents m c) (locC (k := 39) rfl) (by decide) (by decide) (by decide)
  exact e
theorem at_v44 : vp m c main_v44 = broadcastInDim S8388608x1 ![0] bcast_S8388608_S8388608x1_0 (vp m c main_v43) := by
  have e := at_unary (a := main_v43) (y := main_v44) (f := (broadcastInDim S8388608x1 ![0] bcast_S8388608_S8388608x1_0 : (⟨S8388608, .i32⟩ : BufTy).Contents (Elt F) → (⟨S8388608x1, .i32⟩ : BufTy).Contents (Elt F))) chain_pre (launchContents m c) (locC (k := 40) rfl) (by decide)
  exact e
theorem at_v45 : vp m c main_v45 = Host.gather gather_S1023_S8388608x1_S8388608_n_0_n_n_0_1_1 (vp m c main_v2) (vp m c main_v44) := by
  have e := at_binary (a := main_v2) (b := main_v44) (y := main_v45) (f := ((fun x i => Host.gather gather_S1023_S8388608x1_S8388608_n_0_n_n_0_1_1 x i) : (⟨S1023, .f32⟩ : BufTy).Contents (Elt F) → (⟨S8388608x1, .i32⟩ : BufTy).Contents (Elt F) → (⟨S8388608, .f32⟩ : BufTy).Contents (Elt F))) chain_pre (launchContents m c) (locC (k := 41) rfl) (by decide) (by decide)
  exact e
theorem at_v46 : vp m c main_v46 = Host.divf (vp m c main_v38) (vp m c main_v45) := by
  have e := at_binary (a := main_v38) (b := main_v45) (y := main_v46) (f := (Host.divf : (⟨S8388608, .f32⟩ : BufTy).Contents (Elt F) → (⟨S8388608, .f32⟩ : BufTy).Contents (Elt F) → (⟨S8388608, .f32⟩ : BufTy).Contents (Elt F))) chain_pre (launchContents m c) (locC (k := 42) rfl) (by decide) (by decide)
  exact e
theorem at_v47 : vp m c main_v47 = mulf (vp m c main_v2) (vp m c main_v2) := by
  have e := at_binary (a := main_v2) (b := main_v2) (y := main_v47) (f := (mulf : (⟨S1023, .f32⟩ : BufTy).Contents (Elt F) → (⟨S1023, .f32⟩ : BufTy).Contents (Elt F) → (⟨S1023, .f32⟩ : BufTy).Contents (Elt F))) chain_pre (launchContents m c) (locC (k := 43) rfl) (by decide) (by decide)
  exact e
theorem at_cst : vp m c main_cst = constant S_ .f32 0x40C00000#32 :=
  at_nullary chain_pre (launchContents m c) (locC (k := 44) rfl)
theorem at_v48 : vp m c main_v48 = broadcastInDim S1023 ![] bcast_S_S1023 (vp m c main_cst) := by
  have e := at_unary (a := main_cst) (y := main_v48) (f := (broadcastInDim S1023 ![] bcast_S_S1023 : (⟨S_, .f32⟩ : BufTy).Contents (Elt F) → (⟨S1023, .f32⟩ : BufTy).Contents (Elt F))) chain_pre (launchContents m c) (locC (k := 45) rfl) (by decide)
  exact e
theorem at_v49 : vp m c main_v49 = Host.divf (vp m c main_v47) (vp m c main_v48) := by
  have e := at_binary (a := main_v47) (b := main_v48) (y := main_v49) (f := (Host.divf : (⟨S1023, .f32⟩ : BufTy).Contents (Elt F) → (⟨S1023, .f32⟩ : BufTy).Contents (Elt F) → (⟨S1023, .f32⟩ : BufTy).Contents (Elt F))) chain_pre (launchContents m c) (locC (k := 46) rfl) (by decide) (by decide)
  exact e
theorem at_c_12 : vp m c main_c_12 = constantI S_ 32 0#32 :=
  at_nullary chain_pre (launchContents m c) (locC (k := 47) rfl)
theorem at_v50 : vp m c main_v50 = broadcastInDim S8388608 ![] bcast_S_S8388608 (vp m c main_c_12) := by
  have e := at_unary (a := main_c_12) (y := main_v50) (f := (broadcastInDim S8388608 ![] bcast_S_S8388608 : (⟨S_, .i32⟩ : BufTy).Contents (Elt F) → (⟨S8388608, .i32⟩ : BufTy).Contents (Elt F))) chain_pre (launchContents m c) (locC (k := 48) rfl) (by decide)
  exact e
theorem at_v51 : vp m c main_v51 = cmpi .slt (vp m c main_v12) (vp m c main_v50) := by
  have e := at_binary (a := main_v12) (b := main_v50) (y := main_v51) (f := (cmpi .slt : (⟨S8388608, .i32⟩ : BufTy).Contents (Elt F) → (⟨S8388608, .i32⟩ : BufTy).Contents (Elt F) → (⟨S8388608, .i1⟩ : BufTy).Contents (Elt F))) chain_pre (launchContents m c) (locC (k := 49) rfl) (by decide) (by decide)
  exact e
theorem at_c_13 : vp m c main_c_13 = constantI S_ 32 1023#32 :=
  at_nullary chain_pre (launchContents m c) (locC (k := 50) rfl)
theorem at_v52 : vp m c main_v52 = broadcastInDim S8388608 ![] bcast_S_S8388608 (vp m c main_c_13) := by
  have e := at_unary (a := main_c_13) (y := main_v52) (f := (broadcastInDim S8388608 ![] bcast_S_S8388608 : (⟨S_, .i32⟩ : BufTy).Contents (Elt F) → (⟨S8388608, .i32⟩ : BufTy).Contents (Elt F))) chain_pre (launchContents m c) (locC (k := 51) rfl) (by decide)
  exact e
theorem at_v53 : vp m c main_v53 = addi (vp m c main_v12) (vp m c main_v52) := by
  have e := at_binary (a := main_v12) (b := main_v52) (y := main_v53) (f := (addi : (⟨S8388608, .i32⟩ : BufTy).Contents (Elt F) → (⟨S8388608, .i32⟩ : BufTy).Contents (Elt F) → (⟨S8388608, .i32⟩ : BufTy).Contents (Elt F))) chain_pre (launchContents m c) (locC (k := 52) rfl) (by decide) (by decide)
  exact e
theorem at_v54 : vp m c main_v54 = select (vp m c main_v51) (vp m c main_v53) (vp m c main_v12) := by
  have e := at_ternary (a := main_v51) (b := main_v53) (c := main_v12) (y := main_v54) (f := (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))) chain_pre (launchContents m c) (locC (k := 53) rfl) (by decide) (by decide) (by decide)
  exact e
theorem at_v55 : vp m c main_v55 = broadcastInDim S8388608x1 ![0] bcast_S8388608_S8388608x1_0 (vp m c main_v54) := by
  have e := at_unary (a := main_v54) (y := main_v55) (f := (broadcastInDim S8388608x1 ![0] bcast_S8388608_S8388608x1_0 : (⟨S8388608, .i32⟩ : BufTy).Contents (Elt F) → (⟨S8388608x1, .i32⟩ : BufTy).Contents (Elt F))) chain_pre (launchContents m c) (locC (k := 54) rfl) (by decide)
  exact e
theorem at_v56 : vp m c main_v56 = Host.gather gather_S1023_S8388608x1_S8388608_n_0_n_n_0_1_1 (vp m c main_v49) (vp m c main_v55) := by
  have e := at_binary (a := main_v49) (b := main_v55) (y := main_v56) (f := ((fun x i => Host.gather gather_S1023_S8388608x1_S8388608_n_0_n_n_0_1_1 x i) : (⟨S1023, .f32⟩ : BufTy).Contents (Elt F) → (⟨S8388608x1, .i32⟩ : BufTy).Contents (Elt F) → (⟨S8388608, .f32⟩ : BufTy).Contents (Elt F))) chain_pre (launchContents m c) (locC (k := 55) rfl) (by decide) (by decide)
  exact e
theorem at_c_14 : vp m c main_c_14 = constantI S_ 32 0#32 :=
  at_nullary chain_pre (launchContents m c) (locC (k := 56) rfl)
theorem at_v57 : vp m c main_v57 = broadcastInDim S8388608 ![] bcast_S_S8388608 (vp m c main_c_14) := by
  have e := at_unary (a := main_c_14) (y := main_v57) (f := (broadcastInDim S8388608 ![] bcast_S_S8388608 : (⟨S_, .i32⟩ : BufTy).Contents (Elt F) → (⟨S8388608, .i32⟩ : BufTy).Contents (Elt F))) chain_pre (launchContents m c) (locC (k := 57) rfl) (by decide)
  exact e
theorem at_v58 : vp m c main_v58 = cmpi .slt (vp m c main_v12) (vp m c main_v57) := by
  have e := at_binary (a := main_v12) (b := main_v57) (y := main_v58) (f := (cmpi .slt : (⟨S8388608, .i32⟩ : BufTy).Contents (Elt F) → (⟨S8388608, .i32⟩ : BufTy).Contents (Elt F) → (⟨S8388608, .i1⟩ : BufTy).Contents (Elt F))) chain_pre (launchContents m c) (locC (k := 58) rfl) (by decide) (by decide)
  exact e
theorem at_c_15 : vp m c main_c_15 = constantI S_ 32 1024#32 :=
  at_nullary chain_pre (launchContents m c) (locC (k := 59) rfl)
theorem at_v59 : vp m c main_v59 = broadcastInDim S8388608 ![] bcast_S_S8388608 (vp m c main_c_15) := by
  have e := at_unary (a := main_c_15) (y := main_v59) (f := (broadcastInDim S8388608 ![] bcast_S_S8388608 : (⟨S_, .i32⟩ : BufTy).Contents (Elt F) → (⟨S8388608, .i32⟩ : BufTy).Contents (Elt F))) chain_pre (launchContents m c) (locC (k := 60) rfl) (by decide)
  exact e
theorem at_v60 : vp m c main_v60 = addi (vp m c main_v12) (vp m c main_v59) := by
  have e := at_binary (a := main_v12) (b := main_v59) (y := main_v60) (f := (addi : (⟨S8388608, .i32⟩ : BufTy).Contents (Elt F) → (⟨S8388608, .i32⟩ : BufTy).Contents (Elt F) → (⟨S8388608, .i32⟩ : BufTy).Contents (Elt F))) chain_pre (launchContents m c) (locC (k := 61) rfl) (by decide) (by decide)
  exact e
theorem at_v61 : vp m c main_v61 = select (vp m c main_v58) (vp m c main_v60) (vp m c main_v12) := by
  have e := at_ternary (a := main_v58) (b := main_v60) (c := main_v12) (y := main_v61) (f := (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))) chain_pre (launchContents m c) (locC (k := 62) rfl) (by decide) (by decide) (by decide)
  exact e
theorem at_v62 : vp m c main_v62 = broadcastInDim S8388608x1 ![0] bcast_S8388608_S8388608x1_0 (vp m c main_v61) := by
  have e := at_unary (a := main_v61) (y := main_v62) (f := (broadcastInDim S8388608x1 ![0] bcast_S8388608_S8388608x1_0 : (⟨S8388608, .i32⟩ : BufTy).Contents (Elt F) → (⟨S8388608x1, .i32⟩ : BufTy).Contents (Elt F))) chain_pre (launchContents m c) (locC (k := 63) rfl) (by decide)
  exact e
theorem at_v63 : vp m c main_v63 = Host.gather gather_S1024_S8388608x1_S8388608_n_0_n_n_0_1_1 (vp m c main_arg2) (vp m c main_v62) := by
  have e := at_binary (a := main_arg2) (b := main_v62) (y := main_v63) (f := ((fun x i => Host.gather gather_S1024_S8388608x1_S8388608_n_0_n_n_0_1_1 x i) : (⟨S1024, .f32⟩ : BufTy).Contents (Elt F) → (⟨S8388608x1, .i32⟩ : BufTy).Contents (Elt F) → (⟨S8388608, .f32⟩ : BufTy).Contents (Elt F))) chain_pre (launchContents m c) (locC (k := 64) rfl) (by decide) (by decide)
  exact e
theorem at_c_16 : vp m c main_c_16 = constantI S_ 32 1#32 :=
  at_nullary chain_pre (launchContents m c) (locC (k := 65) rfl)
theorem at_v64 : vp m c main_v64 = broadcastInDim S8388608 ![] bcast_S_S8388608 (vp m c main_c_16) := by
  have e := at_unary (a := main_c_16) (y := main_v64) (f := (broadcastInDim S8388608 ![] bcast_S_S8388608 : (⟨S_, .i32⟩ : BufTy).Contents (Elt F) → (⟨S8388608, .i32⟩ : BufTy).Contents (Elt F))) chain_pre (launchContents m c) (locC (k := 66) rfl) (by decide)
  exact e
theorem at_v65 : vp m c main_v65 = addi (vp m c main_v12) (vp m c main_v64) := by
  have e := at_binary (a := main_v12) (b := main_v64) (y := main_v65) (f := (addi : (⟨S8388608, .i32⟩ : BufTy).Contents (Elt F) → (⟨S8388608, .i32⟩ : BufTy).Contents (Elt F) → (⟨S8388608, .i32⟩ : BufTy).Contents (Elt F))) chain_pre (launchContents m c) (locC (k := 67) rfl) (by decide) (by decide)
  exact e
theorem at_c_17 : vp m c main_c_17 = constantI S_ 32 0#32 :=
  at_nullary chain_pre (launchContents m c) (locC (k := 68) rfl)
theorem at_v66 : vp m c main_v66 = broadcastInDim S8388608 ![] bcast_S_S8388608 (vp m c main_c_17) := by
  have e := at_unary (a := main_c_17) (y := main_v66) (f := (broadcastInDim S8388608 ![] bcast_S_S8388608 : (⟨S_, .i32⟩ : BufTy).Contents (Elt F) → (⟨S8388608, .i32⟩ : BufTy).Contents (Elt F))) chain_pre (launchContents m c) (locC (k := 69) rfl) (by decide)
  exact e
theorem at_v67 : vp m c main_v67 = cmpi .slt (vp m c main_v65) (vp m c main_v66) := by
  have e := at_binary (a := main_v65) (b := main_v66) (y := main_v67) (f := (cmpi .slt : (⟨S8388608, .i32⟩ : BufTy).Contents (Elt F) → (⟨S8388608, .i32⟩ : BufTy).Contents (Elt F) → (⟨S8388608, .i1⟩ : BufTy).Contents (Elt F))) chain_pre (launchContents m c) (locC (k := 70) rfl) (by decide) (by decide)
  exact e
theorem at_c_18 : vp m c main_c_18 = constantI S_ 32 1024#32 :=
  at_nullary chain_pre (launchContents m c) (locC (k := 71) rfl)
theorem at_v68 : vp m c main_v68 = broadcastInDim S8388608 ![] bcast_S_S8388608 (vp m c main_c_18) := by
  have e := at_unary (a := main_c_18) (y := main_v68) (f := (broadcastInDim S8388608 ![] bcast_S_S8388608 : (⟨S_, .i32⟩ : BufTy).Contents (Elt F) → (⟨S8388608, .i32⟩ : BufTy).Contents (Elt F))) chain_pre (launchContents m c) (locC (k := 72) rfl) (by decide)
  exact e
theorem at_v69 : vp m c main_v69 = addi (vp m c main_v65) (vp m c main_v68) := by
  have e := at_binary (a := main_v65) (b := main_v68) (y := main_v69) (f := (addi : (⟨S8388608, .i32⟩ : BufTy).Contents (Elt F) → (⟨S8388608, .i32⟩ : BufTy).Contents (Elt F) → (⟨S8388608, .i32⟩ : BufTy).Contents (Elt F))) chain_pre (launchContents m c) (locC (k := 73) rfl) (by decide) (by decide)
  exact e
theorem at_v70 : vp m c main_v70 = select (vp m c main_v67) (vp m c main_v69) (vp m c main_v65) := by
  have e := at_ternary (a := main_v67) (b := main_v69) (c := main_v65) (y := main_v70) (f := (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))) chain_pre (launchContents m c) (locC (k := 74) rfl) (by decide) (by decide) (by decide)
  exact e
theorem at_v71 : vp m c main_v71 = broadcastInDim S8388608x1 ![0] bcast_S8388608_S8388608x1_0 (vp m c main_v70) := by
  have e := at_unary (a := main_v70) (y := main_v71) (f := (broadcastInDim S8388608x1 ![0] bcast_S8388608_S8388608x1_0 : (⟨S8388608, .i32⟩ : BufTy).Contents (Elt F) → (⟨S8388608x1, .i32⟩ : BufTy).Contents (Elt F))) chain_pre (launchContents m c) (locC (k := 75) rfl) (by decide)
  exact e
theorem at_v72 : vp m c main_v72 = Host.gather gather_S1024_S8388608x1_S8388608_n_0_n_n_0_1_1 (vp m c main_arg2) (vp m c main_v71) := by
  have e := at_binary (a := main_arg2) (b := main_v71) (y := main_v72) (f := ((fun x i => Host.gather gather_S1024_S8388608x1_S8388608_n_0_n_n_0_1_1 x i) : (⟨S1024, .f32⟩ : BufTy).Contents (Elt F) → (⟨S8388608x1, .i32⟩ : BufTy).Contents (Elt F) → (⟨S8388608, .f32⟩ : BufTy).Contents (Elt F))) chain_pre (launchContents m c) (locC (k := 76) rfl) (by decide) (by decide)
  exact e
theorem at_v73 : vp m c main_v73 = extractStridedSlice S1023 ![1] (vp m c main_arg1) slices_S1024_S1023_1 := by
  have e := at_unary (a := main_arg1) (y := main_v73) (f := ((extractStridedSlice S1023 ![1] · slices_S1024_S1023_1) : (⟨S1024, .f32⟩ : BufTy).Contents (Elt F) → (⟨S1023, .f32⟩ : BufTy).Contents (Elt F))) chain_pre (launchContents m c) (locC (k := 77) rfl) (by decide)
  exact e
theorem at_v74 : vp m c main_v74 = extractStridedSlice S1023 ![0] (vp m c main_arg1) slices_S1024_S1023_0 := by
  have e := at_unary (a := main_arg1) (y := main_v74) (f := ((extractStridedSlice S1023 ![0] · slices_S1024_S1023_0) : (⟨S1024, .f32⟩ : BufTy).Contents (Elt F) → (⟨S1023, .f32⟩ : BufTy).Contents (Elt F))) chain_pre (launchContents m c) (locC (k := 78) rfl) (by decide)
  exact e
theorem at_v75 : vp m c main_v75 = subf (vp m c main_v73) (vp m c main_v74) := by
  have e := at_binary (a := main_v73) (b := main_v74) (y := main_v75) (f := (subf : (⟨S1023, .f32⟩ : BufTy).Contents (Elt F) → (⟨S1023, .f32⟩ : BufTy).Contents (Elt F) → (⟨S1023, .f32⟩ : BufTy).Contents (Elt F))) chain_pre (launchContents m c) (locC (k := 79) rfl) (by decide) (by decide)
  exact e
theorem at_v76 : vp m c main_v76 = extractStridedSlice S1023 ![1] (vp m c main_arg2) slices_S1024_S1023_1 := by
  have e := at_unary (a := main_arg2) (y := main_v76) (f := ((extractStridedSlice S1023 ![1] · slices_S1024_S1023_1) : (⟨S1024, .f32⟩ : BufTy).Contents (Elt F) → (⟨S1023, .f32⟩ : BufTy).Contents (Elt F))) chain_pre (launchContents m c) (locC (k := 80) rfl) (by decide)
  exact e
theorem at_v77 : vp m c main_v77 = extractStridedSlice S1023 ![0] (vp m c main_arg2) slices_S1024_S1023_0 := by
  have e := at_unary (a := main_arg2) (y := main_v77) (f := ((extractStridedSlice S1023 ![0] · slices_S1024_S1023_0) : (⟨S1024, .f32⟩ : BufTy).Contents (Elt F) → (⟨S1023, .f32⟩ : BufTy).Contents (Elt F))) chain_pre (launchContents m c) (locC (k := 81) rfl) (by decide)
  exact e
theorem at_v78 : vp m c main_v78 = subf (vp m c main_v76) (vp m c main_v77) := by
  have e := at_binary (a := main_v76) (b := main_v77) (y := main_v78) (f := (subf : (⟨S1023, .f32⟩ : BufTy).Contents (Elt F) → (⟨S1023, .f32⟩ : BufTy).Contents (Elt F) → (⟨S1023, .f32⟩ : BufTy).Contents (Elt F))) chain_pre (launchContents m c) (locC (k := 82) rfl) (by decide) (by decide)
  exact e
theorem at_v79 : vp m c main_v79 = Host.divf (vp m c main_v78) (vp m c main_v75) := by
  have e := at_binary (a := main_v78) (b := main_v75) (y := main_v79) (f := (Host.divf : (⟨S1023, .f32⟩ : BufTy).Contents (Elt F) → (⟨S1023, .f32⟩ : BufTy).Contents (Elt F) → (⟨S1023, .f32⟩ : BufTy).Contents (Elt F))) chain_pre (launchContents m c) (locC (k := 83) rfl) (by decide) (by decide)
  exact e
theorem at_v80 : vp m c main_v80 = extractStridedSlice S1022 ![0] (vp m c main_v75) slices_S1023_S1022_0 := by
  have e := at_unary (a := main_v75) (y := main_v80) (f := ((extractStridedSlice S1022 ![0] · slices_S1023_S1022_0) : (⟨S1023, .f32⟩ : BufTy).Contents (Elt F) → (⟨S1022, .f32⟩ : BufTy).Contents (Elt F))) chain_pre (launchContents m c) (locC (k := 84) rfl) (by decide)
  exact e
theorem at_cst_19 : vp m c main_cst_19 = constant S_ .f32 0x40C00000#32 :=
  at_nullary chain_pre (launchContents m c) (locC (k := 85) rfl)
theorem at_v81 : vp m c main_v81 = broadcastInDim S1022 ![] bcast_S_S1022 (vp m c main_cst_19) := by
  have e := at_unary (a := main_cst_19) (y := main_v81) (f := (broadcastInDim S1022 ![] bcast_S_S1022 : (⟨S_, .f32⟩ : BufTy).Contents (Elt F) → (⟨S1022, .f32⟩ : BufTy).Contents (Elt F))) chain_pre (launchContents m c) (locC (k := 86) rfl) (by decide)
  exact e
theorem at_v82 : vp m c main_v82 = Host.divf (vp m c main_v80) (vp m c main_v81) := by
  have e := at_binary (a := main_v80) (b := main_v81) (y := main_v82) (f := (Host.divf : (⟨S1022, .f32⟩ : BufTy).Contents (Elt F) → (⟨S1022, .f32⟩ : BufTy).Contents (Elt F) → (⟨S1022, .f32⟩ : BufTy).Contents (Elt F))) chain_pre (launchContents m c) (locC (k := 87) rfl) (by decide) (by decide)
  exact e
theorem at_v83 : vp m c main_v83 = extractStridedSlice S1022 ![1] (vp m c main_v75) slices_S1023_S1022_1 := by
  have e := at_unary (a := main_v75) (y := main_v83) (f := ((extractStridedSlice S1022 ![1] · slices_S1023_S1022_1) : (⟨S1023, .f32⟩ : BufTy).Contents (Elt F) → (⟨S1022, .f32⟩ : BufTy).Contents (Elt F))) chain_pre (launchContents m c) (locC (k := 88) rfl) (by decide)
  exact e
theorem at_cst_20 : vp m c main_cst_20 = constant S_ .f32 0x40C00000#32 :=
  at_nullary chain_pre (launchContents m c) (locC (k := 89) rfl)
theorem at_v84 : vp m c main_v84 = broadcastInDim S1022 ![] bcast_S_S1022 (vp m c main_cst_20) := by
  have e := at_unary (a := main_cst_20) (y := main_v84) (f := (broadcastInDim S1022 ![] bcast_S_S1022 : (⟨S_, .f32⟩ : BufTy).Contents (Elt F) → (⟨S1022, .f32⟩ : BufTy).Contents (Elt F))) chain_pre (launchContents m c) (locC (k := 90) rfl) (by decide)
  exact e
theorem at_v85 : vp m c main_v85 = Host.divf (vp m c main_v83) (vp m c main_v84) := by
  have e := at_binary (a := main_v83) (b := main_v84) (y := main_v85) (f := (Host.divf : (⟨S1022, .f32⟩ : BufTy).Contents (Elt F) → (⟨S1022, .f32⟩ : BufTy).Contents (Elt F) → (⟨S1022, .f32⟩ : BufTy).Contents (Elt F))) chain_pre (launchContents m c) (locC (k := 91) rfl) (by decide) (by decide)
  exact e
theorem at_v86 : vp m c main_v86 = extractStridedSlice S1022 ![0] (vp m c main_v75) slices_S1023_S1022_0 := by
  have e := at_unary (a := main_v75) (y := main_v86) (f := ((extractStridedSlice S1022 ![0] · slices_S1023_S1022_0) : (⟨S1023, .f32⟩ : BufTy).Contents (Elt F) → (⟨S1022, .f32⟩ : BufTy).Contents (Elt F))) chain_pre (launchContents m c) (locC (k := 92) rfl) (by decide)
  exact e
theorem at_v87 : vp m c main_v87 = extractStridedSlice S1022 ![1] (vp m c main_v75) slices_S1023_S1022_1 := by
  have e := at_unary (a := main_v75) (y := main_v87) (f := ((extractStridedSlice S1022 ![1] · slices_S1023_S1022_1) : (⟨S1023, .f32⟩ : BufTy).Contents (Elt F) → (⟨S1022, .f32⟩ : BufTy).Contents (Elt F))) chain_pre (launchContents m c) (locC (k := 93) rfl) (by decide)
  exact e
theorem at_v88 : vp m c main_v88 = addf (vp m c main_v86) (vp m c main_v87) := by
  have e := at_binary (a := main_v86) (b := main_v87) (y := main_v88) (f := (addf : (⟨S1022, .f32⟩ : BufTy).Contents (Elt F) → (⟨S1022, .f32⟩ : BufTy).Contents (Elt F) → (⟨S1022, .f32⟩ : BufTy).Contents (Elt F))) chain_pre (launchContents m c) (locC (k := 94) rfl) (by decide) (by decide)
  exact e
theorem at_cst_21 : vp m c main_cst_21 = constant S_ .f32 0x40400000#32 :=
  at_nullary chain_pre (launchContents m c) (locC (k := 95) rfl)
theorem at_v89 : vp m c main_v89 = broadcastInDim S1022 ![] bcast_S_S1022 (vp m c main_cst_21) := by
  have e := at_unary (a := main_cst_21) (y := main_v89) (f := (broadcastInDim S1022 ![] bcast_S_S1022 : (⟨S_, .f32⟩ : BufTy).Contents (Elt F) → (⟨S1022, .f32⟩ : BufTy).Contents (Elt F))) chain_pre (launchContents m c) (locC (k := 96) rfl) (by decide)
  exact e
theorem at_v90 : vp m c main_v90 = Host.divf (vp m c main_v88) (vp m c main_v89) := by
  have e := at_binary (a := main_v88) (b := main_v89) (y := main_v90) (f := (Host.divf : (⟨S1022, .f32⟩ : BufTy).Contents (Elt F) → (⟨S1022, .f32⟩ : BufTy).Contents (Elt F) → (⟨S1022, .f32⟩ : BufTy).Contents (Elt F))) chain_pre (launchContents m c) (locC (k := 97) rfl) (by decide) (by decide)
  exact e
theorem at_v91 : vp m c main_v91 = extractStridedSlice S1022 ![1] (vp m c main_v79) slices_S1023_S1022_1 := by
  have e := at_unary (a := main_v79) (y := main_v91) (f := ((extractStridedSlice S1022 ![1] · slices_S1023_S1022_1) : (⟨S1023, .f32⟩ : BufTy).Contents (Elt F) → (⟨S1022, .f32⟩ : BufTy).Contents (Elt F))) chain_pre (launchContents m c) (locC (k := 98) rfl) (by decide)
  exact e
theorem at_v92 : vp m c main_v92 = extractStridedSlice S1022 ![0] (vp m c main_v79) slices_S1023_S1022_0 := by
  have e := at_unary (a := main_v79) (y := main_v92) (f := ((extractStridedSlice S1022 ![0] · slices_S1023_S1022_0) : (⟨S1023, .f32⟩ : BufTy).Contents (Elt F) → (⟨S1022, .f32⟩ : BufTy).Contents (Elt F))) chain_pre (launchContents m c) (locC (k := 99) rfl) (by decide)
  exact e
theorem at_v93 : vp m c main_v93 = subf (vp m c main_v91) (vp m c main_v92) := by
  have e := at_binary (a := main_v91) (b := main_v92) (y := main_v93) (f := (subf : (⟨S1022, .f32⟩ : BufTy).Contents (Elt F) → (⟨S1022, .f32⟩ : BufTy).Contents (Elt F) → (⟨S1022, .f32⟩ : BufTy).Contents (Elt F))) chain_pre (launchContents m c) (locC (k := 100) rfl) (by decide) (by decide)
  exact e
theorem at_cst_22 : vp m c main_cst_22 = constant S_ .f32 0x00000000#32 :=
  at_nullary chain_pre (launchContents m c) (locC (k := 101) rfl)
theorem at_v94 : vp m c main_v94 = broadcastInDim S1024 ![] bcast_S_S1024 (vp m c main_cst_22) := by
  have e := at_unary (a := main_cst_22) (y := main_v94) (f := (broadcastInDim S1024 ![] bcast_S_S1024 : (⟨S_, .f32⟩ : BufTy).Contents (Elt F) → (⟨S1024, .f32⟩ : BufTy).Contents (Elt F))) chain_pre (launchContents m c) (locC (k := 102) rfl) (by decide)
  exact e
theorem at_c_23 : vp m c main_c_23 = constantI S_ 32 0#32 :=
  at_nullary chain_pre (launchContents m c) (locC (k := 103) rfl)
theorem at_c_24 : vp m c main_c_24 = constantI S_ 32 0#32 :=
  at_nullary chain_pre (launchContents m c) (locC (k := 104) rfl)
theorem at_v95_0 : vp m c main_v95_0 = id (vp m c main_v82) := by
  have e := at_unary (a := main_v82) (y := main_v95_0) (f := id) chain_pre (launchContents m c) (locC (k := 105) rfl) (by decide)
  exact e
theorem at_v95_1 : vp m c main_v95_1 = id (vp m c main_v93) := by
  have e := at_unary (a := main_v93) (y := main_v95_1) (f := id) chain_pre (launchContents m c) (locC (k := 106) rfl) (by decide)
  exact e
theorem at_v95_2 : vp m c main_v95_2 = id (vp m c main_v85) := by
  have e := at_unary (a := main_v85) (y := main_v95_2) (f := id) chain_pre (launchContents m c) (locC (k := 107) rfl) (by decide)
  exact e
theorem at_v95_3 : vp m c main_v95_3 = id (vp m c main_v90) := by
  have e := at_unary (a := main_v90) (y := main_v95_3) (f := id) chain_pre (launchContents m c) (locC (k := 108) rfl) (by decide)
  exact e
theorem at_v95_4 : vp m c main_v95_4 = id (vp m c main_c_24) := by
  have e := at_unary (a := main_c_24) (y := main_v95_4) (f := id) chain_pre (launchContents m c) (locC (k := 109) rfl) (by decide)
  exact e
theorem at_v95_5 : vp m c main_v95_5 = id (vp m c main_c_23) := by
  have e := at_unary (a := main_c_23) (y := main_v95_5) (f := id) chain_pre (launchContents m c) (locC (k := 110) rfl) (by decide)
  exact e
theorem at_v95_6 : vp m c main_v95_6 = id (vp m c main_v94) := by
  have e := at_unary (a := main_v94) (y := main_v95_6) (f := id) chain_pre (launchContents m c) (locC (k := 111) rfl) (by decide)
  exact e
theorem at_v96 : vf m c main_v96 = mulf (vf m c main_v30) (vf m c main_v30) := by
  have e := at_binary (a := main_v30) (b := main_v30) (y := main_v96) (f := (mulf : (⟨S8388608, .f32⟩ : BufTy).Contents (Elt F) → (⟨S8388608, .f32⟩ : BufTy).Contents (Elt F) → (⟨S8388608, .f32⟩ : BufTy).Contents (Elt F))) chain_post (after condOps (VL m c 41)) (k := 0) rfl (by decide) (by decide)
  exact e
theorem at_cst_25 : vf m c main_cst_25 = constant S_ .f32 0x3F800000#32 :=
  at_nullary chain_post (after condOps (VL m c 41)) (k := 1) rfl
theorem at_v97 : vf m c main_v97 = broadcastInDim S8388608 ![] bcast_S_S8388608 (vf m c main_cst_25) := by
  have e := at_unary (a := main_cst_25) (y := main_v97) (f := (broadcastInDim S8388608 ![] bcast_S_S8388608 : (⟨S_, .f32⟩ : BufTy).Contents (Elt F) → (⟨S8388608, .f32⟩ : BufTy).Contents (Elt F))) chain_post (after condOps (VL m c 41)) (k := 2) rfl (by decide)
  exact e
theorem at_v98 : vf m c main_v98 = subf (vf m c main_v96) (vf m c main_v97) := by
  have e := at_binary (a := main_v96) (b := main_v97) (y := main_v98) (f := (subf : (⟨S8388608, .f32⟩ : BufTy).Contents (Elt F) → (⟨S8388608, .f32⟩ : BufTy).Contents (Elt F) → (⟨S8388608, .f32⟩ : BufTy).Contents (Elt F))) chain_post (after condOps (VL m c 41)) (k := 3) rfl (by decide) (by decide)
  exact e
theorem at_c_26 : vf m c main_c_26 = constantI S_ 32 0#32 :=
  at_nullary chain_post (after condOps (VL m c 41)) (k := 4) rfl
theorem at_v99 : vf m c main_v99 = broadcastInDim S8388608 ![] bcast_S_S8388608 (vf m c main_c_26) := by
  have e := at_unary (a := main_c_26) (y := main_v99) (f := (broadcastInDim S8388608 ![] bcast_S_S8388608 : (⟨S_, .i32⟩ : BufTy).Contents (Elt F) → (⟨S8388608, .i32⟩ : BufTy).Contents (Elt F))) chain_post (after condOps (VL m c 41)) (k := 5) rfl (by decide)
  exact e
theorem at_v100 : vf m c main_v100 = cmpi .slt (vf m c main_v12) (vf m c main_v99) := by
  have e := at_binary (a := main_v12) (b := main_v99) (y := main_v100) (f := (cmpi .slt : (⟨S8388608, .i32⟩ : BufTy).Contents (Elt F) → (⟨S8388608, .i32⟩ : BufTy).Contents (Elt F) → (⟨S8388608, .i1⟩ : BufTy).Contents (Elt F))) chain_post (after condOps (VL m c 41)) (k := 6) rfl (by decide) (by decide)
  exact e
theorem at_c_27 : vf m c main_c_27 = constantI S_ 32 1024#32 :=
  at_nullary chain_post (after condOps (VL m c 41)) (k := 7) rfl
theorem at_v101 : vf m c main_v101 = broadcastInDim S8388608 ![] bcast_S_S8388608 (vf m c main_c_27) := by
  have e := at_unary (a := main_c_27) (y := main_v101) (f := (broadcastInDim S8388608 ![] bcast_S_S8388608 : (⟨S_, .i32⟩ : BufTy).Contents (Elt F) → (⟨S8388608, .i32⟩ : BufTy).Contents (Elt F))) chain_post (after condOps (VL m c 41)) (k := 8) rfl (by decide)
  exact e
theorem at_v102 : vf m c main_v102 = addi (vf m c main_v12) (vf m c main_v101) := by
  have e := at_binary (a := main_v12) (b := main_v101) (y := main_v102) (f := (addi : (⟨S8388608, .i32⟩ : BufTy).Contents (Elt F) → (⟨S8388608, .i32⟩ : BufTy).Contents (Elt F) → (⟨S8388608, .i32⟩ : BufTy).Contents (Elt F))) chain_post (after condOps (VL m c 41)) (k := 9) rfl (by decide) (by decide)
  exact e
theorem at_v103 : vf m c main_v103 = select (vf m c main_v100) (vf m c main_v102) (vf m c main_v12) := by
  have e := at_ternary (a := main_v100) (b := main_v102) (c := main_v12) (y := main_v103) (f := (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))) chain_post (after condOps (VL m c 41)) (k := 10) rfl (by decide) (by decide) (by decide)
  exact e
theorem at_v104 : vf m c main_v104 = broadcastInDim S8388608x1 ![0] bcast_S8388608_S8388608x1_0 (vf m c main_v103) := by
  have e := at_unary (a := main_v103) (y := main_v104) (f := (broadcastInDim S8388608x1 ![0] bcast_S8388608_S8388608x1_0 : (⟨S8388608, .i32⟩ : BufTy).Contents (Elt F) → (⟨S8388608x1, .i32⟩ : BufTy).Contents (Elt F))) chain_post (after condOps (VL m c 41)) (k := 11) rfl (by decide)
  exact e
theorem at_v105 : vf m c main_v105 = Host.gather gather_S1024_S8388608x1_S8388608_n_0_n_n_0_1_1 (vf m c main_v95_6) (vf m c main_v104) := by
  have e := at_binary (a := main_v95_6) (b := main_v104) (y := main_v105) (f := ((fun x i => Host.gather gather_S1024_S8388608x1_S8388608_n_0_n_n_0_1_1 x i) : (⟨S1024, .f32⟩ : BufTy).Contents (Elt F) → (⟨S8388608x1, .i32⟩ : BufTy).Contents (Elt F) → (⟨S8388608, .f32⟩ : BufTy).Contents (Elt F))) chain_post (after condOps (VL m c 41)) (k := 12) rfl (by decide) (by decide)
  exact e
theorem at_v106 : vf m c main_v106 = mulf (vf m c main_v98) (vf m c main_v105) := by
  have e := at_binary (a := main_v98) (b := main_v105) (y := main_v106) (f := (mulf : (⟨S8388608, .f32⟩ : BufTy).Contents (Elt F) → (⟨S8388608, .f32⟩ : BufTy).Contents (Elt F) → (⟨S8388608, .f32⟩ : BufTy).Contents (Elt F))) chain_post (after condOps (VL m c 41)) (k := 13) rfl (by decide) (by decide)
  exact e
theorem at_v107 : vf m c main_v107 = mulf (vf m c main_v106) (vf m c main_v56) := by
  have e := at_binary (a := main_v106) (b := main_v56) (y := main_v107) (f := (mulf : (⟨S8388608, .f32⟩ : BufTy).Contents (Elt F) → (⟨S8388608, .f32⟩ : BufTy).Contents (Elt F) → (⟨S8388608, .f32⟩ : BufTy).Contents (Elt F))) chain_post (after condOps (VL m c 41)) (k := 14) rfl (by decide) (by decide)
  exact e
theorem at_v108 : vf m c main_v108 = addf (vf m c main_v63) (vf m c main_v107) := by
  have e := at_binary (a := main_v63) (b := main_v107) (y := main_v108) (f := (addf : (⟨S8388608, .f32⟩ : BufTy).Contents (Elt F) → (⟨S8388608, .f32⟩ : BufTy).Contents (Elt F) → (⟨S8388608, .f32⟩ : BufTy).Contents (Elt F))) chain_post (after condOps (VL m c 41)) (k := 15) rfl (by decide) (by decide)
  exact e
theorem at_v109 : vf m c main_v109 = mulf (vf m c main_v30) (vf m c main_v108) := by
  have e := at_binary (a := main_v30) (b := main_v108) (y := main_v109) (f := (mulf : (⟨S8388608, .f32⟩ : BufTy).Contents (Elt F) → (⟨S8388608, .f32⟩ : BufTy).Contents (Elt F) → (⟨S8388608, .f32⟩ : BufTy).Contents (Elt F))) chain_post (after condOps (VL m c 41)) (k := 16) rfl (by decide) (by decide)
  exact e
theorem at_v110 : vf m c main_v110 = mulf (vf m c main_v46) (vf m c main_v46) := by
  have e := at_binary (a := main_v46) (b := main_v46) (y := main_v110) (f := (mulf : (⟨S8388608, .f32⟩ : BufTy).Contents (Elt F) → (⟨S8388608, .f32⟩ : BufTy).Contents (Elt F) → (⟨S8388608, .f32⟩ : BufTy).Contents (Elt F))) chain_post (after condOps (VL m c 41)) (k := 17) rfl (by decide) (by decide)
  exact e
theorem at_cst_28 : vf m c main_cst_28 = constant S_ .f32 0x3F800000#32 :=
  at_nullary chain_post (after condOps (VL m c 41)) (k := 18) rfl
theorem at_v111 : vf m c main_v111 = broadcastInDim S8388608 ![] bcast_S_S8388608 (vf m c main_cst_28) := by
  have e := at_unary (a := main_cst_28) (y := main_v111) (f := (broadcastInDim S8388608 ![] bcast_S_S8388608 : (⟨S_, .f32⟩ : BufTy).Contents (Elt F) → (⟨S8388608, .f32⟩ : BufTy).Contents (Elt F))) chain_post (after condOps (VL m c 41)) (k := 19) rfl (by decide)
  exact e
theorem at_v112 : vf m c main_v112 = subf (vf m c main_v110) (vf m c main_v111) := by
  have e := at_binary (a := main_v110) (b := main_v111) (y := main_v112) (f := (subf : (⟨S8388608, .f32⟩ : BufTy).Contents (Elt F) → (⟨S8388608, .f32⟩ : BufTy).Contents (Elt F) → (⟨S8388608, .f32⟩ : BufTy).Contents (Elt F))) chain_post (after condOps (VL m c 41)) (k := 20) rfl (by decide) (by decide)
  exact e
theorem at_c_29 : vf m c main_c_29 = constantI S_ 32 1#32 :=
  at_nullary chain_post (after condOps (VL m c 41)) (k := 21) rfl
theorem at_v113 : vf m c main_v113 = broadcastInDim S8388608 ![] bcast_S_S8388608 (vf m c main_c_29) := by
  have e := at_unary (a := main_c_29) (y := main_v113) (f := (broadcastInDim S8388608 ![] bcast_S_S8388608 : (⟨S_, .i32⟩ : BufTy).Contents (Elt F) → (⟨S8388608, .i32⟩ : BufTy).Contents (Elt F))) chain_post (after condOps (VL m c 41)) (k := 22) rfl (by decide)
  exact e
theorem at_v114 : vf m c main_v114 = addi (vf m c main_v12) (vf m c main_v113) := by
  have e := at_binary (a := main_v12) (b := main_v113) (y := main_v114) (f := (addi : (⟨S8388608, .i32⟩ : BufTy).Contents (Elt F) → (⟨S8388608, .i32⟩ : BufTy).Contents (Elt F) → (⟨S8388608, .i32⟩ : BufTy).Contents (Elt F))) chain_post (after condOps (VL m c 41)) (k := 23) rfl (by decide) (by decide)
  exact e
theorem at_c_30 : vf m c main_c_30 = constantI S_ 32 0#32 :=
  at_nullary chain_post (after condOps (VL m c 41)) (k := 24) rfl
theorem at_v115 : vf m c main_v115 = broadcastInDim S8388608 ![] bcast_S_S8388608 (vf m c main_c_30) := by
  have e := at_unary (a := main_c_30) (y := main_v115) (f := (broadcastInDim S8388608 ![] bcast_S_S8388608 : (⟨S_, .i32⟩ : BufTy).Contents (Elt F) → (⟨S8388608, .i32⟩ : BufTy).Contents (Elt F))) chain_post (after condOps (VL m c 41)) (k := 25) rfl (by decide)
  exact e
theorem at_v116 : vf m c main_v116 = cmpi .slt (vf m c main_v114) (vf m c main_v115) := by
  have e := at_binary (a := main_v114) (b := main_v115) (y := main_v116) (f := (cmpi .slt : (⟨S8388608, .i32⟩ : BufTy).Contents (Elt F) → (⟨S8388608, .i32⟩ : BufTy).Contents (Elt F) → (⟨S8388608, .i1⟩ : BufTy).Contents (Elt F))) chain_post (after condOps (VL m c 41)) (k := 26) rfl (by decide) (by decide)
  exact e
theorem at_c_31 : vf m c main_c_31 = constantI S_ 32 1024#32 :=
  at_nullary chain_post (after condOps (VL m c 41)) (k := 27) rfl
theorem at_v117 : vf m c main_v117 = broadcastInDim S8388608 ![] bcast_S_S8388608 (vf m c main_c_31) := by
  have e := at_unary (a := main_c_31) (y := main_v117) (f := (broadcastInDim S8388608 ![] bcast_S_S8388608 : (⟨S_, .i32⟩ : BufTy).Contents (Elt F) → (⟨S8388608, .i32⟩ : BufTy).Contents (Elt F))) chain_post (after condOps (VL m c 41)) (k := 28) rfl (by decide)
  exact e
theorem at_v118 : vf m c main_v118 = addi (vf m c main_v114) (vf m c main_v117) := by
  have e := at_binary (a := main_v114) (b := main_v117) (y := main_v118) (f := (addi : (⟨S8388608, .i32⟩ : BufTy).Contents (Elt F) → (⟨S8388608, .i32⟩ : BufTy).Contents (Elt F) → (⟨S8388608, .i32⟩ : BufTy).Contents (Elt F))) chain_post (after condOps (VL m c 41)) (k := 29) rfl (by decide) (by decide)
  exact e
theorem at_v119 : vf m c main_v119 = select (vf m c main_v116) (vf m c main_v118) (vf m c main_v114) := by
  have e := at_ternary (a := main_v116) (b := main_v118) (c := main_v114) (y := main_v119) (f := (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F))) chain_post (after condOps (VL m c 41)) (k := 30) rfl (by decide) (by decide) (by decide)
  exact e
theorem at_v120 : vf m c main_v120 = broadcastInDim S8388608x1 ![0] bcast_S8388608_S8388608x1_0 (vf m c main_v119) := by
  have e := at_unary (a := main_v119) (y := main_v120) (f := (broadcastInDim S8388608x1 ![0] bcast_S8388608_S8388608x1_0 : (⟨S8388608, .i32⟩ : BufTy).Contents (Elt F) → (⟨S8388608x1, .i32⟩ : BufTy).Contents (Elt F))) chain_post (after condOps (VL m c 41)) (k := 31) rfl (by decide)
  exact e
theorem at_v121 : vf m c main_v121 = Host.gather gather_S1024_S8388608x1_S8388608_n_0_n_n_0_1_1 (vf m c main_v95_6) (vf m c main_v120) := by
  have e := at_binary (a := main_v95_6) (b := main_v120) (y := main_v121) (f := ((fun x i => Host.gather gather_S1024_S8388608x1_S8388608_n_0_n_n_0_1_1 x i) : (⟨S1024, .f32⟩ : BufTy).Contents (Elt F) → (⟨S8388608x1, .i32⟩ : BufTy).Contents (Elt F) → (⟨S8388608, .f32⟩ : BufTy).Contents (Elt F))) chain_post (after condOps (VL m c 41)) (k := 32) rfl (by decide) (by decide)
  exact e
theorem at_v122 : vf m c main_v122 = mulf (vf m c main_v112) (vf m c main_v121) := by
  have e := at_binary (a := main_v112) (b := main_v121) (y := main_v122) (f := (mulf : (⟨S8388608, .f32⟩ : BufTy).Contents (Elt F) → (⟨S8388608, .f32⟩ : BufTy).Contents (Elt F) → (⟨S8388608, .f32⟩ : BufTy).Contents (Elt F))) chain_post (after condOps (VL m c 41)) (k := 33) rfl (by decide) (by decide)
  exact e
theorem at_v123 : vf m c main_v123 = mulf (vf m c main_v122) (vf m c main_v56) := by
  have e := at_binary (a := main_v122) (b := main_v56) (y := main_v123) (f := (mulf : (⟨S8388608, .f32⟩ : BufTy).Contents (Elt F) → (⟨S8388608, .f32⟩ : BufTy).Contents (Elt F) → (⟨S8388608, .f32⟩ : BufTy).Contents (Elt F))) chain_post (after condOps (VL m c 41)) (k := 34) rfl (by decide) (by decide)
  exact e
theorem at_v124 : vf m c main_v124 = addf (vf m c main_v72) (vf m c main_v123) := by
  have e := at_binary (a := main_v72) (b := main_v123) (y := main_v124) (f := (addf : (⟨S8388608, .f32⟩ : BufTy).Contents (Elt F) → (⟨S8388608, .f32⟩ : BufTy).Contents (Elt F) → (⟨S8388608, .f32⟩ : BufTy).Contents (Elt F))) chain_post (after condOps (VL m c 41)) (k := 35) rfl (by decide) (by decide)
  exact e
theorem at_v125 : vf m c main_v125 = mulf (vf m c main_v46) (vf m c main_v124) := by
  have e := at_binary (a := main_v46) (b := main_v124) (y := main_v125) (f := (mulf : (⟨S8388608, .f32⟩ : BufTy).Contents (Elt F) → (⟨S8388608, .f32⟩ : BufTy).Contents (Elt F) → (⟨S8388608, .f32⟩ : BufTy).Contents (Elt F))) chain_post (after condOps (VL m c 41)) (k := 36) rfl (by decide) (by decide)
  exact e
theorem at_v126 : vf m c main_v126 = addf (vf m c main_v109) (vf m c main_v125) := by
  have e := at_binary (a := main_v109) (b := main_v125) (y := main_v126) (f := (addf : (⟨S8388608, .f32⟩ : BufTy).Contents (Elt F) → (⟨S8388608, .f32⟩ : BufTy).Contents (Elt F) → (⟨S8388608, .f32⟩ : BufTy).Contents (Elt F))) chain_post (after condOps (VL m c 41)) (k := 37) rfl (by decide) (by decide)
  exact e

end

section

variable (V : Valuation τ sig (Elt F))

/-- What array `r` holds after one sweep's new operations, from contents `V`. -/
def vs (r : Ref sig .tc) : r.ty.Contents (Elt F) := after sweepOps V (refs r)

theorem sw_while0b_c_38 : vs V main_while0b_c_38 = constantI S_ 32 1#32 :=
  at_nullary chain_sweep V (k := 0) rfl
theorem sw_while0b_v127 : vs V main_while0b_v127 = addi (vs V main_v95_5) (vs V main_while0b_c_38) := by
  have e := at_binary (a := main_v95_5) (b := main_while0b_c_38) (y := main_while0b_v127) (f := (addi : (⟨S_, .i32⟩ : BufTy).Contents (Elt F) → (⟨S_, .i32⟩ : BufTy).Contents (Elt F) → (⟨S_, .i32⟩ : BufTy).Contents (Elt F))) chain_sweep V (k := 1) rfl (by decide) (by decide)
  exact e
theorem sw_while0b_v128 : vs V main_while0b_v128 = extractStridedSlice S1022 ![0] (vs V main_v95_6) slices_S1024_S1022_0 := by
  have e := at_unary (a := main_v95_6) (y := main_while0b_v128) (f := ((extractStridedSlice S1022 ![0] · slices_S1024_S1022_0) : (⟨S1024, .f32⟩ : BufTy).Contents (Elt F) → (⟨S1022, .f32⟩ : BufTy).Contents (Elt F))) chain_sweep V (k := 2) rfl (by decide)
  exact e
theorem sw_while0b_v129 : vs V main_while0b_v129 = mulf (vs V main_v95_0) (vs V main_while0b_v128) := by
  have e := at_binary (a := main_v95_0) (b := main_while0b_v128) (y := main_while0b_v129) (f := (mulf : (⟨S1022, .f32⟩ : BufTy).Contents (Elt F) → (⟨S1022, .f32⟩ : BufTy).Contents (Elt F) → (⟨S1022, .f32⟩ : BufTy).Contents (Elt F))) chain_sweep V (k := 3) rfl (by decide) (by decide)
  exact e
theorem sw_while0b_v130 : vs V main_while0b_v130 = subf (vs V main_v95_1) (vs V main_while0b_v129) := by
  have e := at_binary (a := main_v95_1) (b := main_while0b_v129) (y := main_while0b_v130) (f := (subf : (⟨S1022, .f32⟩ : BufTy).Contents (Elt F) → (⟨S1022, .f32⟩ : BufTy).Contents (Elt F) → (⟨S1022, .f32⟩ : BufTy).Contents (Elt F))) chain_sweep V (k := 4) rfl (by decide) (by decide)
  exact e
theorem sw_while0b_v131 : vs V main_while0b_v131 = extractStridedSlice S1022 ![2] (vs V main_v95_6) slices_S1024_S1022_2 := by
  have e := at_unary (a := main_v95_6) (y := main_while0b_v131) (f := ((extractStridedSlice S1022 ![2] · slices_S1024_S1022_2) : (⟨S1024, .f32⟩ : BufTy).Contents (Elt F) → (⟨S1022, .f32⟩ : BufTy).Contents (Elt F))) chain_sweep V (k := 5) rfl (by decide)
  exact e
theorem sw_while0b_v132 : vs V main_while0b_v132 = mulf (vs V main_v95_2) (vs V main_while0b_v131) := by
  have e := at_binary (a := main_v95_2) (b := main_while0b_v131) (y := main_while0b_v132) (f := (mulf : (⟨S1022, .f32⟩ : BufTy).Contents (Elt F) → (⟨S1022, .f32⟩ : BufTy).Contents (Elt F) → (⟨S1022, .f32⟩ : BufTy).Contents (Elt F))) chain_sweep V (k := 6) rfl (by decide) (by decide)
  exact e
theorem sw_while0b_v133 : vs V main_while0b_v133 = subf (vs V main_while0b_v130) (vs V main_while0b_v132) := by
  have e := at_binary (a := main_while0b_v130) (b := main_while0b_v132) (y := main_while0b_v133) (f := (subf : (⟨S1022, .f32⟩ : BufTy).Contents (Elt F) → (⟨S1022, .f32⟩ : BufTy).Contents (Elt F) → (⟨S1022, .f32⟩ : BufTy).Contents (Elt F))) chain_sweep V (k := 7) rfl (by decide) (by decide)
  exact e
theorem sw_while0b_v134 : vs V main_while0b_v134 = Host.divf (vs V main_while0b_v133) (vs V main_v95_3) := by
  have e := at_binary (a := main_while0b_v133) (b := main_v95_3) (y := main_while0b_v134) (f := (Host.divf : (⟨S1022, .f32⟩ : BufTy).Contents (Elt F) → (⟨S1022, .f32⟩ : BufTy).Contents (Elt F) → (⟨S1022, .f32⟩ : BufTy).Contents (Elt F))) chain_sweep V (k := 8) rfl (by decide) (by decide)
  exact e
theorem sw_while0b_c_39 : vs V main_while0b_c_39 = constantI S_ 32 1#32 :=
  at_nullary chain_sweep V (k := 9) rfl
theorem sw_while0b_v135 : vs V main_while0b_v135 = broadcastInDim S1 ![] bcast_S_S1 (vs V main_while0b_c_39) := by
  have e := at_unary (a := main_while0b_c_39) (y := main_while0b_v135) (f := (broadcastInDim S1 ![] bcast_S_S1 : (⟨S_, .i32⟩ : BufTy).Contents (Elt F) → (⟨S1, .i32⟩ : BufTy).Contents (Elt F))) chain_sweep V (k := 10) rfl (by decide)
  exact e
theorem sw_while0b_v136 : vs V main_while0b_v136 = Host.scatter scatter_S1024_S1_S1022_0_n_0_0 (fun _ b => b) (vs V main_v95_6) (vs V main_while0b_v135) (vs V main_while0b_v134) := by
  have e := at_ternary (a := main_v95_6) (b := main_while0b_v135) (c := main_while0b_v134) (y := main_while0b_v136) (f := ((fun x i u => Host.scatter scatter_S1024_S1_S1022_0_n_0_0 (fun _ b => b) x i u) : (⟨S1024, .f32⟩ : BufTy).Contents (Elt F) → (⟨S1, .i32⟩ : BufTy).Contents (Elt F) → (⟨S1022, .f32⟩ : BufTy).Contents (Elt F) → (⟨S1024, .f32⟩ : BufTy).Contents (Elt F))) chain_sweep V (k := 11) rfl (by decide) (by decide) (by decide)
  exact e
theorem sw_while0b_c_40 : vs V main_while0b_c_40 = constantI S_ 32 1#32 :=
  at_nullary chain_sweep V (k := 12) rfl
theorem sw_while0b_v137 : vs V main_while0b_v137 = addi (vs V main_v95_4) (vs V main_while0b_c_40) := by
  have e := at_binary (a := main_v95_4) (b := main_while0b_c_40) (y := main_while0b_v137) (f := (addi : (⟨S_, .i32⟩ : BufTy).Contents (Elt F) → (⟨S_, .i32⟩ : BufTy).Contents (Elt F) → (⟨S_, .i32⟩ : BufTy).Contents (Elt F))) chain_sweep V (k := 13) rfl (by decide) (by decide)
  exact e

end

end Cert.Proof.Ref
-- ==== Proof.Take.lean ====
/-
  Picking entries of a table by a vector of indices in range, and the wrapping of negative indices around it.
-/
module

public import proofs.«01_k».proof.Proof.Words

@[expose] public section

noncomputable section

namespace Cert.Proof

open Idealize.ShloMosaic
open Idealize.ShloMosaic.ValueIdx

variable {r n : ℕ}

/-- Picking single entries of a table of `n` at `r` indices, given as a column. -/
abbrev pickDims (n r : ℕ) (wf : GatherDims.WF (Fl n) (Mx r 1) (Fl r) [] [0] [] [0] [] 1 ![1]) : GatherDims (Fl n) (Mx r 1) (Fl r) where
  offsetDims := []
  collapsedSliceDims := [0]
  operandBatchingDims := []
  startIndicesBatchingDims := []
  startIndexMap := [0]
  indexVectorDim := 1
  sliceSizes := ![1]
  wf := wf

/-- The place of the column an entry's index stands at. -/
abbrev colIdx (y : (Fl r).Idx) : (Mx r 1).Idx := ix2 ⟨(y 0).val, lt_fl y⟩ 0

theorem pick_at {α : Type} (wf) (x : (Fl n).Idx → α) (s : IVec (Mx r 1) 32) (y : (Fl r).Idx) {k : ℕ} (hk : k < n) (h : (s (colIdx y)).toInt = (k : ℤ)) :
    Host.gather (pickDims n r wf) x s y = x (ix1 ⟨k, hk⟩) := by
  unfold Host.gather
  congr 1
  funext a
  obtain rfl : a = 0 := Subsingleton.elim _ _
  apply Fin.ext
  have e1 : (pickDims n r wf).batchCoord y 0 = 0 := GatherDims.batchCoord_eq_zero _ _ _ List.not_mem_nil
  have e2 : (pickDims n r wf).offCoord y 0 = 0 := GatherDims.offCoord_eq_zero _ _ _ fun h => ((GatherDims.mem_sKept _ _).1 h).1 (List.mem_singleton_self _)
  have e3 : (pickDims n r wf).start y s 0 = k := by
    have hm : (0 : Fin 1) ∈ (pickDims n r wf).startIndexMap := List.mem_singleton_self _
    unfold GatherDims.start
    rw [dif_pos hm]
    have e : (pickDims n r wf).siIdx y ⟨List.idxOf (0 : Fin 1) (pickDims n r wf).startIndexMap, List.idxOf_lt_length_iff.2 hm⟩ = colIdx y := by
      funext b
      apply Fin.ext
      fin_cases b <;> rfl
    rw [e, h]
    show min ((k : ℤ).toNat) (n - 1) = k
    omega
  show (pickDims n r wf).start y s 0 + (pickDims n r wf).batchCoord y 0 + (pickDims n r wf).offCoord y 0 = k
  rw [e1, e2, e3]; rfl

/-- The entries picked by indices in range. -/
theorem Rd.take {p : FVec Ideal (Fl n) .f32} {g : ℕ → ℝ} (hp : Rd n p g) {s : IVec (Fl r) 32} {f : ℕ → ℤ} (hs : Ri r s f) (hf : ∀ j < r, 0 ≤ f j ∧ f j < n)
    (hn : n < 2147483648) (hr : r ≠ 1) (b : (Fl r).BroadcastsInDim (Mx r 1) ![0]) (wf) :
    Rd r (Host.gather (pickDims n r wf) p (broadcastInDim (Mx r 1) ![0] b s)) fun j => g (f j).toNat := fun y => by
  obtain ⟨f0, f1⟩ := hf _ (lt_fl y)
  have e : broadcastInDim (Mx r 1) ![0] b s (colIdx y) = BitVec.ofInt 32 (f (y 0).val) := by
    refine Eq.trans ?_ (hs y)
    unfold broadcastInDim
    congr 1
    funext a
    obtain rfl : a = 0 := Subsingleton.elim _ _
    apply Fin.ext
    simp [hr]
    rfl
  rw [pick_at wf p _ y (k := (f (y 0).val).toNat) (by omega) (by rw [e, toInt_of (by omega) (by omega)]; omega), hp _]
  rfl

theorem Ri.congr {s : IVec (Fl r) 32} {f g : ℕ → ℤ} (h : Ri r s f) (e : ∀ i < r, f i = g i) : Ri r s g := fun i => by rw [h i, e _ (lt_fl i)]

theorem Ri.bc {a : IVec Sc 32} {k : ℤ} (h : a = fun _ => BitVec.ofInt 32 k) (dims) (hb : Sc.BroadcastsInDim (Fl r) dims) :
    Ri r (broadcastInDim (Fl r) dims hb a) fun _ => k := fun _ => by subst h; rfl

theorem Ri.add {s t : IVec (Fl r) 32} {f g : ℕ → ℤ} (h : Ri r s f) (h' : Ri r t g) : Ri r (addi s t) fun j => f j + g j := fun i => by
  show IntOp.addi (s i) (t i) = _
  rw [h i, h' i, add_of]

/-- Indices not below zero are left as they are by the wrapping of those below zero. -/
theorem Ri.wrap {s t z : IVec (Fl r) 32} {f : ℕ → ℤ} (h : Ri r s f) (hz : Ri r z fun _ => 0) (hf : ∀ j < r, 0 ≤ f j ∧ f j < 2147483648) :
    Ri r (select (cmpi .slt s z) t s) f := fun i => by
  obtain ⟨f0, f1⟩ := hf _ (lt_fl i)
  show (if IntOp.cmpi .slt (s i) (z i) = 1 then t i else s i) = _
  rw [h i, hz i]
  dsimp only
  rw [slt_of_words (by omega) (by omega) (by norm_num) (by norm_num), decide_eq_false (by omega)]
  rfl

end Cert.Proof
-- ==== Proof.RefValue.lean ====
/-
  The reference read over the reals: the counted interval of each query, the entries picked at it, the sweeps, and the
  interval's cubic.
-/
module

public import proofs.«01_k».proof.Proof.RefEqs
public import proofs.«01_k».proof.Proof.Take
public import proofs.«01_k».proof.Proof.Find
public import proofs.«01_k».proof.Proof.Cubic

@[expose] public section

noncomputable section

namespace Cert.Proof.Ref

open Cert.ReferenceIdeal Cert.ReferenceIdeal.Gen Cert.ReferenceIdeal.Value
open Idealize.ShloMosaic Idealize.ShloMosaic.StableHlo Idealize.ShloMosaic.ValueIdx

variable {m : (ℓ : Loc nD τ sig) → Buf (Elt Ideal) ℓ} {c : Dev nD} {X Y q : ℕ → ℝ}

/-- The number of queries. -/
abbrev NQ : ℕ := 8388608

/-- The queries, knots and values are real, and the knots are spaced. -/
structure Reads (m : (ℓ : Loc nD τ sig) → Buf (Elt Ideal) ℓ) (c : Dev nD) (X Y q : ℕ → ℝ) : Prop where
  kn : Rd 1024 (vp m c main_arg1) X
  vl : Rd 1024 (vp m c main_arg2) Y
  qs : Rd NQ (vp m c main_arg0) q
  K : Knots X

variable (R : Reads m c X Y q)
include R

/-! ## The interval of each query -/

theorem r_upto : Bits NQ 1024 (vp m c main_v7) fun j k => X k ≤ q j := fun i => by
  rw [at_v7, at_v5, at_v6, at_v3, at_v4]
  have e1 : broadcastInDim S8388608x1024 ![0, 1] bcast_S1x1024_S8388608x1024_0_1 (broadcastInDim S1x1024 ![1] bcast_S1024_S1x1024_1 (vp m c main_arg1 : FVec Ideal (Fl 1024) .f32)) i = ((X (i 1).val : ℝ) : EReal) :=
    (row_at (r := NQ) (n := 1024) (by norm_num) _ _ _ i).trans (R.kn _)
  have e2 : broadcastInDim S8388608x1024 ![0, 1] bcast_S8388608x1_S8388608x1024_0_1 (broadcastInDim S8388608x1 ![0] bcast_S8388608_S8388608x1_0 (vp m c main_arg0 : FVec Ideal (Fl NQ) .f32)) i = ((q (i 0).val : ℝ) : EReal) :=
    (col_at (r := NQ) (n := 1024) (by norm_num) _ _ _ i).trans (R.qs _)
  show BitVec.ofBool (decide (LE.le (α := EReal) (broadcastInDim S8388608x1024 ![0, 1] bcast_S1x1024_S8388608x1024_0_1 (broadcastInDim S1x1024 ![1] bcast_S1024_S1x1024_1 (vp m c main_arg1 : FVec Ideal (Fl 1024) .f32)) i)
    (broadcastInDim S8388608x1024 ![0, 1] bcast_S8388608x1_S8388608x1024_0_1 (broadcastInDim S8388608x1 ![0] bcast_S8388608_S8388608x1_0 (vp m c main_arg0 : FVec Ideal (Fl NQ) .f32)) i))) = _
  rw [e1, e2]
  congr 1
  exact decide_eq_decide.2 EReal.coe_le_coe_iff

omit R in
theorem reduces : (Mx NQ 1024).Reduces [1] (Fl NQ) := by decide

theorem r_cnt : Ri NQ (vp m c main_v9) fun j => (cnt X 1024 (q j) : ℤ) := by
  rw [at_v9, at_v8, at_c]; exact (r_upto R).count _ _ rfl _ reduces _

omit R in
theorem cnt_le (v : ℝ) : cnt X 1024 v ≤ 1024 := (Finset.card_filter_le _ _).trans (by simp)

theorem r_idx : Ri NQ (vp m c main_v12) fun j => ival X (q j) := fun i => by
  rw [at_v12, at_call0_v4, at_call0_v3, at_c_2, at_call0_v2, at_call0_v1, at_call0_v0, at_c_1, at_v11, at_v10, at_c_0]
  show IntOp.minsi (BitVec.ofInt 32 1022) (IntOp.maxsi (BitVec.ofInt 32 0) (IntOp.subi ((vp m c main_v9 : IVec (Fl NQ) 32) i) (BitVec.ofInt 32 1))) = _
  have h := cnt_le (X := X) (q (i 0).val)
  rw [r_cnt R i]
  dsimp only
  rw [sub_of, max_of (by omega) (by omega) (by omega) (by omega), min_of (by omega) (by omega) (by omega) (by omega)]
  rfl

/-- The interval as a place in the tables. -/
abbrev si (X q : ℕ → ℝ) (j : ℕ) : ℕ := (ival X (q j)).toNat

omit R in
theorem idx_bd {n : ℤ} (hn : 1023 ≤ n) : ∀ j < NQ, 0 ≤ ival X (q j) ∧ ival X (q j) < n := fun j _ => by
  have := ival_bounds (X := X) (q j); omega
omit R in
theorem idx_bd1 {n : ℤ} (hn : 1024 ≤ n) : ∀ j < NQ, 0 ≤ ival X (q j) + 1 ∧ ival X (q j) + 1 < n := fun j _ => by
  have := ival_bounds (X := X) (q j); omega
omit R in
theorem si_succ (j : ℕ) : (ival X (q j) + 1).toNat = si X q j + 1 := by
  have := ival_bounds (X := X) (q j); unfold si; omega
omit R in
theorem si_lt (j : ℕ) : si X q j < 1023 := by
  have := ival_bounds (X := X) (q j); unfold si; omega

theorem r_idx1 : Ri NQ (vp m c main_v14) fun j => ival X (q j) + 1 := by
  rw [at_v14, at_v13, at_c_3]; exact (r_idx R).add (Ri.bc (a := constantI S_ 32 1#32) (k := 1) rfl _ _)
theorem r_idx2 : Ri NQ (vp m c main_v65) fun j => ival X (q j) + 1 := by
  rw [at_v65, at_v64, at_c_16]; exact (r_idx R).add (Ri.bc (a := constantI S_ 32 1#32) (k := 1) rfl _ _)

/-! ## The entries picked -/

theorem hh_ne {i : ℕ} (hi : i < 1023) : hh X i ≠ 0 := (R.K.gap i hi).ne'

theorem r_v2 : Rd 1023 (vp m c main_v2) (hh X) := by
  rw [at_v2, at_v0, at_v1]
  exact ((R.kn.slice slices_S1024_S1023_1).sub (R.kn.slice slices_S1024_S1023_0)).congr fun i _ => by unfold hh; rw [Nat.add_comm 1 i, Nat.zero_add]

theorem r_h26 : Rd 1023 (vp m c main_v49) fun i => hh X i * hh X i / 6 := by
  rw [at_v49, at_v47, at_v48, at_cst]; exact ((r_v2 R).mul (r_v2 R)).div (Rd.bc (Rs.lit lit6) _ _) fun _ _ => by norm_num

theorem r_v21 : Rd NQ (vp m c main_v21) fun j => X (si X q j + 1) := by
  rw [at_v21, at_v20, at_v19, at_v16, at_v15, at_c_4]
  exact (Rd.take R.kn (Ri.wrap (r_idx1 R) (Ri.bc rfl _ _) (idx_bd1 (by norm_num))) (idx_bd1 (by norm_num)) (by norm_num) (by norm_num) _ _).congr fun j _ => by rw [si_succ]

theorem r_v29 : Rd NQ (vp m c main_v29) fun j => hh X (si X q j) := by
  rw [at_v29, at_v28, at_v27, at_v24, at_v23, at_c_6]
  exact (Rd.take (r_v2 R) (Ri.wrap (r_idx R) (Ri.bc rfl _ _) (idx_bd (by norm_num))) (idx_bd (by norm_num)) (by norm_num) (by norm_num) _ _).congr fun j _ => by rfl

theorem r_v37 : Rd NQ (vp m c main_v37) fun j => X (si X q j) := by
  rw [at_v37, at_v36, at_v35, at_v32, at_v31, at_c_8]
  exact (Rd.take R.kn (Ri.wrap (r_idx R) (Ri.bc rfl _ _) (idx_bd (by norm_num))) (idx_bd (by norm_num)) (by norm_num) (by norm_num) _ _).congr fun j _ => by rfl

theorem r_v45 : Rd NQ (vp m c main_v45) fun j => hh X (si X q j) := by
  rw [at_v45, at_v44, at_v43, at_v40, at_v39, at_c_10]
  exact (Rd.take (r_v2 R) (Ri.wrap (r_idx R) (Ri.bc rfl _ _) (idx_bd (by norm_num))) (idx_bd (by norm_num)) (by norm_num) (by norm_num) _ _).congr fun j _ => by rfl

theorem r_v56 : Rd NQ (vp m c main_v56) fun j => hh X (si X q j) * hh X (si X q j) / 6 := by
  rw [at_v56, at_v55, at_v54, at_v51, at_v50, at_c_12]
  exact (Rd.take (r_h26 R) (Ri.wrap (r_idx R) (Ri.bc rfl _ _) (idx_bd (by norm_num))) (idx_bd (by norm_num)) (by norm_num) (by norm_num) _ _).congr fun j _ => by rfl

theorem r_v63 : Rd NQ (vp m c main_v63) fun j => Y (si X q j) := by
  rw [at_v63, at_v62, at_v61, at_v58, at_v57, at_c_14]
  exact (Rd.take R.vl (Ri.wrap (r_idx R) (Ri.bc rfl _ _) (idx_bd (by norm_num))) (idx_bd (by norm_num)) (by norm_num) (by norm_num) _ _).congr fun j _ => by rfl

theorem r_v72 : Rd NQ (vp m c main_v72) fun j => Y (si X q j + 1) := by
  rw [at_v72, at_v71, at_v70, at_v67, at_v66, at_c_17]
  exact (Rd.take R.vl (Ri.wrap (r_idx2 R) (Ri.bc rfl _ _) (idx_bd1 (by norm_num))) (idx_bd1 (by norm_num)) (by norm_num) (by norm_num) _ _).congr fun j _ => by rw [si_succ]

theorem r_a : Rd NQ (vp m c main_v30) fun j => (X (si X q j + 1) - q j) / hh X (si X q j) := by
  rw [at_v30, at_v22]; exact ((r_v21 R).sub R.qs).div (r_v29 R) fun j _ => hh_ne R (si_lt j)
theorem r_b : Rd NQ (vp m c main_v46) fun j => (q j - X (si X q j)) / hh X (si X q j) := by
  rw [at_v46, at_v38]; exact (R.qs.sub (r_v37 R)).div (r_v45 R) fun j _ => hh_ne R (si_lt j)

/-! ## The system and the sweeps -/

theorem r_v75 : Rd 1023 (vp m c main_v75) (hh X) := by
  rw [at_v75, at_v73, at_v74]
  exact ((R.kn.slice slices_S1024_S1023_1).sub (R.kn.slice slices_S1024_S1023_0)).congr fun i _ => by unfold hh; rw [Nat.add_comm 1 i, Nat.zero_add]
theorem r_v79 : Rd 1023 (vp m c main_v79) (dd X Y) := by
  rw [at_v79, at_v78, at_v76, at_v77]
  exact (((R.vl.slice slices_S1024_S1023_1).sub (R.vl.slice slices_S1024_S1023_0)).div (r_v75 R) fun i hi => hh_ne R hi).congr fun i _ => by
    unfold dd; rw [Nat.add_comm 1 i, Nat.zero_add]
theorem r_lo : Rd 1022 (vp m c main_v95_0) fun i => hh X i / 6 := by
  rw [at_v95_0, at_v82, at_v80, at_v81, at_cst_19]
  exact (((r_v75 R).slice slices_S1023_S1022_0).div (Rd.bc (Rs.lit lit6) _ _) fun _ _ => by norm_num).congr fun i _ => by rw [Nat.zero_add]
theorem r_up : Rd 1022 (vp m c main_v95_2) fun i => hh X (i + 1) / 6 := by
  rw [at_v95_2, at_v85, at_v83, at_v84, at_cst_20]
  exact (((r_v75 R).slice slices_S1023_S1022_1).div (Rd.bc (Rs.lit lit6) _ _) fun _ _ => by norm_num).congr fun i _ => by rw [Nat.add_comm 1 i]
theorem r_dg : Rd 1022 (vp m c main_v95_3) fun i => (hh X i + hh X (i + 1)) / 3 := by
  rw [at_v95_3, at_v90, at_v88, at_v86, at_v87, at_v89, at_cst_21]
  exact ((((r_v75 R).slice slices_S1023_S1022_0).add ((r_v75 R).slice slices_S1023_S1022_1)).div (Rd.bc (Rs.lit lit3) _ _) fun _ _ => by norm_num).congr fun i _ => by
    rw [Nat.zero_add, Nat.add_comm 1 i]
theorem r_rh : Rd 1022 (vp m c main_v95_1) fun i => dd X Y (i + 1) - dd X Y i := by
  rw [at_v95_1, at_v93, at_v91, at_v92]
  exact (((r_v79 R).slice slices_S1023_S1022_1).sub ((r_v79 R).slice slices_S1023_S1022_0)).congr fun i _ => by rw [Nat.zero_add, Nat.add_comm 1 i]
omit R in
theorem r_z0 : Rd 1024 (vp m c main_v95_6) (Z X Y 0) := by
  rw [at_v95_6, at_v94, at_cst_22]; exact Rd.bc (Rs.lit lit0) _ _

theorem dg_ne (i : ℕ) (hi : i < 1022) : (hh X i + hh X (i + 1)) / 3 ≠ 0 := by
  have a := R.K.gap i (by omega)
  have b := R.K.gap (i + 1) (by omega)
  unfold hh
  exact (div_pos (by linarith) (by norm_num)).ne'

omit R in
/-- After a sweep the second derivatives are what the sweep's scatter left. -/
theorem carry_z (W : Valuation τ sig (Elt Ideal)) : after carryOps W (refs main_v95_6) = W (refs main_while0b_v136) := by
  have e : carryOps (F := Ideal) = [StableHlo.unary main_while0b_v137 main_v95_4 id, StableHlo.unary main_while0b_v127 main_v95_5 id, StableHlo.unary main_while0b_v136 main_v95_6 id] := rfl
  rw [e, after_cons, after_cons, after_cons, after_nil]
  refine (unary_result' ..).trans ?_
  show (StableHlo.unary main_while0b_v127 main_v95_5 id).result _ (refs main_while0b_v136) = _
  have n1 : (refs main_while0b_v136) ∉ (StableHlo.unary (Val := Elt Ideal) main_while0b_v127 main_v95_5 id).writes := by
    show _ ∉ ({Proc.devRef .tc main_v95_5} : Finset _)
    rw [Finset.mem_singleton]
    exact devRef_ne_of_ne (by decide)
  have n2 : (refs main_while0b_v136) ∉ (StableHlo.unary (Val := Elt Ideal) main_while0b_v137 main_v95_4 id).writes := by
    show _ ∉ ({Proc.devRef .tc main_v95_4} : Finset _)
    rw [Finset.mem_singleton]
    exact devRef_ne_of_ne (by decide)
  rw [HloOp.result_of_not_mem _ _ n1, HloOp.result_of_not_mem _ _ n2]

omit R in
theorem vs_low (k : ℕ) {r : Ref sig .tc} (hr : r.idx.val < 134) : vs (after condOps (VL m c k)) r = vp m c r := by
  unfold vs vp
  rw [after_below chain_sweep _ (by omega), after_below chain_cond _ (by omega), VL_keep m c k hr]

omit R in
theorem vs_z (k : ℕ) : vs (after condOps (VL m c k)) main_v95_6 = VL m c k (refs main_v95_6) := by
  unfold vs
  rw [after_below chain_sweep _ (by decide), after_below chain_cond _ (by decide)]

/-- The second derivatives, sweep by sweep. -/
theorem r_z (k : ℕ) : Rd 1024 (VL m c k (refs main_v95_6)) (Z X Y k) := by
  induction k with
  | zero => rw [VL_zero]; exact r_z0
  | succ k ih =>
    rw [VL_succ, carry_z]
    have e : Rd 1024 (vs (after condOps (VL m c k)) main_while0b_v136) (Z X Y (k + 1)) := by
      rw [sw_while0b_v136, sw_while0b_v135, sw_while0b_c_39, sw_while0b_v134, sw_while0b_v133, sw_while0b_v132, sw_while0b_v131, sw_while0b_v130,
        sw_while0b_v129, sw_while0b_v128, vs_z, vs_low k (r := main_v95_0) (by decide), vs_low k (r := main_v95_1) (by decide),
        vs_low k (r := main_v95_2) (by decide), vs_low k (r := main_v95_3) (by decide)]
      refine (Rd.set (n := 1024) (k := 1022) ih ((((r_rh R).sub ((r_lo R).mul (ih.slice slices_S1024_S1022_0))).sub ((r_up R).mul (ih.slice slices_S1024_S1022_2))).div (r_dg R) (dg_ne R)) _ _ rfl).congr fun i _ => ?_
      rw [Z_succ]
      by_cases h : 1 ≤ i ∧ i ≤ 1022
      · have h1 := h.1
        have h2 := h.2
        rw [if_pos (by omega), if_pos h, show i - 1 + 1 = i by omega, Nat.zero_add, show 2 + (i - 1) = i + 1 by omega]
      · rw [if_neg (by omega), if_neg h]
        cases k with
        | zero => rfl
        | succ k => rw [Z_succ, if_neg h]
    exact e

/-! ## The result -/

omit R in
theorem vf_low {r : Ref sig .tc} (hr : r.idx.val < 134) : vf m c r = vp m c r := VF_keep m c hr

omit R in
theorem vf_z : vf m c main_v95_6 = VL m c 41 (refs main_v95_6) := by
  unfold vf VF
  rw [after_below chain_post _ (by decide), after_below chain_cond _ (by decide)]

theorem r_zz : Rd 1024 (vf m c main_v95_6) (ZZ X Y) := by rw [vf_z]; exact r_z R 41

theorem f_idx : Ri NQ (vf m c main_v12) fun j => ival X (q j) := by rw [vf_low (by decide)]; exact r_idx R
theorem f_idx1 : Ri NQ (vf m c main_v114) fun j => ival X (q j) + 1 := by
  rw [at_v114, at_v113, at_c_29]; exact (f_idx R).add (Ri.bc (a := constantI S_ 32 1#32) (k := 1) rfl _ _)

theorem f_v105 : Rd NQ (vf m c main_v105) fun j => ZZ X Y (si X q j) := by
  rw [at_v105, at_v104, at_v103, at_v100, at_v99, at_c_26]
  exact (Rd.take (r_zz R) (Ri.wrap (f_idx R) (Ri.bc rfl _ _) (idx_bd (by norm_num))) (idx_bd (by norm_num)) (by norm_num) (by norm_num) _ _).congr fun j _ => rfl
theorem f_v121 : Rd NQ (vf m c main_v121) fun j => ZZ X Y (si X q j + 1) := by
  rw [at_v121, at_v120, at_v119, at_v116, at_v115, at_c_30]
  exact (Rd.take (r_zz R) (Ri.wrap (f_idx1 R) (Ri.bc rfl _ _) (idx_bd1 (by norm_num))) (idx_bd1 (by norm_num)) (by norm_num) (by norm_num) _ _).congr fun j _ => by rw [si_succ]

theorem f_a : Rd NQ (vf m c main_v30) fun j => (X (si X q j + 1) - q j) / hh X (si X q j) := by rw [vf_low (by decide)]; exact r_a R
theorem f_b : Rd NQ (vf m c main_v46) fun j => (q j - X (si X q j)) / hh X (si X q j) := by rw [vf_low (by decide)]; exact r_b R
theorem f_h : Rd NQ (vf m c main_v56) fun j => hh X (si X q j) * hh X (si X q j) / 6 := by rw [vf_low (by decide)]; exact r_v56 R
theorem f_l : Rd NQ (vf m c main_v63) fun j => Y (si X q j) := by rw [vf_low (by decide)]; exact r_v63 R
theorem f_r : Rd NQ (vf m c main_v72) fun j => Y (si X q j + 1) := by rw [vf_low (by decide)]; exact r_v72 R

/-- The reference's results are the cubics of the counted intervals. -/
theorem ref_value : Rd NQ (vf m c main_v126) fun j => spline X Y (ival X (q j)).toNat (q j) := by
  rw [at_v126, at_v125, at_v124, at_v123, at_v122, at_v112, at_v111, at_cst_28, at_v110, at_v109, at_v108, at_v107, at_v106, at_v98, at_v97, at_cst_25, at_v96]
  exact ((f_a R).mul ((f_l R).add (((((f_a R).mul (f_a R)).sub (Rd.bc (Rs.lit lit1) _ _)).mul (f_v105 R)).mul (f_h R)))).add
    ((f_b R).mul ((f_r R).add (((((f_b R).mul (f_b R)).sub (Rd.bc (Rs.lit lit1) _ _)).mul (f_v121 R)).mul (f_h R))))

end Cert.Proof.Ref
-- ==== Proof.PreValue.lean ====
/-
  What the precondition says over the reals: queries, knots and values are real numbers and the knots are spaced.
-/
module

public import proofs.«01_k».proof.Pre_spaced_finite
public import proofs.«01_k».proof.Proof.Words
public import proofs.«01_k».proof.Proof.Find

@[expose] public section

noncomputable section

namespace Cert.Proof

open Idealize.ShloMosaic Idealize.ShloMosaic.ValueIdx

/-- The side conditions of the precondition's operations. -/
theorem pre_facts : Cert.Pre_spaced_finite.Facts where
  slices_S1024_S1023_1 := by decide
  slices_S1024_S1023_0 := by decide
  bcast_S_S1023 := by decide
  slices_S1024_S1_1023 := by decide
  shapeCasts_S1_S_ := by decide
  slices_S1024_S1_0 := by decide
  reducesTo_S1023_S_d0 := by decide
  h_S_ := by decide
  bcast_S_S8388608 := by decide
  reducesTo_S8388608_S_d0 := by decide
  bcast_S_S1024 := by decide
  reducesTo_S1024_S_d0 := by decide

/-! ## All of a vector's bits -/

theorem both {a b : BitVec 1} (h : IntOp.andi a b = 1#1) : a = 1#1 ∧ b = 1#1 := by
  revert a b; decide

theorem fold_and {ι : Type} [DecidableEq ι] (s : Finset ι) (p : ι → BitVec 1) (z : BitVec 1) (h : s.fold IntOp.andi z p = 1#1) : ∀ k ∈ s, p k = 1#1 := by
  induction s using Finset.induction_on with
  | empty => intro k hk; simp at hk
  | insert a s ha ih =>
    rw [Finset.fold_insert ha] at h
    obtain ⟨h1, h2⟩ := both h
    intro k hk
    rcases Finset.mem_insert.1 hk with rfl | hk
    · exact h1
    · exact ih h2 k hk

theorem all_bits {n : ℕ} {c : IVec (Fl n) 1} {z : IVec Sc 1} (h' : (Fl n).ReducesTo [0] Sc) (hu : 0 < Sc.numel) (j : Sc.Idx)
    (e : Host.reduce IntOp.andi c z h' hu j = 1#1) (i : (Fl n).Idx) : c i = 1#1 := by
  rw [Host.reduce_eq_fold] at e
  exact fold_and _ _ _ e i (Finset.mem_filter.2 ⟨Finset.mem_univ _, funext fun a => a.elim0⟩)

theorem of_bit {p : Prop} [Decidable p] (h : BitVec.ofBool (decide p) = 1#1) : p := by
  by_contra hc
  rw [decide_eq_false hc] at h
  exact absurd h (by decide)

/-! ## Real numbers -/

theorem real_of_abs {x : EReal} (h : max x (-x) < ⊤) : x = ((x.toReal : ℝ) : EReal) := by
  refine (EReal.coe_toReal ?_ ?_).symm
  · rintro rfl; simp at h
  · rintro rfl; simp at h

/-- The knots' differences being positive, and wide enough for the range, makes every knot a real number. -/
theorem real_knots {E : ℕ → EReal} (g : ∀ i < 1023, 0 < E (i + 1) - E i) (w : ∀ i < 1023, E 1023 - E 0 ≤ (E (i + 1) - E i) * ((4096 : ℝ) : EReal)) :
    ∀ i < 1024, E i = (((E i).toReal : ℝ) : EReal) := by
  have nt : ∀ i < 1023, E i ≠ ⊤ := fun i hi e => by
    have := g i hi
    rw [e, EReal.sub_top] at this
    exact absurd this (by simp)
  have nb : ∀ i < 1023, E (i + 1) ≠ ⊥ := fun i hi e => by
    have := g i hi
    rw [e, EReal.bot_sub] at this
    exact absurd this (by simp)
  have r1 : E 1 = (((E 1).toReal : ℝ) : EReal) := (EReal.coe_toReal (nt 1 (by omega)) (nb 0 (by omega))).symm
  have r2 : E 2 = (((E 2).toReal : ℝ) : EReal) := (EReal.coe_toReal (nt 2 (by omega)) (nb 1 (by omega))).symm
  have nw : E 1023 - E 0 ≠ ⊤ := fun e => by
    have := w 1 (by omega)
    rw [e, show 1 + 1 = 2 from rfl, r1, r2, ← EReal.coe_sub, ← EReal.coe_mul, top_le_iff] at this
    exact EReal.coe_ne_top _ this
  have lt : E 1023 ≠ ⊤ := fun e => nw (by rw [e]; exact EReal.top_sub (nt 0 (by omega)))
  have fb : E 0 ≠ ⊥ := fun e => nw (by
    rw [e, sub_eq_add_neg, EReal.neg_bot]
    exact EReal.add_top_of_ne_bot (nb 1022 (by omega)))
  intro i hi
  refine (EReal.coe_toReal ?_ ?_).symm
  · by_cases h : i = 1023
    · rw [h]; exact lt
    · exact nt i (by omega)
  · cases i with
    | zero => exact fb
    | succ i => exact nb i (by omega)

theorem ix_eta {n : ℕ} (i : (Fl n).Idx) : (ix1 ⟨(i 0).val, lt_fl i⟩ : (Fl n).Idx) = i := by
  funext a
  obtain rfl : a = 0 := Subsingleton.elim _ _
  rfl

/-- A vector's entries as a sequence of real numbers. -/
def seq {n : ℕ} (v : FVec Ideal (Fl n) .f32) (i : ℕ) : ℝ := if h : i < n then (v (ix1 ⟨i, h⟩) : EReal).toReal else 0

theorem seq_read {n : ℕ} {v : FVec Ideal (Fl n) .f32} (h : ∀ i : (Fl n).Idx, v i = (((v i : EReal).toReal : ℝ) : EReal)) : Rd n v (seq v) := fun i => by
  have hi := lt_fl i
  unfold seq
  rw [dif_pos hi, ix_eta i]
  exact h i

theorem pre_reads [Cert.Pre_spaced_finite.Facts] {a0 : FVec Ideal (Fl 8388608) .f32} {a1 a2 : FVec Ideal (Fl 1024) .f32}
    (h : Cert.Pre_spaced_finite.fn (F := Ideal) a0 a1 a2 = fun _ => 1#1) :
    Rd 1024 a1 (seq a1) ∧ Rd 1024 a2 (seq a2) ∧ Rd 8388608 a0 (seq a0) ∧ Knots (seq a1) := by
  have hj := congrFun h (fun a => a.elim0)
  obtain ⟨h12, h3⟩ := both hj
  obtain ⟨h1, h2⟩ := both h12
  have k1 := all_bits _ _ _ h1
  have k2 := all_bits _ _ _ h2
  have k3 := all_bits _ _ _ h3
  have abs : ∀ {n : ℕ} {v : FVec Ideal (Fl n) .f32} (i : (Fl n).Idx), BitVec.ofBool (decide (max (v i : EReal) (-(v i : EReal)) < Ideal.ofBits .f32 0x7F800000#32)) = 1#1 → v i = (((v i : EReal).toReal : ℝ) : EReal) := fun i e => by
    rw [litInf] at e
    exact real_of_abs (of_bit e)
  have q0 := seq_read fun i => abs (v := a0) i (k2 i)
  have q2 := seq_read fun i => abs (v := a2) i (k3 i)
  obtain ⟨E, ge⟩ : ∃ E : ℕ → EReal, ∀ i (hi : i < 1024), E i = a1 (ix1 ⟨i, hi⟩) :=
    ⟨fun i => if h : i < 1024 then a1 (ix1 ⟨i, h⟩) else 0, fun i hi => dif_pos hi⟩
  have ea : ∀ i : (Fl 1024).Idx, a1 i = E (i 0).val := fun i => by
    rw [ge _ (lt_fl i), ix_eta i]
  have sl : ∀ {k o : ℕ} (hs : (Fl 1024).Slices ![o] (Fl k)) (j : (Fl k).Idx), extractStridedSlice (Fl k) ![o] a1 hs j = E (o + (j 0).val) := fun hs j => ea _
  have sc : ∀ {o : ℕ} (hs : (Fl 1024).Slices ![o] (Fl 1)) (hc : (Fl 1).ShapeCasts Sc) (j : Sc.Idx), shapeCast Sc (extractStridedSlice (Fl 1) ![o] a1 hs) hc j = E o := fun hs hc j => by
    show extractStridedSlice (Fl 1) _ a1 hs (Shape.reshapeEquiv hc j) = _
    rw [sl]
    have := lt_fl (Shape.reshapeEquiv hc j)
    exact congrArg E (by omega)
  have bits : ∀ i < 1023, 0 < E (i + 1) - E i ∧ E 1023 - E 0 ≤ (E (i + 1) - E i) * ((4096 : ℝ) : EReal) := fun i hi => by
    obtain ⟨b1, b2⟩ := both (k1 (ix1 ⟨i, hi⟩))
    have b1 := of_bit (p := LT.lt (α := EReal) (Ideal.ofBits .f32 0x00000000#32)
      (extractStridedSlice (Fl 1023) ![1] a1 Cert.Pre_spaced_finite.Facts.slices_S1024_S1023_1 (ix1 ⟨i, hi⟩)
        - extractStridedSlice (Fl 1023) ![0] a1 Cert.Pre_spaced_finite.Facts.slices_S1024_S1023_0 (ix1 ⟨i, hi⟩))) b1
    have b2 := of_bit (p := LE.le (α := EReal)
      (shapeCast Sc (extractStridedSlice (Fl 1) ![1023] a1 Cert.Pre_spaced_finite.Facts.slices_S1024_S1_1023) Cert.Pre_spaced_finite.Facts.shapeCasts_S1_S_ (fun a => a.elim0)
        - shapeCast Sc (extractStridedSlice (Fl 1) ![0] a1 Cert.Pre_spaced_finite.Facts.slices_S1024_S1_0) Cert.Pre_spaced_finite.Facts.shapeCasts_S1_S_ (fun a => a.elim0))
      ((extractStridedSlice (Fl 1023) ![1] a1 Cert.Pre_spaced_finite.Facts.slices_S1024_S1023_1 (ix1 ⟨i, hi⟩)
        - extractStridedSlice (Fl 1023) ![0] a1 Cert.Pre_spaced_finite.Facts.slices_S1024_S1023_0 (ix1 ⟨i, hi⟩)) * Ideal.ofBits .f32 0x45800000#32)) (by
        rw [← b2]
        rfl)
    rw [sl, sl, lit0] at b1
    rw [sc, sc, sl, sl, lit4096] at b2
    have z : ((ix1 ⟨i, hi⟩ : (Fl 1023).Idx) 0).val = i := rfl
    rw [z, Nat.zero_add, Nat.add_comm 1 i] at b1 b2
    exact ⟨b1, b2⟩
  have fin := real_knots (E := E) (fun i hi => (bits i hi).1) (fun i hi => (bits i hi).2)
  have r1 : Rd 1024 a1 (seq a1) := seq_read fun i => by
    have hi := lt_fl i
    have := fin (i 0).val hi
    rw [ge _ hi, ix_eta i] at this
    exact this
  have rE : ∀ i < 1024, E i = ((seq a1 i : ℝ) : EReal) := fun i hi => by
    rw [ge i hi]
    exact r1 (ix1 ⟨i, hi⟩)
  refine ⟨r1, q2, q0, ⟨fun i hi => ?_, fun i hi => ?_⟩⟩
  · have := (bits i hi).1
    rw [rE _ (by omega), rE i (by omega), ← EReal.coe_sub] at this
    exact_mod_cast this
  · have := (bits i hi).2
    rw [rE (i + 1) (by omega), rE i (by omega), rE 1023 (by omega), rE 0 (by omega), ← EReal.coe_sub, ← EReal.coe_sub, ← EReal.coe_mul] at this
    exact_mod_cast this

end Cert.Proof
-- ==== Proof.Algebraic.lean ====
/-
  The values: over the reals the kernel and the reference end with the same array.
-/
module

public import proofs.«01_k».proof.Defs
public import proofs.«01_k».proof.Proof.Frames
public import proofs.«01_k».proof.Proof.KerValue
public import proofs.«01_k».proof.Proof.RefValue
public import proofs.«01_k».proof.Proof.PreValue

@[expose] public section

noncomputable section

namespace Cert.Proof

open Idealize.ShloMosaic Idealize.SL.Sem

variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ} {c : Dev Cert.KernelIdeal.nD}

/-- The three arguments, as the kernel's memory holds them. -/
abbrev argx (m : (ℓ : Loc Cert.KernelIdeal.nD Cert.KernelIdeal.τ Cert.KernelIdeal.sig) → Buf (Elt Ideal) ℓ) (c : Dev Cert.KernelIdeal.nD) : FVec Ideal (Fl 8388608) .f32 := m ((c.tc : Thread Cert.KernelIdeal.nD Cert.KernelIdeal.τ).loc Cert.KernelIdeal.main_arg0)
abbrev argk (m : (ℓ : Loc Cert.KernelIdeal.nD Cert.KernelIdeal.τ Cert.KernelIdeal.sig) → Buf (Elt Ideal) ℓ) (c : Dev Cert.KernelIdeal.nD) : FVec Ideal (Fl 1024) .f32 := m ((c.tc : Thread Cert.KernelIdeal.nD Cert.KernelIdeal.τ).loc Cert.KernelIdeal.main_arg1)
abbrev argv (m : (ℓ : Loc Cert.KernelIdeal.nD Cert.KernelIdeal.τ Cert.KernelIdeal.sig) → Buf (Elt Ideal) ℓ) (c : Dev Cert.KernelIdeal.nD) : FVec Ideal (Fl 1024) .f32 := m ((c.tc : Thread Cert.KernelIdeal.nD Cert.KernelIdeal.τ).loc Cert.KernelIdeal.main_arg2)

theorem ker_arg {r : Ref Cert.KernelIdeal.sig .tc} (hr : r.idx.val < 3) : Spline.val m c r = m ((c.tc : Thread Cert.KernelIdeal.nD Cert.KernelIdeal.τ).loc r) :=
  Spline.m1_arg m c hr

theorem ref_arg {r : Ref Cert.ReferenceIdeal.sig .tc} (hr : r.idx.val < 3) : Ref.vp m' c r = m' ((c.tc : Thread Cert.ReferenceIdeal.nD Cert.ReferenceIdeal.τ).loc r) :=
  after_below Ref.chain_pre _ hr

theorem ker_reads [Cert.Pre_spaced_finite.Facts] (h : Cert.Pre_spaced_finite.fn (F := Ideal) (argx m c) (argk m c) (argv m c) = fun _ => 1#1) :
    Spline.Reads m c (seq (argk m c)) (seq (argv m c)) := by
  obtain ⟨h1, h2, -, hk⟩ := pre_reads h
  refine ⟨?_, ?_, hk⟩
  · rw [ker_arg (by decide)]; exact h1
  · rw [ker_arg (by decide)]; exact h2

theorem ref_reads [Cert.Pre_spaced_finite.Facts] (h : Cert.Pre_spaced_finite.fn (F := Ideal) (argx m c) (argk m c) (argv m c) = fun _ => 1#1)
    (e0 : m' ((c.tc : Thread Cert.ReferenceIdeal.nD Cert.ReferenceIdeal.τ).loc Cert.ReferenceIdeal.main_arg0) = argx m c)
    (e1 : m' ((c.tc : Thread Cert.ReferenceIdeal.nD Cert.ReferenceIdeal.τ).loc Cert.ReferenceIdeal.main_arg1) = argk m c)
    (e2 : m' ((c.tc : Thread Cert.ReferenceIdeal.nD Cert.ReferenceIdeal.τ).loc Cert.ReferenceIdeal.main_arg2) = argv m c) :
    Ref.Reads m' c (seq (argk m c)) (seq (argv m c)) (seq (argx m c)) := by
  obtain ⟨h1, h2, h0, hk⟩ := pre_reads h
  refine ⟨?_, ?_, ?_, hk⟩
  · rw [ref_arg (by decide), e1]; exact h1
  · rw [ref_arg (by decide), e2]; exact h2
  · rw [ref_arg (by decide), e0]; exact h0

/-- The two results are equal. -/
theorem same [Cert.Pre_spaced_finite.Facts] (h : Cert.Pre_spaced_finite.fn (F := Ideal) (argx m c) (argk m c) (argv m c) = fun _ => 1#1)
    (e0 : m' ((c.tc : Thread Cert.ReferenceIdeal.nD Cert.ReferenceIdeal.τ).loc Cert.ReferenceIdeal.main_arg0) = argx m c)
    (e1 : m' ((c.tc : Thread Cert.ReferenceIdeal.nD Cert.ReferenceIdeal.τ).loc Cert.ReferenceIdeal.main_arg1) = argk m c)
    (e2 : m' ((c.tc : Thread Cert.ReferenceIdeal.nD Cert.ReferenceIdeal.τ).loc Cert.ReferenceIdeal.main_arg2) = argv m c) (i : (Fl 8388608).Idx) :
    (Ref.vf m' c Cert.ReferenceIdeal.main_v126 : FVec Ideal (Fl 8388608) .f32) i = (Spline.G (Spline.m1 m) c : FVec Ideal (Fl 8388608) .f32) i :=
  (Ref.ref_value (ref_reads h e0 e1 e2) i).trans (Spline.kernel_value (ker_reads h) i _ ((pre_reads h).2.2.1 i)).symm

theorem algebraic [hPre : Cert.Pre_spaced_finite.Facts] : Cert.algebraic_KernelIdeal_ReferenceIdeal_pre_spaced_finite := fun m g m' g' hp ha =>
  ⟨fun c => Spline.G (Spline.m1 m) c,
    (θ_run Cert.KernelIdeal.defs _ _).mono (fun _ h c => ⟨(h.1 c).2, (h.1 c).1⟩) (Spline.run_main (F := Ideal) m g),
    (θ_run Cert.ReferenceIdeal.defs _ _).mono (fun _ h c => ⟨(h.1 c).1.trans (funext fun i => same (hp c) (ha c).1 (ha c).2.1 (ha c).2.2 i), (h.1 c).2⟩) (Ref.run_ref (F := Ideal) m' g')⟩

end Cert.Proof
-- ==== Proof.lean ====
/-
  The claim: the kernel, its idealization and the reference run to their ends, arguments unchanged, semaphores at zero,
  and where the precondition holds the idealized kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, pre_facts,
    frame_kernel, frame_kernel_ideal, fun m ρ _ => frame_kernel_ideal m ρ trivial, frame_reference, fun m ρ _ => frame_reference m ρ trivial,
    trivial, algebraic (hPre := pre_facts)⟩

end Cert.Proof

end
